-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v97_0)) (v1 : (c : Dev Cert.KernelIdeal.nD) → Buf (Elt Ideal) ((c.tc : Thread Cert.KernelIdeal.nD Cert.KernelIdeal.τ).loc Cert.KernelIdeal.main_v97_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97_0) = v0 c
          ∧ r.2.mem ((c.tc : Thread Cert.KernelIdeal.nD Cert.KernelIdeal.τ).loc Cert.KernelIdeal.main_v97_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_v230) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v30) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v19)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v19) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v19)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v19) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v19)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v19) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v16)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v16) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v16)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v16) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v21_0)) (v1 : (c : Dev Cert.Kernel14Ideal.nD) → Buf (Elt Ideal) ((c.tc : Thread Cert.Kernel14Ideal.nD Cert.Kernel14Ideal.τ).loc Cert.Kernel14Ideal.main_v21_1)) (v2 : (c : Dev Cert.Kernel14Ideal.nD) → Buf (Elt Ideal) ((c.tc : Thread Cert.Kernel14Ideal.nD Cert.Kernel14Ideal.τ).loc Cert.Kernel14Ideal.main_v23)) (v3 : (c : Dev Cert.Kernel14Ideal.nD) → Buf (Elt Ideal) ((c.tc : Thread Cert.Kernel14Ideal.nD Cert.Kernel14Ideal.τ).loc Cert.Kernel14Ideal.main_v25)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v21_0) = v0 c
          ∧ r.2.mem ((c.tc : Thread Cert.Kernel14Ideal.nD Cert.Kernel14Ideal.τ).loc Cert.Kernel14Ideal.main_v21_1) = v1 c
          ∧ r.2.mem ((c.tc : Thread Cert.Kernel14Ideal.nD Cert.Kernel14Ideal.τ).loc Cert.Kernel14Ideal.main_v23) = v2 c
          ∧ r.2.mem ((c.tc : Thread Cert.Kernel14Ideal.nD Cert.Kernel14Ideal.τ).loc Cert.Kernel14Ideal.main_v25) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v55) = v0 c
          ∧ r.2.mem ((c.tc : Thread Cert.Reference14Ideal.nD Cert.Reference14Ideal.τ).loc Cert.Reference14Ideal.main_v77) = v1 c
          ∧ r.2.mem ((c.tc : Thread Cert.Reference14Ideal.nD Cert.Reference14Ideal.τ).loc Cert.Reference14Ideal.main_v40) = v2 c
          ∧ r.2.mem ((c.tc : Thread Cert.Reference14Ideal.nD Cert.Reference14Ideal.τ).loc Cert.Reference14Ideal.main_v62) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)) (v2 : (c : Dev Cert.Kernel16Ideal.nD) → Buf (Elt Ideal) ((c.tc : Thread Cert.Kernel16Ideal.nD Cert.Kernel16Ideal.τ).loc Cert.Kernel16Ideal.main_v2_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_v2_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v7) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v7)) (v3 : (c : Dev Cert.Kernel17Ideal.nD) → Buf (Elt Ideal) ((c.tc : Thread Cert.Kernel17Ideal.nD Cert.Kernel17Ideal.τ).loc Cert.Kernel17Ideal.main_v9)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v7) = v2 c
          ∧ r.2.mem ((c.tc : Thread Cert.Kernel17Ideal.nD Cert.Kernel17Ideal.τ).loc Cert.Kernel17Ideal.main_v9) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v32) = v0 c
          ∧ r.2.mem ((c.tc : Thread Cert.Reference17Ideal.nD Cert.Reference17Ideal.τ).loc Cert.Reference17Ideal.main_v53) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_v38) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S1x16384x8x64 : Shape := ⟨4, ![1, 16384, 8, 64]⟩
abbrev S8x128x256 : Shape := ⟨3, ![8, 128, 256]⟩
abbrev S1x16384x8 : Shape := ⟨3, ![1, 16384, 8]⟩
abbrev S_ : Shape := ⟨0, ![]⟩

class Facts : Prop where
  bcast_S_S1x16384x8x64 : S_.BroadcastsInDim S1x16384x8x64 (![] : Fin 0 → Fin S1x16384x8x64.rank)
  bcast_S_S8x128x256 : S_.BroadcastsInDim S8x128x256 (![] : Fin 0 → Fin S8x128x256.rank)
  bcast_S_S1x16384x8 : S_.BroadcastsInDim S1x16384x8 (![] : Fin 0 → Fin S1x16384x8.rank)

variable [Facts]

def fn_part1 {F : FTy → Type} [FloatOps F] (main_arg6 : FVec F S1x16384x8x64 .f32) (main_arg7 : FVec F S1x16384x8 .f32) (main_arg8 : FVec F S1x16384x8x64 .f32) (main_v2 : IVec S1x16384x8x64 1) (main_v5 : IVec S1x16384x8x64 1) (main_v8 : IVec S1x16384x8x64 1) (main_v11 : IVec S8x128x256 1) (main_v14 : IVec S1x16384x8x64 1) (main_v17 : IVec S1x16384x8 1) : IVec S1x16384x8x64 1 × IVec S1x16384x8x64 1 × IVec S1x16384x8x64 1 × IVec S8x128x256 1 × IVec S1x16384x8x64 1 × IVec S1x16384x8 1 × IVec S1x16384x8x64 1 × IVec S1x16384x8 1 × IVec S1x16384x8x64 1 :=
  let main_v18 : FVec F S1x16384x8x64 .f32 := Host.absf main_arg6
  let main_cst_5 : FVec F S_ .f32 := constant S_ .f32 0x7F800000#32
  let main_v19 : FVec F S1x16384x8x64 .f32 := broadcastInDim S1x16384x8x64 ![] bcast_S_S1x16384x8x64 main_cst_5
  let main_v20 : IVec S1x16384x8x64 1 := cmpf .olt main_v18 main_v19
  let main_v21 : FVec F S1x16384x8 .f32 := Host.absf main_arg7
  let main_cst_6 : FVec F S_ .f32 := constant S_ .f32 0x7F800000#32
  let main_v22 : FVec F S1x16384x8 .f32 := broadcastInDim S1x16384x8 ![] bcast_S_S1x16384x8 main_cst_6
  let main_v23 : IVec S1x16384x8 1 := cmpf .olt main_v21 main_v22
  let main_v24 : FVec F S1x16384x8x64 .f32 := Host.absf main_arg8
  let main_cst_7 : FVec F S_ .f32 := constant S_ .f32 0x7F800000#32
  let main_v25 : FVec F S1x16384x8x64 .f32 := broadcastInDim S1x16384x8x64 ![] bcast_S_S1x16384x8x64 main_cst_7
  let main_v26 : IVec S1x16384x8x64 1 := cmpf .olt main_v24 main_v25
  (main_v2, main_v5, main_v8, main_v11, main_v14, main_v17, main_v20, main_v23, main_v26)

def fn {F : FTy → Type} [FloatOps F] (main_arg0 : FVec F S1x16384x8x64 .f32) (main_arg1 : FVec F S1x16384x8x64 .f32) (main_arg2 : FVec F S1x16384x8x64 .f32) (main_arg3 : FVec F S8x128x256 .f32) (main_arg4 : FVec F S1x16384x8x64 .f32) (main_arg5 : FVec F S1x16384x8 .f32) (main_arg6 : FVec F S1x16384x8x64 .f32) (main_arg7 : FVec F S1x16384x8 .f32) (main_arg8 : FVec F S1x16384x8x64 .f32) : IVec S1x16384x8x64 1 × IVec S1x16384x8x64 1 × IVec S1x16384x8x64 1 × IVec S8x128x256 1 × IVec S1x16384x8x64 1 × IVec S1x16384x8 1 × IVec S1x16384x8x64 1 × IVec S1x16384x8 1 × IVec S1x16384x8x64 1 :=
  let main_v0 : FVec F S1x16384x8x64 .f32 := Host.absf main_arg0
  let main_cst : FVec F S_ .f32 := constant S_ .f32 0x7F800000#32
  let main_v1 : FVec F S1x16384x8x64 .f32 := broadcastInDim S1x16384x8x64 ![] bcast_S_S1x16384x8x64 main_cst
  let main_v2 : IVec S1x16384x8x64 1 := cmpf .olt main_v0 main_v1
  let main_v3 : FVec F S1x16384x8x64 .f32 := Host.absf main_arg1
  let main_cst_0 : FVec F S_ .f32 := constant S_ .f32 0x7F800000#32
  let main_v4 : FVec F S1x16384x8x64 .f32 := broadcastInDim S1x16384x8x64 ![] bcast_S_S1x16384x8x64 main_cst_0
  let main_v5 : IVec S1x16384x8x64 1 := cmpf .olt main_v3 main_v4
  let main_v6 : FVec F S1x16384x8x64 .f32 := Host.absf main_arg2
  let main_cst_1 : FVec F S_ .f32 := constant S_ .f32 0x7F800000#32
  let main_v7 : FVec F S1x16384x8x64 .f32 := broadcastInDim S1x16384x8x64 ![] bcast_S_S1x16384x8x64 main_cst_1
  let main_v8 : IVec S1x16384x8x64 1 := cmpf .olt main_v6 main_v7
  let main_v9 : FVec F S8x128x256 .f32 := Host.absf main_arg3
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  let main_v12 : FVec F S1x16384x8x64 .f32 := Host.absf main_arg4
  let main_cst_3 : FVec F S_ .f32 := constant S_ .f32 0x7F800000#32
  let main_v13 : FVec F S1x16384x8x64 .f32 := broadcastInDim S1x16384x8x64 ![] bcast_S_S1x16384x8x64 main_cst_3
  let main_v14 : IVec S1x16384x8x64 1 := cmpf .olt main_v12 main_v13
  let main_v15 : FVec F S1x16384x8 .f32 := Host.absf main_arg5
  let main_cst_4 : FVec F S_ .f32 := constant S_ .f32 0x7F800000#32
  let main_v16 : FVec F S1x16384x8 .f32 := broadcastInDim S1x16384x8 ![] bcast_S_S1x16384x8 main_cst_4
  let main_v17 : IVec S1x16384x8 1 := cmpf .olt main_v15 main_v16
  fn_part1 (F := F) main_arg6 main_arg7 main_arg8 main_v2 main_v5 main_v8 main_v11 main_v14 main_v17
-- ==== Kernel.lean ====
abbrev S1x16384x8x64 : Shape := ⟨4, ![1, 16384, 8, 64]⟩
abbrev S8x128x256 : Shape := ⟨3, ![8, 128, 256]⟩
abbrev S1x16384x8 : Shape := ⟨3, ![1, 16384, 8]⟩
abbrev S128x256 : Shape := ⟨2, ![128, 256]⟩
abbrev S_ : Shape := ⟨0, ![]⟩
abbrev S1x32x128x4x8x64 : Shape := ⟨6, ![1, 32, 128, 4, 8, 64]⟩
abbrev S1x4x32x128x8x64 : Shape := ⟨6, ![1, 4, 32, 128, 8, 64]⟩
abbrev S1x16384x8x128 : Shape := ⟨4, ![1, 16384, 8, 128]⟩
abbrev S1x4096x4x8x128 : Shape := ⟨5, ![1, 4096, 4, 8, 128]⟩
abbrev S1x4x4096x8x128 : Shape := ⟨5, ![1, 4, 4096, 8, 128]⟩
abbrev S1x4x128x8x128 : Shape := ⟨5, ![1, 4, 128, 8, 128]⟩
abbrev S1x4x4224x8x128 : Shape := ⟨5, ![1, 4, 4224, 8, 128]⟩
abbrev S1x4x33x128x8x128 : Shape := ⟨6, ![1, 4, 33, 128, 8, 128]⟩
abbrev S1x4x32x128x8x128 : Shape := ⟨6, ![1, 4, 32, 128, 8, 128]⟩
abbrev S1x4x32x256x8x128 : Shape := ⟨6, ![1, 4, 32, 256, 8, 128]⟩
abbrev S1x4x32x256x8x64 : Shape := ⟨6, ![1, 4, 32, 256, 8, 64]⟩
abbrev S32x1x1x256 : Shape := ⟨4, ![32, 1, 1, 256]⟩
abbrev S1x4x32x8x128x256 : Shape := ⟨6, ![1, 4, 32, 8, 128, 256]⟩
abbrev S1x1x1x8x128x256 : Shape := ⟨6, ![1, 1, 1, 8, 128, 256]⟩
abbrev S1x4x32x8x128 : Shape := ⟨5, ![1, 4, 32, 8, 128]⟩
abbrev S1x4x32x8x128x1 : Shape := ⟨6, ![1, 4, 32, 8, 128, 1]⟩
abbrev S1x4x32x8x64x128 : Shape := ⟨6, ![1, 4, 32, 8, 64, 128]⟩
abbrev S1x32x128x4x8 : Shape := ⟨5, ![1, 32, 128, 4, 8]⟩
abbrev S16384x8 : Shape := ⟨2, ![16384, 8]⟩
abbrev S16384x112 : Shape := ⟨2, ![16384, 112]⟩
abbrev S16384x128 : Shape := ⟨2, ![16384, 128]⟩
abbrev S16384x512 : Shape := ⟨2, ![16384, 512]⟩
abbrev S16384x1536 : Shape := ⟨2, ![16384, 1536]⟩
abbrev S4096x4x1536 : Shape := ⟨3, ![4096, 4, 1536]⟩
abbrev S4x4096x1536 : Shape := ⟨3, ![4, 4096, 1536]⟩
abbrev S8x128x128 : Shape := ⟨3, ![8, 128, 128]⟩
abbrev S8x256x128 : Shape := ⟨3, ![8, 256, 128]⟩
abbrev S4096x4x512 : Shape := ⟨3, ![4096, 4, 512]⟩
abbrev S4x4096x512 : Shape := ⟨3, ![4, 4096, 512]⟩
abbrev S4096x4x128 : Shape := ⟨3, ![4096, 4, 128]⟩
abbrev S4x4096x128 : Shape := ⟨3, ![4, 4096, 128]⟩
abbrev S512x512 : Shape := ⟨2, ![512, 512]⟩
abbrev S128x512 : Shape := ⟨2, ![128, 512]⟩
abbrev S512x128 : Shape := ⟨2, ![512, 128]⟩
abbrev S128x128 : Shape := ⟨2, ![128, 128]⟩
abbrev S512x1536 : Shape := ⟨2, ![512, 1536]⟩
abbrev S640x512 : Shape := ⟨2, ![640, 512]⟩
abbrev S128x640 : Shape := ⟨2, ![128, 640]⟩
abbrev S256x128 : Shape := ⟨2, ![256, 128]⟩
abbrev S1x128x256 : Shape := ⟨3, ![1, 128, 256]⟩
abbrev S1x256 : Shape := ⟨2, ![1, 256]⟩
abbrev S64x128 : Shape := ⟨2, ![64, 128]⟩
abbrev S64x256 : Shape := ⟨2, ![64, 256]⟩

abbrev nBuf : Space → Nat
  | .hbm => 125
  | .vmem => 24
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S8x128x256, .f32⟩
  | .hbm, ⟨4, _⟩ => ⟨S1x16384x8x64, .f32⟩
  | .hbm, ⟨5, _⟩ => ⟨S1x16384x8, .f32⟩
  | .hbm, ⟨6, _⟩ => ⟨S1x16384x8x64, .f32⟩
  | .hbm, ⟨7, _⟩ => ⟨S1x16384x8, .f32⟩
  | .hbm, ⟨8, _⟩ => ⟨S1x16384x8x64, .f32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i1⟩
  | .hbm, ⟨15, _⟩ => ⟨S_, .i32⟩
  | .hbm, ⟨16, _⟩ => ⟨S128x256, .i32⟩
  | .hbm, ⟨17, _⟩ => ⟨S128x256, .i1⟩
  | .hbm, ⟨18, _⟩ => ⟨S128x256, .i1⟩
  | .hbm, ⟨19, _⟩ => ⟨S_, .f32⟩
  | .hbm, ⟨20, _⟩ => ⟨S_, .f32⟩
  | .hbm, ⟨21, _⟩ => ⟨S8x128x256, .i1⟩
  | .hbm, ⟨22, _⟩ => ⟨S8x128x256, .f32⟩
  | .hbm, ⟨23, _⟩ => ⟨S8x128x256, .f32⟩
  | .hbm, ⟨24, _⟩ => ⟨S1x32x128x4x8x64, .f32⟩
  | .hbm, ⟨25, _⟩ => ⟨S1x4x32x128x8x64, .f32⟩
  | .hbm, ⟨26, _⟩ => ⟨S1x16384x8x128, .f32⟩
  | .hbm, ⟨27, _⟩ => ⟨S1x4096x4x8x128, .f32⟩
  | .hbm, ⟨28, _⟩ => ⟨S1x4x4096x8x128, .f32⟩
  | .hbm, ⟨29, _⟩ => ⟨S_, .f32⟩
  | .hbm, ⟨30, _⟩ => ⟨S1x4x128x8x128, .f32⟩
  | .hbm, ⟨31, _⟩ => ⟨S1x4x4224x8x128, .f32⟩
  | .hbm, ⟨32, _⟩ => ⟨S1x4x33x128x8x128, .f32⟩
  | .hbm, ⟨33, _⟩ => ⟨S1x4x32x128x8x128, .f32⟩
  | .hbm, ⟨34, _⟩ => ⟨S1x4x32x128x8x128, .f32⟩
  | .hbm, ⟨35, _⟩ => ⟨S1x4x32x256x8x128, .f32⟩
  | .hbm, ⟨36, _⟩ => ⟨S1x4x32x256x8x64, .f32⟩
  | .hbm, ⟨37, _⟩ => ⟨S1x4x32x256x8x64, .f32⟩
  | .hbm, ⟨38, _⟩ => ⟨S32x1x1x256, .i32⟩
  | .hbm, ⟨39, _⟩ => ⟨S32x1x1x256, .i32⟩
  | .hbm, ⟨40, _⟩ => ⟨S1x4x32x8x128x256, .f32⟩
  | .hbm, ⟨41, _⟩ => ⟨S_, .f32⟩
  | .hbm, ⟨42, _⟩ => ⟨S1x4x32x8x128x256, .f32⟩
  | .hbm, ⟨43, _⟩ => ⟨S1x4x32x8x128x256, .f32⟩
  | .hbm, ⟨44, _⟩ => ⟨S1x1x1x8x128x256, .f32⟩
  | .hbm, ⟨45, _⟩ => ⟨S1x4x32x8x128x256, .f32⟩
  | .hbm, ⟨46, _⟩ => ⟨S1x4x32x8x128x256, .f32⟩
  | .hbm, ⟨47, _⟩ => ⟨S_, .i32⟩
  | .hbm, ⟨48, _⟩ => ⟨S32x1x1x256, .i32⟩
  | .hbm, ⟨49, _⟩ => ⟨S32x1x1x256, .i1⟩
  | .hbm, ⟨50, _⟩ => ⟨S_, .i32⟩
  | .hbm, ⟨51, _⟩ => ⟨S32x1x1x256, .i32⟩
  | .hbm, ⟨52, _⟩ => ⟨S32x1x1x256, .i1⟩
  | .hbm, ⟨53, _⟩ => ⟨S32x1x1x256, .i1⟩
  | .hbm, ⟨54, _⟩ => ⟨S_, .f32⟩
  | .hbm, ⟨55, _⟩ => ⟨S_, .f32⟩
  | .hbm, ⟨56, _⟩ => ⟨S1x4x32x8x128x256, .i1⟩
  | .hbm, ⟨57, _⟩ => ⟨S1x4x32x8x128x256, .f32⟩
  | .hbm, ⟨58, _⟩ => ⟨S1x4x32x8x128x256, .f32⟩
  | .hbm, ⟨59, _⟩ => ⟨S_, .f32⟩
  | .hbm, ⟨60, _⟩ => ⟨S1x4x32x8x128, .f32⟩
  | .hbm, ⟨61, _⟩ => ⟨S1x4x32x8x128x1, .f32⟩
  | .hbm, ⟨62, _⟩ => ⟨S1x4x32x8x128x256, .f32⟩
  | .hbm, ⟨63, _⟩ => ⟨S1x4x32x8x128x256, .f32⟩
  | .hbm, ⟨64, _⟩ => ⟨S1x4x32x8x128x256, .f32⟩
  | .hbm, ⟨65, _⟩ => ⟨S_, .f32⟩
  | .hbm, ⟨66, _⟩ => ⟨S1x4x32x8x128, .f32⟩
  | .hbm, ⟨67, _⟩ => ⟨S1x4x32x8x128x1, .f32⟩
  | .hbm, ⟨68, _⟩ => ⟨S1x4x32x8x128x256, .f32⟩
  | .hbm, ⟨69, _⟩ => ⟨S1x4x32x8x128x256, .f32⟩
  | .hbm, ⟨70, _⟩ => ⟨S1x4x32x8x64x128, .f32⟩
  | .hbm, ⟨71, _⟩ => ⟨S1x4x32x128x8x64, .f32⟩
  | .hbm, ⟨72, _⟩ => ⟨S1x32x128x4x8x64, .f32⟩
  | .hbm, ⟨73, _⟩ => ⟨S1x16384x8x64, .f32⟩
  | .hbm, ⟨74, _⟩ => ⟨S1x4x32x8x128, .f32⟩
  | .hbm, ⟨75, _⟩ => ⟨S1x4x32x8x128, .f32⟩
  | .hbm, ⟨76, _⟩ => ⟨S1x32x128x4x8, .f32⟩
  | .hbm, ⟨77, _⟩ => ⟨S1x16384x8, .f32⟩
  | .hbm, ⟨78, _⟩ => ⟨S1x16384x8, .f32⟩
  | .hbm, ⟨79, _⟩ => ⟨S1x16384x8, .f32⟩
  | .hbm, ⟨80, _⟩ => ⟨S1x16384x8, .f32⟩
  | .hbm, ⟨81, _⟩ => ⟨S1x16384x8, .f32⟩
  | .hbm, ⟨82, _⟩ => ⟨S1x16384x8, .f32⟩
  | .hbm, ⟨83, _⟩ => ⟨S1x16384x8, .f32⟩
  | .hbm, ⟨84, _⟩ => ⟨S1x16384x8, .f32⟩
  | .hbm, ⟨85, _⟩ => ⟨S1x16384x8, .f32⟩
  | .hbm, ⟨86, _⟩ => ⟨S1x16384x8, .f32⟩
  | .hbm, ⟨87, _⟩ => ⟨S1x16384x8, .f32⟩
  | .hbm, ⟨88, _⟩ => ⟨S1x16384x8, .f32⟩
  | .hbm, ⟨89, _⟩ => ⟨S1x16384x8, .f32⟩
  | .hbm, ⟨90, _⟩ => ⟨S1x16384x8, .f32⟩
  | .hbm, ⟨91, _⟩ => ⟨S1x16384x8, .f32⟩
  | .hbm, ⟨92, _⟩ => ⟨S1x16384x8, .f32⟩
  | .hbm, ⟨93, _⟩ => ⟨S1x16384x8, .f32⟩
  | .hbm, ⟨94, _⟩ => ⟨S1x16384x8, .f32⟩
  | .hbm, ⟨95, _⟩ => ⟨S1x16384x8, .f32⟩
  | .hbm, ⟨96, _⟩ => ⟨S1x16384x8, .f32⟩
  | .hbm, ⟨97, _⟩ => ⟨S1x16384x8, .f32⟩
  | .hbm, ⟨98, _⟩ => ⟨S1x16384x8, .f32⟩
  | .hbm, ⟨99, _⟩ => ⟨S16384x8, .f32⟩
  | .hbm, ⟨100, _⟩ => ⟨S16384x8, .f32⟩
  | .hbm, ⟨101, _⟩ => ⟨S_, .f32⟩
  | .hbm, ⟨102, _⟩ => ⟨S16384x112, .f32⟩
  | .hbm, ⟨103, _⟩ => ⟨S16384x128, .f32⟩
  | .hbm, ⟨104, _⟩ => ⟨S16384x512, .f32⟩
  | .hbm, ⟨105, _⟩ => ⟨S16384x512, .f32⟩
  | .hbm, ⟨106, _⟩ => ⟨S16384x512, .f32⟩
  | .hbm, ⟨107, _⟩ => ⟨S16384x1536, .f32⟩
  | .hbm, ⟨108, _⟩ => ⟨S16384x1536, .bf16⟩
  | .hbm, ⟨109, _⟩ => ⟨S4096x4x1536, .bf16⟩
  | .hbm, ⟨110, _⟩ => ⟨S4x4096x1536, .bf16⟩
  | .hbm, ⟨111, _⟩ => ⟨S16384x1536, .bf16⟩
  | .hbm, ⟨112, _⟩ => ⟨S8x128x128, .f32⟩
  | .hbm, ⟨113, _⟩ => ⟨S8x128x128, .f32⟩
  | .hbm, ⟨114, _⟩ => ⟨S8x256x128, .f32⟩
  | .hbm, ⟨115, _⟩ => ⟨S8x128x256, .f32⟩
  | .hbm, ⟨116, _⟩ => ⟨S1x16384x8x64, .bf16⟩
  | .hbm, ⟨117, _⟩ => ⟨S4096x4x512, .bf16⟩
  | .hbm, ⟨118, _⟩ => ⟨S4x4096x512, .bf16⟩
  | .hbm, ⟨119, _⟩ => ⟨S16384x512, .bf16⟩
  | .hbm, ⟨120, _⟩ => ⟨S4096x4x128, .f32⟩
  | .hbm, ⟨121, _⟩ => ⟨S4x4096x128, .f32⟩
  | .hbm, ⟨122, _⟩ => ⟨S16384x128, .f32⟩
  | .hbm, ⟨123, _⟩ => ⟨S16384x1536, .bf16⟩
  | .hbm, ⟨124, _⟩ => ⟨S8x128x256, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S8x128x256, .f32⟩
  | .local _ .vmem, ⟨9, _⟩ => ⟨S512x512, .bf16⟩
  | .local _ .vmem, ⟨10, _⟩ => ⟨S512x512, .bf16⟩
  | .local _ .vmem, ⟨11, _⟩ => ⟨S128x512, .bf16⟩
  | .local _ .vmem, ⟨12, _⟩ => ⟨S128x512, .bf16⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S512x1536, .bf16⟩
  | .local _ .vmem, ⟨18, _⟩ => ⟨S512x1536, .bf16⟩
  | .local _ .vmem, ⟨19, _⟩ => ⟨S8x128x256, .f32⟩
  | .local _ .vmem, ⟨20, _⟩ => ⟨S640x512, .bf16⟩
  | .local _ .vmem, ⟨21, _⟩ => ⟨S640x512, .bf16⟩
  | .local _ .vmem, ⟨22, _⟩ => ⟨S128x640, .f32⟩
  | .local _ .vmem, ⟨23, _⟩ => ⟨S128x512, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97_0 : Ref sig .tc := ⟨.hbm, 123, rfl⟩
abbrev main_v97_1 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c2_i32 : BitVec 32 := 2#32
  let c0_i32 : BitVec 32 := 0#32
  ![v4.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.addi arg1 c1_i32
  let c4_i32 : BitVec 32 := 4#32
  let v2 : BitVec 32 := Scalar.muli v1 c4_i32
  let c31_i32 : BitVec 32 := 31#32
  let v3 : BitVec 32 := Scalar.minsi v2 c31_i32
  let v4 : BitVec 32 := Scalar.addi v0 v3
  let c0_i32 : BitVec 32 := 0#32
  let c0_i32_0 : BitVec 32 := 0#32
  ![v4.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S1x16384x8x64 : Shape := ⟨4, ![1, 16384, 8, 64]⟩
abbrev S8x128x256 : Shape := ⟨3, ![8, 128, 256]⟩
abbrev S1x16384x8 : Shape := ⟨3, ![1, 16384, 8]⟩
abbrev S1x4096x4x8x64 : Shape := ⟨5, ![1, 4096, 4, 8, 64]⟩
abbrev S1x4x4096x8x64 : Shape := ⟨5, ![1, 4, 4096, 8, 64]⟩
abbrev S1x4x32x128x8x64 : Shape := ⟨6, ![1, 4, 32, 128, 8, 64]⟩
abbrev S_ : Shape := ⟨0, ![]⟩
abbrev S1x4x128x8x64 : Shape := ⟨5, ![1, 4, 128, 8, 64]⟩
abbrev S1x4x4224x8x64 : Shape := ⟨5, ![1, 4, 4224, 8, 64]⟩
abbrev S1x4x33x128x8x64 : Shape := ⟨6, ![1, 4, 33, 128, 8, 64]⟩
abbrev S1x4x32x256x8x64 : Shape := ⟨6, ![1, 4, 32, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x4x32x8x128x256 : Shape := ⟨6, ![1, 4, 32, 8, 128, 256]⟩
abbrev S1x1x1x8x128x256 : Shape := ⟨6, ![1, 1, 1, 8, 128, 256]⟩
abbrev S32x1x128x256 : Shape := ⟨4, ![32, 1, 128, 256]⟩
abbrev S1x4x32x8x128 : Shape := ⟨5, ![1, 4, 32, 8, 128]⟩
abbrev S1x4x32x8x128x1 : Shape := ⟨6, ![1, 4, 32, 8, 128, 1]⟩
abbrev S1x4x32x8x64x128 : Shape := ⟨6, ![1, 4, 32, 8, 64, 128]⟩
abbrev S1x4x32x128x8 : Shape := ⟨5, ![1, 4, 32, 128, 8]⟩
abbrev S1x4x4096x8 : Shape := ⟨4, ![1, 4, 4096, 8]⟩
abbrev S1x4096x4x8 : Shape := ⟨4, ![1, 4096, 4, 8]⟩
abbrev S1x1x16384x8 : Shape := ⟨4, ![1, 1, 16384, 8]⟩
abbrev S3x1x16384x8 : Shape := ⟨4, ![3, 1, 16384, 8]⟩
abbrev S3x1x16384x8x1 : Shape := ⟨5, ![3, 1, 16384, 8, 1]⟩
abbrev S1x1x16384x8x64 : Shape := ⟨5, ![1, 1, 16384, 8, 64]⟩
abbrev S3x1x16384x8x64 : Shape := ⟨5, ![3, 1, 16384, 8, 64]⟩
abbrev S3x16384x8 : Shape := ⟨3, ![3, 16384, 8]⟩
abbrev S16384x8 : Shape := ⟨2, ![16384, 8]⟩
abbrev S1x4x32x8x64x256 : Shape := ⟨6, ![1, 4, 32, 8, 64, 256]⟩
abbrev S4x32x8x128 : Shape := ⟨4, ![4, 32, 8, 128]⟩
abbrev S1x8x128x256 : Shape := ⟨4, ![1, 8, 128, 256]⟩
abbrev S1x4x32x8x256x64 : Shape := ⟨6, ![1, 4, 32, 8, 256, 64]⟩
abbrev S1x4x32x8x128x64 : Shape := ⟨6, ![1, 4, 32, 8, 128, 64]⟩
abbrev S16384x8x64 : Shape := ⟨3, ![16384, 8, 64]⟩
abbrev S16384x512 : Shape := ⟨2, ![16384, 512]⟩
abbrev S16384x1536 : Shape := ⟨2, ![16384, 1536]⟩
abbrev S4096x4x1536 : Shape := ⟨3, ![4096, 4, 1536]⟩
abbrev S4x4096x1536 : Shape := ⟨3, ![4, 4096, 1536]⟩
abbrev S8x256x128 : Shape := ⟨3, ![8, 256, 128]⟩
abbrev S8x128x128 : Shape := ⟨3, ![8, 128, 128]⟩

abbrev nBuf : Space → Nat
  | .hbm => 291
  | .vmem => 0
  | .smem => 0
  | _ => 0

abbrev hbmTy0_0 (i : Nat) : BufTy := match i % 128 with
  | 0 => ⟨S1x16384x8x64, .f32⟩
  | 1 => ⟨S1x16384x8x64, .f32⟩
  | 2 => ⟨S1x16384x8x64, .f32⟩
  | 3 => ⟨S8x128x256, .f32⟩
  | 4 => ⟨S1x16384x8x64, .f32⟩
  | 5 => ⟨S1x16384x8, .f32⟩
  | 6 => ⟨S1x16384x8x64, .f32⟩
  | 7 => ⟨S1x16384x8, .f32⟩
  | 8 => ⟨S1x16384x8x64, .f32⟩
  | 9 => ⟨S1x4096x4x8x64, .f32⟩
  | 10 => ⟨S1x4x4096x8x64, .f32⟩
  | 11 => ⟨S1x4x32x128x8x64, .f32⟩
  | 12 => ⟨S1x4096x4x8x64, .f32⟩
  | 13 => ⟨S1x4x4096x8x64, .f32⟩
  | 14 => ⟨S_, .f32⟩
  | 15 => ⟨S1x4x128x8x64, .f32⟩
  | 16 => ⟨S1x4x4224x8x64, .f32⟩
  | 17 => ⟨S_, .f32⟩
  | 18 => ⟨S1x4x128x8x64, .f32⟩
  | 19 => ⟨S1x4x33x128x8x64, .f32⟩
  | 20 => ⟨S1x4x32x128x8x64, .f32⟩
  | 21 => ⟨S1x4x32x128x8x64, .f32⟩
  | 22 => ⟨S1x4x32x256x8x64, .f32⟩
  | 23 => ⟨S1x4096x4x8x64, .f32⟩
  | 24 => ⟨S1x4x4096x8x64, .f32⟩
  | 25 => ⟨S_, .f32⟩
  | 26 => ⟨S1x4x128x8x64, .f32⟩
  | 27 => ⟨S1x4x4224x8x64, .f32⟩
  | 28 => ⟨S_, .f32⟩
  | 29 => ⟨S1x4x128x8x64, .f32⟩
  | 30 => ⟨S1x4x33x128x8x64, .f32⟩
  | 31 => ⟨S1x4x32x128x8x64, .f32⟩
  | 32 => ⟨S1x4x32x128x8x64, .f32⟩
  | 33 => ⟨S1x4x32x256x8x64, .f32⟩
  | 34 => ⟨S128, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i32⟩
  | 44 => ⟨S32, .i32⟩
  | 45 => ⟨S32x1x1, .i32⟩
  | 46 => ⟨S_, .i32⟩
  | 47 => ⟨S32x1x1, .i32⟩
  | 48 => ⟨S32x1x1, .i32⟩
  | 49 => ⟨S_, .i32⟩
  | 50 => ⟨S32x1x1, .i32⟩
  | 51 => ⟨S32x1x1, .i32⟩
  | 52 => ⟨S1x1x256, .i32⟩
  | 53 => ⟨S32x1x256, .i32⟩
  | 54 => ⟨S32x1x256, .i32⟩
  | 55 => ⟨S32x1x256, .i32⟩
  | 56 => ⟨S_, .i32⟩
  | 57 => ⟨S128x256, .i32⟩
  | 58 => ⟨S128x256, .i1⟩
  | 59 => ⟨S_, .i32⟩
  | 60 => ⟨S128x256, .i32⟩
  | 61 => ⟨S128x256, .i1⟩
  | 62 => ⟨S128x256, .i1⟩
  | 63 => ⟨S_, .i32⟩
  | 64 => ⟨S32x1x256, .i32⟩
  | 65 => ⟨S32x1x256, .i1⟩
  | 66 => ⟨S1x128x256, .i1⟩
  | 67 => ⟨S32x128x256, .i1⟩
  | 68 => ⟨S32x128x256, .i1⟩
  | 69 => ⟨S32x128x256, .i1⟩
  | 70 => ⟨S1x4x32x8x128x256, .f32⟩
  | 71 => ⟨S_, .f32⟩
  | 72 => ⟨S1x4x32x8x128x256, .f32⟩
  | 73 => ⟨S1x4x32x8x128x256, .f32⟩
  | 74 => ⟨S1x1x1x8x128x256, .f32⟩
  | 75 => ⟨S1x4x32x8x128x256, .f32⟩
  | 76 => ⟨S1x4x32x8x128x256, .f32⟩
  | 77 => ⟨S32x1x128x256, .i1⟩
  | 78 => ⟨S_, .f32⟩
  | 79 => ⟨S_, .f32⟩
  | 80 => ⟨S1x4x32x8x128x256, .i1⟩
  | 81 => ⟨S1x4x32x8x128x256, .f32⟩
  | 82 => ⟨S1x4x32x8x128x256, .f32⟩
  | 83 => ⟨S_, .f32⟩
  | 84 => ⟨S1x4x32x8x128x256, .f32⟩
  | 85 => ⟨S_, .f32⟩
  | 86 => ⟨S1x4x32x8x128, .f32⟩
  | 87 => ⟨S1x4x32x8x128x1, .f32⟩
  | 88 => ⟨S1x4x32x8x128x256, .f32⟩
  | 89 => ⟨S1x4x32x8x128x256, .i1⟩
  | 90 => ⟨S1x4x32x8x128x256, .f32⟩
  | 91 => ⟨S_, .f32⟩
  | 92 => ⟨S1x4x32x8x128, .f32⟩
  | 93 => ⟨S1x4x32x8x128x1, .f32⟩
  | 94 => ⟨S1x4x32x8x128x256, .f32⟩
  | 95 => ⟨S1x4x32x8x128x256, .f32⟩
  | 96 => ⟨S1x4x32x8x128x256, .f32⟩
  | 97 => ⟨S_, .f32⟩
  | 98 => ⟨S1x4x32x8x128, .f32⟩
  | 99 => ⟨S1x4x32x8x128, .f32⟩
  | 100 => ⟨S1x4x32x8x128, .f32⟩
  | 101 => ⟨S1x4x32x8x128x1, .f32⟩
  | 102 => ⟨S1x4x32x8x128x256, .f32⟩
  | 103 => ⟨S1x4x32x8x128x256, .f32⟩
  | 104 => ⟨S1x4x32x8x128x256, .f32⟩
  | 105 => ⟨S1x4x32x8x64x128, .f32⟩
  | 106 => ⟨S1x4x32x128x8x64, .f32⟩
  | 107 => ⟨S1x4x4096x8x64, .f32⟩
  | 108 => ⟨S1x4096x4x8x64, .f32⟩
  | 109 => ⟨S1x16384x8x64, .f32⟩
  | 110 => ⟨S1x4x32x128x8, .f32⟩
  | 111 => ⟨S1x4x4096x8, .f32⟩
  | 112 => ⟨S1x4096x4x8, .f32⟩
  | 113 => ⟨S1x16384x8, .f32⟩
  | 114 => ⟨S1x1x16384x8, .f32⟩
  | 115 => ⟨S1x1x16384x8, .f32⟩
  | 116 => ⟨S1x1x16384x8, .f32⟩
  | 117 => ⟨S3x1x16384x8, .f32⟩
  | 118 => ⟨S_, .f32⟩
  | 119 => ⟨S1x16384x8, .f32⟩
  | 120 => ⟨S_, .f32⟩
  | 121 => ⟨S1x16384x8, .f32⟩
  | 122 => ⟨S_, .f32⟩
  | 123 => ⟨S1x16384x8, .f32⟩
  | 124 => ⟨S1x1x16384x8, .f32⟩
  | 125 => ⟨S3x1x16384x8, .f32⟩
  | 126 => ⟨S3x1x16384x8, .i1⟩
  | 127 => ⟨S3x1x16384x8, .f32⟩
  | _ => ⟨S1x16384x8x64, .f32⟩

abbrev hbmTy0_1 (i : Nat) : BufTy := match i % 128 with
  | 0 => ⟨S_, .f32⟩
  | 1 => ⟨S1x16384x8, .f32⟩
  | 2 => ⟨S_, .f32⟩
  | 3 => ⟨S1x16384x8, .f32⟩
  | 4 => ⟨S1x16384x8, .f32⟩
  | 5 => ⟨S_, .f32⟩
  | 6 => ⟨S1x16384x8, .f32⟩
  | 7 => ⟨S1x16384x8, .i1⟩
  | 8 => ⟨S_, .f32⟩
  | 9 => ⟨S1x16384x8, .f32⟩
  | 10 => ⟨S1x16384x8, .i1⟩
  | 11 => ⟨S_, .f32⟩
  | 12 => ⟨S1x16384x8, .f32⟩
  | 13 => ⟨S_, .f32⟩
  | 14 => ⟨S1x16384x8, .f32⟩
  | 15 => ⟨S_, .f32⟩
  | 16 => ⟨S1x16384x8, .f32⟩
  | 17 => ⟨S1x16384x8, .f32⟩
  | 18 => ⟨S1x16384x8, .f32⟩
  | 19 => ⟨S1x1x16384x8, .f32⟩
  | 20 => ⟨S3x1x16384x8, .f32⟩
  | 21 => ⟨S3x1x16384x8, .f32⟩
  | 22 => ⟨S3x1x16384x8, .f32⟩
  | 23 => ⟨S_, .f32⟩
  | 24 => ⟨S1x16384x8, .f32⟩
  | 25 => ⟨S1x1x16384x8, .f32⟩
  | 26 => ⟨S3x1x16384x8, .f32⟩
  | 27 => ⟨S3x1x16384x8, .f32⟩
  | 28 => ⟨S1x1x16384x8, .f32⟩
  | 29 => ⟨S_, .f32⟩
  | 30 => ⟨S1x1x16384x8, .f32⟩
  | 31 => ⟨S1x1x16384x8, .f32⟩
  | 32 => ⟨S3x1x16384x8x1, .f32⟩
  | 33 => ⟨S1x1x16384x8x64, .f32⟩
  | 34 => ⟨S1x1x16384x8x64, .f32⟩
  | 35 => ⟨S1x1x16384x8x64, .f32⟩
  | 36 => ⟨S3x1x16384x8x64, .f32⟩
  | 37 => ⟨S_, .f32⟩
  | 38 => ⟨S1x16384x8x64, .f32⟩
  | 39 => ⟨S_, .f32⟩
  | 40 => ⟨S1x16384x8x64, .f32⟩
  | 41 => ⟨S3x1x16384x8x64, .f32⟩
  | 42 => ⟨S3x1x16384x8x64, .f32⟩
  | 43 => ⟨S_, .f32⟩
  | 44 => ⟨S1x16384x8x64, .f32⟩
  | 45 => ⟨S3x1x16384x8x64, .f32⟩
  | 46 => ⟨S3x1x16384x8x64, .f32⟩
  | 47 => ⟨S3x1x16384x8x64, .f32⟩
  | 48 => ⟨S3x1x16384x8x64, .f32⟩
  | 49 => ⟨S_, .f32⟩
  | 50 => ⟨S3x1x16384x8, .f32⟩
  | 51 => ⟨S3x1x16384x8x1, .f32⟩
  | 52 => ⟨S1x1x16384x8x64, .f32⟩
  | 53 => ⟨S1x16384x8x64, .f32⟩
  | 54 => ⟨S1x1x16384x8x64, .f32⟩
  | 55 => ⟨S1x16384x8x64, .f32⟩
  | 56 => ⟨S1x1x16384x8x64, .f32⟩
  | 57 => ⟨S1x16384x8x64, .f32⟩
  | 58 => ⟨S_, .f32⟩
  | 59 => ⟨S3x16384x8, .f32⟩
  | 60 => ⟨S3x1x16384x8, .f32⟩
  | 61 => ⟨S3x1x16384x8, .f32⟩
  | 62 => ⟨S3x1x16384x8, .f32⟩
  | 63 => ⟨S3x1x16384x8, .f32⟩
  | 64 => ⟨S_, .f32⟩
  | 65 => ⟨S1x16384x8, .f32⟩
  | 66 => ⟨S1x1x16384x8, .f32⟩
  | 67 => ⟨S1x1x16384x8, .f32⟩
  | 68 => ⟨S3x1x16384x8, .f32⟩
  | 69 => ⟨S3x1x16384x8, .f32⟩
  | 70 => ⟨S_, .f32⟩
  | 71 => ⟨S16384x8, .f32⟩
  | 72 => ⟨S1x16384x8, .f32⟩
  | 73 => ⟨S3x1x16384x8, .f32⟩
  | 74 => ⟨S3x1x16384x8, .f32⟩
  | 75 => ⟨S3x1x16384x8, .f32⟩
  | 76 => ⟨S1x1x16384x8, .f32⟩
  | 77 => ⟨S1x16384x8, .f32⟩
  | 78 => ⟨S1x1x16384x8, .f32⟩
  | 79 => ⟨S1x16384x8, .f32⟩
  | 80 => ⟨S1x1x16384x8, .f32⟩
  | 81 => ⟨S1x16384x8, .f32⟩
  | 82 => ⟨S1x4096x4x8, .f32⟩
  | 83 => ⟨S1x4x4096x8, .f32⟩
  | 84 => ⟨S1x4x32x128x8, .f32⟩
  | 85 => ⟨S1x4x32x8x128, .f32⟩
  | 86 => ⟨S1x4096x4x8x64, .f32⟩
  | 87 => ⟨S1x4x4096x8x64, .f32⟩
  | 88 => ⟨S1x4x32x128x8x64, .f32⟩
  | 89 => ⟨S1x4x32x8x64x128, .f32⟩
  | 90 => ⟨S1x4x32x8x128x256, .f32⟩
  | 91 => ⟨S1x4x32x8x64x256, .f32⟩
  | 92 => ⟨S1x4x32x256x8x64, .f32⟩
  | 93 => ⟨S1x4x32x8x128x256, .f32⟩
  | 94 => ⟨S1x4x32x8x128x256, .f32⟩
  | 95 => ⟨S_, .f32⟩
  | 96 => ⟨S1x4x32x8x128, .f32⟩
  | 97 => ⟨S1x4x32x8x128x1, .f32⟩
  | 98 => ⟨S_, .f32⟩
  | 99 => ⟨S4x32x8x128, .f32⟩
  | 100 => ⟨S1x4x32x8x128, .f32⟩
  | 101 => ⟨S1x4x32x8x128, .f32⟩
  | 102 => ⟨S1x4x32x8x128, .f32⟩
  | 103 => ⟨S1x4x32x8x128x256, .f32⟩
  | 104 => ⟨S1x4x32x8x128x256, .f32⟩
  | 105 => ⟨S1x4x32x8x128x256, .f32⟩
  | 106 => ⟨S_, .f32⟩
  | 107 => ⟨S1x4x32x8x128x256, .f32⟩
  | 108 => ⟨S1x4x32x8x128x256, .f32⟩
  | 109 => ⟨S_, .f32⟩
  | 110 => ⟨S1x8x128x256, .f32⟩
  | 111 => ⟨S1x1x1x8x128x256, .f32⟩
  | 112 => ⟨S_, .f32⟩
  | 113 => ⟨S8x128x256, .f32⟩
  | 114 => ⟨S_, .f32⟩
  | 115 => ⟨S1x4x32x8x128x256, .f32⟩
  | 116 => ⟨S1x4x32x8x128x256, .f32⟩
  | 117 => ⟨S1x4x32x8x256x64, .f32⟩
  | 118 => ⟨S1x4x32x256x8x64, .f32⟩
  | 119 => ⟨S1x4x32x8x128x64, .f32⟩
  | 120 => ⟨S1x4x32x128x8x64, .f32⟩
  | 121 => ⟨S1x4x32x128x8x64, .f32⟩
  | 122 => ⟨S1x4x32x128x8x64, .f32⟩
  | 123 => ⟨S_, .f32⟩
  | 124 => ⟨S1x4x33x128x8x64, .f32⟩
  | 125 => ⟨S_, .f32⟩
  | 126 => ⟨S1x4x33x128x8x64, .f32⟩
  | 127 => ⟨S1x4x33x128x8x64, .f32⟩
  | _ => ⟨S1x16384x8x64, .f32⟩

abbrev hbmTy0_2 (i : Nat) : BufTy := match i % 128 with
  | 0 => ⟨S1x4x4224x8x64, .f32⟩
  | 1 => ⟨S1x4x128x8x64, .f32⟩
  | 2 => ⟨S1x4x4096x8x64, .f32⟩
  | 3 => ⟨S1x4096x4x8x64, .f32⟩
  | 4 => ⟨S1x16384x8x64, .f32⟩
  | 5 => ⟨S1x4x32x128x8x64, .f32⟩
  | 6 => ⟨S1x4x32x128x8x64, .f32⟩
  | 7 => ⟨S_, .f32⟩
  | 8 => ⟨S1x4x33x128x8x64, .f32⟩
  | 9 => ⟨S_, .f32⟩
  | 10 => ⟨S1x4x33x128x8x64, .f32⟩
  | 11 => ⟨S1x4x33x128x8x64, .f32⟩
  | 12 => ⟨S1x4x4224x8x64, .f32⟩
  | 13 => ⟨S1x4x128x8x64, .f32⟩
  | 14 => ⟨S1x4x4096x8x64, .f32⟩
  | 15 => ⟨S1x4096x4x8x64, .f32⟩
  | 16 => ⟨S1x16384x8x64, .f32⟩
  | 17 => ⟨S1x4x4096x8x64, .f32⟩
  | 18 => ⟨S1x4096x4x8x64, .f32⟩
  | 19 => ⟨S1x16384x8x64, .f32⟩
  | 20 => ⟨S16384x8x64, .f32⟩
  | 21 => ⟨S16384x512, .f32⟩
  | 22 => ⟨S16384x8x64, .f32⟩
  | 23 => ⟨S16384x512, .f32⟩
  | 24 => ⟨S16384x8x64, .f32⟩
  | 25 => ⟨S16384x512, .f32⟩
  | 26 => ⟨S16384x1536, .f32⟩
  | 27 => ⟨S4096x4x1536, .f32⟩
  | 28 => ⟨S4x4096x1536, .f32⟩
  | 29 => ⟨S16384x1536, .f32⟩
  | 30 => ⟨S8x256x128, .f32⟩
  | 31 => ⟨S8x128x128, .f32⟩
  | 32 => ⟨S8x128x128, .f32⟩
  | 33 => ⟨S8x128x256, .f32⟩
  | 34 => ⟨S16384x1536, .bf16⟩
  | _ => ⟨S1x16384x8x64, .f32⟩

abbrev hbmTy (i : Nat) : BufTy := match i / 128 with
  | 0 => hbmTy0_0 i
  | 1 => hbmTy0_1 i
  | 2 => hbmTy0_2 i
  | _ => ⟨S1x16384x8x64, .f32⟩

abbrev bufTy : (tb : Table) → Fin (tcTables nBuf tb) → BufTy
  | .hbm, ⟨i, _⟩ => hbmTy i
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_call0_v0 : Ref sig .tc := ⟨.hbm, 79, rfl⟩
abbrev main_v58_1 : Ref sig .tc := ⟨.hbm, 80, rfl⟩
abbrev main_call0_v2 : Ref sig .tc := ⟨.hbm, 81, rfl⟩
abbrev main_v58_0 : Ref sig .tc := ⟨.hbm, 82, rfl⟩
abbrev main_call0_cst : Ref sig .tc := ⟨.hbm, 83, rfl⟩
abbrev main_v58_2 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_13 : Ref sig .tc := ⟨.hbm, 118, rfl⟩
abbrev main_v89 : Ref sig .tc := ⟨.hbm, 119, rfl⟩
abbrev main_cst_14 : Ref sig .tc := ⟨.hbm, 120, rfl⟩
abbrev main_v90 : Ref sig .tc := ⟨.hbm, 121, rfl⟩
abbrev main_cst_15 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_cst_18 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_v102 : Ref sig .tc := ⟨.hbm, 138, rfl⟩
abbrev main_cst_20 : Ref sig .tc := ⟨.hbm, 139, rfl⟩
abbrev main_v103 : Ref sig .tc := ⟨.hbm, 140, rfl⟩
abbrev main_cst_21 : Ref sig .tc := ⟨.hbm, 141, rfl⟩
abbrev main_v104 : Ref sig .tc := ⟨.hbm, 142, rfl⟩
abbrev main_cst_22 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_23 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_24 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_25 : Ref sig .tc := ⟨.hbm, 165, rfl⟩
abbrev main_v124 : Ref sig .tc := ⟨.hbm, 166, rfl⟩
abbrev main_cst_26 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_27 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_28 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_cst_29 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_30 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_31 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_cst_32 : Ref sig .tc := ⟨.hbm, 223, rfl⟩
abbrev main_v175 : Ref sig .tc := ⟨.hbm, 224, rfl⟩
abbrev main_v176 : Ref sig .tc := ⟨.hbm, 225, rfl⟩
abbrev main_cst_33 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_call1_cst : Ref sig .tc := ⟨.hbm, 234, rfl⟩
abbrev main_call1_v0 : Ref sig .tc := ⟨.hbm, 235, rfl⟩
abbrev main_v184 : Ref sig .tc := ⟨.hbm, 236, rfl⟩
abbrev main_cst_34 : Ref sig .tc := ⟨.hbm, 237, rfl⟩
abbrev main_v185 : Ref sig .tc := ⟨.hbm, 238, rfl⟩
abbrev main_v186 : Ref sig .tc := ⟨.hbm, 239, rfl⟩
abbrev main_cst_35 : Ref sig .tc := ⟨.hbm, 240, rfl⟩
abbrev main_v187 : Ref sig .tc := ⟨.hbm, 241, rfl⟩
abbrev main_cst_36 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_cst_37 : Ref sig .tc := ⟨.hbm, 251, rfl⟩
abbrev main_v196 : Ref sig .tc := ⟨.hbm, 252, rfl⟩
abbrev main_cst_38 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_cst_39 : Ref sig .tc := ⟨.hbm, 263, rfl⟩
abbrev main_v206 : Ref sig .tc := ⟨.hbm, 264, rfl⟩
abbrev main_cst_40 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S1024x512 : Shape := ⟨2, ![1024, 512]⟩
abbrev S1024x4096 : Shape := ⟨2, ![1024, 4096]⟩
abbrev S16384x2048 : Shape := ⟨2, ![16384, 2048]⟩
abbrev S16384x512 : Shape := ⟨2, ![16384, 512]⟩
abbrev S16384x1536 : Shape := ⟨2, ![16384, 1536]⟩
abbrev S1x1024 : Shape := ⟨2, ![1, 1024]⟩
abbrev S8x1024 : Shape := ⟨2, ![8, 1024]⟩
abbrev S512x2048 : Shape := ⟨2, ![512, 2048]⟩
abbrev S512x1536 : Shape := ⟨2, ![512, 1536]⟩
abbrev S512x1024 : Shape := ⟨2, ![512, 1024]⟩
abbrev S1024x2048 : Shape := ⟨2, ![1024, 2048]⟩
abbrev S1024x1536 : Shape := ⟨2, ![1024, 1536]⟩
abbrev S512 : Shape := ⟨1, ![512]⟩
abbrev S512x1 : Shape := ⟨2, ![512, 1]⟩
abbrev S64x8x1024 : Shape := ⟨3, ![64, 8, 1024]⟩

abbrev nBuf : Space → Nat
  | .hbm => 37
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x1024, .f32⟩
  | .hbm, ⟨4, _⟩ => ⟨S16384x8704, .f32⟩
  | .hbm, ⟨5, _⟩ => ⟨S1024x8704, .bf16⟩
  | .hbm, ⟨6, _⟩ => ⟨S1024x512, .bf16⟩
  | .hbm, ⟨7, _⟩ => ⟨S1024x512, .bf16⟩
  | .hbm, ⟨8, _⟩ => ⟨S1024x512, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S1024x512, .bf16⟩
  | .hbm, ⟨13, _⟩ => ⟨S1024x512, .bf16⟩
  | .hbm, ⟨14, _⟩ => ⟨S1024x512, .bf16⟩
  | .hbm, ⟨15, _⟩ => ⟨S1024x4096, .bf16⟩
  | .hbm, ⟨16, _⟩ => ⟨S1024x8704, .bf16⟩
  | .hbm, ⟨17, _⟩ => ⟨S16384x8704, .bf16⟩
  | .hbm, ⟨18, _⟩ => ⟨S16384x2048, .bf16⟩
  | .hbm, ⟨19, _⟩ => ⟨S16384x2048, .bf16⟩
  | .hbm, ⟨20, _⟩ => ⟨S16384x512, .bf16⟩
  | .hbm, ⟨21, _⟩ => ⟨S16384x512, .bf16⟩
  | .hbm, ⟨22, _⟩ => ⟨S16384x512, .bf16⟩
  | .hbm, ⟨23, _⟩ => ⟨S16384x1536, .bf16⟩
  | .hbm, ⟨24, _⟩ => ⟨S16384x512, .bf16⟩
  | .hbm, ⟨25, _⟩ => ⟨S16384x512, .bf16⟩
  | .hbm, ⟨26, _⟩ => ⟨S16384x512, .bf16⟩
  | .hbm, ⟨27, _⟩ => ⟨S16384x1536, .bf16⟩
  | .hbm, ⟨28, _⟩ => ⟨S16384x512, .bf16⟩
  | .hbm, ⟨29, _⟩ => ⟨S16384x512, .bf16⟩
  | .hbm, ⟨30, _⟩ => ⟨S16384x512, .bf16⟩
  | .hbm, ⟨31, _⟩ => ⟨S16384x1536, .bf16⟩
  | .hbm, ⟨32, _⟩ => ⟨S1x1024, .f32⟩
  | .hbm, ⟨33, _⟩ => ⟨S16384x1024, .f32⟩
  | .hbm, ⟨34, _⟩ => ⟨S8x1024, .f32⟩
  | .hbm, ⟨35, _⟩ => ⟨S1x1024, .f32⟩
  | .hbm, ⟨36, _⟩ => ⟨S1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1536, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .bf16⟩
  | .local _ .vmem, ⟨8, _⟩ => ⟨S512x1536, .bf16⟩
  | .local _ .vmem, ⟨9, _⟩ => ⟨S512x1536, .bf16⟩
  | .local _ .vmem, ⟨10, _⟩ => ⟨S1024x8704, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x8704 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x1024, .f32⟩
  | .hbm, ⟨4, _⟩ => ⟨S16384x8704, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x8704, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel3.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 17
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .bf16⟩
  | .hbm, ⟨15, _⟩ => ⟨S16384x1024, .bf16⟩
  | .hbm, ⟨16, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S1024x2816 : Shape := ⟨2, ![1024, 2816]⟩

abbrev nBuf : Space → Nat
  | .hbm => 18
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x1024, .f32⟩
  | .hbm, ⟨15, _⟩ => ⟨S1024x2816, .f32⟩
  | .hbm, ⟨16, _⟩ => ⟨S2816x1024, .f32⟩
  | .hbm, ⟨17, _⟩ => ⟨S2816x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 24
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x5632, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x5632, .bf16⟩
  | .hbm, ⟨22, _⟩ => ⟨S16384x2816, .bf16⟩
  | .hbm, ⟨23, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S5632x1024 : Shape := ⟨2, ![5632, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x5632, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S5632x1024, .f32⟩
  | .hbm, ⟨22, _⟩ => ⟨S1024x5632, .f32⟩
  | .hbm, ⟨23, _⟩ => ⟨S1024x5632, .bf16⟩
  | .hbm, ⟨24, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 24
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x5632, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x5632, .bf16⟩
  | .hbm, ⟨22, _⟩ => ⟨S16384x2816, .bf16⟩
  | .hbm, ⟨23, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S5632x1024 : Shape := ⟨2, ![5632, 1024]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x5632, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S5632x1024, .f32⟩
  | .hbm, ⟨22, _⟩ => ⟨S1024x5632, .f32⟩
  | .hbm, ⟨23, _⟩ => ⟨S1024x5632, .bf16⟩
  | .hbm, ⟨24, _⟩ => ⟨S1024x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S16384x1024 : Shape := ⟨2, ![16384, 1024]⟩
abbrev S1024x1024 : Shape := ⟨2, ![1024, 1024]⟩
abbrev S_ : Shape := ⟨0, ![]⟩
abbrev S2048x1024 : Shape := ⟨2, ![2048, 1024]⟩

abbrev nBuf : Space → Nat
  | .hbm => 28
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S16384x1024, .bf16⟩
  | .hbm, ⟨27, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2048x1024 : Shape := ⟨2, ![2048, 1024]⟩

abbrev nBuf : Space → Nat
  | .hbm => 44
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | .hbm, ⟨42, _⟩ => ⟨S16384x1024, .bf16⟩
  | .hbm, ⟨43, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1024x1024, .f32⟩
  | .hbm, ⟨43, _⟩ => ⟨S1024x1024, .f32⟩
  | .hbm, ⟨44, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel8.lean ====
abbrev S16384x512 : Shape := ⟨2, ![16384, 512]⟩
abbrev S512x1024 : Shape := ⟨2, ![512, 1024]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x512, .bf16⟩
  | .hbm, ⟨4, _⟩ => ⟨S16384x1024, .bf16⟩
  | .hbm, ⟨5, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x1024, .f32⟩
  | .hbm, ⟨3, _⟩ => ⟨S16384x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S16384x512 : Shape := ⟨2, ![16384, 512]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 27
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x8704, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x1536, .bf16⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8704x1024 : Shape := ⟨2, ![8704, 1024]⟩
abbrev S1024x512 : Shape := ⟨2, ![1024, 512]⟩
abbrev S1024x1536 : Shape := ⟨2, ![1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x8704, .f32⟩
  | .hbm, ⟨21, _⟩ => ⟨S8704x1024, .f32⟩
  | .hbm, ⟨22, _⟩ => ⟨S1024x8704, .f32⟩
  | .hbm, ⟨23, _⟩ => ⟨S1024x8704, .bf16⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel10.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S16384x512 : Shape := ⟨2, ![16384, 512]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 27
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x8704, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x1536, .bf16⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8704x1024 : Shape := ⟨2, ![8704, 1024]⟩
abbrev S1024x512 : Shape := ⟨2, ![1024, 512]⟩
abbrev S1024x1536 : Shape := ⟨2, ![1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x8704, .f32⟩
  | .hbm, ⟨21, _⟩ => ⟨S8704x1024, .f32⟩
  | .hbm, ⟨22, _⟩ => ⟨S1024x8704, .f32⟩
  | .hbm, ⟨23, _⟩ => ⟨S1024x8704, .bf16⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel11.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S16384x512 : Shape := ⟨2, ![16384, 512]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 27
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x8704, .bf16⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S16384x1536, .bf16⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .bf16⟩
  | .hbm, ⟨26, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8704x1024 : Shape := ⟨2, ![8704, 1024]⟩
abbrev S1024x512 : Shape := ⟨2, ![1024, 512]⟩
abbrev S1024x1536 : Shape := ⟨2, ![1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x8704, .f32⟩
  | .hbm, ⟨21, _⟩ => ⟨S8704x1024, .f32⟩
  | .hbm, ⟨22, _⟩ => ⟨S1024x8704, .f32⟩
  | .hbm, ⟨23, _⟩ => ⟨S1024x8704, .bf16⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel12.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x8704, .bf16⟩
  | .hbm, ⟨22, _⟩ => ⟨S16384x2048, .bf16⟩
  | .hbm, ⟨23, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8704x1024 : Shape := ⟨2, ![8704, 1024]⟩
abbrev S1024x2048 : Shape := ⟨2, ![1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x8704, .f32⟩
  | .hbm, ⟨21, _⟩ => ⟨S8704x1024, .f32⟩
  | .hbm, ⟨22, _⟩ => ⟨S1024x8704, .f32⟩
  | .hbm, ⟨23, _⟩ => ⟨S1024x8704, .bf16⟩
  | .hbm, ⟨24, _⟩ => ⟨S1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel13.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 24
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x8704, .bf16⟩
  | .hbm, ⟨22, _⟩ => ⟨S16384x2048, .bf16⟩
  | .hbm, ⟨23, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S1024 : Shape := ⟨1, ![1024]⟩
abbrev S1024x8704 : Shape := ⟨2, ![1024, 8704]⟩
abbrev S16384x8704 : Shape := ⟨2, ![16384, 8704]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8704x1024 : Shape := ⟨2, ![8704, 1024]⟩
abbrev S1024x2048 : Shape := ⟨2, ![1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8704, .f32⟩
  | .hbm, ⟨3, _⟩ => ⟨S16384x8704, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x8704, .f32⟩
  | .hbm, ⟨21, _⟩ => ⟨S8704x1024, .f32⟩
  | .hbm, ⟨22, _⟩ => ⟨S1024x8704, .f32⟩
  | .hbm, ⟨23, _⟩ => ⟨S1024x8704, .bf16⟩
  | .hbm, ⟨24, _⟩ => ⟨S1024x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel14.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S8x1024 : Shape := ⟨2, ![8, 1024]⟩
abbrev S512x2816 : Shape := ⟨2, ![512, 2816]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S64x8x1024 : Shape := ⟨3, ![64, 8, 1024]⟩

abbrev nBuf : Space → Nat
  | .hbm => 39
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S16384x1024, .f32⟩
  | .hbm, ⟨6, _⟩ => ⟨S16384x5632, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x5632, .bf16⟩
  | .hbm, ⟨25, _⟩ => ⟨S16384x2816, .bf16⟩
  | .hbm, ⟨26, _⟩ => ⟨S16384x2816, .bf16⟩
  | .hbm, ⟨27, _⟩ => ⟨S1024x5632, .bf16⟩
  | .hbm, ⟨28, _⟩ => ⟨S16384x1024, .bf16⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .bf16⟩
  | .hbm, ⟨33, _⟩ => ⟨S8x1024, .f32⟩
  | .hbm, ⟨34, _⟩ => ⟨S8x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1024x5632, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | .local _ .vmem, ⟨18, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference14Ideal.lean ====
abbrev S16384x1024 : Shape := ⟨2, ![16384, 1024]⟩
abbrev S1024 : Shape := ⟨1, ![1024]⟩
abbrev S1024x5632 : Shape := ⟨2, ![1024, 5632]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S16384x1024, .f32⟩
  | .hbm, ⟨6, _⟩ => ⟨S16384x5632, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x5632, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S1024, .f32⟩
  | .hbm, ⟨85, _⟩ => ⟨S16384x1024, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S_, .f32⟩
  | .hbm, ⟨96, _⟩ => ⟨S16384, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Kernel16.lean ====
abbrev S16384x1024 : Shape := ⟨2, ![16384, 1024]⟩
abbrev S1024x5632 : Shape := ⟨2, ![1024, 5632]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x1024, .bf16⟩
  | .hbm, ⟨3, _⟩ => ⟨S1024x5632, .bf16⟩
  | .hbm, ⟨4, _⟩ => ⟨S16384x2816, .bf16⟩
  | .hbm, ⟨5, _⟩ => ⟨S16384x2816, .bf16⟩
  | .hbm, ⟨6, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  let v4 : BitVec 32 := Scalar.addi c0_i32_3 arg0
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c2_i32 : BitVec 32 := 2#32
  let v4 : BitVec 32 := Scalar.addi c2_i32 arg0
  let c0_i32_3 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference16Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .bf16⟩
  | .hbm, ⟨6, _⟩ => ⟨S16384x2816, .bf16⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel17.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x2816, .bf16⟩
  | .hbm, ⟨6, _⟩ => ⟨S2816x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .hbm, ⟨11, _⟩ => ⟨S8x1024, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x1024, .f32⟩
  | .hbm, ⟨19, _⟩ => ⟨S1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S8x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  let c0_i32_4 : BitVec 32 := 0#32
  ![v3.toNat, c0_i32_3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Reference17Ideal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩

abbrev nD : Nat := 1
abbrev τ : Topo := Topo.v7x

variable {F : FTy → Type} [FloatOps F]
-- ==== Proof.Attn.lean ====
module

public import Idealize.ShloMosaic.Lib.Pipeline.ValueKit

@[expose] public section

noncomputable section

namespace Cert.Attn

/-- Real arrays standing for the nine arguments. -/
structure Inp where
  q : Fin 16384 → Fin 8 → Fin 64 → ℝ
  k : Fin 16384 → Fin 8 → Fin 64 → ℝ
  v : Fin 16384 → Fin 8 → Fin 64 → ℝ
  bias : Fin 8 → Fin 128 → Fin 256 → ℝ
  ob : Fin 16384 → Fin 8 → Fin 64 → ℝ
  lb : Fin 16384 → Fin 8 → ℝ
  oc : Fin 16384 → Fin 8 → Fin 64 → ℝ
  lc : Fin 16384 → Fin 8 → ℝ
  ct : Fin 16384 → Fin 8 → Fin 64 → ℝ

/-- The token at place `a` of block `n` of residue class `r`. -/
def tok (r : Fin 4) (n : Fin 32) (a : Fin 128) : Fin 16384 := ⟨(n * 128 + a) * 4 + r, by omega⟩

/-- The block before block `n` (block `0` for block `0`). -/
def prv (n : Fin 32) : Fin 32 := ⟨n - 1, by omega⟩

/-- Row `c` of block `n`'s window of keys: the previous block's rows, then its own; zero before the start. -/
def win (x : Fin 16384 → Fin 8 → Fin 64 → ℝ) (r : Fin 4) (n : Fin 32) (c : Fin 256) (h : Fin 8) (d : Fin 64) : ℝ :=
  if hc : (c : ℕ) < 128 then if (n : ℕ) = 0 then 0 else x (tok r (prv n) ⟨c, hc⟩) h d
  else x (tok r n ⟨c - 128, by omega⟩) h d

/-- Key `c` of the window is one that query `a` of block `n` sees. -/
def Sees (n : Fin 32) (a : Fin 128) (c : Fin 256) : Prop :=
  (a : ℕ) ≤ c ∧ (c : ℕ) ≤ a + 128 ∧ 128 ≤ (n : ℕ) * 128 + c

instance (n : Fin 32) (a : Fin 128) (c : Fin 256) : Decidable (Sees n a c) := by unfold Sees; infer_instance

namespace Inp
variable (I : Inp)

/-- The score of query `a` against key `c`. -/
def s (r : Fin 4) (n : Fin 32) (h : Fin 8) (a : Fin 128) (c : Fin 256) : ℝ :=
  (∑ d, I.q (tok r n a) h d * win I.k r n c h d) * (1 / 8) + I.bias h a c

/-- The exponential of the score, zero where the key is not seen. -/
def w (r : Fin 4) (n : Fin 32) (h : Fin 8) (a : Fin 128) (c : Fin 256) : ℝ :=
  if Sees n a c then Real.exp (I.s r n h a c) else 0

/-- The sum of the exponentials over the window. -/
def z (r : Fin 4) (n : Fin 32) (h : Fin 8) (a : Fin 128) : ℝ := ∑ c, I.w r n h a c

theorem w_nonneg (r n h a c) : 0 ≤ I.w r n h a c := by
  unfold w; split_ifs
  · exact (Real.exp_pos _).le
  · exact le_rfl

/-- A query sees its own key, so the sum is positive. -/
theorem z_pos (r n h a) : 0 < I.z r n h a := by
  unfold z
  refine Finset.sum_pos' (fun c _ => I.w_nonneg r n h a c) ⟨⟨a + 128, by omega⟩, Finset.mem_univ _, ?_⟩
  unfold w
  rw [if_pos (by refine ⟨?_, ?_, ?_⟩ <;> simp only [] <;> omega)]
  exact Real.exp_pos _

/-- The group's own attention weights. -/
def p (r : Fin 4) (n : Fin 32) (h : Fin 8) (a : Fin 128) (c : Fin 256) : ℝ := I.w r n h a c / I.z r n h a

theorem p_sum (r n h a) : ∑ c, I.p r n h a c = 1 := by
  unfold p
  rw [← Finset.sum_div]
  exact div_self (I.z_pos r n h a).ne'

/-- The group's own output. -/
def o (r : Fin 4) (n : Fin 32) (h : Fin 8) (a : Fin 128) (d : Fin 64) : ℝ := ∑ c, I.p r n h a c * win I.v r n c h d

/-- The sum of the three groups' exponentials at a query. -/
def den (r : Fin 4) (n : Fin 32) (h : Fin 8) (a : Fin 128) : ℝ :=
  I.z r n h a + Real.exp (I.lb (tok r n a) h) + Real.exp (I.lc (tok r n a) h)

theorem den_pos (r n h a) : 0 < I.den r n h a := by
  have := I.z_pos r n h a
  unfold den; positivity

/-- The three groups' outputs merged by their shares of the sum. -/
def om (r : Fin 4) (n : Fin 32) (h : Fin 8) (a : Fin 128) (d : Fin 64) : ℝ :=
  I.z r n h a / I.den r n h a * I.o r n h a d
    + Real.exp (I.lb (tok r n a) h) / I.den r n h a * I.ob (tok r n a) h d
    + Real.exp (I.lc (tok r n a) h) / I.den r n h a * I.oc (tok r n a) h d

/-- The inner product of the cotangent with the merged output. -/
def dl (r : Fin 4) (n : Fin 32) (h : Fin 8) (a : Fin 128) : ℝ := ∑ d, I.ct (tok r n a) h d * I.om r n h a d

/-- The merged attention weights. -/
def P (r : Fin 4) (n : Fin 32) (h : Fin 8) (a : Fin 128) (c : Fin 256) : ℝ := I.w r n h a c / I.den r n h a

/-- The gradient with respect to the scores. -/
def ds (r : Fin 4) (n : Fin 32) (h : Fin 8) (a : Fin 128) (c : Fin 256) : ℝ :=
  I.P r n h a c * (∑ d, I.ct (tok r n a) h d * win I.v r n c h d - I.dl r n h a)

/-- The next block, and whether there is one. -/
def _root_.Cert.Attn.nxt (n : Fin 32) : Fin 32 := ⟨(n + 1) % 32, by omega⟩

/-- The gradient with respect to a key row. -/
def dk (r : Fin 4) (n : Fin 32) (h : Fin 8) (b : Fin 128) (d : Fin 64) : ℝ :=
  ((∑ a, I.ds r n h a ⟨b + 128, by omega⟩ * I.q (tok r n a) h d)
    + if (n : ℕ) + 1 < 32 then ∑ a, I.ds r (nxt n) h a ⟨b, by omega⟩ * I.q (tok r (nxt n) a) h d else 0) * (1 / 8)

/-- The gradient with respect to a value row. -/
def dv (r : Fin 4) (n : Fin 32) (h : Fin 8) (b : Fin 128) (d : Fin 64) : ℝ :=
  (∑ a, I.P r n h a ⟨b + 128, by omega⟩ * I.ct (tok r n a) h d)
    + if (n : ℕ) + 1 < 32 then ∑ a, I.P r (nxt n) h a ⟨b, by omega⟩ * I.ct (tok r (nxt n) a) h d else 0

/-- The gradient with respect to a query row. -/
def dq (r : Fin 4) (n : Fin 32) (h : Fin 8) (a : Fin 128) (d : Fin 64) : ℝ := (∑ c, I.ds r n h a c * win I.k r n c h d) * (1 / 8)

/-- The gradient with respect to the bias. -/
def db (h : Fin 8) (a : Fin 128) (c : Fin 256) : ℝ := ∑ r, ∑ n, I.ds r n h a c

end Inp

/-- A finite sum of real values, cast. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Attn
-- ==== Proof.Fold.lean ====
module

public import Idealize.ShloMosaic.Lib.Pipeline.ValueKit
public import Idealize.ShloMosaic.Lib.Pointwise

@[expose] public section

noncomputable section

namespace Cert.Fold

open Idealize.ShloMosaic

variable {n0 n1 n2 n3 n4 n5 : ℕ}

/-- Rank 6, the last axis reduced: the indices dropping to a given one. -/
theorem fiber_a5 (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- Rank 6, the last axis reduced: a host sum at an index. -/
theorem sum_a5 (h : (⟨6, ![n0, n1, n2, n3, n4, n5]⟩ : Shape).ReducesTo [5] ⟨5, ![n0, n1, n2, n3, n4]⟩)
    (x : (⟨6, ![n0, n1, n2, n3, n4, n5]⟩ : Shape).Idx → EReal) (z : EReal)
    (a : Fin n0) (b : Fin n1) (c : Fin n2) (d : Fin n3) (e : Fin n4) :
    Ideal.hostReduceAdd h x z (ix5 a b c d e) = z + ∑ k : Fin n5, x (ix6 a b c d e k) := by
  unfold Ideal.hostReduceAdd
  congr 1
  exact Finset.sum_filter_eq_sum_of_fiber _ (fun k : Fin n5 => ix6 a b c d e k) (fun _ _ q => congrFun q 5)
    (fiber_a5 h a b c d e) x

/-- Rank 6, the last axis reduced: a commutative fold at an index. -/
theorem fold_a5 (h : (⟨6, ![n0, n1, n2, n3, n4, n5]⟩ : Shape).ReducesTo [5] ⟨5, ![n0, n1, n2, n3, n4]⟩)
    {α : Type} (op : α → α → α) [Std.Commutative op] [Std.Associative op] (z : α)
    (x : (⟨6, ![n0, n1, n2, n3, n4, n5]⟩ : Shape).Idx → α)
    (a : Fin n0) (b : Fin n1) (c : Fin n2) (d : Fin n3) (e : Fin n4) :
    (Finset.univ.filter (fun i => h.drop i = ix5 a b c d e)).fold op z x
      = (Finset.univ : Finset (Fin n5)).fold op z (fun k => x (ix6 a b c d e k)) :=
  Finset.fold_filter_eq_fold_of_fiber op _ (fun k : Fin n5 => ix6 a b c d e k) (fun _ _ q => congrFun q 5)
    (fiber_a5 h a b c d e) z x

/-- Rank 6, the first and the last axis, both of size one, reduced: nothing is summed. -/
theorem sum_a05 (h : (⟨6, ![1, n1, n2, n3, n4, 1]⟩ : Shape).ReducesTo [0, 5] ⟨4, ![n1, n2, n3, n4]⟩)
    (x : (⟨6, ![1, n1, n2, n3, n4, 1]⟩ : Shape).Idx → EReal) (z : EReal)
    (b : Fin n1) (c : Fin n2) (d : Fin n3) (e : Fin n4) :
    Ideal.hostReduceAdd h x z (ix4 b c d e) = z + x (ix6 0 b c d e 0) := by
  unfold Ideal.hostReduceAdd
  congr 1
  rw [Finset.sum_filter_eq_sum_of_fiber _ (fun _ : Unit => ix6 0 b c d e 0) (fun _ _ _ => rfl) (fun i => ?_) x]
  · simp
  constructor
  · intro q
    refine ⟨(), ?_⟩
    funext y; apply Fin.ext
    match y with
    | ⟨0, _⟩ => exact (Nat.lt_one_iff.mp (i 0).isLt).symm
    | ⟨1, _⟩ => exact (congrArg Fin.val (congrFun q 0)).symm
    | ⟨2, _⟩ => exact (congrArg Fin.val (congrFun q 1)).symm
    | ⟨3, _⟩ => exact (congrArg Fin.val (congrFun q 2)).symm
    | ⟨4, _⟩ => exact (congrArg Fin.val (congrFun q 3)).symm
    | ⟨5, _⟩ => exact (Nat.lt_one_iff.mp (i 5).isLt).symm
  · rintro ⟨k, rfl⟩
    funext y; apply Fin.ext
    match y with
    | ⟨0, _⟩ => rfl
    | ⟨1, _⟩ => rfl
    | ⟨2, _⟩ => rfl
    | ⟨3, _⟩ => rfl

/-- Rank 6, the first three axes, all of size one, reduced: nothing is summed. -/
theorem sum_a012 (h : (⟨6, ![1, 1, 1, n3, n4, n5]⟩ : Shape).ReducesTo [0, 1, 2] ⟨3, ![n3, n4, n5]⟩)
    (x : (⟨6, ![1, 1, 1, n3, n4, n5]⟩ : Shape).Idx → EReal) (z : EReal)
    (b : Fin n3) (c : Fin n4) (d : Fin n5) :
    Ideal.hostReduceAdd h x z (ix3 b c d) = z + x (ix6 0 0 0 b c d) := by
  unfold Ideal.hostReduceAdd
  congr 1
  rw [Finset.sum_filter_eq_sum_of_fiber _ (fun _ : Unit => ix6 0 0 0 b c d) (fun _ _ _ => rfl) (fun i => ?_) x]
  · simp
  constructor
  · intro q
    refine ⟨(), ?_⟩
    funext y; apply Fin.ext
    match y with
    | ⟨0, _⟩ => exact (Nat.lt_one_iff.mp (i 0).isLt).symm
    | ⟨1, _⟩ => exact (Nat.lt_one_iff.mp (i 1).isLt).symm
    | ⟨2, _⟩ => exact (Nat.lt_one_iff.mp (i 2).isLt).symm
    | ⟨3, _⟩ => exact (congrArg Fin.val (congrFun q 0)).symm
    | ⟨4, _⟩ => exact (congrArg Fin.val (congrFun q 1)).symm
    | ⟨5, _⟩ => exact (congrArg Fin.val (congrFun q 2)).symm
  · rintro ⟨k, rfl⟩
    funext y; apply Fin.ext
    match y with
    | ⟨0, _⟩ => rfl
    | ⟨1, _⟩ => rfl
    | ⟨2, _⟩ => rfl

/-- Rank 6, the second and third axis reduced: a host sum at an index. -/
theorem sum_a12 (h : (⟨6, ![n0, n1, n2, n3, n4, n5]⟩ : Shape).ReducesTo [1, 2] ⟨4, ![n0, n3, n4, n5]⟩)
    (x : (⟨6, ![n0, n1, n2, n3, n4, n5]⟩ : Shape).Idx → EReal) (z : EReal)
    (a : Fin n0) (b : Fin n3) (c : Fin n4) (d : Fin n5) :
    Ideal.hostReduceAdd h x z (ix4 a b c d) = z + ∑ r : Fin n1, ∑ n : Fin n2, x (ix6 a r n b c d) := by
  unfold Ideal.hostReduceAdd
  congr 1
  rw [Finset.sum_filter_eq_sum_of_fiber _ (fun k : Fin n1 × Fin n2 => ix6 a k.1 k.2 b c d)
    (fun _ _ q => Prod.ext (congrFun q 1) (congrFun q 2)) (fun i => ?_) x]
  · exact Fintype.sum_prod_type _
  constructor
  · intro q
    refine ⟨(i 1, i 2), ?_⟩
    funext y; apply Fin.ext
    match y with
    | ⟨0, _⟩ => exact (congrArg Fin.val (congrFun q 0)).symm
    | ⟨1, _⟩ => rfl
    | ⟨2, _⟩ => rfl
    | ⟨3, _⟩ => exact (congrArg Fin.val (congrFun q 1)).symm
    | ⟨4, _⟩ => exact (congrArg Fin.val (congrFun q 2)).symm
    | ⟨5, _⟩ => exact (congrArg Fin.val (congrFun q 3)).symm
  · rintro ⟨k, rfl⟩
    funext y; apply Fin.ext
    match y with
    | ⟨0, _⟩ => rfl
    | ⟨1, _⟩ => rfl
    | ⟨2, _⟩ => rfl
    | ⟨3, _⟩ => rfl

/-- Rank 5, the second and the last axis, both of size one, reduced: nothing is summed. -/
theorem sum_a14 (h : (⟨5, ![n0, 1, n2, n3, 1]⟩ : Shape).ReducesTo [1, 4] ⟨3, ![n0, n2, n3]⟩)
    (x : (⟨5, ![n0, 1, n2, n3, 1]⟩ : Shape).Idx → EReal) (z : EReal)
    (b : Fin n0) (c : Fin n2) (d : Fin n3) :
    Ideal.hostReduceAdd h x z (ix3 b c d) = z + x (ix5 b 0 c d 0) := by
  unfold Ideal.hostReduceAdd
  congr 1
  rw [Finset.sum_filter_eq_sum_of_fiber _ (fun _ : Unit => ix5 b 0 c d 0) (fun _ _ _ => rfl) (fun i => ?_) x]
  · simp
  constructor
  · intro q
    refine ⟨(), ?_⟩
    funext y; apply Fin.ext
    match y with
    | ⟨0, _⟩ => exact (congrArg Fin.val (congrFun q 0)).symm
    | ⟨1, _⟩ => exact (Nat.lt_one_iff.mp (i 1).isLt).symm
    | ⟨2, _⟩ => exact (congrArg Fin.val (congrFun q 1)).symm
    | ⟨3, _⟩ => exact (congrArg Fin.val (congrFun q 2)).symm
    | ⟨4, _⟩ => exact (Nat.lt_one_iff.mp (i 4).isLt).symm
  · rintro ⟨k, rfl⟩
    funext y; apply Fin.ext
    match y with
    | ⟨0, _⟩ => rfl
    | ⟨1, _⟩ => rfl
    | ⟨2, _⟩ => rfl

/-- Rank 4, the first two axes, both of size one, reduced: nothing is summed. -/
theorem sum_a01 (h : (⟨4, ![1, 1, n2, n3]⟩ : Shape).ReducesTo [0, 1] ⟨2, ![n2, n3]⟩)
    (x : (⟨4, ![1, 1, n2, n3]⟩ : Shape).Idx → EReal) (z : EReal) (c : Fin n2) (d : Fin n3) :
    Ideal.hostReduceAdd h x z (ix2 c d) = z + x (ix4 0 0 c d) := by
  unfold Ideal.hostReduceAdd
  congr 1
  rw [Finset.sum_filter_eq_sum_of_fiber _ (fun _ : Unit => ix4 0 0 c d) (fun _ _ _ => rfl) (fun i => ?_) x]
  · simp
  constructor
  · intro q
    refine ⟨(), ?_⟩
    funext y; apply Fin.ext
    match y with
    | ⟨0, _⟩ => exact (Nat.lt_one_iff.mp (i 0).isLt).symm
    | ⟨1, _⟩ => exact (Nat.lt_one_iff.mp (i 1).isLt).symm
    | ⟨2, _⟩ => exact (congrArg Fin.val (congrFun q 0)).symm
    | ⟨3, _⟩ => exact (congrArg Fin.val (congrFun q 1)).symm
  · rintro ⟨k, rfl⟩
    funext y; apply Fin.ext
    match y with
    | ⟨0, _⟩ => rfl
    | ⟨1, _⟩ => rfl

/-- The greatest of finitely many values below `⊤`, one of them above `⊥`, is a real number. -/
theorem max_real {ι : Type*} (s : Finset ι) (f : ι → EReal) (ht : ∀ i ∈ s, f i ≠ ⊤) (hb : ∃ i ∈ s, f i ≠ ⊥) :
    ∃ M : ℝ, s.fold max ⊥ f = (M : EReal) := by
  have h1 : s.fold max ⊥ f < ⊤ := (Finset.fold_max_lt _).mpr ⟨bot_lt_top, fun i hi => lt_top_iff_ne_top.mpr (ht i hi)⟩
  obtain ⟨i, hi, hne⟩ := hb
  have h2 : ⊥ < s.fold max ⊥ f := lt_of_lt_of_le (bot_lt_iff_ne_bot.mpr hne) (Finset.le_fold_max _ |>.mpr (Or.inr ⟨i, hi, le_rfl⟩))
  exact ⟨(s.fold max ⊥ f).toReal, (EReal.coe_toReal h1.ne h2.ne').symm⟩

end Cert.Fold
-- ==== Proof.RefFwd.lean ====
module

public import proofs.«01_k».proof.Proof.Attn
public import proofs.«01_k».proof.Proof.Fold
public import Idealize.ShloMosaic.Lib.Tactic.WordOmega
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Attn

/-- The arguments' contents are the real arrays. -/
structure Of (I : Inp) (V0 : Valuation τ sig (Elt Ideal)) : Prop where
  q : V0 (Proc.devRef .tc main_arg0) = fun i : S1x16384x8x64.Idx => ((I.q (i 1) (i 2) (i 3) : ℝ) : EReal)
  k : V0 (Proc.devRef .tc main_arg1) = fun i : S1x16384x8x64.Idx => ((I.k (i 1) (i 2) (i 3) : ℝ) : EReal)
  v : V0 (Proc.devRef .tc main_arg2) = fun i : S1x16384x8x64.Idx => ((I.v (i 1) (i 2) (i 3) : ℝ) : EReal)
  bias : V0 (Proc.devRef .tc main_arg3) = fun i : S8x128x256.Idx => ((I.bias (i 0) (i 1) (i 2) : ℝ) : EReal)
  ob : V0 (Proc.devRef .tc main_arg4) = fun i : S1x16384x8x64.Idx => ((I.ob (i 1) (i 2) (i 3) : ℝ) : EReal)
  lb : V0 (Proc.devRef .tc main_arg5) = fun i : S1x16384x8.Idx => ((I.lb (i 1) (i 2) : ℝ) : EReal)
  oc : V0 (Proc.devRef .tc main_arg6) = fun i : S1x16384x8x64.Idx => ((I.oc (i 1) (i 2) (i 3) : ℝ) : EReal)
  lc : V0 (Proc.devRef .tc main_arg7) = fun i : S1x16384x8.Idx => ((I.lc (i 1) (i 2) : ℝ) : EReal)
  ct : V0 (Proc.devRef .tc main_arg8) = fun i : S1x16384x8x64.Idx => ((I.ct (i 1) (i 2) (i 3) : ℝ) : EReal)

/-- The scale `1/8`. -/
theorem eighth : Ideal.ofBits .f32 0x3E000000#32 = ((1 / 8 : ℝ) : EReal) := by
  simp [Ideal.ofBits, Ideal.ieee]
  rw [← EReal.coe_mul]
  norm_num

theorem neg_inf : Ideal.ofBits .f32 0xFF800000#32 = ⊥ := by
  simp [Ideal.ofBits, Ideal.ieee]

theorem zero_bits : Ideal.ofBits .f32 0x00000000#32 = ((0 : ℝ) : EReal) := by
  simp [Ideal.ofBits, Ideal.ieee]

theorem one_bits : Ideal.ofBits .f32 0x3F800000#32 = ((1 : ℝ) : EReal) := by
  simp [Ideal.ofBits, Ideal.ieee]
  rw [← EReal.coe_mul]
  norm_num

/-- A choice by the bit of a proposition. -/
theorem sel {α : Type} (p : Prop) [Decidable p] (x y : α) : Scalar.select (BitVec.ofBool (decide p)) x y = if p then x else y := by
  by_cases h : p <;> simp [h, Scalar.select]

/-- A constant at an index. -/
theorem cst (b : BitVec 32) (i : S_.Idx) : id (constant (F := Ideal) S_ .f32 b) i = Ideal.ofBits .f32 b := rfl

/-- Two overlapping slices of the padded blocks, one after the other: the window. -/
theorem window_at (y : FVec Ideal S1x4x33x128x8x64 .f32) (r : Fin 4) (n : Fin 32) (c : Fin 256) (h : Fin 8) (d : Fin 64) :
    concatenate S1x4x32x256x8x64 3 [⟨S1x4x32x128x8x64, (extractStridedSlice S1x4x32x128x8x64 ![0, 0, 0, 0, 0, 0] y slices_S1x4x33x128x8x64_S1x4x32x128x8x64_0_0_0_0_0_0)⟩, ⟨S1x4x32x128x8x64, (extractStridedSlice S1x4x32x128x8x64 ![0, 0, 1, 0, 0, 0] y slices_S1x4x33x128x8x64_S1x4x32x128x8x64_0_0_1_0_0_0)⟩] concatenates_S1x4x32x128x8x64_S1x4x32x128x8x64_S1x4x32x256x8x64_d3 (ix6 0 r n c h d)
      = if hc : (c : ℕ) < 128 then y (ix6 0 r ⟨n, by omega⟩ ⟨c, hc⟩ h d) else y (ix6 0 r ⟨1 + n, by omega⟩ ⟨c - 128, by omega⟩ h d) := by
  pointwise

variable {I : Inp} {V0 : Valuation τ sig (Elt Ideal)} (H : Of I V0)
include H

theorem q_at (r : Fin 4) (n : Fin 32) (a : Fin 128) (h : Fin 8) (d : Fin 64) :
    (res_main_v2 V0 : FVec Ideal S1x4x32x128x8x64 .f32) (ix6 0 r n a h d) = ((I.q (tok r n a) h d : ℝ) : EReal) := by
  unfold res_main_v2
  rw [H.q]
  pointwise
  rfl

theorem kpad_at (r : Fin 4) (n : Fin 33) (c : Fin 128) (h : Fin 8) (d : Fin 64) :
    (res_main_v8 V0 : FVec Ideal S1x4x33x128x8x64 .f32) (ix6 0 r n c h d)
      = if hn : (n : ℕ) = 0 then 0 else ((I.k (tok r ⟨n - 1, by omega⟩ c) h d : ℝ) : EReal) := by
  unfold res_main_v8
  rw [H.k]
  pointwise
  by_cases hn : (n : ℕ) = 0
  · rw [dif_pos (by omega), dif_pos hn]
  · rw [dif_neg (by omega), dif_neg hn]
    unfold tok
    congr 4
    simp only []
    omega

theorem k_at (r : Fin 4) (n : Fin 32) (c : Fin 256) (h : Fin 8) (d : Fin 64) :
    (res_main_v11 V0 : FVec Ideal S1x4x32x256x8x64 .f32) (ix6 0 r n c h d) = ((win I.k r n c h d : ℝ) : EReal) := by
  unfold res_main_v11
  rw [window_at]
  unfold win
  split_ifs with hc hn
  · exact (kpad_at H ..).trans (dif_pos hn)
  · exact (kpad_at H ..).trans (dif_neg hn)
  · refine (kpad_at H ..).trans ((dif_neg (by simp)).trans ?_)
    congr 4
    simp

theorem vpad_at (r : Fin 4) (n : Fin 33) (c : Fin 128) (h : Fin 8) (d : Fin 64) :
    (res_main_v17 V0 : FVec Ideal S1x4x33x128x8x64 .f32) (ix6 0 r n c h d)
      = if hn : (n : ℕ) = 0 then 0 else ((I.v (tok r ⟨n - 1, by omega⟩ c) h d : ℝ) : EReal) := by
  unfold res_main_v17
  rw [H.v]
  pointwise
  by_cases hn : (n : ℕ) = 0
  · rw [dif_pos (by omega), dif_pos hn]
  · rw [dif_neg (by omega), dif_neg hn]
    unfold tok
    congr 4
    simp only []
    omega

theorem v_at (r : Fin 4) (n : Fin 32) (c : Fin 256) (h : Fin 8) (d : Fin 64) :
    (res_main_v20 V0 : FVec Ideal S1x4x32x256x8x64 .f32) (ix6 0 r n c h d) = ((win I.v r n c h d : ℝ) : EReal) := by
  unfold res_main_v20
  rw [window_at]
  unfold win
  split_ifs with hc hn
  · exact (vpad_at H ..).trans (dif_pos hn)
  · exact (vpad_at H ..).trans (dif_neg hn)
  · refine (vpad_at H ..).trans ((dif_neg (by simp)).trans ?_)
    congr 4
    simp

omit H in
theorem off_word (a c : ℕ) (ha : a < 128) (hc : c < 256) :
    (IntOp.addi (IntOp.subi (BitVec.ofNat 32 a) (BitVec.ofNat 32 c)) 128#32).toInt = (a : ℤ) - c + 128 := by
  unfold IntOp.addi IntOp.subi
  rw [BitVec.toInt_eq_toNat_cond]
  split_ifs <;> bv_omega

omit H in
theorem row_word (n c : ℕ) (hn : n < 32) (hc : c < 256) :
    (IntOp.addi (IntOp.muli (IntOp.subi (BitVec.ofNat 32 n) 1#32) 128#32) (BitVec.ofNat 32 c)).toInt = ((n : ℤ) - 1) * 128 + c := by
  unfold IntOp.addi IntOp.subi IntOp.muli
  rw [BitVec.toInt_eq_toNat_cond]
  split_ifs <;> bv_omega

omit H in
theorem sge_word (x y : BitVec 32) : IntOp.cmpi .sge x y = BitVec.ofBool (decide (y.toInt ≤ x.toInt)) := rfl

omit H in
theorem sle_word (x y : BitVec 32) : IntOp.cmpi .sle x y = BitVec.ofBool (decide (x.toInt ≤ y.toInt)) := rfl

omit H in
theorem and_word (p q : Prop) [Decidable p] [Decidable q] :
    IntOp.andi (BitVec.ofBool (decide p)) (BitVec.ofBool (decide q)) = BitVec.ofBool (decide (p ∧ q)) := by
  by_cases p <;> by_cases q <;> simp [*, IntOp.andi]

omit H in
theorem mask_at (r : Fin 4) (n : Fin 32) (a : Fin 128) (c : Fin 256) (h : Fin 8)  :
    (res_main_v58_1 V0 : IVec S1x4x32x8x128x256 1) (ix6 0 r n h a c) = BitVec.ofBool (decide (Sees n a c)) := by
  unfold res_main_v58_1 res_main_v29 res_main_v24
  pointwise
  rw [sge_word, sle_word, sge_word, off_word _ _ a.isLt c.isLt, row_word _ _ n.isLt c.isLt, and_word, and_word]
  congr 1
  apply decide_eq_decide.mpr
  unfold Sees
  have h0 : (0#32).toInt = 0 := rfl
  have h1 : (128#32).toInt = 128 := rfl
  rw [h0, h1]
  omega

theorem s_at (r : Fin 4) (n : Fin 32) (a : Fin 128) (c : Fin 256) (h : Fin 8)  :
    (res_main_v58_0 V0 : FVec Ideal S1x4x32x8x128x256 .f32) (ix6 0 r n h a c) = if Sees n a c then ((I.s r n h a c : ℝ) : EReal) else ⊥ := by
  unfold res_main_v58_0
  rw [H.bias]
  pointwise
  simp only [q_at H, k_at H, mask_at, eighth, sel, cst, neg_inf, ← EReal.coe_mul, ← EReal.coe_add, ← coe_sum]
  rfl

end Cert.ReferenceIdeal.Value
-- ==== Proof.RefMid.lean ====
module

public import proofs.«01_k».proof.Proof.RefFwd

@[expose] public section

set_option maxRecDepth 16384

noncomputable section

namespace Cert.Attn

/-- The residue class, the block and the place of a token. -/
def tr (t : Fin 16384) : Fin 4 := ⟨t % 4, by omega⟩
def tn (t : Fin 16384) : Fin 32 := ⟨t / 4 / 128, by omega⟩
def ta (t : Fin 16384) : Fin 128 := ⟨t / 4 % 128, by omega⟩

theorem tr_tok (r n a) : tr (tok r n a) = r := by apply Fin.ext; simp only [tr, tok]; omega
theorem tn_tok (r n a) : tn (tok r n a) = n := by apply Fin.ext; simp only [tn, tok]; omega
theorem ta_tok (r n a) : ta (tok r n a) = a := by apply Fin.ext; simp only [ta, tok]; omega
theorem tok_t (t) : tok (tr t) (tn t) (ta t) = t := by apply Fin.ext; simp only [tr, tn, ta, tok]; omega

namespace Inp
variable (I : Inp)

/-- The logarithm of the own group's sum at a token, and the other groups' given ones. -/
def ell (j : Fin 3) (t : Fin 16384) (h : Fin 8) : ℝ :=
  match j with
  | 0 => Real.log (I.z (tr t) (tn t) h (ta t))
  | 1 => I.lb t h
  | 2 => I.lc t h

/-- The three groups' outputs at a token. -/
def ou (j : Fin 3) (t : Fin 16384) (h : Fin 8) (d : Fin 64) : ℝ :=
  match j with
  | 0 => I.o (tr t) (tn t) h (ta t) d
  | 1 => I.ob t h d
  | 2 => I.oc t h d

end Inp
end Cert.Attn

namespace Cert.ReferenceIdeal.Value

open Cert.ReferenceIdeal Cert.ReferenceIdeal.Gen Idealize.ShloMosaic Idealize.ShloMosaic.TcCoe Idealize.SL.Sem Idealize.ShloMosaic.StableHlo
open Cert.Attn

variable {I : Inp} {V0 : Valuation τ sig (Elt Ideal)} (H : Of I V0)
include H

theorem m_at (r : Fin 4) (n : Fin 32) (h : Fin 8) (a : Fin 128) :
    ∃ M : ℝ, (res_main_v59 V0 : FVec Ideal S1x4x32x8x128 .f32) (ix5 0 r n h a) = (M : EReal) := by
  unfold res_main_v59
  pointwise
  rw [neg_inf]
  have e := Cert.Fold.fold_a5 (α := EReal) reducesTo_S1x4x32x8x128x256_S1x4x32x8x128_d5 max ⊥
    (res_main_v58_0 V0 : FVec Ideal S1x4x32x8x128x256 .f32) 0 r n h a
  obtain ⟨R, hR⟩ := Cert.Fold.max_real Finset.univ
    (fun c : Fin 256 => (res_main_v58_0 V0 : FVec Ideal S1x4x32x8x128x256 .f32) (ix6 0 r n h a c))
    (fun c _ => by rw [s_at H]; split_ifs <;> simp)
    ⟨⟨a + 128, by omega⟩, Finset.mem_univ _, by
      rw [s_at H, if_pos (by refine ⟨?_, ?_, ?_⟩ <;> simp only [] <;> omega)]; simp⟩
  exact ⟨R, e.trans hR⟩

variable {M : Fin 4 → Fin 32 → Fin 8 → Fin 128 → ℝ}
  (hM : ∀ r n h a, (res_main_v59 V0 : FVec Ideal S1x4x32x8x128 .f32) (ix5 0 r n h a) = (M r n h a : EReal))
include hM

theorem e_at (r : Fin 4) (n : Fin 32) (h : Fin 8) (a : Fin 128) (c : Fin 256) :
    (res_main_v68 V0 : FVec Ideal S1x4x32x8x128x256 .f32) (ix6 0 r n h a c) = ((I.w r n h a c * Real.exp (-M r n h a) : ℝ) : EReal) := by
  unfold res_main_v68
  pointwise
  simp only [s_at H, hM]
  unfold Inp.w
  split_ifs
  · rw [← EReal.coe_sub, Ideal.exp_coe, ← Real.exp_add, sub_eq_add_neg]
  · rw [EReal.bot_sub, Ideal.exp_bot, zero_mul, EReal.coe_zero]

theorem z_at (r : Fin 4) (n : Fin 32) (h : Fin 8) (a : Fin 128) :
    (res_main_v69 V0 : FVec Ideal S1x4x32x8x128 .f32) (ix5 0 r n h a) = ((I.z r n h a * Real.exp (-M r n h a) : ℝ) : EReal) := by
  unfold res_main_v69
  pointwise
  refine (Cert.Fold.sum_a5 reducesTo_S1x4x32x8x128x256_S1x4x32x8x128_d5 _ 0 0 r n h a).trans ?_
  simp only [e_at H hM, ← coe_sum, zero_add, ← Finset.sum_mul]
  rfl

theorem lse_at (r : Fin 4) (n : Fin 32) (h : Fin 8) (a : Fin 128) :
    (res_main_v71 V0 : FVec Ideal S1x4x32x8x128 .f32) (ix5 0 r n h a) = ((Real.log (I.z r n h a) : ℝ) : EReal) := by
  unfold res_main_v71
  pointwise
  simp only [z_at H hM, hM]
  have hz := mul_pos (I.z_pos r n h a) (Real.exp_pos (-M r n h a))
  rw [Ideal.log_coe, if_neg hz.not_ge, ← EReal.coe_add, Real.log_mul (I.z_pos r n h a).ne' (Real.exp_pos _).ne', Real.log_exp]
  congr 1
  ring

theorem p_at (r : Fin 4) (n : Fin 32) (h : Fin 8) (a : Fin 128) (c : Fin 256) :
    (res_main_v75 V0 : FVec Ideal S1x4x32x8x128x256 .f32) (ix6 0 r n h a c) = ((I.p r n h a c : ℝ) : EReal) := by
  unfold res_main_v75
  pointwise
  simp only [s_at H, lse_at H hM]
  unfold Inp.p Inp.w
  split_ifs
  · rw [← EReal.coe_sub, Ideal.exp_coe, Real.exp_sub, Real.exp_log (I.z_pos r n h a)]
  · rw [EReal.bot_sub, Ideal.exp_bot, zero_div, EReal.coe_zero]

theorem st_at (j : Fin 3) (t : Fin 16384) (h : Fin 8) :
    (res_main_v88 V0 : FVec Ideal S3x1x16384x8 .f32) (ix4 j 0 t h) = ((I.ell j t h : ℝ) : EReal) := by
  unfold res_main_v88
  rw [H.lb, H.lc]
  pointwise
  simp only [lse_at H hM]
  match j with
  | 0 => rfl
  | 1 => rfl
  | 2 => rfl

theorem ou_at (j : Fin 3) (t : Fin 16384) (h : Fin 8) (d : Fin 64) :
    (res_main_v123 V0 : FVec Ideal S3x1x16384x8x64 .f32) (ix5 j 0 t h d) = ((I.ou j t h d : ℝ) : EReal) := by
  unfold res_main_v123
  rw [H.ob, H.oc]
  pointwise
  simp only [p_at H hM, v_at H]
  match j with
  | 0 =>
    simp only [← EReal.coe_mul, ← coe_sum]
    refine (dif_pos Nat.zero_lt_one).trans ?_
    congr 1
    exact Finset.sum_congr rfl fun c _ => mul_comm _ _
  | 1 => rfl
  | 2 => rfl

end Cert.ReferenceIdeal.Value
-- ==== Proof.RefShare.lean ====
module

public import proofs.«01_k».proof.Proof.RefMid

@[expose] public section

set_option maxRecDepth 16384

noncomputable section

namespace Cert.Attn.Inp
variable (I : Inp)

/-- The three groups' exponentials' sum at a token. -/
def dn (t : Fin 16384) (h : Fin 8) : ℝ := ∑ j, Real.exp (I.ell j t h)

/-- A group's share at a token. -/
def al (j : Fin 3) (t : Fin 16384) (h : Fin 8) : ℝ := Real.exp (I.ell j t h) / I.dn t h

/-- The inner product of the cotangent with a group's output. -/
def g (j : Fin 3) (t : Fin 16384) (h : Fin 8) : ℝ := ∑ d, I.ct t h d * I.ou j t h d

/-- The shares' mean of these inner products. -/
def gm (t : Fin 16384) (h : Fin 8) : ℝ := ∑ j, I.al j t h * I.g j t h

theorem dn_pos (t h) : 0 < I.dn t h :=
  Finset.sum_pos (fun j _ => Real.exp_pos _) Finset.univ_nonempty

end Cert.Attn.Inp

namespace Cert.ReferenceIdeal.Value

open Cert.ReferenceIdeal Cert.ReferenceIdeal.Gen Idealize.ShloMosaic Idealize.ShloMosaic.TcCoe Idealize.SL.Sem Idealize.ShloMosaic.StableHlo
open Cert.Attn

/-- The gradient of a group's logarithm in its parts. -/
theorem dlg (g e : FVec Ideal S3x1x16384x8 .f32) (s : FVec Ideal S1x1x16384x8 .f32) (j : Fin 3) (t : Fin 16384) (h : Fin 8) :
    (mulf (addf (Host.divf g (broadcastInDim S3x1x16384x8 ![0, 1, 2, 3] bcast_S1x1x16384x8_S3x1x16384x8_0_1_2_3 s)) (broadcastInDim S3x1x16384x8 ![1, 2, 3] bcast_S1x16384x8_S3x1x16384x8_1_2_3 (broadcastInDim S1x16384x8 ![1, 2] bcast_S16384x8_S1x16384x8_1_2 (Host.reduceAdd (Host.negf (shapeCast _ (Host.reduceAdd (mulf (mulf g (broadcastInDim S3x1x16384x8 ![0, 1, 2, 3] bcast_S1x1x16384x8_S3x1x16384x8_0_1_2_3 (Host.divf (broadcastInDim S1x1x16384x8 ![] bcast_S_S1x1x16384x8 (constant S_ .f32 0x3F800000#32)) (mulf s s)))) e) (constant S_ .f32 0x00000000#32) reducesTo_S3x1x16384x8_S1x16384x8_d0 h_S_) shapeCasts_S1x16384x8_S1x1x16384x8)) (constant S_ .f32 0x00000000#32) reducesTo_S1x1x16384x8_S16384x8_d0_1 h_S_)))) e : FVec Ideal S3x1x16384x8 .f32) (ix4 j 0 t h)
      = (Ideal.div (g (ix4 j 0 t h)) (s (ix4 0 0 t h))
          + -∑ x : Fin 3, g (ix4 x 0 t h) * Ideal.div (Ideal.ofBits .f32 0x3F800000#32) (s (ix4 0 0 t h) * s (ix4 0 0 t h)) * e (ix4 x 0 t h))
        * e (ix4 j 0 t h) := by
  pointwise
  rw [Cert.Fold.sum_a01]
  pointwise

variable {I : Inp} {V0 : Valuation τ sig (Elt Ideal)} (H : Of I V0)
include H

variable {M : Fin 4 → Fin 32 → Fin 8 → Fin 128 → ℝ}
  (hM : ∀ r n h a, (res_main_v59 V0 : FVec Ideal S1x4x32x8x128 .f32) (ix5 0 r n h a) = (M r n h a : EReal))
include hM

theorem top_at (t : Fin 16384) (h : Fin 8) :
    ∃ X : ℝ, (res_main_v91 V0 : FVec Ideal S1x16384x8 .f32) (ix3 0 t h) = (X : EReal) := by
  unfold res_main_v91
  pointwise
  rw [neg_inf]
  refine Cert.Fold.max_real _ _ (fun i hi => ?_) ⟨ix4 0 0 t h, ?_, ?_⟩
  · have e : i = ix4 (i 0) 0 (i 2) (i 3) := by
      funext b
      match b with
      | ⟨0, _⟩ => rfl
      | ⟨1, _⟩ => exact Subsingleton.elim (α := Fin 1) _ _
      | ⟨2, _⟩ => rfl
      | ⟨3, _⟩ => rfl
    have e2 := (congrArg (res_main_v88 V0 : FVec Ideal S3x1x16384x8 .f32) e).trans (st_at H hM (i 0) (i 2) (i 3))
    exact fun c => EReal.coe_ne_top _ (e2.symm.trans c)
  · refine Finset.mem_filter.mpr ⟨Finset.mem_univ _, ?_⟩
    funext b
    match b with
    | ⟨0, _⟩ => rfl
    | ⟨1, _⟩ => rfl
    | ⟨2, _⟩ => rfl
  · exact fun c => EReal.coe_ne_bot _ ((st_at H hM 0 t h).symm.trans c)

variable {X : Fin 16384 → Fin 8 → ℝ}
  (hX : ∀ t h, (res_main_v91 V0 : FVec Ideal S1x16384x8 .f32) (ix3 0 t h) = (X t h : EReal))
include hX

theorem ex_at (j : Fin 3) (t : Fin 16384) (h : Fin 8) :
    (res_main_v111 V0 : FVec Ideal S3x1x16384x8 .f32) (ix4 j 0 t h) = ((Real.exp (I.ell j t h) * Real.exp (-X t h) : ℝ) : EReal) := by
  unfold res_main_v111
  pointwise
  simp only [st_at H hM, hX, neg_inf]
  rw [max_eq_right bot_le, ← EReal.coe_sub, Ideal.exp_coe, ← Real.exp_add, sub_eq_add_neg]

theorem dn_at (t : Fin 16384) (h : Fin 8) :
    (res_main_v113 V0 : FVec Ideal S1x1x16384x8 .f32) (ix4 0 0 t h) = ((I.dn t h * Real.exp (-X t h) : ℝ) : EReal) := by
  unfold res_main_v113
  pointwise
  simp only [ex_at H hM hX, ← coe_sum, ← Finset.sum_mul]
  rfl

theorem al_at (j : Fin 3) (t : Fin 16384) (h : Fin 8) :
    (res_main_v119 V0 : FVec Ideal S3x1x16384x8x1 .f32) (ix5 j 0 t h 0) = ((I.al j t h : ℝ) : EReal) := by
  unfold res_main_v119
  pointwise
  simp only [ex_at H hM hX, dn_at H hM hX]
  have hz := mul_pos (I.dn_pos t h) (Real.exp_pos (-X t h))
  have he := Real.exp_pos (-X t h)
  have hd := I.dn_pos t h
  rw [Ideal.div_coe hz.ne', ← EReal.coe_mul]
  congr 1
  unfold Inp.al
  field_simp

theorem act_at (j : Fin 3) (t : Fin 16384) (h : Fin 8) (d : Fin 64) :
    (res_main_v131 V0 : FVec Ideal S3x1x16384x8x64 .f32) (ix5 j 0 t h d) = ((I.al j t h * I.ct t h d : ℝ) : EReal) := by
  unfold res_main_v131 res_main_v129
  rw [H.ct]
  pointwise
  simp only [al_at H hM hX]
  rw [EReal.coe_mul]

theorem g_at (j : Fin 3) (t : Fin 16384) (h : Fin 8) :
    (res_main_v142 V0 : FVec Ideal S3x1x16384x8 .f32) (ix4 j 0 t h) = ((I.g j t h : ℝ) : EReal) := by
  unfold res_main_v142 res_main_v129
  rw [H.ct]
  pointwise
  refine (Cert.Fold.sum_a14 reducesTo_S3x1x16384x8x1_S3x16384x8_d1_4 _ 0 j t h).trans ?_
  pointwise
  simp only [ou_at H hM, ← EReal.coe_mul, ← coe_sum]
  rfl

theorem dlse_at (j : Fin 3) (t : Fin 16384) (h : Fin 8) :
    (res_main_v155 V0 : FVec Ideal S3x1x16384x8 .f32) (ix4 j 0 t h) = ((I.al j t h * (I.g j t h - I.gm t h) : ℝ) : EReal) := by
  unfold res_main_v155
  rw [dlg]
  have hz := mul_pos (I.dn_pos t h) (Real.exp_pos (-X t h))
  have he := Real.exp_pos (-X t h)
  have hd := I.dn_pos t h
  simp only [g_at H hM hX, dn_at H hM hX, ex_at H hM hX, one_bits, ← EReal.coe_mul, Ideal.div_coe hz.ne', Ideal.div_coe (mul_pos hz hz).ne',
    ← coe_sum, ← EReal.coe_neg, ← EReal.coe_add]
  congr 1
  have e : ∑ x : Fin 3, I.g x t h * (1 * (1 / (I.dn t h * Real.exp (-X t h) * (I.dn t h * Real.exp (-X t h))))) * (Real.exp (I.ell x t h) * Real.exp (-X t h))
      = I.gm t h / (I.dn t h * Real.exp (-X t h)) := by
    unfold Inp.gm Inp.al
    rw [Finset.sum_div]
    refine Finset.sum_congr rfl fun x _ => ?_
    field_simp
  rw [e]
  unfold Inp.al
  field_simp
  ring

end Cert.ReferenceIdeal.Value
-- ==== Proof.RefBwd.lean ====
module

public import proofs.«01_k».proof.Proof.RefShare

@[expose] public section

set_option maxRecDepth 16384

noncomputable section

namespace Cert.Attn.Inp
variable (I : Inp)

theorem dn_tok (r n h a) : I.dn (tok r n a) h = I.den r n h a := by
  unfold dn den
  rw [Fin.sum_univ_three]
  simp only [ell, tr_tok, tn_tok, ta_tok, Real.exp_log (I.z_pos r n h a)]

theorem al_p (r n h a c) : I.al 0 (tok r n a) h * I.p r n h a c = I.P r n h a c := by
  have hz := I.z_pos r n h a
  have hd := I.den_pos r n h a
  unfold al p P
  rw [dn_tok]
  simp only [ell, tr_tok, tn_tok, ta_tok, Real.exp_log hz]
  field_simp

theorem gm_tok (r n h a) : I.gm (tok r n a) h = I.dl r n h a := by
  unfold gm dl om g al
  rw [dn_tok, Fin.sum_univ_three]
  simp only [ell, ou, tr_tok, tn_tok, ta_tok, Real.exp_log (I.z_pos r n h a), Finset.mul_sum, ← Finset.sum_add_distrib]
  refine Finset.sum_congr rfl fun d _ => ?_
  ring

/-- The weights' sum of the products of the cotangent with the values is the own group's share of the inner product with its output. -/
theorem sum_P (r n h a) :
    ∑ c, I.P r n h a c * ∑ d, I.ct (tok r n a) h d * win I.v r n c h d = I.al 0 (tok r n a) h * I.g 0 (tok r n a) h := by
  simp only [← al_p, g, ou, tr_tok, tn_tok, ta_tok, o, Finset.mul_sum]
  rw [Finset.sum_comm]
  refine Finset.sum_congr rfl fun d _ => Finset.sum_congr rfl fun c _ => ?_
  ring

end Cert.Attn.Inp

namespace Cert.ReferenceIdeal.Value

open Cert.ReferenceIdeal Cert.ReferenceIdeal.Gen Idealize.ShloMosaic Idealize.ShloMosaic.TcCoe Idealize.SL.Sem Idealize.ShloMosaic.StableHlo
open Cert.Attn

/-- The windows' gradients gathered at the rows: the own block's part and the next block's. -/
theorem shift_at (y : FVec Ideal S1x4x32x256x8x64 .f32) (r : Fin 4) (n : Fin 32) (b : Fin 128) (h : Fin 8) (d : Fin 64) :
    (shapeCast _ (addf (pad S1x4x33x128x8x64 ![0, 0, 1, 0, 0, 0] ![0, 0, 0, 0, 0, 0] ![0, 0, 0, 0, 0, 0] (extractStridedSlice S1x4x32x128x8x64 ![0, 0, 0, 128, 0, 0] y slices_S1x4x32x256x8x64_S1x4x32x128x8x64_0_0_0_128_0_0) (constant S_ .f32 0x00000000#32) pads_S1x4x32x128x8x64_S1x4x33x128x8x64_000_000_100_000_000_000 h_S_) (pad S1x4x33x128x8x64 ![0, 0, 0, 0, 0, 0] ![0, 0, 1, 0, 0, 0] ![0, 0, 0, 0, 0, 0] (extractStridedSlice S1x4x32x128x8x64 ![0, 0, 0, 0, 0, 0] y slices_S1x4x32x256x8x64_S1x4x32x128x8x64_0_0_0_0_0_0) (constant S_ .f32 0x00000000#32) pads_S1x4x32x128x8x64_S1x4x33x128x8x64_000_000_010_000_000_000 h_S_)) shapeCasts_S1x4x33x128x8x64_S1x4x4224x8x64 : FVec Ideal S1x4x4224x8x64 .f32) (ix5 0 r ⟨128 + (n * 128 + b), by omega⟩ h d)
      = y (ix6 0 r n ⟨b + 128, by omega⟩ h d) + if (n : ℕ) + 1 < 32 then y (ix6 0 r (nxt n) ⟨b, by omega⟩ h d) else 0 := by
  pointwise
  have e1 : ∀ hh, (⟨(128 + ((n : ℕ) * 128 + b)) / 128 - 1, hh⟩ : Fin 32) = n := fun _ => Fin.ext (by simp only []; omega)
  have e2 : (n : ℕ) + 1 < 32 → ∀ hh, (⟨(128 + ((n : ℕ) * 128 + b)) / 128, hh⟩ : Fin 32) = nxt n := fun _ _ => Fin.ext (by simp only [nxt]; omega)
  have e3 : ∀ hh, (⟨128 + (b : ℕ), hh⟩ : Fin 256) = ⟨b + 128, by omega⟩ := fun _ => Fin.ext (by simp only []; omega)
  split_ifs with c1 c2 hn hn c2 hn hn
  · simp only [e1, e2 hn, e3]
  · exfalso; omega
  · exfalso; omega
  · simp only [e1, e3]
  all_goals (exfalso; omega)

/-- The product of the cotangents with the values, times the weights. -/
theorem dpg (x : FVec Ideal S1x4x32x8x64x128 .f32) (y : FVec Ideal S1x4x32x256x8x64 .f32) (w : FVec Ideal S1x4x32x8x128x256 .f32)
    (r : Fin 4) (n : Fin 32) (h : Fin 8) (a : Fin 128) (c : Fin 256) :
    (mulf (Host.dotGeneral dot_S1x4x32x8x64x128_S1x4x32x256x8x64_S1x4x32x8x128x256_4_5_5_3_0123_0124 none x y) w : FVec Ideal S1x4x32x8x128x256 .f32) (ix6 0 r n h a c)
      = (∑ d : Fin 64, x (ix6 0 r n h d a) * y (ix6 0 r n c h d)) * w (ix6 0 r n h a c) := by
  pointwise

/-- The gradient of the scores in its parts. -/
theorem dsg (k : IVec S1x4x32x8x128x256 1) (x w : FVec Ideal S1x4x32x8x128x256 .f32) (y : FVec Ideal S3x1x16384x8 .f32) (z : FVec Ideal S1x4x32x8x128 .f32)
    (r : Fin 4) (n : Fin 32) (h : Fin 8) (a : Fin 128) (c : Fin 256) :
    (select k (addf x (mulf (broadcastInDim S1x4x32x8x128x256 ![0, 1, 2, 3, 4] bcast_S1x4x32x8x128_S1x4x32x8x128x256_0_1_2_3_4 (Host.divf (addf (transpose S1x4x32x8x128 [0, 1, 2, 4, 3] (shapeCast _ (transpose S1x4x4096x8 [0, 2, 1, 3] (shapeCast _ (shapeCast _ (extractStridedSlice S1x1x16384x8 ![0, 0, 0, 0] y slices_S3x1x16384x8_S1x1x16384x8_0_0_0_0) shapeCasts_S1x1x16384x8_S1x16384x8) shapeCasts_S1x16384x8_S1x4096x4x8) transposes_S1x4096x4x8_S1x4x4096x8_0_2_1_3) shapeCasts_S1x4x4096x8_S1x4x32x128x8) transposes_S1x4x32x128x8_S1x4x32x8x128_0_1_2_4_3) (broadcastInDim S1x4x32x8x128 ![1, 2, 3, 4] bcast_S4x32x8x128_S1x4x32x8x128_1_2_3_4 (Host.reduceAdd (shapeCast _ (Host.reduceAdd (Host.negf x) (constant S_ .f32 0x00000000#32) reducesTo_S1x4x32x8x128x256_S1x4x32x8x128_d5 h_S_) shapeCasts_S1x4x32x8x128_S1x4x32x8x128x1) (constant S_ .f32 0x00000000#32) reducesTo_S1x4x32x8x128x1_S4x32x8x128_d0_5 h_S_))) z)) w)) (broadcastInDim S1x4x32x8x128x256 ![] bcast_S_S1x4x32x8x128x256 (constant S_ .f32 0x00000000#32)) : FVec Ideal S1x4x32x8x128x256 .f32) (ix6 0 r n h a c)
      = Scalar.select (k (ix6 0 r n h a c)) (x (ix6 0 r n h a c) + Ideal.div (y (ix4 0 0 (tok r n a) h) + ∑ c : Fin 256, - x (ix6 0 r n h a c))
          (z (ix5 0 r n h a)) * w (ix6 0 r n h a c)) 0 := by
  pointwise
  rw [Cert.Fold.sum_a05]
  pointwise
  rw [Cert.Fold.sum_a5, show ∀ e : EReal, 0 + e = e from zero_add]
  rfl

variable {I : Inp} {V0 : Valuation τ sig (Elt Ideal)} (H : Of I V0)
include H

variable {M : Fin 4 → Fin 32 → Fin 8 → Fin 128 → ℝ}
  (hM : ∀ r n h a, (res_main_v59 V0 : FVec Ideal S1x4x32x8x128 .f32) (ix5 0 r n h a) = (M r n h a : EReal))
include hM

variable {X : Fin 16384 → Fin 8 → ℝ}
  (hX : ∀ t h, (res_main_v91 V0 : FVec Ideal S1x16384x8 .f32) (ix3 0 t h) = (X t h : EReal))
include hX

theorem da_at (r : Fin 4) (n : Fin 32) (h : Fin 8) (d : Fin 64) (a : Fin 128) :
    (res_main_v169 V0 : FVec Ideal S1x4x32x8x64x128 .f32) (ix6 0 r n h d a)
      = ((I.al 0 (tok r n a) h * I.ct (tok r n a) h d : ℝ) : EReal) := by
  unfold res_main_v169
  pointwise
  exact (act_at H hM hX 0 (tok r n a) h d)

theorem dv_at (r : Fin 4) (n : Fin 32) (c : Fin 256) (h : Fin 8) (d : Fin 64) :
    (res_main_v172 V0 : FVec Ideal S1x4x32x256x8x64 .f32) (ix6 0 r n c h d)
      = ((∑ a, I.P r n h a c * I.ct (tok r n a) h d : ℝ) : EReal) := by
  unfold res_main_v172
  pointwise
  simp only [da_at H hM hX, p_at H hM]
  simp only [← EReal.coe_mul, ← coe_sum]
  congr 1
  refine Finset.sum_congr rfl fun a _ => ?_
  rw [← I.al_p]
  ring

theorem dp_at (r : Fin 4) (n : Fin 32) (h : Fin 8) (a : Fin 128) (c : Fin 256) :
    (res_main_v173 V0 : FVec Ideal S1x4x32x8x128x256 .f32) (ix6 0 r n h a c)
      = ((I.P r n h a c * ∑ d, I.ct (tok r n a) h d * win I.v r n c h d : ℝ) : EReal) := by
  unfold res_main_v173
  rw [dpg]
  simp only [da_at H hM hX, p_at H hM, v_at H]
  simp only [← EReal.coe_mul, ← coe_sum]
  congr 1
  rw [← I.al_p, Finset.mul_sum, Finset.sum_mul]
  refine Finset.sum_congr rfl fun d _ => ?_
  ring

theorem ds_at (r : Fin 4) (n : Fin 32) (h : Fin 8) (a : Fin 128) (c : Fin 256) :
    (res_main_v184 V0 : FVec Ideal S1x4x32x8x128x256 .f32) (ix6 0 r n h a c) = ((I.ds r n h a c : ℝ) : EReal) := by
  unfold res_main_v184
  rw [dsg]
  simp only [dp_at H hM hX, e_at H hM, z_at H hM, mask_at]
  have hz := mul_pos (I.z_pos r n h a) (Real.exp_pos (-M r n h a))
  have he := Real.exp_pos (-M r n h a)
  have hp := I.z_pos r n h a
  have hd := I.den_pos r n h a
  simp only [sel, dlse_at H hM hX, ← EReal.coe_neg, ← coe_sum, ← EReal.coe_add, ← EReal.coe_mul, Ideal.div_coe hz.ne']
  rw [Finset.sum_neg_distrib, I.sum_P, I.gm_tok]
  split_ifs with hs
  · congr 1
    unfold Inp.ds
    rw [mul_sub]
    have e : I.al 0 (tok r n a) h = I.z r n h a / I.den r n h a := by
      unfold Inp.al
      rw [I.dn_tok]
      simp only [Inp.ell, tr_tok, tn_tok, ta_tok, Real.exp_log hp]
    rw [e]
    unfold Inp.P
    field_simp
    ring
  · unfold Inp.ds Inp.P Inp.w
    rw [if_neg hs, zero_div, zero_mul, EReal.coe_zero]

theorem ds8_at (r : Fin 4) (n : Fin 32) (h : Fin 8) (a : Fin 128) (c : Fin 256) :
    (res_main_v189 V0 : FVec Ideal S1x4x32x8x128x256 .f32) (ix6 0 r n h a c) = ((I.ds r n h a c * (1 / 8) : ℝ) : EReal) := by
  unfold res_main_v189
  pointwise
  simp only [ds_at H hM hX, eighth]
  rw [EReal.coe_mul]

theorem dk_at (r : Fin 4) (n : Fin 32) (c : Fin 256) (h : Fin 8) (d : Fin 64) :
    (res_main_v191 V0 : FVec Ideal S1x4x32x256x8x64 .f32) (ix6 0 r n c h d)
      = ((∑ a, I.ds r n h a c * (1 / 8) * I.q (tok r n a) h d : ℝ) : EReal) := by
  unfold res_main_v191
  pointwise
  simp only [ds8_at H hM hX, q_at H, ← EReal.coe_mul, ← coe_sum]

theorem dvs_at (r : Fin 4) (n : Fin 32) (b : Fin 128) (h : Fin 8) (d : Fin 64) :
    (res_main_v199 V0 : FVec Ideal S1x4x4224x8x64 .f32) (ix5 0 r ⟨128 + (n * 128 + b), by omega⟩ h d) = ((I.dv r n h b d : ℝ) : EReal) := by
  unfold res_main_v199
  refine (shift_at (res_main_v172 V0) r n b h d).trans ?_
  simp only [dv_at H hM hX]
  unfold Inp.dv
  split_ifs
  · rw [EReal.coe_add]
  · rw [add_zero, add_zero]

theorem dks_at (r : Fin 4) (n : Fin 32) (b : Fin 128) (h : Fin 8) (d : Fin 64) :
    (res_main_v209 V0 : FVec Ideal S1x4x4224x8x64 .f32) (ix5 0 r ⟨128 + (n * 128 + b), by omega⟩ h d) = ((I.dk r n h b d : ℝ) : EReal) := by
  unfold res_main_v209
  refine (shift_at (res_main_v191 V0) r n b h d).trans ?_
  simp only [dk_at H hM hX]
  unfold Inp.dk
  split_ifs
  · rw [← EReal.coe_add]
    congr 1
    rw [add_mul, Finset.sum_mul, Finset.sum_mul]
    congr 1 <;> exact Finset.sum_congr rfl fun a _ => by ring
  · rw [add_zero, add_zero]
    congr 1
    rw [Finset.sum_mul]
    exact Finset.sum_congr rfl fun a _ => by ring

theorem db_at (h : Fin 8) (c : Fin 256) (a : Fin 128) :
    (res_main_v227 V0 : FVec Ideal S8x256x128 .f32) (ix3 h c a) = ((I.db h a c : ℝ) : EReal) := by
  unfold res_main_v227
  pointwise
  refine (Cert.Fold.sum_a012 reducesTo_S1x1x1x8x128x256_S8x128x256_d0_1_2 _ 0 h a c).trans ?_
  pointwise
  refine (Cert.Fold.sum_a12 reducesTo_S1x4x32x8x128x256_S1x8x128x256_d1_2 _ 0 0 h a c).trans ?_
  simp only [ds_at H hM hX, ← coe_sum, zero_add]
  rfl

end Cert.ReferenceIdeal.Value
-- ==== Proof.KerTerm.lean ====
module

public import proofs.«01_k».proof.Proof.Attn
public import proofs.«01_k».proof.Proof.Fold
public import Idealize.ShloMosaic.Lib.StableHlo.RunRead
public import Idealize.ShloMosaic.Lib.Tactic.WordOmega
public import proofs.«01_k».proof.Proof.Gen.KernelIdeal.Frame

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F] [Named F]

/-- What `main_v8` holds, of the arguments' contents. -/
def k_main_v8 (V0 : Valuation τ sig (Elt F)) : (Proc.devRef .tc main_v8 : DevRef τ sig).ty.Contents (Elt F) :=
  (select ((broadcastInDim S8x128x256 ![1, 2] bcast_S128x256_S8x128x256_1_2) (andi (cmpi .sge (subi (iotaInDim S128x256 32 1) (iotaInDim S128x256 32 0)) (broadcastInDim S128x256 ![] bcast_S_S128x256 (constantI S_ 32 0#32))) (cmpi .sle (subi (iotaInDim S128x256 32 1) (iotaInDim S128x256 32 0)) (broadcastInDim S128x256 ![] bcast_S_S128x256 (constantI S_ 32 128#32))))) (V0 (Proc.devRef .tc main_arg3)) ((broadcastInDim S8x128x256 ![] bcast_S_S8x128x256) (id (constant S_ .f32 0xFF800000#32))))

/-- What `main_v10` holds, of the arguments' contents. -/
def k_main_v10 (V0 : Valuation τ sig (Elt F)) : (Proc.devRef .tc main_v10 : DevRef τ sig).ty.Contents (Elt F) :=
  (transpose S1x4x32x128x8x64 [0, 3, 1, 2, 4, 5] (shapeCast _ (V0 (Proc.devRef .tc main_arg0)) shapeCasts_S1x16384x8x64_S1x32x128x4x8x64) transposes_S1x32x128x4x8x64_S1x4x32x128x8x64_0_3_1_2_4_5)

/-- What `main_v16` holds, of the arguments' contents. -/
def k_main_v16 (V0 : Valuation τ sig (Elt F)) : (Proc.devRef .tc main_v16 : DevRef τ sig).ty.Contents (Elt F) :=
  (shapeCast _ (concatenate S1x4x4224x8x128 2 [⟨S1x4x128x8x128, (broadcastInDim S1x4x128x8x128 ![] bcast_S_S1x4x128x8x128 (constant S_ .f32 0x00000000#32))⟩, ⟨S1x4x4096x8x128, (transpose S1x4x4096x8x128 [0, 2, 1, 3, 4] (shapeCast _ (concatenate S1x16384x8x128 3 [⟨S1x16384x8x64, (V0 (Proc.devRef .tc main_arg1))⟩, ⟨S1x16384x8x64, (V0 (Proc.devRef .tc main_arg2))⟩] concatenates_S1x16384x8x64_S1x16384x8x64_S1x16384x8x128_d3) shapeCasts_S1x16384x8x128_S1x4096x4x8x128) transposes_S1x4096x4x8x128_S1x4x4096x8x128_0_2_1_3_4)⟩] concatenates_S1x4x128x8x128_S1x4x4096x8x128_S1x4x4224x8x128_d2) shapeCasts_S1x4x4224x8x128_S1x4x33x128x8x128)

/-- What `main_v19` holds, of the arguments' contents. -/
def k_main_v19 (V0 : Valuation τ sig (Elt F)) : (Proc.devRef .tc main_v19 : DevRef τ sig).ty.Contents (Elt F) :=
  (concatenate S1x4x32x256x8x128 3 [⟨S1x4x32x128x8x128, (extractStridedSlice S1x4x32x128x8x128 ![0, 0, 0, 0, 0, 0] (k_main_v16 V0) slices_S1x4x33x128x8x128_S1x4x32x128x8x128_0_0_0_0_0_0)⟩, ⟨S1x4x32x128x8x128, (extractStridedSlice S1x4x32x128x8x128 ![0, 0, 1, 0, 0, 0] (k_main_v16 V0) slices_S1x4x33x128x8x128_S1x4x32x128x8x128_0_0_1_0_0_0)⟩] concatenates_S1x4x32x128x8x128_S1x4x32x128x8x128_S1x4x32x256x8x128_d3)

/-- What `main_v20` holds, of the arguments' contents. -/
def k_main_v20 (V0 : Valuation τ sig (Elt F)) : (Proc.devRef .tc main_v20 : DevRef τ sig).ty.Contents (Elt F) :=
  (extractStridedSlice S1x4x32x256x8x64 ![0, 0, 0, 0, 0, 0] (k_main_v19 V0) slices_S1x4x32x256x8x128_S1x4x32x256x8x64_0_0_0_0_0_0)

/-- What `main_v21` holds, of the arguments' contents. -/
def k_main_v21 (V0 : Valuation τ sig (Elt F)) : (Proc.devRef .tc main_v21 : DevRef τ sig).ty.Contents (Elt F) :=
  (extractStridedSlice S1x4x32x256x8x64 ![0, 0, 0, 0, 0, 64] (k_main_v19 V0) slices_S1x4x32x256x8x128_S1x4x32x256x8x64_0_0_0_0_0_64)

/-- What `main_v35` holds, of the arguments' contents. -/
def k_main_v35 (V0 : Valuation τ sig (Elt F)) : (Proc.devRef .tc main_v35 : DevRef τ sig).ty.Contents (Elt F) :=
  (select ((broadcastInDim S1x4x32x8x128x256 ![2, 3, 4, 5] bcast_S32x1x1x256_S1x4x32x8x128x256_2_3_4_5) (ori (cmpi .sgt (iotaInDim S32x1x1x256 32 0) (broadcastInDim S32x1x1x256 ![] bcast_S_S32x1x1x256 (constantI S_ 32 0#32))) (cmpi .sge (iotaInDim S32x1x1x256 32 3) (broadcastInDim S32x1x1x256 ![] bcast_S_S32x1x1x256 (constantI S_ 32 128#32))))) (addf (mulf (Host.dotGeneral dot_S1x4x32x128x8x64_S1x4x32x256x8x64_S1x4x32x8x128x256_5_5_3_3_0124_0124 none (k_main_v10 V0) (k_main_v20 V0)) (broadcastInDim S1x4x32x8x128x256 ![] bcast_S_S1x4x32x8x128x256 (constant S_ .f32 0x3E000000#32))) (broadcastInDim S1x4x32x8x128x256 ![0, 1, 2, 3, 4, 5] bcast_S1x1x1x8x128x256_S1x4x32x8x128x256_0_1_2_3_4_5 (broadcastInDim S1x1x1x8x128x256 ![3, 4, 5] bcast_S8x128x256_S1x1x1x8x128x256_3_4_5 (k_main_v8 V0)))) ((broadcastInDim S1x4x32x8x128x256 ![] bcast_S_S1x4x32x8x128x256) (id (constant S_ .f32 0xFF800000#32))))

/-- What `main_v36` holds, of the arguments' contents. -/
def k_main_v36 (V0 : Valuation τ sig (Elt F)) : (Proc.devRef .tc main_v36 : DevRef τ sig).ty.Contents (Elt F) :=
  (Host.reduce FloatOps.maximumf (k_main_v35 V0) (constant S_ .f32 0xFF800000#32) reducesTo_S1x4x32x8x128x256_S1x4x32x8x128_d5 h_S_)

/-- What `main_v40` holds, of the arguments' contents. -/
def k_main_v40 (V0 : Valuation τ sig (Elt F)) : (Proc.devRef .tc main_v40 : DevRef τ sig).ty.Contents (Elt F) :=
  (Host.exp (subf (k_main_v35 V0) (broadcastInDim S1x4x32x8x128x256 ![0, 1, 2, 3, 4, 5] bcast_S1x4x32x8x128x1_S1x4x32x8x128x256_0_1_2_3_4_5 (broadcastInDim S1x4x32x8x128x1 ![0, 1, 2, 3, 4] bcast_S1x4x32x8x128_S1x4x32x8x128x1_0_1_2_3_4 (k_main_v36 V0)))))

/-- What `main_v41` holds, of the arguments' contents. -/
def k_main_v41 (V0 : Valuation τ sig (Elt F)) : (Proc.devRef .tc main_v41 : DevRef τ sig).ty.Contents (Elt F) :=
  (Host.reduceAdd (k_main_v40 V0) (constant S_ .f32 0x00000000#32) reducesTo_S1x4x32x8x128x256_S1x4x32x8x128_d5 h_S_)

/-- What `main_v48` holds, of the arguments' contents. -/
def k_main_v48 (V0 : Valuation τ sig (Elt F)) : (Proc.devRef .tc main_v48 : DevRef τ sig).ty.Contents (Elt F) :=
  (shapeCast _ (transpose S1x32x128x4x8x64 [0, 2, 3, 1, 4, 5] (transpose S1x4x32x128x8x64 [0, 1, 2, 5, 3, 4] (Host.dotGeneral dot_S1x4x32x256x8x64_S1x4x32x8x128x256_S1x4x32x8x64x128_3_5_5_4_0124_0123 none (k_main_v21 V0) (Host.divf (k_main_v40 V0) (broadcastInDim S1x4x32x8x128x256 ![0, 1, 2, 3, 4, 5] bcast_S1x4x32x8x128x1_S1x4x32x8x128x256_0_1_2_3_4_5 (broadcastInDim S1x4x32x8x128x1 ![0, 1, 2, 3, 4] bcast_S1x4x32x8x128_S1x4x32x8x128x1_0_1_2_3_4 (k_main_v41 V0))))) transposes_S1x4x32x8x64x128_S1x4x32x128x8x64_0_1_2_5_3_4) transposes_S1x4x32x128x8x64_S1x32x128x4x8x64_0_2_3_1_4_5) shapeCasts_S1x32x128x4x8x64_S1x16384x8x64)

/-- What `main_v52` holds, of the arguments' contents. -/
def k_main_v52 (V0 : Valuation τ sig (Elt F)) : (Proc.devRef .tc main_v52 : DevRef τ sig).ty.Contents (Elt F) :=
  (shapeCast _ (transpose S1x32x128x4x8 [0, 2, 4, 1, 3] (addf (Host.log (k_main_v41 V0)) (k_main_v36 V0)) transposes_S1x4x32x8x128_S1x32x128x4x8_0_2_4_1_3) shapeCasts_S1x32x128x4x8_S1x16384x8)

/-- What `main_v54` holds, of the arguments' contents. -/
def k_main_v54 (V0 : Valuation τ sig (Elt F)) : (Proc.devRef .tc main_v54 : DevRef τ sig).ty.Contents (Elt F) :=
  (maximumf (maximumf (k_main_v52 V0) (V0 (Proc.devRef .tc main_arg5))) (V0 (Proc.devRef .tc main_arg7)))

/-- What `main_v56` holds, of the arguments' contents. -/
def k_main_v56 (V0 : Valuation τ sig (Elt F)) : (Proc.devRef .tc main_v56 : DevRef τ sig).ty.Contents (Elt F) :=
  (Host.exp (subf (k_main_v52 V0) (k_main_v54 V0)))

/-- What `main_v58` holds, of the arguments' contents. -/
def k_main_v58 (V0 : Valuation τ sig (Elt F)) : (Proc.devRef .tc main_v58 : DevRef τ sig).ty.Contents (Elt F) :=
  (Host.exp (subf (V0 (Proc.devRef .tc main_arg5)) (k_main_v54 V0)))

/-- What `main_v60` holds, of the arguments' contents. -/
def k_main_v60 (V0 : Valuation τ sig (Elt F)) : (Proc.devRef .tc main_v60 : DevRef τ sig).ty.Contents (Elt F) :=
  (Host.exp (subf (V0 (Proc.devRef .tc main_arg7)) (k_main_v54 V0)))

/-- What `main_v62` holds, of the arguments' contents. -/
def k_main_v62 (V0 : Valuation τ sig (Elt F)) : (Proc.devRef .tc main_v62 : DevRef τ sig).ty.Contents (Elt F) :=
  (addf (addf (k_main_v56 V0) (k_main_v58 V0)) (k_main_v60 V0))

/-- What `main_v64` holds, of the arguments' contents. -/
def k_main_v64 (V0 : Valuation τ sig (Elt F)) : (Proc.devRef .tc main_v64 : DevRef τ sig).ty.Contents (Elt F) :=
  (addf (k_main_v54 V0) (Host.log (k_main_v62 V0)))

/-- What `main_v73` holds, of the arguments' contents. -/
def k_main_v73 (V0 : Valuation τ sig (Elt F)) : (Proc.devRef .tc main_v73 : DevRef τ sig).ty.Contents (Elt F) :=
  (Host.divf (addf (addf (mulf (k_main_v56 V0) (Host.dotGeneral dot_S1x16384x8x64_S1x16384x8x64_S1x16384x8_3_3_n_n_012_012 none (V0 (Proc.devRef .tc main_arg8)) (k_main_v48 V0))) (mulf (k_main_v58 V0) (Host.dotGeneral dot_S1x16384x8x64_S1x16384x8x64_S1x16384x8_3_3_n_n_012_012 none (V0 (Proc.devRef .tc main_arg8)) (V0 (Proc.devRef .tc main_arg4))))) (mulf (k_main_v60 V0) (Host.dotGeneral dot_S1x16384x8x64_S1x16384x8x64_S1x16384x8_3_3_n_n_012_012 none (V0 (Proc.devRef .tc main_arg8)) (V0 (Proc.devRef .tc main_arg6))))) (k_main_v62 V0))

/-- What `main_v77` holds, of the arguments' contents. -/
def k_main_v77 (V0 : Valuation τ sig (Elt F)) : (Proc.devRef .tc main_v77 : DevRef τ sig).ty.Contents (Elt F) :=
  (concatenate S16384x128 1 [⟨S16384x8, (shapeCast _ (k_main_v64 V0) shapeCasts_S1x16384x8_S16384x8)⟩, ⟨S16384x8, (shapeCast _ (k_main_v73 V0) shapeCasts_S1x16384x8_S16384x8)⟩, ⟨S16384x112, (broadcastInDim S16384x112 ![] bcast_S_S16384x112 (constant S_ .f32 0x00000000#32))⟩] concatenates_S16384x8_S16384x8_S16384x112_S16384x128_d1 : (⟨S16384x128, .f32⟩ : BufTy).Contents (Elt F))

/-- What `main_v85` holds, of the arguments' contents. -/
def k_main_v85 (V0 : Valuation τ sig (Elt F)) : (Proc.devRef .tc main_v85 : DevRef τ sig).ty.Contents (Elt F) :=
  (shapeCast _ (transpose S4x4096x1536 [1, 0, 2] (shapeCast _ (truncf .bf16 (concatenate S16384x1536 1 [⟨S16384x512, (shapeCast _ (V0 (Proc.devRef .tc main_arg1)) shapeCasts_S1x16384x8x64_S16384x512)⟩, ⟨S16384x512, (shapeCast _ (V0 (Proc.devRef .tc main_arg2)) shapeCasts_S1x16384x8x64_S16384x512)⟩, ⟨S16384x512, (shapeCast _ (V0 (Proc.devRef .tc main_arg0)) shapeCasts_S1x16384x8x64_S16384x512)⟩] concatenates_S16384x512_S16384x512_S16384x512_S16384x1536_d1 : (⟨S16384x1536, .f32⟩ : BufTy).Contents (Elt F)) bitsLt_bf16_f32) shapeCasts_S16384x1536_S4096x4x1536) transposes_S4096x4x1536_S4x4096x1536_1_0_2) shapeCasts_S4x4096x1536_S16384x1536)

/-- What `main_v89` holds, of the arguments' contents. -/
def k_main_v89 (V0 : Valuation τ sig (Elt F)) : (Proc.devRef .tc main_v89 : DevRef τ sig).ty.Contents (Elt F) :=
  (transpose S8x128x256 [0, 2, 1] (concatenate S8x256x128 1 [⟨S8x128x128, (extractStridedSlice S8x128x128 ![0, 0, 128] (k_main_v8 V0) slices_S8x128x256_S8x128x128_0_0_128)⟩, ⟨S8x128x128, (extractStridedSlice S8x128x128 ![0, 0, 0] (k_main_v8 V0) slices_S8x128x256_S8x128x128_0_0_0)⟩] concatenates_S8x128x128_S8x128x128_S8x256x128_d1) transposes_S8x256x128_S8x128x256_0_2_1)

/-- What `main_v93` holds, of the arguments' contents. -/
def k_main_v93 (V0 : Valuation τ sig (Elt F)) : (Proc.devRef .tc main_v93 : DevRef τ sig).ty.Contents (Elt F) :=
  (shapeCast _ (transpose S4x4096x512 [1, 0, 2] (shapeCast _ (truncf .bf16 (V0 (Proc.devRef .tc main_arg8)) bitsLt_bf16_f32) shapeCasts_S1x16384x8x64_S4096x4x512) transposes_S4096x4x512_S4x4096x512_1_0_2) shapeCasts_S4x4096x512_S16384x512)

/-- What `main_v96` holds, of the arguments' contents. -/
def k_main_v96 (V0 : Valuation τ sig (Elt F)) : (Proc.devRef .tc main_v96 : DevRef τ sig).ty.Contents (Elt F) :=
  (shapeCast _ (transpose S4x4096x128 [1, 0, 2] (shapeCast _ (k_main_v77 V0) shapeCasts_S16384x128_S4096x4x128) transposes_S4096x4x128_S4x4096x128_1_0_2) shapeCasts_S4x4096x128_S16384x128)

/-- The host operations of the banded bias. -/
abbrev line0 : List (HloOp τ sig (Elt F)) := List.flatten [hostOps0, hostOps0_1]

/-- The host operations up to `main_v16`. -/
abbrev line1 : List (HloOp τ sig (Elt F)) :=
  [ StableHlo.reshape main_arg0 main_v9 (rfl : (.f32 : EltTy) = .f32) shapeCasts_S1x16384x8x64_S1x32x128x4x8x64,
    StableHlo.unary main_v9 main_v10 ((transpose S1x4x32x128x8x64 [0, 3, 1, 2, 4, 5] · transposes_S1x32x128x4x8x64_S1x4x32x128x8x64_0_3_1_2_4_5) : (⟨S1x32x128x4x8x64, .f32⟩ : BufTy).Contents (Elt F) → (⟨S1x4x32x128x8x64, .f32⟩ : BufTy).Contents (Elt F)),
    StableHlo.binary main_arg1 main_arg2 main_v11 ((fun a b => concatenate S1x16384x8x128 3 [⟨S1x16384x8x64, a⟩, ⟨S1x16384x8x64, b⟩] concatenates_S1x16384x8x64_S1x16384x8x64_S1x16384x8x128_d3) : (⟨S1x16384x8x64, .f32⟩ : BufTy).Contents (Elt F) → (⟨S1x16384x8x64, .f32⟩ : BufTy).Contents (Elt F) → (⟨S1x16384x8x128, .f32⟩ : BufTy).Contents (Elt F)),
    StableHlo.reshape main_v11 main_v12 (rfl : (.f32 : EltTy) = .f32) shapeCasts_S1x16384x8x128_S1x4096x4x8x128,
    StableHlo.unary main_v12 main_v13 ((transpose S1x4x4096x8x128 [0, 2, 1, 3, 4] · transposes_S1x4096x4x8x128_S1x4x4096x8x128_0_2_1_3_4) : (⟨S1x4096x4x8x128, .f32⟩ : BufTy).Contents (Elt F) → (⟨S1x4x4096x8x128, .f32⟩ : BufTy).Contents (Elt F)),
    StableHlo.nullary main_cst_1 (constant S_ .f32 0x00000000#32),
    StableHlo.unary main_cst_1 main_v14 (broadcastInDim S1x4x128x8x128 ![] bcast_S_S1x4x128x8x128 : (⟨S_, .f32⟩ : BufTy).Contents (Elt F) → (⟨S1x4x128x8x128, .f32⟩ : BufTy).Contents (Elt F)),
    StableHlo.binary main_v14 main_v13 main_v15 ((fun a b => concatenate S1x4x4224x8x128 2 [⟨S1x4x128x8x128, a⟩, ⟨S1x4x4096x8x128, b⟩] concatenates_S1x4x128x8x128_S1x4x4096x8x128_S1x4x4224x8x128_d2) : (⟨S1x4x128x8x128, .f32⟩ : BufTy).Contents (Elt F) → (⟨S1x4x4096x8x128, .f32⟩ : BufTy).Contents (Elt F) → (⟨S1x4x4224x8x128, .f32⟩ : BufTy).Contents (Elt F)),
    StableHlo.reshape main_v15 main_v16 (rfl : (.f32 : EltTy) = .f32) shapeCasts_S1x4x4224x8x128_S1x4x33x128x8x128 ]

/-- The host operations up to `main_v21`. -/
abbrev line2 : List (HloOp τ sig (Elt F)) :=
  [ StableHlo.unary main_v16 main_v17 ((extractStridedSlice S1x4x32x128x8x128 ![0, 0, 0, 0, 0, 0] · slices_S1x4x33x128x8x128_S1x4x32x128x8x128_0_0_0_0_0_0) : (⟨S1x4x33x128x8x128, .f32⟩ : BufTy).Contents (Elt F) → (⟨S1x4x32x128x8x128, .f32⟩ : BufTy).Contents (Elt F)),
    StableHlo.unary main_v16 main_v18 ((extractStridedSlice S1x4x32x128x8x128 ![0, 0, 1, 0, 0, 0] · slices_S1x4x33x128x8x128_S1x4x32x128x8x128_0_0_1_0_0_0) : (⟨S1x4x33x128x8x128, .f32⟩ : BufTy).Contents (Elt F) → (⟨S1x4x32x128x8x128, .f32⟩ : BufTy).Contents (Elt F)),
    StableHlo.binary main_v17 main_v18 main_v19 ((fun a b => concatenate S1x4x32x256x8x128 3 [⟨S1x4x32x128x8x128, a⟩, ⟨S1x4x32x128x8x128, b⟩] concatenates_S1x4x32x128x8x128_S1x4x32x128x8x128_S1x4x32x256x8x128_d3) : (⟨S1x4x32x128x8x128, .f32⟩ : BufTy).Contents (Elt F) → (⟨S1x4x32x128x8x128, .f32⟩ : BufTy).Contents (Elt F) → (⟨S1x4x32x256x8x128, .f32⟩ : BufTy).Contents (Elt F)),
    StableHlo.unary main_v19 main_v20 ((extractStridedSlice S1x4x32x256x8x64 ![0, 0, 0, 0, 0, 0] · slices_S1x4x32x256x8x128_S1x4x32x256x8x64_0_0_0_0_0_0) : (⟨S1x4x32x256x8x128, .f32⟩ : BufTy).Contents (Elt F) → (⟨S1x4x32x256x8x64, .f32⟩ : BufTy).Contents (Elt F)),
    StableHlo.unary main_v19 main_v21 ((extractStridedSlice S1x4x32x256x8x64 ![0, 0, 0, 0, 0, 64] · slices_S1x4x32x256x8x128_S1x4x32x256x8x64_0_0_0_0_0_64) : (⟨S1x4x32x256x8x128, .f32⟩ : BufTy).Contents (Elt F) → (⟨S1x4x32x256x8x64, .f32⟩ : BufTy).Contents (Elt F)) ]

/-- The host operations up to `main_v35`. -/
abbrev line3 : List (HloOp τ sig (Elt F)) :=
  [ StableHlo.nullary main_v22 (iotaInDim S32x1x1x256 32 0),
    StableHlo.nullary main_v23 (iotaInDim S32x1x1x256 32 3),
    StableHlo.binary main_v10 main_v20 main_v24 ((fun l r => Host.dotGeneral dot_S1x4x32x128x8x64_S1x4x32x256x8x64_S1x4x32x8x128x256_5_5_3_3_0124_0124 none l r) : (⟨S1x4x32x128x8x64, .f32⟩ : BufTy).Contents (Elt F) → (⟨S1x4x32x256x8x64, .f32⟩ : BufTy).Contents (Elt F) → (⟨S1x4x32x8x128x256, .f32⟩ : BufTy).Contents (Elt F)),
    StableHlo.nullary main_cst_2 (constant S_ .f32 0x3E000000#32),
    StableHlo.unary main_cst_2 main_v25 (broadcastInDim S1x4x32x8x128x256 ![] bcast_S_S1x4x32x8x128x256 : (⟨S_, .f32⟩ : BufTy).Contents (Elt F) → (⟨S1x4x32x8x128x256, .f32⟩ : BufTy).Contents (Elt F)),
    StableHlo.binary main_v24 main_v25 main_v26 (mulf : (⟨S1x4x32x8x128x256, .f32⟩ : BufTy).Contents (Elt F) → (⟨S1x4x32x8x128x256, .f32⟩ : BufTy).Contents (Elt F) → (⟨S1x4x32x8x128x256, .f32⟩ : BufTy).Contents (Elt F)),
    StableHlo.unary main_v8 main_v27 (broadcastInDim S1x1x1x8x128x256 ![3, 4, 5] bcast_S8x128x256_S1x1x1x8x128x256_3_4_5 : (⟨S8x128x256, .f32⟩ : BufTy).Contents (Elt F) → (⟨S1x1x1x8x128x256, .f32⟩ : BufTy).Contents (Elt F)),
    StableHlo.unary main_v27 main_v28 (broadcastInDim S1x4x32x8x128x256 ![0, 1, 2, 3, 4, 5] bcast_S1x1x1x8x128x256_S1x4x32x8x128x256_0_1_2_3_4_5 : (⟨S1x1x1x8x128x256, .f32⟩ : BufTy).Contents (Elt F) → (⟨S1x4x32x8x128x256, .f32⟩ : BufTy).Contents (Elt F)),
    StableHlo.binary main_v26 main_v28 main_v29 (addf : (⟨S1x4x32x8x128x256, .f32⟩ : BufTy).Contents (Elt F) → (⟨S1x4x32x8x128x256, .f32⟩ : BufTy).Contents (Elt F) → (⟨S1x4x32x8x128x256, .f32⟩ : BufTy).Contents (Elt F)),
    StableHlo.nullary main_c_3 (constantI S_ 32 0#32),
    StableHlo.unary main_c_3 main_v30 (broadcastInDim S32x1x1x256 ![] bcast_S_S32x1x1x256 : (⟨S_, .i32⟩ : BufTy).Contents (Elt F) → (⟨S32x1x1x256, .i32⟩ : BufTy).Contents (Elt F)),
    StableHlo.binary main_v22 main_v30 main_v31 (cmpi .sgt : (⟨S32x1x1x256, .i32⟩ : BufTy).Contents (Elt F) → (⟨S32x1x1x256, .i32⟩ : BufTy).Contents (Elt F) → (⟨S32x1x1x256, .i1⟩ : BufTy).Contents (Elt F)),
    StableHlo.nullary main_c_4 (constantI S_ 32 128#32),
    StableHlo.unary main_c_4 main_v32 (broadcastInDim S32x1x1x256 ![] bcast_S_S32x1x1x256 : (⟨S_, .i32⟩ : BufTy).Contents (Elt F) → (⟨S32x1x1x256, .i32⟩ : BufTy).Contents (Elt F)),
    StableHlo.binary main_v23 main_v32 main_v33 (cmpi .sge : (⟨S32x1x1x256, .i32⟩ : BufTy).Contents (Elt F) → (⟨S32x1x1x256, .i32⟩ : BufTy).Contents (Elt F) → (⟨S32x1x1x256, .i1⟩ : BufTy).Contents (Elt F)),
    StableHlo.binary main_v31 main_v33 main_v34 (ori : (⟨S32x1x1x256, .i1⟩ : BufTy).Contents (Elt F) → (⟨S32x1x1x256, .i1⟩ : BufTy).Contents (Elt F) → (⟨S32x1x1x256, .i1⟩ : BufTy).Contents (Elt F)),
    StableHlo.nullary main_cst_5 (constant S_ .f32 0xFF800000#32),
    StableHlo.TRef.unary (.of main_cst_5 : StableHlo.TRef sig ⟨S_, .f32⟩) (.of main_call1_v0 : StableHlo.TRef sig ⟨S_, .f32⟩) id,
    StableHlo.TRef.unary (.of main_v34 : StableHlo.TRef sig ⟨S32x1x1x256, .i1⟩) (.of main_call1_v1 : StableHlo.TRef sig ⟨S1x4x32x8x128x256, .i1⟩) (broadcastInDim S1x4x32x8x128x256 ![2, 3, 4, 5] bcast_S32x1x1x256_S1x4x32x8x128x256_2_3_4_5),
    StableHlo.TRef.unary (.of main_call1_v0 : StableHlo.TRef sig ⟨S_, .f32⟩) (.of main_call1_v2 : StableHlo.TRef sig ⟨S1x4x32x8x128x256, .f32⟩) (broadcastInDim S1x4x32x8x128x256 ![] bcast_S_S1x4x32x8x128x256),
    StableHlo.TRef.ternary (.of main_call1_v1 : StableHlo.TRef sig ⟨S1x4x32x8x128x256, .i1⟩) (.of main_v29 : StableHlo.TRef sig ⟨S1x4x32x8x128x256, .f32⟩) (.of main_call1_v2 : StableHlo.TRef sig ⟨S1x4x32x8x128x256, .f32⟩) (.of main_v35 : StableHlo.TRef sig ⟨S1x4x32x8x128x256, .f32⟩) select ]

/-- The host operations up to `main_v41`. -/
abbrev line4 : List (HloOp τ sig (Elt F)) :=
  [ StableHlo.nullary main_cst_6 (constant S_ .f32 0xFF800000#32),
    StableHlo.binary main_v35 main_cst_6 main_v36 ((fun x v => Host.reduce FloatOps.maximumf x v reducesTo_S1x4x32x8x128x256_S1x4x32x8x128_d5 h_S_) : (⟨S1x4x32x8x128x256, .f32⟩ : BufTy).Contents (Elt F) → (⟨S_, .f32⟩ : BufTy).Contents (Elt F) → (⟨S1x4x32x8x128, .f32⟩ : BufTy).Contents (Elt F)),
    StableHlo.unary main_v36 main_v37 (broadcastInDim S1x4x32x8x128x1 ![0, 1, 2, 3, 4] bcast_S1x4x32x8x128_S1x4x32x8x128x1_0_1_2_3_4 : (⟨S1x4x32x8x128, .f32⟩ : BufTy).Contents (Elt F) → (⟨S1x4x32x8x128x1, .f32⟩ : BufTy).Contents (Elt F)),
    StableHlo.unary main_v37 main_v38 (broadcastInDim S1x4x32x8x128x256 ![0, 1, 2, 3, 4, 5] bcast_S1x4x32x8x128x1_S1x4x32x8x128x256_0_1_2_3_4_5 : (⟨S1x4x32x8x128x1, .f32⟩ : BufTy).Contents (Elt F) → (⟨S1x4x32x8x128x256, .f32⟩ : BufTy).Contents (Elt F)),
    StableHlo.binary main_v35 main_v38 main_v39 (subf : (⟨S1x4x32x8x128x256, .f32⟩ : BufTy).Contents (Elt F) → (⟨S1x4x32x8x128x256, .f32⟩ : BufTy).Contents (Elt F) → (⟨S1x4x32x8x128x256, .f32⟩ : BufTy).Contents (Elt F)),
    StableHlo.unary main_v39 main_v40 (Host.exp : (⟨S1x4x32x8x128x256, .f32⟩ : BufTy).Contents (Elt F) → (⟨S1x4x32x8x128x256, .f32⟩ : BufTy).Contents (Elt F)),
    StableHlo.nullary main_cst_7 (constant S_ .f32 0x00000000#32),
    StableHlo.binary main_v40 main_cst_7 main_v41 ((fun x v => Host.reduceAdd x v reducesTo_S1x4x32x8x128x256_S1x4x32x8x128_d5 h_S_) : (⟨S1x4x32x8x128x256, .f32⟩ : BufTy).Contents (Elt F) → (⟨S_, .f32⟩ : BufTy).Contents (Elt F) → (⟨S1x4x32x8x128, .f32⟩ : BufTy).Contents (Elt F)) ]

/-- The host operations up to `main_v52`. -/
abbrev line5 : List (HloOp τ sig (Elt F)) :=
  [ StableHlo.unary main_v41 main_v42 (broadcastInDim S1x4x32x8x128x1 ![0, 1, 2, 3, 4] bcast_S1x4x32x8x128_S1x4x32x8x128x1_0_1_2_3_4 : (⟨S1x4x32x8x128, .f32⟩ : BufTy).Contents (Elt F) → (⟨S1x4x32x8x128x1, .f32⟩ : BufTy).Contents (Elt F)),
    StableHlo.unary main_v42 main_v43 (broadcastInDim S1x4x32x8x128x256 ![0, 1, 2, 3, 4, 5] bcast_S1x4x32x8x128x1_S1x4x32x8x128x256_0_1_2_3_4_5 : (⟨S1x4x32x8x128x1, .f32⟩ : BufTy).Contents (Elt F) → (⟨S1x4x32x8x128x256, .f32⟩ : BufTy).Contents (Elt F)),
    StableHlo.binary main_v40 main_v43 main_v44 (Host.divf : (⟨S1x4x32x8x128x256, .f32⟩ : BufTy).Contents (Elt F) → (⟨S1x4x32x8x128x256, .f32⟩ : BufTy).Contents (Elt F) → (⟨S1x4x32x8x128x256, .f32⟩ : BufTy).Contents (Elt F)),
    StableHlo.binary main_v21 main_v44 main_v45 ((fun l r => Host.dotGeneral dot_S1x4x32x256x8x64_S1x4x32x8x128x256_S1x4x32x8x64x128_3_5_5_4_0124_0123 none l r) : (⟨S1x4x32x256x8x64, .f32⟩ : BufTy).Contents (Elt F) → (⟨S1x4x32x8x128x256, .f32⟩ : BufTy).Contents (Elt F) → (⟨S1x4x32x8x64x128, .f32⟩ : BufTy).Contents (Elt F)),
    StableHlo.unary main_v45 main_v46 ((transpose S1x4x32x128x8x64 [0, 1, 2, 5, 3, 4] · transposes_S1x4x32x8x64x128_S1x4x32x128x8x64_0_1_2_5_3_4) : (⟨S1x4x32x8x64x128, .f32⟩ : BufTy).Contents (Elt F) → (⟨S1x4x32x128x8x64, .f32⟩ : BufTy).Contents (Elt F)),
    StableHlo.unary main_v46 main_v47 ((transpose S1x32x128x4x8x64 [0, 2, 3, 1, 4, 5] · transposes_S1x4x32x128x8x64_S1x32x128x4x8x64_0_2_3_1_4_5) : (⟨S1x4x32x128x8x64, .f32⟩ : BufTy).Contents (Elt F) → (⟨S1x32x128x4x8x64, .f32⟩ : BufTy).Contents (Elt F)),
    StableHlo.reshape main_v47 main_v48 (rfl : (.f32 : EltTy) = .f32) shapeCasts_S1x32x128x4x8x64_S1x16384x8x64,
    StableHlo.unary main_v41 main_v49 (Host.log : (⟨S1x4x32x8x128, .f32⟩ : BufTy).Contents (Elt F) → (⟨S1x4x32x8x128, .f32⟩ : BufTy).Contents (Elt F)),
    StableHlo.binary main_v49 main_v36 main_v50 (addf : (⟨S1x4x32x8x128, .f32⟩ : BufTy).Contents (Elt F) → (⟨S1x4x32x8x128, .f32⟩ : BufTy).Contents (Elt F) → (⟨S1x4x32x8x128, .f32⟩ : BufTy).Contents (Elt F)),
    StableHlo.unary main_v50 main_v51 ((transpose S1x32x128x4x8 [0, 2, 4, 1, 3] · transposes_S1x4x32x8x128_S1x32x128x4x8_0_2_4_1_3) : (⟨S1x4x32x8x128, .f32⟩ : BufTy).Contents (Elt F) → (⟨S1x32x128x4x8, .f32⟩ : BufTy).Contents (Elt F)),
    StableHlo.reshape main_v51 main_v52 (rfl : (.f32 : EltTy) = .f32) shapeCasts_S1x32x128x4x8_S1x16384x8 ]

/-- The host operations up to `main_v62`. -/
abbrev line6 : List (HloOp τ sig (Elt F)) :=
  [ StableHlo.binary main_v52 main_arg5 main_v53 (maximumf : (⟨S1x16384x8, .f32⟩ : BufTy).Contents (Elt F) → (⟨S1x16384x8, .f32⟩ : BufTy).Contents (Elt F) → (⟨S1x16384x8, .f32⟩ : BufTy).Contents (Elt F)),
    StableHlo.binary main_v53 main_arg7 main_v54 (maximumf : (⟨S1x16384x8, .f32⟩ : BufTy).Contents (Elt F) → (⟨S1x16384x8, .f32⟩ : BufTy).Contents (Elt F) → (⟨S1x16384x8, .f32⟩ : BufTy).Contents (Elt F)),
    StableHlo.binary main_v52 main_v54 main_v55 (subf : (⟨S1x16384x8, .f32⟩ : BufTy).Contents (Elt F) → (⟨S1x16384x8, .f32⟩ : BufTy).Contents (Elt F) → (⟨S1x16384x8, .f32⟩ : BufTy).Contents (Elt F)),
    StableHlo.unary main_v55 main_v56 (Host.exp : (⟨S1x16384x8, .f32⟩ : BufTy).Contents (Elt F) → (⟨S1x16384x8, .f32⟩ : BufTy).Contents (Elt F)),
    StableHlo.binary main_arg5 main_v54 main_v57 (subf : (⟨S1x16384x8, .f32⟩ : BufTy).Contents (Elt F) → (⟨S1x16384x8, .f32⟩ : BufTy).Contents (Elt F) → (⟨S1x16384x8, .f32⟩ : BufTy).Contents (Elt F)),
    StableHlo.unary main_v57 main_v58 (Host.exp : (⟨S1x16384x8, .f32⟩ : BufTy).Contents (Elt F) → (⟨S1x16384x8, .f32⟩ : BufTy).Contents (Elt F)),
    StableHlo.binary main_arg7 main_v54 main_v59 (subf : (⟨S1x16384x8, .f32⟩ : BufTy).Contents (Elt F) → (⟨S1x16384x8, .f32⟩ : BufTy).Contents (Elt F) → (⟨S1x16384x8, .f32⟩ : BufTy).Contents (Elt F)),
    StableHlo.unary main_v59 main_v60 (Host.exp : (⟨S1x16384x8, .f32⟩ : BufTy).Contents (Elt F) → (⟨S1x16384x8, .f32⟩ : BufTy).Contents (Elt F)),
    StableHlo.binary main_v56 main_v58 main_v61 (addf : (⟨S1x16384x8, .f32⟩ : BufTy).Contents (Elt F) → (⟨S1x16384x8, .f32⟩ : BufTy).Contents (Elt F) → (⟨S1x16384x8, .f32⟩ : BufTy).Contents (Elt F)),
    StableHlo.binary main_v61 main_v60 main_v62 (addf : (⟨S1x16384x8, .f32⟩ : BufTy).Contents (Elt F) → (⟨S1x16384x8, .f32⟩ : BufTy).Contents (Elt F) → (⟨S1x16384x8, .f32⟩ : BufTy).Contents (Elt F)) ]

/-- The host operations up to `main_v73`. -/
abbrev line7 : List (HloOp τ sig (Elt F)) :=
  [ StableHlo.unary main_v62 main_v63 (Host.log : (⟨S1x16384x8, .f32⟩ : BufTy).Contents (Elt F) → (⟨S1x16384x8, .f32⟩ : BufTy).Contents (Elt F)),
    StableHlo.binary main_v54 main_v63 main_v64 (addf : (⟨S1x16384x8, .f32⟩ : BufTy).Contents (Elt F) → (⟨S1x16384x8, .f32⟩ : BufTy).Contents (Elt F) → (⟨S1x16384x8, .f32⟩ : BufTy).Contents (Elt F)),
    StableHlo.binary main_arg8 main_v48 main_v65 ((fun l r => Host.dotGeneral dot_S1x16384x8x64_S1x16384x8x64_S1x16384x8_3_3_n_n_012_012 none l r) : (⟨S1x16384x8x64, .f32⟩ : BufTy).Contents (Elt F) → (⟨S1x16384x8x64, .f32⟩ : BufTy).Contents (Elt F) → (⟨S1x16384x8, .f32⟩ : BufTy).Contents (Elt F)),
    StableHlo.binary main_v56 main_v65 main_v66 (mulf : (⟨S1x16384x8, .f32⟩ : BufTy).Contents (Elt F) → (⟨S1x16384x8, .f32⟩ : BufTy).Contents (Elt F) → (⟨S1x16384x8, .f32⟩ : BufTy).Contents (Elt F)),
    StableHlo.binary main_arg8 main_arg4 main_v67 ((fun l r => Host.dotGeneral dot_S1x16384x8x64_S1x16384x8x64_S1x16384x8_3_3_n_n_012_012 none l r) : (⟨S1x16384x8x64, .f32⟩ : BufTy).Contents (Elt F) → (⟨S1x16384x8x64, .f32⟩ : BufTy).Contents (Elt F) → (⟨S1x16384x8, .f32⟩ : BufTy).Contents (Elt F)),
    StableHlo.binary main_v58 main_v67 main_v68 (mulf : (⟨S1x16384x8, .f32⟩ : BufTy).Contents (Elt F) → (⟨S1x16384x8, .f32⟩ : BufTy).Contents (Elt F) → (⟨S1x16384x8, .f32⟩ : BufTy).Contents (Elt F)),
    StableHlo.binary main_v66 main_v68 main_v69 (addf : (⟨S1x16384x8, .f32⟩ : BufTy).Contents (Elt F) → (⟨S1x16384x8, .f32⟩ : BufTy).Contents (Elt F) → (⟨S1x16384x8, .f32⟩ : BufTy).Contents (Elt F)),
    StableHlo.binary main_arg8 main_arg6 main_v70 ((fun l r => Host.dotGeneral dot_S1x16384x8x64_S1x16384x8x64_S1x16384x8_3_3_n_n_012_012 none l r) : (⟨S1x16384x8x64, .f32⟩ : BufTy).Contents (Elt F) → (⟨S1x16384x8x64, .f32⟩ : BufTy).Contents (Elt F) → (⟨S1x16384x8, .f32⟩ : BufTy).Contents (Elt F)),
    StableHlo.binary main_v60 main_v70 main_v71 (mulf : (⟨S1x16384x8, .f32⟩ : BufTy).Contents (Elt F) → (⟨S1x16384x8, .f32⟩ : BufTy).Contents (Elt F) → (⟨S1x16384x8, .f32⟩ : BufTy).Contents (Elt F)),
    StableHlo.binary main_v69 main_v71 main_v72 (addf : (⟨S1x16384x8, .f32⟩ : BufTy).Contents (Elt F) → (⟨S1x16384x8, .f32⟩ : BufTy).Contents (Elt F) → (⟨S1x16384x8, .f32⟩ : BufTy).Contents (Elt F)),
    StableHlo.binary main_v72 main_v62 main_v73 (Host.divf : (⟨S1x16384x8, .f32⟩ : BufTy).Contents (Elt F) → (⟨S1x16384x8, .f32⟩ : BufTy).Contents (Elt F) → (⟨S1x16384x8, .f32⟩ : BufTy).Contents (Elt F)) ]

/-- The host operations up to `main_v96`. -/
abbrev line8 : List (HloOp τ sig (Elt F)) :=
  [ StableHlo.reshape main_v64 main_v74 (rfl : (.f32 : EltTy) = .f32) shapeCasts_S1x16384x8_S16384x8,
    StableHlo.reshape main_v73 main_v75 (rfl : (.f32 : EltTy) = .f32) shapeCasts_S1x16384x8_S16384x8,
    StableHlo.nullary main_cst_8 (constant S_ .f32 0x00000000#32),
    StableHlo.unary main_cst_8 main_v76 (broadcastInDim S16384x112 ![] bcast_S_S16384x112 : (⟨S_, .f32⟩ : BufTy).Contents (Elt F) → (⟨S16384x112, .f32⟩ : BufTy).Contents (Elt F)),
    StableHlo.nary ![main_v74, main_v75, main_v76] main_v77 (fun u => (concatenate S16384x128 1 [⟨S16384x8, (u 0 : (⟨S16384x8, .f32⟩ : BufTy).Contents (Elt F))⟩, ⟨S16384x8, (u 1 : (⟨S16384x8, .f32⟩ : BufTy).Contents (Elt F))⟩, ⟨S16384x112, (u 2 : (⟨S16384x112, .f32⟩ : BufTy).Contents (Elt F))⟩] concatenates_S16384x8_S16384x8_S16384x112_S16384x128_d1 : (⟨S16384x128, .f32⟩ : BufTy).Contents (Elt F))),
    StableHlo.reshape main_arg1 main_v78 (rfl : (.f32 : EltTy) = .f32) shapeCasts_S1x16384x8x64_S16384x512,
    StableHlo.reshape main_arg2 main_v79 (rfl : (.f32 : EltTy) = .f32) shapeCasts_S1x16384x8x64_S16384x512,
    StableHlo.reshape main_arg0 main_v80 (rfl : (.f32 : EltTy) = .f32) shapeCasts_S1x16384x8x64_S16384x512,
    StableHlo.nary ![main_v78, main_v79, main_v80] main_v81 (fun u => (concatenate S16384x1536 1 [⟨S16384x512, (u 0 : (⟨S16384x512, .f32⟩ : BufTy).Contents (Elt F))⟩, ⟨S16384x512, (u 1 : (⟨S16384x512, .f32⟩ : BufTy).Contents (Elt F))⟩, ⟨S16384x512, (u 2 : (⟨S16384x512, .f32⟩ : BufTy).Contents (Elt F))⟩] concatenates_S16384x512_S16384x512_S16384x512_S16384x1536_d1 : (⟨S16384x1536, .f32⟩ : BufTy).Contents (Elt F))),
    StableHlo.unary main_v81 main_v82 ((truncf .bf16 · bitsLt_bf16_f32) : (⟨S16384x1536, .f32⟩ : BufTy).Contents (Elt F) → (⟨S16384x1536, .bf16⟩ : BufTy).Contents (Elt F)),
    StableHlo.reshape main_v82 main_v83 (rfl : (.bf16 : EltTy) = .bf16) shapeCasts_S16384x1536_S4096x4x1536,
    StableHlo.unary main_v83 main_v84 ((transpose S4x4096x1536 [1, 0, 2] · transposes_S4096x4x1536_S4x4096x1536_1_0_2) : (⟨S4096x4x1536, .bf16⟩ : BufTy).Contents (Elt F) → (⟨S4x4096x1536, .bf16⟩ : BufTy).Contents (Elt F)),
    StableHlo.reshape main_v84 main_v85 (rfl : (.bf16 : EltTy) = .bf16) shapeCasts_S4x4096x1536_S16384x1536,
    StableHlo.unary main_v8 main_v86 ((extractStridedSlice S8x128x128 ![0, 0, 128] · slices_S8x128x256_S8x128x128_0_0_128) : (⟨S8x128x256, .f32⟩ : BufTy).Contents (Elt F) → (⟨S8x128x128, .f32⟩ : BufTy).Contents (Elt F)),
    StableHlo.unary main_v8 main_v87 ((extractStridedSlice S8x128x128 ![0, 0, 0] · slices_S8x128x256_S8x128x128_0_0_0) : (⟨S8x128x256, .f32⟩ : BufTy).Contents (Elt F) → (⟨S8x128x128, .f32⟩ : BufTy).Contents (Elt F)),
    StableHlo.binary main_v86 main_v87 main_v88 ((fun a b => concatenate S8x256x128 1 [⟨S8x128x128, a⟩, ⟨S8x128x128, b⟩] concatenates_S8x128x128_S8x128x128_S8x256x128_d1) : (⟨S8x128x128, .f32⟩ : BufTy).Contents (Elt F) → (⟨S8x128x128, .f32⟩ : BufTy).Contents (Elt F) → (⟨S8x256x128, .f32⟩ : BufTy).Contents (Elt F)),
    StableHlo.unary main_v88 main_v89 ((transpose S8x128x256 [0, 2, 1] · transposes_S8x256x128_S8x128x256_0_2_1) : (⟨S8x256x128, .f32⟩ : BufTy).Contents (Elt F) → (⟨S8x128x256, .f32⟩ : BufTy).Contents (Elt F)),
    StableHlo.unary main_arg8 main_v90 ((truncf .bf16 · bitsLt_bf16_f32) : (⟨S1x16384x8x64, .f32⟩ : BufTy).Contents (Elt F) → (⟨S1x16384x8x64, .bf16⟩ : BufTy).Contents (Elt F)),
    StableHlo.reshape main_v90 main_v91 (rfl : (.bf16 : EltTy) = .bf16) shapeCasts_S1x16384x8x64_S4096x4x512,
    StableHlo.unary main_v91 main_v92 ((transpose S4x4096x512 [1, 0, 2] · transposes_S4096x4x512_S4x4096x512_1_0_2) : (⟨S4096x4x512, .bf16⟩ : BufTy).Contents (Elt F) → (⟨S4x4096x512, .bf16⟩ : BufTy).Contents (Elt F)),
    StableHlo.reshape main_v92 main_v93 (rfl : (.bf16 : EltTy) = .bf16) shapeCasts_S4x4096x512_S16384x512,
    StableHlo.reshape main_v77 main_v94 (rfl : (.f32 : EltTy) = .f32) shapeCasts_S16384x128_S4096x4x128,
    StableHlo.unary main_v94 main_v95 ((transpose S4x4096x128 [1, 0, 2] · transposes_S4096x4x128_S4x4096x128_1_0_2) : (⟨S4096x4x128, .f32⟩ : BufTy).Contents (Elt F) → (⟨S4x4096x128, .f32⟩ : BufTy).Contents (Elt F)),
    StableHlo.reshape main_v95 main_v96 (rfl : (.f32 : EltTy) = .f32) shapeCasts_S4x4096x128_S16384x128 ]

/-- The host operations, cut into stretches. -/
theorem line_eq : (List.flatten [hostOps0, hostOps0_1, hostOps0_2, hostOps0_3, hostOps0_4] : List (HloOp τ sig (Elt F)))
    = line0 ++ (line1 ++ (line2 ++ (line3 ++ (line4 ++ (line5 ++ (line6 ++ (line7 ++ line8))))))) := rfl

variable (V0 : Valuation τ sig (Elt F))

/-- A line in two parts. -/
theorem after_app (a b : List (HloOp τ sig (Elt F))) (U : Valuation τ sig (Elt F)) : after (a ++ b) U = after b (after a U) := by
  induction a generalizing U with
  | nil => rfl
  | cons op l ih => exact ih _

/-- Two arrays joined, each replaced by an equal one. -/
@[local congr] theorem cat2 {α : Type} {S T1 T2 : Shape} {d : Fin S.rank} {a a' : T1.Idx → α} {b b' : T2.Idx → α} (ha : a = a') (hb : b = b')
    (h : Shape.Concatenates [T1, T2] S d) : concatenate S d [⟨T1, a⟩, ⟨T2, b⟩] h = concatenate S d [⟨T1, a'⟩, ⟨T2, b'⟩] h := by
  subst ha hb; rfl

/-- Three arrays joined, each replaced by an equal one. -/
@[local congr] theorem cat3 {α : Type} {S T1 T2 T3 : Shape} {d : Fin S.rank} {a a' : T1.Idx → α} {b b' : T2.Idx → α} {c c' : T3.Idx → α} (ha : a = a') (hb : b = b') (hc : c = c')
    (h : Shape.Concatenates [T1, T2, T3] S d) : concatenate S d [⟨T1, a⟩, ⟨T2, b⟩, ⟨T3, c⟩] h = concatenate S d [⟨T1, a'⟩, ⟨T2, b'⟩, ⟨T3, c'⟩] h := by
  subst ha hb hc; rfl

/-- The buffers after stretch 0. -/
def state0 (V0 : Valuation τ sig (Elt F)) : Valuation τ sig (Elt F) := after line0 V0

set_option maxHeartbeats 1000000 in
/-- `main_arg0` after stretch 0. -/
theorem state0_arg0 : state0 V0 (no_index (Proc.devRef .tc main_arg0)) = V0 (Proc.devRef .tc main_arg0) := by
  unfold state0
  after_reads_simp

set_option maxHeartbeats 1000000 in
/-- `main_arg1` after stretch 0. -/
theorem state0_arg1 : state0 V0 (no_index (Proc.devRef .tc main_arg1)) = V0 (Proc.devRef .tc main_arg1) := by
  unfold state0
  after_reads_simp

set_option maxHeartbeats 1000000 in
/-- `main_arg2` after stretch 0. -/
theorem state0_arg2 : state0 V0 (no_index (Proc.devRef .tc main_arg2)) = V0 (Proc.devRef .tc main_arg2) := by
  unfold state0
  after_reads_simp

set_option maxHeartbeats 1000000 in
/-- `main_arg3` after stretch 0. -/
theorem state0_arg3 : state0 V0 (no_index (Proc.devRef .tc main_arg3)) = V0 (Proc.devRef .tc main_arg3) := by
  unfold state0
  after_reads_simp

set_option maxHeartbeats 1000000 in
/-- `main_arg4` after stretch 0. -/
theorem state0_arg4 : state0 V0 (no_index (Proc.devRef .tc main_arg4)) = V0 (Proc.devRef .tc main_arg4) := by
  unfold state0
  after_reads_simp

set_option maxHeartbeats 1000000 in
/-- `main_arg5` after stretch 0. -/
theorem state0_arg5 : state0 V0 (no_index (Proc.devRef .tc main_arg5)) = V0 (Proc.devRef .tc main_arg5) := by
  unfold state0
  after_reads_simp

set_option maxHeartbeats 1000000 in
/-- `main_arg6` after stretch 0. -/
theorem state0_arg6 : state0 V0 (no_index (Proc.devRef .tc main_arg6)) = V0 (Proc.devRef .tc main_arg6) := by
  unfold state0
  after_reads_simp

set_option maxHeartbeats 1000000 in
/-- `main_arg7` after stretch 0. -/
theorem state0_arg7 : state0 V0 (no_index (Proc.devRef .tc main_arg7)) = V0 (Proc.devRef .tc main_arg7) := by
  unfold state0
  after_reads_simp

set_option maxHeartbeats 1000000 in
/-- `main_arg8` after stretch 0. -/
theorem state0_arg8 : state0 V0 (no_index (Proc.devRef .tc main_arg8)) = V0 (Proc.devRef .tc main_arg8) := by
  unfold state0
  after_reads_simp

set_option maxHeartbeats 1000000 in
/-- `main_v8` after stretch 0. -/
theorem state0_v8 : state0 V0 (no_index (Proc.devRef .tc main_v8)) = k_main_v8 V0 := by
  unfold state0
  after_reads_simp
  exact rfl

/-- The buffers after stretch 1. -/
def state1 (V0 : Valuation τ sig (Elt F)) : Valuation τ sig (Elt F) := after line1 (state0 V0)

set_option maxHeartbeats 1000000 in
/-- `main_arg0` after stretch 1. -/
theorem state1_arg0 : state1 V0 (no_index (Proc.devRef .tc main_arg0)) = V0 (Proc.devRef .tc main_arg0) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg1` after stretch 1. -/
theorem state1_arg1 : state1 V0 (no_index (Proc.devRef .tc main_arg1)) = V0 (Proc.devRef .tc main_arg1) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg2` after stretch 1. -/
theorem state1_arg2 : state1 V0 (no_index (Proc.devRef .tc main_arg2)) = V0 (Proc.devRef .tc main_arg2) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg3` after stretch 1. -/
theorem state1_arg3 : state1 V0 (no_index (Proc.devRef .tc main_arg3)) = V0 (Proc.devRef .tc main_arg3) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg4` after stretch 1. -/
theorem state1_arg4 : state1 V0 (no_index (Proc.devRef .tc main_arg4)) = V0 (Proc.devRef .tc main_arg4) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg5` after stretch 1. -/
theorem state1_arg5 : state1 V0 (no_index (Proc.devRef .tc main_arg5)) = V0 (Proc.devRef .tc main_arg5) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg6` after stretch 1. -/
theorem state1_arg6 : state1 V0 (no_index (Proc.devRef .tc main_arg6)) = V0 (Proc.devRef .tc main_arg6) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg7` after stretch 1. -/
theorem state1_arg7 : state1 V0 (no_index (Proc.devRef .tc main_arg7)) = V0 (Proc.devRef .tc main_arg7) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_arg8` after stretch 1. -/
theorem state1_arg8 : state1 V0 (no_index (Proc.devRef .tc main_arg8)) = V0 (Proc.devRef .tc main_arg8) := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_v8` after stretch 1. -/
theorem state1_v8 : state1 V0 (no_index (Proc.devRef .tc main_v8)) = k_main_v8 V0 := by
  unfold state1
  generalize hU : state0 V0 = U
  after_reads_simp
  subst hU
  simp only [state0_arg0, state0_arg1, state0_arg2, state0_arg3, state0_arg4, state0_arg5, state0_arg6, state0_arg7, state0_arg8, state0_v8]

set_option maxHeartbeats 1000000 in
/-- `main_v10` after stretch 1. -/
theorem state1_v10 : state1 V0 (no_index (Proc.devRef .tc main_v10)) = k_main_v10 V0 := by
  unfold state1
  generalize hU : state0 V0 = U
  after_reads_simp
  subst hU
  simp only [state0_arg0, state0_arg1, state0_arg2, state0_arg3, state0_arg4, state0_arg5, state0_arg6, state0_arg7, state0_arg8, state0_v8]
  exact rfl

set_option maxHeartbeats 1000000 in
/-- `main_v16` after stretch 1. -/
theorem state1_v16 : state1 V0 (no_index (Proc.devRef .tc main_v16)) = k_main_v16 V0 := by
  unfold state1
  generalize hU : state0 V0 = U
  after_reads_simp
  subst hU
  simp only [state0_arg0, state0_arg1, state0_arg2, state0_arg3, state0_arg4, state0_arg5, state0_arg6, state0_arg7, state0_arg8, state0_v8]
  exact rfl

/-- The buffers after stretch 2. -/
def state2 (V0 : Valuation τ sig (Elt F)) : Valuation τ sig (Elt F) := after line2 (state1 V0)

set_option maxHeartbeats 1000000 in
/-- `main_arg0` after stretch 2. -/
theorem state2_arg0 : state2 V0 (no_index (Proc.devRef .tc main_arg0)) = V0 (Proc.devRef .tc main_arg0) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg1` after stretch 2. -/
theorem state2_arg1 : state2 V0 (no_index (Proc.devRef .tc main_arg1)) = V0 (Proc.devRef .tc main_arg1) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg2` after stretch 2. -/
theorem state2_arg2 : state2 V0 (no_index (Proc.devRef .tc main_arg2)) = V0 (Proc.devRef .tc main_arg2) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg3` after stretch 2. -/
theorem state2_arg3 : state2 V0 (no_index (Proc.devRef .tc main_arg3)) = V0 (Proc.devRef .tc main_arg3) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg4` after stretch 2. -/
theorem state2_arg4 : state2 V0 (no_index (Proc.devRef .tc main_arg4)) = V0 (Proc.devRef .tc main_arg4) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg5` after stretch 2. -/
theorem state2_arg5 : state2 V0 (no_index (Proc.devRef .tc main_arg5)) = V0 (Proc.devRef .tc main_arg5) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg6` after stretch 2. -/
theorem state2_arg6 : state2 V0 (no_index (Proc.devRef .tc main_arg6)) = V0 (Proc.devRef .tc main_arg6) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg7` after stretch 2. -/
theorem state2_arg7 : state2 V0 (no_index (Proc.devRef .tc main_arg7)) = V0 (Proc.devRef .tc main_arg7) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_arg8` after stretch 2. -/
theorem state2_arg8 : state2 V0 (no_index (Proc.devRef .tc main_arg8)) = V0 (Proc.devRef .tc main_arg8) := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_v8` after stretch 2. -/
theorem state2_v8 : state2 V0 (no_index (Proc.devRef .tc main_v8)) = k_main_v8 V0 := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_v10` after stretch 2. -/
theorem state2_v10 : state2 V0 (no_index (Proc.devRef .tc main_v10)) = k_main_v10 V0 := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]

set_option maxHeartbeats 1000000 in
/-- `main_v20` after stretch 2. -/
theorem state2_v20 : state2 V0 (no_index (Proc.devRef .tc main_v20)) = k_main_v20 V0 := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]
  exact rfl

set_option maxHeartbeats 1000000 in
/-- `main_v21` after stretch 2. -/
theorem state2_v21 : state2 V0 (no_index (Proc.devRef .tc main_v21)) = k_main_v21 V0 := by
  unfold state2
  generalize hU : state1 V0 = U
  after_reads_simp
  subst hU
  simp only [state1_arg0, state1_arg1, state1_arg2, state1_arg3, state1_arg4, state1_arg5, state1_arg6, state1_arg7, state1_arg8, state1_v8, state1_v10, state1_v16]
  exact rfl

/-- The buffers after stretch 3. -/
def state3 (V0 : Valuation τ sig (Elt F)) : Valuation τ sig (Elt F) := after line3 (state2 V0)

set_option maxHeartbeats 1000000 in
/-- `main_arg0` after stretch 3. -/
theorem state3_arg0 : state3 V0 (no_index (Proc.devRef .tc main_arg0)) = V0 (Proc.devRef .tc main_arg0) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg1` after stretch 3. -/
theorem state3_arg1 : state3 V0 (no_index (Proc.devRef .tc main_arg1)) = V0 (Proc.devRef .tc main_arg1) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg2` after stretch 3. -/
theorem state3_arg2 : state3 V0 (no_index (Proc.devRef .tc main_arg2)) = V0 (Proc.devRef .tc main_arg2) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg3` after stretch 3. -/
theorem state3_arg3 : state3 V0 (no_index (Proc.devRef .tc main_arg3)) = V0 (Proc.devRef .tc main_arg3) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg4` after stretch 3. -/
theorem state3_arg4 : state3 V0 (no_index (Proc.devRef .tc main_arg4)) = V0 (Proc.devRef .tc main_arg4) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg5` after stretch 3. -/
theorem state3_arg5 : state3 V0 (no_index (Proc.devRef .tc main_arg5)) = V0 (Proc.devRef .tc main_arg5) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg6` after stretch 3. -/
theorem state3_arg6 : state3 V0 (no_index (Proc.devRef .tc main_arg6)) = V0 (Proc.devRef .tc main_arg6) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg7` after stretch 3. -/
theorem state3_arg7 : state3 V0 (no_index (Proc.devRef .tc main_arg7)) = V0 (Proc.devRef .tc main_arg7) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_arg8` after stretch 3. -/
theorem state3_arg8 : state3 V0 (no_index (Proc.devRef .tc main_arg8)) = V0 (Proc.devRef .tc main_arg8) := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_v8` after stretch 3. -/
theorem state3_v8 : state3 V0 (no_index (Proc.devRef .tc main_v8)) = k_main_v8 V0 := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_v21` after stretch 3. -/
theorem state3_v21 : state3 V0 (no_index (Proc.devRef .tc main_v21)) = k_main_v21 V0 := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]

set_option maxHeartbeats 1000000 in
/-- `main_v35` after stretch 3. -/
theorem state3_v35 : state3 V0 (no_index (Proc.devRef .tc main_v35)) = k_main_v35 V0 := by
  unfold state3
  generalize hU : state2 V0 = U
  after_reads_simp
  subst hU
  simp only [state2_arg0, state2_arg1, state2_arg2, state2_arg3, state2_arg4, state2_arg5, state2_arg6, state2_arg7, state2_arg8, state2_v8, state2_v10, state2_v20, state2_v21]
  exact rfl

/-- The buffers after stretch 4. -/
def state4 (V0 : Valuation τ sig (Elt F)) : Valuation τ sig (Elt F) := after line4 (state3 V0)

set_option maxHeartbeats 1000000 in
/-- `main_arg0` after stretch 4. -/
theorem state4_arg0 : state4 V0 (no_index (Proc.devRef .tc main_arg0)) = V0 (Proc.devRef .tc main_arg0) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg1` after stretch 4. -/
theorem state4_arg1 : state4 V0 (no_index (Proc.devRef .tc main_arg1)) = V0 (Proc.devRef .tc main_arg1) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg2` after stretch 4. -/
theorem state4_arg2 : state4 V0 (no_index (Proc.devRef .tc main_arg2)) = V0 (Proc.devRef .tc main_arg2) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg3` after stretch 4. -/
theorem state4_arg3 : state4 V0 (no_index (Proc.devRef .tc main_arg3)) = V0 (Proc.devRef .tc main_arg3) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg4` after stretch 4. -/
theorem state4_arg4 : state4 V0 (no_index (Proc.devRef .tc main_arg4)) = V0 (Proc.devRef .tc main_arg4) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg5` after stretch 4. -/
theorem state4_arg5 : state4 V0 (no_index (Proc.devRef .tc main_arg5)) = V0 (Proc.devRef .tc main_arg5) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg6` after stretch 4. -/
theorem state4_arg6 : state4 V0 (no_index (Proc.devRef .tc main_arg6)) = V0 (Proc.devRef .tc main_arg6) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg7` after stretch 4. -/
theorem state4_arg7 : state4 V0 (no_index (Proc.devRef .tc main_arg7)) = V0 (Proc.devRef .tc main_arg7) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_arg8` after stretch 4. -/
theorem state4_arg8 : state4 V0 (no_index (Proc.devRef .tc main_arg8)) = V0 (Proc.devRef .tc main_arg8) := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_v8` after stretch 4. -/
theorem state4_v8 : state4 V0 (no_index (Proc.devRef .tc main_v8)) = k_main_v8 V0 := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_v21` after stretch 4. -/
theorem state4_v21 : state4 V0 (no_index (Proc.devRef .tc main_v21)) = k_main_v21 V0 := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]

set_option maxHeartbeats 1000000 in
/-- `main_v36` after stretch 4. -/
theorem state4_v36 : state4 V0 (no_index (Proc.devRef .tc main_v36)) = k_main_v36 V0 := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]
  exact rfl

set_option maxHeartbeats 1000000 in
/-- `main_v40` after stretch 4. -/
theorem state4_v40 : state4 V0 (no_index (Proc.devRef .tc main_v40)) = k_main_v40 V0 := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]
  exact rfl

set_option maxHeartbeats 1000000 in
/-- `main_v41` after stretch 4. -/
theorem state4_v41 : state4 V0 (no_index (Proc.devRef .tc main_v41)) = k_main_v41 V0 := by
  unfold state4
  generalize hU : state3 V0 = U
  after_reads_simp
  subst hU
  simp only [state3_arg0, state3_arg1, state3_arg2, state3_arg3, state3_arg4, state3_arg5, state3_arg6, state3_arg7, state3_arg8, state3_v8, state3_v21, state3_v35]
  exact rfl

/-- The buffers after stretch 5. -/
def state5 (V0 : Valuation τ sig (Elt F)) : Valuation τ sig (Elt F) := after line5 (state4 V0)

set_option maxHeartbeats 1000000 in
/-- `main_arg0` after stretch 5. -/
theorem state5_arg0 : state5 V0 (no_index (Proc.devRef .tc main_arg0)) = V0 (Proc.devRef .tc main_arg0) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg1` after stretch 5. -/
theorem state5_arg1 : state5 V0 (no_index (Proc.devRef .tc main_arg1)) = V0 (Proc.devRef .tc main_arg1) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg2` after stretch 5. -/
theorem state5_arg2 : state5 V0 (no_index (Proc.devRef .tc main_arg2)) = V0 (Proc.devRef .tc main_arg2) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg3` after stretch 5. -/
theorem state5_arg3 : state5 V0 (no_index (Proc.devRef .tc main_arg3)) = V0 (Proc.devRef .tc main_arg3) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg4` after stretch 5. -/
theorem state5_arg4 : state5 V0 (no_index (Proc.devRef .tc main_arg4)) = V0 (Proc.devRef .tc main_arg4) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg5` after stretch 5. -/
theorem state5_arg5 : state5 V0 (no_index (Proc.devRef .tc main_arg5)) = V0 (Proc.devRef .tc main_arg5) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg6` after stretch 5. -/
theorem state5_arg6 : state5 V0 (no_index (Proc.devRef .tc main_arg6)) = V0 (Proc.devRef .tc main_arg6) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg7` after stretch 5. -/
theorem state5_arg7 : state5 V0 (no_index (Proc.devRef .tc main_arg7)) = V0 (Proc.devRef .tc main_arg7) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_arg8` after stretch 5. -/
theorem state5_arg8 : state5 V0 (no_index (Proc.devRef .tc main_arg8)) = V0 (Proc.devRef .tc main_arg8) := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_v8` after stretch 5. -/
theorem state5_v8 : state5 V0 (no_index (Proc.devRef .tc main_v8)) = k_main_v8 V0 := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]

set_option maxHeartbeats 1000000 in
/-- `main_v48` after stretch 5. -/
theorem state5_v48 : state5 V0 (no_index (Proc.devRef .tc main_v48)) = k_main_v48 V0 := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]
  exact rfl

set_option maxHeartbeats 1000000 in
/-- `main_v52` after stretch 5. -/
theorem state5_v52 : state5 V0 (no_index (Proc.devRef .tc main_v52)) = k_main_v52 V0 := by
  unfold state5
  generalize hU : state4 V0 = U
  after_reads_simp
  subst hU
  simp only [state4_arg0, state4_arg1, state4_arg2, state4_arg3, state4_arg4, state4_arg5, state4_arg6, state4_arg7, state4_arg8, state4_v8, state4_v21, state4_v36, state4_v40, state4_v41]
  exact rfl

/-- The buffers after stretch 6. -/
def state6 (V0 : Valuation τ sig (Elt F)) : Valuation τ sig (Elt F) := after line6 (state5 V0)

set_option maxHeartbeats 1000000 in
/-- `main_arg0` after stretch 6. -/
theorem state6_arg0 : state6 V0 (no_index (Proc.devRef .tc main_arg0)) = V0 (Proc.devRef .tc main_arg0) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg1` after stretch 6. -/
theorem state6_arg1 : state6 V0 (no_index (Proc.devRef .tc main_arg1)) = V0 (Proc.devRef .tc main_arg1) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg2` after stretch 6. -/
theorem state6_arg2 : state6 V0 (no_index (Proc.devRef .tc main_arg2)) = V0 (Proc.devRef .tc main_arg2) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg3` after stretch 6. -/
theorem state6_arg3 : state6 V0 (no_index (Proc.devRef .tc main_arg3)) = V0 (Proc.devRef .tc main_arg3) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg4` after stretch 6. -/
theorem state6_arg4 : state6 V0 (no_index (Proc.devRef .tc main_arg4)) = V0 (Proc.devRef .tc main_arg4) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg5` after stretch 6. -/
theorem state6_arg5 : state6 V0 (no_index (Proc.devRef .tc main_arg5)) = V0 (Proc.devRef .tc main_arg5) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg6` after stretch 6. -/
theorem state6_arg6 : state6 V0 (no_index (Proc.devRef .tc main_arg6)) = V0 (Proc.devRef .tc main_arg6) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg7` after stretch 6. -/
theorem state6_arg7 : state6 V0 (no_index (Proc.devRef .tc main_arg7)) = V0 (Proc.devRef .tc main_arg7) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_arg8` after stretch 6. -/
theorem state6_arg8 : state6 V0 (no_index (Proc.devRef .tc main_arg8)) = V0 (Proc.devRef .tc main_arg8) := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_v8` after stretch 6. -/
theorem state6_v8 : state6 V0 (no_index (Proc.devRef .tc main_v8)) = k_main_v8 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_v48` after stretch 6. -/
theorem state6_v48 : state6 V0 (no_index (Proc.devRef .tc main_v48)) = k_main_v48 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]

set_option maxHeartbeats 1000000 in
/-- `main_v54` after stretch 6. -/
theorem state6_v54 : state6 V0 (no_index (Proc.devRef .tc main_v54)) = k_main_v54 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]
  exact rfl

set_option maxHeartbeats 1000000 in
/-- `main_v56` after stretch 6. -/
theorem state6_v56 : state6 V0 (no_index (Proc.devRef .tc main_v56)) = k_main_v56 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]
  exact rfl

set_option maxHeartbeats 1000000 in
/-- `main_v58` after stretch 6. -/
theorem state6_v58 : state6 V0 (no_index (Proc.devRef .tc main_v58)) = k_main_v58 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]
  exact rfl

set_option maxHeartbeats 1000000 in
/-- `main_v60` after stretch 6. -/
theorem state6_v60 : state6 V0 (no_index (Proc.devRef .tc main_v60)) = k_main_v60 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]
  exact rfl

set_option maxHeartbeats 1000000 in
/-- `main_v62` after stretch 6. -/
theorem state6_v62 : state6 V0 (no_index (Proc.devRef .tc main_v62)) = k_main_v62 V0 := by
  unfold state6
  generalize hU : state5 V0 = U
  after_reads_simp
  subst hU
  simp only [state5_arg0, state5_arg1, state5_arg2, state5_arg3, state5_arg4, state5_arg5, state5_arg6, state5_arg7, state5_arg8, state5_v8, state5_v48, state5_v52]
  exact rfl

/-- The buffers after stretch 7. -/
def state7 (V0 : Valuation τ sig (Elt F)) : Valuation τ sig (Elt F) := after line7 (state6 V0)

set_option maxHeartbeats 1000000 in
/-- `main_arg0` after stretch 7. -/
theorem state7_arg0 : state7 V0 (no_index (Proc.devRef .tc main_arg0)) = V0 (Proc.devRef .tc main_arg0) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg1` after stretch 7. -/
theorem state7_arg1 : state7 V0 (no_index (Proc.devRef .tc main_arg1)) = V0 (Proc.devRef .tc main_arg1) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg2` after stretch 7. -/
theorem state7_arg2 : state7 V0 (no_index (Proc.devRef .tc main_arg2)) = V0 (Proc.devRef .tc main_arg2) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg3` after stretch 7. -/
theorem state7_arg3 : state7 V0 (no_index (Proc.devRef .tc main_arg3)) = V0 (Proc.devRef .tc main_arg3) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg4` after stretch 7. -/
theorem state7_arg4 : state7 V0 (no_index (Proc.devRef .tc main_arg4)) = V0 (Proc.devRef .tc main_arg4) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg5` after stretch 7. -/
theorem state7_arg5 : state7 V0 (no_index (Proc.devRef .tc main_arg5)) = V0 (Proc.devRef .tc main_arg5) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg6` after stretch 7. -/
theorem state7_arg6 : state7 V0 (no_index (Proc.devRef .tc main_arg6)) = V0 (Proc.devRef .tc main_arg6) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg7` after stretch 7. -/
theorem state7_arg7 : state7 V0 (no_index (Proc.devRef .tc main_arg7)) = V0 (Proc.devRef .tc main_arg7) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_arg8` after stretch 7. -/
theorem state7_arg8 : state7 V0 (no_index (Proc.devRef .tc main_arg8)) = V0 (Proc.devRef .tc main_arg8) := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_v8` after stretch 7. -/
theorem state7_v8 : state7 V0 (no_index (Proc.devRef .tc main_v8)) = k_main_v8 V0 := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]

set_option maxHeartbeats 1000000 in
/-- `main_v64` after stretch 7. -/
theorem state7_v64 : state7 V0 (no_index (Proc.devRef .tc main_v64)) = k_main_v64 V0 := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]
  exact rfl

set_option maxHeartbeats 1000000 in
/-- `main_v73` after stretch 7. -/
theorem state7_v73 : state7 V0 (no_index (Proc.devRef .tc main_v73)) = k_main_v73 V0 := by
  unfold state7
  generalize hU : state6 V0 = U
  after_reads_simp
  subst hU
  simp only [state6_arg0, state6_arg1, state6_arg2, state6_arg3, state6_arg4, state6_arg5, state6_arg6, state6_arg7, state6_arg8, state6_v8, state6_v48, state6_v54, state6_v56, state6_v58, state6_v60, state6_v62]
  exact rfl

/-- The buffers after stretch 8. -/
def state8 (V0 : Valuation τ sig (Elt F)) : Valuation τ sig (Elt F) := after line8 (state7 V0)

set_option maxHeartbeats 1000000 in
/-- `main_v85` after stretch 8. -/
theorem state8_v85 : state8 V0 (no_index (Proc.devRef .tc main_v85)) = k_main_v85 V0 := by
  unfold state8
  generalize hU : state7 V0 = U
  after_reads_simp
  try simp only [Matrix.cons_val_zero, Matrix.cons_val_one, Matrix.cons_val]
  try after_reads_simp
  subst hU
  simp only [state7_arg0, state7_arg1, state7_arg2, state7_arg3, state7_arg4, state7_arg5, state7_arg6, state7_arg7, state7_arg8, state7_v8, state7_v64, state7_v73]
  exact rfl

set_option maxHeartbeats 1000000 in
/-- `main_v89` after stretch 8. -/
theorem state8_v89 : state8 V0 (no_index (Proc.devRef .tc main_v89)) = k_main_v89 V0 := by
  unfold state8
  generalize hU : state7 V0 = U
  after_reads_simp
  subst hU
  simp only [state7_arg0, state7_arg1, state7_arg2, state7_arg3, state7_arg4, state7_arg5, state7_arg6, state7_arg7, state7_arg8, state7_v8, state7_v64, state7_v73]
  exact rfl

set_option maxHeartbeats 1000000 in
/-- `main_v93` after stretch 8. -/
theorem state8_v93 : state8 V0 (no_index (Proc.devRef .tc main_v93)) = k_main_v93 V0 := by
  unfold state8
  generalize hU : state7 V0 = U
  after_reads_simp
  subst hU
  simp only [state7_arg0, state7_arg1, state7_arg2, state7_arg3, state7_arg4, state7_arg5, state7_arg6, state7_arg7, state7_arg8, state7_v8, state7_v64, state7_v73]
  exact rfl

set_option maxHeartbeats 1000000 in
/-- `main_v96` after stretch 8. -/
theorem state8_v96 : state8 V0 (no_index (Proc.devRef .tc main_v96)) = k_main_v96 V0 := by
  unfold state8
  generalize hU : state7 V0 = U
  after_reads_simp
  try simp only [Matrix.cons_val_zero, Matrix.cons_val_one, Matrix.cons_val]
  try after_reads_simp
  subst hU
  simp only [state7_arg0, state7_arg1, state7_arg2, state7_arg3, state7_arg4, state7_arg5, state7_arg6, state7_arg7, state7_arg8, state7_v8, state7_v64, state7_v73]
  exact rfl

/-- The region's operands are the buffers after the last stretch. -/
theorem V_eq (m : (ℓ : Loc nD τ sig) → Buf (Elt F) ℓ) (c : Dev nD) (r : Ref sig .tc) : V m c r = state8 (fun b => m (c, b)) (Proc.devRef .tc r) := by
  unfold V state8 state7 state6 state5 state4 state3 state2 state1 state0
  rw [line_eq, after_app, after_app, after_app, after_app, after_app, after_app, after_app, after_app]

end Cert.KernelIdeal.Value

end
-- ==== Proof.KerHost.lean ====
module

public import proofs.«01_k».proof.Proof.RefBwd
public import proofs.«01_k».proof.Proof.KerTerm

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Cert.Attn
open Cert.ReferenceIdeal.Value (eighth neg_inf zero_bits sel sge_word sle_word and_word)

/-- The arguments' contents are the real arrays. -/
structure Of (I : Inp) (V0 : Valuation τ sig (Elt Ideal)) : Prop where
  q : V0 (Proc.devRef .tc main_arg0) = fun i : S1x16384x8x64.Idx => ((I.q (i 1) (i 2) (i 3) : ℝ) : EReal)
  k : V0 (Proc.devRef .tc main_arg1) = fun i : S1x16384x8x64.Idx => ((I.k (i 1) (i 2) (i 3) : ℝ) : EReal)
  v : V0 (Proc.devRef .tc main_arg2) = fun i : S1x16384x8x64.Idx => ((I.v (i 1) (i 2) (i 3) : ℝ) : EReal)
  bias : V0 (Proc.devRef .tc main_arg3) = fun i : S8x128x256.Idx => ((I.bias (i 0) (i 1) (i 2) : ℝ) : EReal)
  ob : V0 (Proc.devRef .tc main_arg4) = fun i : S1x16384x8x64.Idx => ((I.ob (i 1) (i 2) (i 3) : ℝ) : EReal)
  lb : V0 (Proc.devRef .tc main_arg5) = fun i : S1x16384x8.Idx => ((I.lb (i 1) (i 2) : ℝ) : EReal)
  oc : V0 (Proc.devRef .tc main_arg6) = fun i : S1x16384x8x64.Idx => ((I.oc (i 1) (i 2) (i 3) : ℝ) : EReal)
  lc : V0 (Proc.devRef .tc main_arg7) = fun i : S1x16384x8.Idx => ((I.lc (i 1) (i 2) : ℝ) : EReal)
  ct : V0 (Proc.devRef .tc main_arg8) = fun i : S1x16384x8x64.Idx => ((I.ct (i 1) (i 2) (i 3) : ℝ) : EReal)

/-- The key's place less the query's, as a word. -/
theorem off_word (a c : ℕ) (ha : a < 128) (hc : c < 256) :
    (IntOp.subi (BitVec.ofNat 32 c) (BitVec.ofNat 32 a)).toInt = (c : ℤ) - a := by
  unfold IntOp.subi
  rw [BitVec.toInt_eq_toNat_cond]
  split_ifs <;> bv_omega

/-- Signed comparisons, as bits of propositions. -/
theorem sgt_word (x y : BitVec 32) : IntOp.cmpi .sgt x y = BitVec.ofBool (decide (y.toInt < x.toInt)) := rfl

/-- A small number's word read as an integer. -/
theorem nat_word (n : ℕ) (h : n < 256) : (BitVec.ofNat 32 n).toInt = n := by
  rw [BitVec.toInt_eq_toNat_cond]
  split_ifs <;> bv_omega

/-- The disjunction of two bits. -/
theorem or_word (p q : Prop) [Decidable p] [Decidable q] :
    IntOp.ori (BitVec.ofBool (decide p)) (BitVec.ofBool (decide q)) = BitVec.ofBool (decide (p ∨ q)) := by
  by_cases p <;> by_cases q <;> simp [*, IntOp.ori]

/-- A constant at an index. -/
theorem cst (b : BitVec 32) (i : S_.Idx) : id (constant (F := Ideal) S_ .f32 b) i = Ideal.ofBits .f32 b := rfl

variable {I : Inp} {V0 : Valuation τ sig (Elt Ideal)} (H : Of I V0)
include H

/-- The bias inside the band, `-inf` outside. -/
theorem bias_at (h : Fin 8) (a : Fin 128) (c : Fin 256) :
    (k_main_v8 V0 : FVec Ideal S8x128x256 .f32) (ix3 h a c) = if (a : ℕ) ≤ c ∧ (c : ℕ) ≤ a + 128 then ((I.bias h a c : ℝ) : EReal) else ⊥ := by
  unfold k_main_v8
  rw [H.bias]
  pointwise
  rw [sge_word, sle_word, off_word _ _ a.isLt c.isLt, and_word, sel, cst, neg_inf]
  have h0 : (0#32).toInt = 0 := rfl
  have h1 : (128#32).toInt = 128 := rfl
  rw [h0, h1]
  exact if_congr (by omega) rfl rfl

/-- The queries, by residue class and block. -/
theorem q_at (r : Fin 4) (n : Fin 32) (a : Fin 128) (h : Fin 8) (d : Fin 64) :
    (k_main_v10 V0 : FVec Ideal S1x4x32x128x8x64 .f32) (ix6 0 r n a h d) = ((I.q (tok r n a) h d : ℝ) : EReal) := by
  unfold k_main_v10
  rw [H.q]
  pointwise
  unfold tok
  congr 4
  omega

/-- The padded blocks of keys and values. -/
theorem pad_at (r : Fin 4) (n : Fin 33) (c : Fin 128) (h : Fin 8) (d : Fin 128) :
    (k_main_v16 V0 : FVec Ideal S1x4x33x128x8x128 .f32) (ix6 0 r n c h d)
      = if hn : (n : ℕ) = 0 then 0 else if hd : (d : ℕ) < 64 then ((I.k (tok r ⟨n - 1, by omega⟩ c) h ⟨d, hd⟩ : ℝ) : EReal)
        else ((I.v (tok r ⟨n - 1, by omega⟩ c) h ⟨d - 64, by omega⟩ : ℝ) : EReal) := by
  unfold k_main_v16
  rw [H.k, H.v]
  pointwise
  by_cases hn : (n : ℕ) = 0
  · rw [dif_pos (by omega), dif_pos hn]
  · rw [dif_neg (by omega), dif_neg hn]
    unfold tok
    have e : ((n : ℕ) * 128 + c - 128) * 4 + r = (((n : ℕ) - 1) * 128 + c) * 4 + r := by omega
    simp only [e]

omit H in
/-- Two overlapping slices of the padded blocks, one after the other: the window. -/
theorem window_at (y : FVec Ideal S1x4x33x128x8x128 .f32) (r : Fin 4) (n : Fin 32) (c : Fin 256) (h : Fin 8) (d : Fin 128) :
    concatenate S1x4x32x256x8x128 3 [⟨S1x4x32x128x8x128, (extractStridedSlice S1x4x32x128x8x128 ![0, 0, 0, 0, 0, 0] y slices_S1x4x33x128x8x128_S1x4x32x128x8x128_0_0_0_0_0_0)⟩, ⟨S1x4x32x128x8x128, (extractStridedSlice S1x4x32x128x8x128 ![0, 0, 1, 0, 0, 0] y slices_S1x4x33x128x8x128_S1x4x32x128x8x128_0_0_1_0_0_0)⟩] concatenates_S1x4x32x128x8x128_S1x4x32x128x8x128_S1x4x32x256x8x128_d3 (ix6 0 r n c h d)
      = if hc : (c : ℕ) < 128 then y (ix6 0 r ⟨n, by omega⟩ ⟨c, hc⟩ h d) else y (ix6 0 r ⟨1 + n, by omega⟩ ⟨c - 128, by omega⟩ h d) := by
  pointwise

/-- A window's row: the key beside the value. -/
theorem kv_at (r : Fin 4) (n : Fin 32) (c : Fin 256) (h : Fin 8) (d : Fin 128) :
    (k_main_v19 V0 : FVec Ideal S1x4x32x256x8x128 .f32) (ix6 0 r n c h d)
      = if hd : (d : ℕ) < 64 then ((win I.k r n c h ⟨d, hd⟩ : ℝ) : EReal) else ((win I.v r n c h ⟨d - 64, by omega⟩ : ℝ) : EReal) := by
  unfold k_main_v19
  rw [window_at]
  unfold win
  by_cases hc : (c : ℕ) < 128
  · rw [dif_pos hc, pad_at H]
    simp only [hc, ↓reduceDIte]
    by_cases hn : (n : ℕ) = 0
    · simp only [hn, ↓reduceDIte, ↓reduceIte, EReal.coe_zero, ite_self, dite_eq_ite]
    · simp only [hn, ↓reduceDIte, ↓reduceIte]
      rfl
  · rw [dif_neg hc, pad_at H]
    have e : ∀ h', (⟨1 + (n : ℕ) - 1, h'⟩ : Fin 32) = n := fun _ => Fin.ext (by simp)
    rw [dif_neg (by simp)]
    simp only [hc, ↓reduceDIte, e]

/-- The window's keys. -/
theorem k_at (r : Fin 4) (n : Fin 32) (c : Fin 256) (h : Fin 8) (d : Fin 64) :
    (k_main_v20 V0 : FVec Ideal S1x4x32x256x8x64 .f32) (ix6 0 r n c h d) = ((win I.k r n c h d : ℝ) : EReal) := by
  unfold k_main_v20
  pointwise
  refine (kv_at H ..).trans ((dif_pos (by simp)).trans ?_)
  rfl

/-- The window's values. -/
theorem v_at (r : Fin 4) (n : Fin 32) (c : Fin 256) (h : Fin 8) (d : Fin 64) :
    (k_main_v21 V0 : FVec Ideal S1x4x32x256x8x64 .f32) (ix6 0 r n c h d) = ((win I.v r n c h d : ℝ) : EReal) := by
  unfold k_main_v21
  pointwise
  refine (kv_at H ..).trans ((dif_neg (by simp)).trans ?_)
  congr 2
  apply Fin.ext
  simp

/-- The masked scores. -/
theorem s_at (r : Fin 4) (n : Fin 32) (a : Fin 128) (c : Fin 256) (h : Fin 8) :
    (k_main_v35 V0 : FVec Ideal S1x4x32x8x128x256 .f32) (ix6 0 r n h a c) = if Sees n a c then ((I.s r n h a c : ℝ) : EReal) else ⊥ := by
  unfold k_main_v35
  pointwise
  rw [sge_word, sgt_word, nat_word (n : ℕ) (by omega), nat_word (c : ℕ) c.isLt, or_word, sel, cst, neg_inf]
  simp only [q_at H, k_at H, bias_at H, eighth, ← EReal.coe_mul, ← coe_sum]
  have h0 : (0#32).toInt = 0 := rfl
  have h1 : (128#32).toInt = 128 := rfl
  rw [h0, h1]
  by_cases hb : (a : ℕ) ≤ c ∧ (c : ℕ) ≤ a + 128
  · rw [if_pos hb, ← EReal.coe_add]
    exact if_congr (by unfold Sees; omega) rfl rfl
  · rw [if_neg hb, if_neg (show ¬ Sees n a c by unfold Sees; omega), EReal.add_bot]
    exact ite_self _

/-- The scores' greatest value is a real number. -/
theorem m_at (r : Fin 4) (n : Fin 32) (h : Fin 8) (a : Fin 128) :
    ∃ M : ℝ, (k_main_v36 V0 : FVec Ideal S1x4x32x8x128 .f32) (ix5 0 r n h a) = (M : EReal) := by
  unfold k_main_v36
  pointwise
  rw [neg_inf]
  have e := Cert.Fold.fold_a5 (α := EReal) reducesTo_S1x4x32x8x128x256_S1x4x32x8x128_d5 max ⊥
    (k_main_v35 V0 : FVec Ideal S1x4x32x8x128x256 .f32) 0 r n h a
  obtain ⟨R, hR⟩ := Cert.Fold.max_real Finset.univ
    (fun c : Fin 256 => (k_main_v35 V0 : FVec Ideal S1x4x32x8x128x256 .f32) (ix6 0 r n h a c))
    (fun c _ => by rw [s_at H]; split_ifs <;> simp)
    ⟨⟨a + 128, by omega⟩, Finset.mem_univ _, by
      rw [s_at H, if_pos (by refine ⟨?_, ?_, ?_⟩ <;> simp only [] <;> omega)]; simp⟩
  exact ⟨R, e.trans hR⟩

variable {M : Fin 4 → Fin 32 → Fin 8 → Fin 128 → ℝ}
  (hM : ∀ r n h a, (k_main_v36 V0 : FVec Ideal S1x4x32x8x128 .f32) (ix5 0 r n h a) = (M r n h a : EReal))
include hM

/-- The exponentials, lowered by the greatest score. -/
theorem e_at (r : Fin 4) (n : Fin 32) (h : Fin 8) (a : Fin 128) (c : Fin 256) :
    (k_main_v40 V0 : FVec Ideal S1x4x32x8x128x256 .f32) (ix6 0 r n h a c) = ((I.w r n h a c * Real.exp (-M r n h a) : ℝ) : EReal) := by
  unfold k_main_v40
  pointwise
  simp only [s_at H, hM]
  unfold Inp.w
  split_ifs
  · rw [← EReal.coe_sub, Ideal.exp_coe, ← Real.exp_add, sub_eq_add_neg]
  · rw [EReal.bot_sub, Ideal.exp_bot, zero_mul, EReal.coe_zero]

/-- Their sum over the window. -/
theorem z_at (r : Fin 4) (n : Fin 32) (h : Fin 8) (a : Fin 128) :
    (k_main_v41 V0 : FVec Ideal S1x4x32x8x128 .f32) (ix5 0 r n h a) = ((I.z r n h a * Real.exp (-M r n h a) : ℝ) : EReal) := by
  unfold k_main_v41
  pointwise
  refine (Cert.Fold.sum_a5 reducesTo_S1x4x32x8x128x256_S1x4x32x8x128_d5 _ 0 0 r n h a).trans ?_
  simp only [e_at H hM, ← coe_sum, zero_add, ← Finset.sum_mul]
  rfl

omit H hM in
/-- A token's block. -/
theorem blk_t (t : Fin 16384) (h : (t : ℕ) / 512 < 32) : (⟨(t : ℕ) / 512, h⟩ : Fin 32) = tn t := by
  apply Fin.ext; simp only [tn]; omega

omit H hM in
/-- A token's residue class. -/
theorem res_t (t : Fin 16384) (h : (t : ℕ) % 4 < 4) : (⟨(t : ℕ) % 4, h⟩ : Fin 4) = tr t := rfl

omit H hM in
/-- A token's place in its block. -/
theorem plc_t (t : Fin 16384) (h : (t : ℕ) / 4 % 128 < 128) : (⟨(t : ℕ) / 4 % 128, h⟩ : Fin 128) = ta t := rfl

/-- The own group's output at a token. -/
theorem o_at (t : Fin 16384) (h : Fin 8) (d : Fin 64) :
    (k_main_v48 V0 : FVec Ideal S1x16384x8x64 .f32) (ix4 0 t h d) = ((I.ou 0 t h d : ℝ) : EReal) := by
  unfold k_main_v48
  pointwise
  simp only [e_at H hM, v_at H, z_at H hM, blk_t, res_t, plc_t]
  have hz := mul_pos (I.z_pos (tr t) (tn t) h (ta t)) (Real.exp_pos (-M (tr t) (tn t) h (ta t)))
  simp only [Ideal.div_coe hz.ne', ← EReal.coe_mul, ← coe_sum]
  congr 1
  unfold Inp.ou Inp.o Inp.p
  refine Finset.sum_congr rfl fun x _ => ?_
  have h1 := (I.z_pos (tr t) (tn t) h (ta t)).ne'
  have h2 := (Real.exp_pos (-M (tr t) (tn t) h (ta t))).ne'
  field_simp

/-- The logarithm of the own group's sum at a token. -/
theorem lse_at (t : Fin 16384) (h : Fin 8) :
    (k_main_v52 V0 : FVec Ideal S1x16384x8 .f32) (ix3 0 t h) = ((I.ell 0 t h : ℝ) : EReal) := by
  unfold k_main_v52
  pointwise
  simp only [z_at H hM, hM, blk_t, res_t, plc_t]
  have hz := mul_pos (I.z_pos (tr t) (tn t) h (ta t)) (Real.exp_pos (-M (tr t) (tn t) h (ta t)))
  rw [Ideal.log_coe, if_neg hz.not_ge, ← EReal.coe_add, Real.log_mul (I.z_pos _ _ _ _).ne' (Real.exp_pos _).ne', Real.log_exp]
  congr 1
  unfold Inp.ell
  ring

/-- The greatest of the three groups' logarithms. -/
def top (I : Inp) (t : Fin 16384) (h : Fin 8) : ℝ := max (max (I.ell 0 t h) (I.ell 1 t h)) (I.ell 2 t h)

/-- The greatest of the three logarithms, as computed. -/
theorem top_at (t : Fin 16384) (h : Fin 8) :
    (k_main_v54 V0 : FVec Ideal S1x16384x8 .f32) (ix3 0 t h) = ((top I t h : ℝ) : EReal) := by
  unfold k_main_v54
  rw [H.lb, H.lc]
  pointwise
  rw [lse_at H hM]
  unfold top
  rw [EReal.coe_strictMono.monotone.map_max, EReal.coe_strictMono.monotone.map_max]
  rfl

/-- The own group's exponential. -/
theorem e0_at (t : Fin 16384) (h : Fin 8) :
    (k_main_v56 V0 : FVec Ideal S1x16384x8 .f32) (ix3 0 t h) = ((Real.exp (I.ell 0 t h) * Real.exp (-top I t h) : ℝ) : EReal) := by
  unfold k_main_v56
  pointwise
  rw [lse_at H hM, top_at H hM, ← EReal.coe_sub, Ideal.exp_coe, ← Real.exp_add, sub_eq_add_neg]

/-- The second group's exponential. -/
theorem e1_at (t : Fin 16384) (h : Fin 8) :
    (k_main_v58 V0 : FVec Ideal S1x16384x8 .f32) (ix3 0 t h) = ((Real.exp (I.ell 1 t h) * Real.exp (-top I t h) : ℝ) : EReal) := by
  unfold k_main_v58
  rw [H.lb]
  pointwise
  rw [top_at H hM, ← EReal.coe_sub, Ideal.exp_coe, ← Real.exp_add, sub_eq_add_neg]
  rfl

/-- The third group's exponential. -/
theorem e2_at (t : Fin 16384) (h : Fin 8) :
    (k_main_v60 V0 : FVec Ideal S1x16384x8 .f32) (ix3 0 t h) = ((Real.exp (I.ell 2 t h) * Real.exp (-top I t h) : ℝ) : EReal) := by
  unfold k_main_v60
  rw [H.lc]
  pointwise
  rw [top_at H hM, ← EReal.coe_sub, Ideal.exp_coe, ← Real.exp_add, sub_eq_add_neg]
  rfl

/-- The sum of the three exponentials. -/
theorem dn_at (t : Fin 16384) (h : Fin 8) :
    (k_main_v62 V0 : FVec Ideal S1x16384x8 .f32) (ix3 0 t h) = ((I.dn t h * Real.exp (-top I t h) : ℝ) : EReal) := by
  unfold k_main_v62
  pointwise
  rw [e0_at H hM, e1_at H hM, e2_at H hM, ← EReal.coe_add, ← EReal.coe_add]
  congr 1
  unfold Inp.dn
  rw [Fin.sum_univ_three]
  ring

/-- The logarithm of the three groups' sum. -/
theorem ln_at (t : Fin 16384) (h : Fin 8) :
    (k_main_v64 V0 : FVec Ideal S1x16384x8 .f32) (ix3 0 t h) = ((Real.log (I.dn t h) : ℝ) : EReal) := by
  unfold k_main_v64
  pointwise
  rw [top_at H hM, dn_at H hM]
  have hz := mul_pos (I.dn_pos t h) (Real.exp_pos (-top I t h))
  rw [Ideal.log_coe, if_neg hz.not_ge, ← EReal.coe_add, Real.log_mul (I.dn_pos t h).ne' (Real.exp_pos _).ne', Real.log_exp]
  congr 1
  ring

omit H hM in
/-- The mean of three inner products by three weights, at an index. -/
theorem meang (e0 e1 e2 s : FVec Ideal S1x16384x8 .f32) (ct o0 o1 o2 : FVec Ideal S1x16384x8x64 .f32) (t : Fin 16384) (h : Fin 8) :
    (Host.divf (addf (addf (mulf e0 (Host.dotGeneral dot_S1x16384x8x64_S1x16384x8x64_S1x16384x8_3_3_n_n_012_012 none ct o0)) (mulf e1 (Host.dotGeneral dot_S1x16384x8x64_S1x16384x8x64_S1x16384x8_3_3_n_n_012_012 none ct o1))) (mulf e2 (Host.dotGeneral dot_S1x16384x8x64_S1x16384x8x64_S1x16384x8_3_3_n_n_012_012 none ct o2))) s : FVec Ideal S1x16384x8 .f32) (ix3 0 t h)
      = Ideal.div (e0 (ix3 0 t h) * (∑ d : Fin 64, ct (ix4 0 t h d) * o0 (ix4 0 t h d)) + e1 (ix3 0 t h) * (∑ d : Fin 64, ct (ix4 0 t h d) * o1 (ix4 0 t h d)) + e2 (ix3 0 t h) * (∑ d : Fin 64, ct (ix4 0 t h d) * o2 (ix4 0 t h d))) (s (ix3 0 t h)) := by
  pointwise

/-- The inner product of the cotangent with the merged output. -/
theorem gm_at (t : Fin 16384) (h : Fin 8) :
    (k_main_v73 V0 : FVec Ideal S1x16384x8 .f32) (ix3 0 t h) = ((I.gm t h : ℝ) : EReal) := by
  unfold k_main_v73
  rw [H.ct, H.ob, H.oc]
  refine (meang ..).trans ?_
  have hz := mul_pos (I.dn_pos t h) (Real.exp_pos (-top I t h))
  rw [e0_at H hM, e1_at H hM, e2_at H hM, dn_at H hM]
  simp only [o_at H hM, Ideal.div_coe hz.ne']
  have e1 : ∀ d : Fin 64, ((I.ob t h d : ℝ) : EReal) = ((I.ou 1 t h d : ℝ) : EReal) := fun _ => rfl
  have e2 : ∀ d : Fin 64, ((I.oc t h d : ℝ) : EReal) = ((I.ou 2 t h d : ℝ) : EReal) := fun _ => rfl
  have f1 : ∀ (j : Fin 3), (∑ d : Fin 64, ((I.ct t h d : ℝ) : EReal) * ((I.ou j t h d : ℝ) : EReal)) = ((I.g j t h : ℝ) : EReal) := fun j => by
    simp only [← EReal.coe_mul, ← coe_sum]; rfl
  refine (congrArg₂ (· * ·) (congrArg₂ (· + ·) (congrArg₂ (· + ·) (congrArg₂ (· * ·) rfl (f1 0)) (congrArg₂ (· * ·) rfl (f1 1))) (congrArg₂ (· * ·) rfl (f1 2))) rfl).trans ?_
  simp only [← EReal.coe_mul, ← EReal.coe_add]
  congr 1
  unfold Inp.gm Inp.al
  rw [Fin.sum_univ_three]
  have h1 := (I.dn_pos t h).ne'
  have h2 := (Real.exp_pos (-top I t h)).ne'
  field_simp

omit H hM in
/-- The token of row `i` of the regrouped arrays. -/
def rt (i : Fin 16384) : Fin 16384 := ⟨i % 4096 * 4 + i / 4096, by omega⟩

omit hM in
/-- The regrouped keys, values and queries side by side. -/
theorem arr_at (i : Fin 16384) (j : Fin 1536) :
    (k_main_v85 V0 : FVec Ideal S16384x1536 .bf16) (ix2 i j)
      = if (j : ℕ) < 512 then ((I.k (rt i) ⟨j % 512 / 64, by omega⟩ ⟨j % 64, by omega⟩ : ℝ) : EReal)
        else if (j : ℕ) < 1024 then ((I.v (rt i) ⟨j % 512 / 64, by omega⟩ ⟨j % 64, by omega⟩ : ℝ) : EReal)
        else ((I.q (rt i) ⟨j % 512 / 64, by omega⟩ ⟨j % 64, by omega⟩ : ℝ) : EReal) := by
  unfold k_main_v85
  rw [H.k, H.v, H.q]
  pointwise
  by_cases h1 : (j : ℕ) < 512
  · have e1 : (j : ℕ) % 512 = j := by omega
    simp only [h1, ↓reduceDIte, ↓reduceIte, e1]
    rfl
  · by_cases h2 : (j : ℕ) < 1024
    · have e1 : (j : ℕ) % 512 = j - 512 := by omega
      have e2 : ((j : ℕ) - 512) % 64 = j % 64 := by omega
      have e3 : (j : ℕ) - 512 < 512 := by omega
      simp only [h1, h2, e3, ↓reduceDIte, ↓reduceIte, e1, e2]
      rfl
    · have e1 : (j : ℕ) % 512 = j - 512 - 512 := by omega
      have e2 : ((j : ℕ) - 512 - 512) % 64 = j % 64 := by omega
      have e3 : ¬ (j : ℕ) - 512 < 512 := by omega
      simp only [h1, h2, e3, ↓reduceDIte, ↓reduceIte, e1, e2]
      rfl

omit hM in
/-- The bias by key and query: the own block's keys, then the ones before. -/
theorem biast_at (h : Fin 8) (b : Fin 128) (x : Fin 256) :
    (k_main_v89 V0 : FVec Ideal S8x128x256 .f32) (ix3 h b x)
      = if hx : (x : ℕ) < 128 then (if (b : ℕ) ≤ x then ((I.bias h ⟨x, hx⟩ ⟨b + 128, by omega⟩ : ℝ) : EReal) else ⊥)
        else (if (x : ℕ) - 128 ≤ b then ((I.bias h ⟨x - 128, by omega⟩ ⟨b, by omega⟩ : ℝ) : EReal) else ⊥) := by
  unfold k_main_v89
  pointwise
  by_cases hx : (x : ℕ) < 128
  · rw [dif_pos hx, dif_pos hx, bias_at H]
    simp only [Nat.add_comm 128 (b : ℕ)]
    exact if_congr (by (try dsimp only); omega) rfl rfl
  · rw [dif_neg hx, dif_neg hx, bias_at H]
    exact if_congr (by (try dsimp only); omega) rfl rfl

omit hM in
/-- The regrouped cotangent. -/
theorem do_at (i : Fin 16384) (j : Fin 512) :
    (k_main_v93 V0 : FVec Ideal S16384x512 .bf16) (ix2 i j) = ((I.ct (rt i) ⟨j / 64, by omega⟩ ⟨j % 64, by omega⟩ : ℝ) : EReal) := by
  unfold k_main_v93
  rw [H.ct]
  pointwise
  rfl

/-- The regrouped statistics: the logarithm of the sum by head, then the inner product by head. -/
theorem stat_at (i : Fin 16384) (j : Fin 128) (hj : (j : ℕ) < 16) :
    (k_main_v96 V0 : FVec Ideal S16384x128 .f32) (ix2 i j)
      = if (j : ℕ) < 8 then ((Real.log (I.dn (rt i) ⟨j % 8, by omega⟩) : ℝ) : EReal) else ((I.gm (rt i) ⟨j % 8, by omega⟩ : ℝ) : EReal) := by
  unfold k_main_v96 k_main_v77
  pointwise
  by_cases h1 : (j : ℕ) < 8
  · have e1 : (j : ℕ) % 8 = j := by omega
    simp only [h1, ↓reduceDIte, ↓reduceIte, e1]
    exact ln_at H hM ..
  · have e1 : (j : ℕ) % 8 = j - 8 := by omega
    have e3 : (j : ℕ) - 8 < 8 := by omega
    simp only [h1, e3, ↓reduceDIte, ↓reduceIte, e1]
    exact gm_at H hM ..

end Cert.KernelIdeal.Value
-- ==== Proof.KerVec.lean ====
module

public import proofs.«01_k».proof.Proof.Gen.KernelIdeal.Frame
public import proofs.«01_k».proof.Proof.RefBwd

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.ReferenceIdeal.Value (eighth neg_inf zero_bits sel)

/-- The scaled keys. -/
def tK (kp : Vec Ideal S128x128 .bf16) : FVec Ideal S128x128 .bf16 :=
  mulf (shapeCast S128x128 kp shapeCasts_S128x128_S128x128) (broadcast S128x128 (Scalar.ofBits (F := Ideal) .bf16 0x3E00#16))

/-- The values. -/
def tV (vp : Vec Ideal S128x128 .bf16) : FVec Ideal S128x128 .bf16 := shapeCast S128x128 vp shapeCasts_S128x128_S128x128

/-- The bit telling the first head's lanes. -/
def tLow : IVec S128x128 1 := k0_pay15

/-- The bit telling the second head's lanes. -/
def tHigh : IVec S128x128 1 := xori k0_pay15 (constantI S128x128 1 1#1)

/-- A head's lanes, the others zero. -/
def tHalf (m : IVec S128x128 1) (x : FVec Ideal S128x128 .bf16) : FVec Ideal S128x128 .bf16 := select m x (k0_pay16 (F := Ideal))

/-- Products of key rows and query rows. -/
def tDot (x : FVec Ideal S128x128 .bf16) (y : FVec Ideal S256x128 .bf16) : FVec Ideal S128x256 .f32 :=
  matmul dot_S128x128_S256x128_S128x256_1_1_0_0_n_n none x y (constant S128x256 .f32 0x00000000#32)

/-- The scores. -/
def tS (m : IVec S128x128 1) (kp : Vec Ideal S128x128 .bf16) (qp : Vec Ideal S256x128 .bf16) (b : Vec Ideal S1x128x256 .f32) :
    FVec Ideal S128x256 .f32 :=
  addf (tDot (tHalf m (tK kp)) qp) (shapeCast S128x256 b shapeCasts_S1x128x256_S128x256)

/-- The scores, the rows past the end masked. -/
def tM (i : BitVec 32) (s : FVec Ideal S128x256 .f32) : FVec Ideal S128x256 .f32 :=
  select (k0_pay14 i) s (broadcast S128x256 (Named.named (F := Ideal) κ "mask" (0xF149F2CA#32 : BitVec (FTy.f32).bits)))

/-- The weights. -/
def tP (s : FVec Ideal S128x256 .f32) (l : Vec Ideal S1x256 .f32) : FVec Ideal S128x256 .f32 :=
  exp (subf s (broadcastTo S128x256 l broadcasts_S1x256_S128x256))

/-- The gradient with respect to the scores. -/
def tD (m : IVec S128x128 1) (vp : Vec Ideal S128x128 .bf16) (dd : Vec Ideal S256x128 .bf16) (p : FVec Ideal S128x256 .f32) (d : Vec Ideal S1x256 .f32) :
    FVec Ideal S128x256 .f32 :=
  mulf p (subf (tDot (tHalf m (tV vp)) dd) (broadcastTo S128x256 d broadcasts_S1x256_S128x256))

/-- A product over the queries. -/
def tQ (p : FVec Ideal S128x256 .f32) (y : FVec Ideal S256x128 .bf16) : FVec Ideal S128x128 .f32 :=
  matmul dot_S128x256_S256x128_S128x128_1_0_0_1_n_n none (truncf .bf16 p bitsLt_bf16_f32) y (constant S128x128 .f32 0x00000000#32)

/-- A product over the keys, the first head. -/
def tR0 (kp : Vec Ideal S128x128 .bf16) (d : FVec Ideal S128x256 .f32) : FVec Ideal S64x256 .f32 :=
  matmul dot_S64x128_S128x256_S64x256_1_0_0_1_n_n none
    (extractStridedSlice S64x128 ![0, 0] (transpose S128x128 [1, 0] (tK kp) transposes_S128x128_p1_0_S128x128) slices_S128x128_o0_0_S64x128)
    (truncf .bf16 d bitsLt_bf16_f32) (constant S64x256 .f32 0x00000000#32)

/-- A product over the keys, the second head. -/
def tR1 (kp : Vec Ideal S128x128 .bf16) (d : FVec Ideal S128x256 .f32) : FVec Ideal S64x256 .f32 :=
  matmul dot_S64x128_S128x256_S64x256_1_0_0_1_n_n none
    (extractStridedSlice S64x128 ![64, 0] (transpose S128x128 [1, 0] (tK kp) transposes_S128x128_p1_0_S128x128) slices_S128x128_o64_0_S64x128)
    (truncf .bf16 d bitsLt_bf16_f32) (constant S64x256 .f32 0x00000000#32)

/-- The gradient with respect to the keys. -/
def tOk (a b : FVec Ideal S128x128 .f32) : FVec Ideal S128x128 .bf16 :=
  truncf .bf16 (mulf (select tLow a b) (broadcast S128x128 (Scalar.ofBits (F := Ideal) .f32 0x3E000000#32))) bitsLt_bf16_f32

/-- The gradient with respect to the values. -/
def tOv (a b : FVec Ideal S128x128 .f32) : FVec Ideal S128x128 .bf16 := truncf .bf16 (select tLow a b) bitsLt_bf16_f32

/-- The gradient with respect to the queries, own block and next. -/
def tOq (a b : FVec Ideal S64x256 .f32) : FVec Ideal S256x128 .f32 :=
  transpose S256x128 [1, 0] (concatenate S128x256 0 [⟨S64x256, a⟩, ⟨S64x256, b⟩] concatenates_S64x256_S64x256_S128x256_d0) transposes_S128x256_p1_0_S256x128

/-- The own block's part. -/
def tOwn (q : FVec Ideal S256x128 .f32) (t : FVec Ideal S128x128 .f32) : FVec Ideal S128x128 .bf16 :=
  truncf .bf16 (addf (extractStridedSlice S128x128 ![0, 0] q slices_S256x128_o0_0_S128x128) t) bitsLt_bf16_f32

/-- The next block's part. -/
def tNext (q : FVec Ideal S256x128 .f32) : FVec Ideal S128x128 .f32 :=
  extractStridedSlice S128x128 ![128, 0] q slices_S256x128_o128_0_S128x128

/-- The word of one eighth. -/
theorem eighth_bf : Ideal.ofBits .bf16 0x3E00#16 = (((1 / 8 : ℝ)) : EReal) := by
  simp [Ideal.ofBits, Ideal.ieee]
  rw [← EReal.coe_mul]
  norm_num

/-- The word of zero. -/
theorem zero_bf : Ideal.ofBits .bf16 0x0000#16 = 0 := by
  simp [Ideal.ofBits, Ideal.ieee]

/-- A signed comparison of small numbers' words. -/
theorem slt_word (a b : ℕ) (ha : a < 256) (hb : b < 256) :
    IntOp.cmpi .slt (BitVec.ofNat 32 a) (BitVec.ofNat 32 b) = BitVec.ofBool (decide (a < b)) := by
  have e : IntOp.cmpi .slt (BitVec.ofNat 32 a) (BitVec.ofNat 32 b)
      = BitVec.ofBool (decide ((BitVec.ofNat 32 a).toInt < (BitVec.ofNat 32 b).toInt)) := rfl
  have h1 : (BitVec.ofNat 32 a).toInt = a := by rw [BitVec.toInt_eq_toNat_cond]; split_ifs <;> bv_omega
  have h2 : (BitVec.ofNat 32 b).toInt = b := by rw [BitVec.toInt_eq_toNat_cond]; split_ifs <;> bv_omega
  rw [e, h1, h2]
  simp only [Nat.cast_lt]

/-- A selection by a bit. -/
theorem sel_bit {α : Type} (c : BitVec 1) (x y : α) : Scalar.select c x y = if c = 1#1 then x else y := rfl

/-- A bit of a proposition is one when it holds. -/
theorem bit_one (p : Prop) [Decidable p] : (BitVec.ofBool (decide p) = 1#1) = p := by
  by_cases h : p <;> simp [h]

/-- A choice by such a bit. -/
theorem if_bit {α : Type} (p : Prop) [Decidable p] (x y : α) : (if BitVec.ofBool (decide p) = 1#1 then x else y) = if p then x else y := by
  by_cases h : p <;> simp [h]

theorem low_at (κ x : Fin 128) : tLow (ix2 κ x) = BitVec.ofBool (decide ((x : ℕ) < 64)) := by
  unfold tLow
  pointwise [k0_pay15]
  exact slt_word _ 64 (by omega) (by omega)
theorem high_at (κ x : Fin 128) : tHigh (ix2 κ x) = BitVec.ofBool (decide (¬ (x : ℕ) < 64)) := by
  unfold tHigh
  pointwise [k0_pay15]
  rw [slt_word _ 64 (by omega) (by omega)]
  by_cases h : (x : ℕ) < 64 <;> simp [h, IntOp.xori]
theorem last_at (i : Fin 8) (κ : Fin 128) (q : Fin 256) : k0_pay14 (BitVec.ofNat 32 (i : ℕ)) (ix2 κ q) = BitVec.ofBool (decide ((q : ℕ) < 128 ∨ (i : ℕ) < 7)) := by
  pointwise [k0_pay14]
  have e : Scalar.cmpi .slt (BitVec.ofNat 32 (i : ℕ)) 7#32 = BitVec.ofBool (decide ((i : ℕ) < 7)) := slt_word _ 7 (by omega) (by omega)
  rw [slt_word _ 128 (by omega) (by omega), e]
  by_cases h : (q : ℕ) < 128 <;> by_cases h' : (i : ℕ) < 7 <;> simp [h, h', IntOp.ori]
theorem K_at (kp : Vec Ideal S128x128 .bf16) (κ x : Fin 128) : tK kp (ix2 κ x) = kp (ix2 κ x) * ((1 / 8 : ℝ) : EReal) := by
  unfold tK; pointwise; rw [eighth_bf]
theorem V_at (kp : Vec Ideal S128x128 .bf16) (κ x : Fin 128) : tV kp (ix2 κ x) = kp (ix2 κ x) := by
  unfold tV; pointwise
theorem half_at (m : IVec S128x128 1) (y) (κ x : Fin 128) : tHalf m y (ix2 κ x) = if m (ix2 κ x) = 1#1 then y (ix2 κ x) else 0 := by
  unfold tHalf; pointwise [k0_pay16]; rfl
theorem dot_at (x y) (κ : Fin 128) (q : Fin 256) : tDot x y (ix2 κ q) = ∑ l : Fin 128, x (ix2 κ l) * y (ix2 q l) := by
  unfold tDot; pointwise
theorem S_at (m kp qp b) (κ : Fin 128) (q : Fin 256) : tS m kp qp b (ix2 κ q) = tDot (tHalf m (tK kp)) qp (ix2 κ q) + b (ix3 0 κ q) := by
  unfold tS; pointwise
theorem M_at (i : BitVec 32) (s) (κ : Fin 128) (q : Fin 256) : tM i s (ix2 κ q) = if k0_pay14 i (ix2 κ q) = 1#1 then s (ix2 κ q) else ⊥ := by
  unfold tM; pointwise; rfl
theorem P_at (s l) (κ : Fin 128) (q : Fin 256) : tP s l (ix2 κ q) = Ideal.exp (s (ix2 κ q) - l (ix2 0 q)) := by
  unfold tP; pointwise
theorem D_at (m vp dd p d) (κ : Fin 128) (q : Fin 256) :
    tD m vp dd p d (ix2 κ q) = p (ix2 κ q) * (tDot (tHalf m (tV vp)) dd (ix2 κ q) - d (ix2 0 q)) := by
  unfold tD; pointwise
theorem Q_at (p y) (κ x : Fin 128) : tQ p y (ix2 κ x) = ∑ q : Fin 256, p (ix2 κ q) * y (ix2 q x) := by
  unfold tQ; pointwise
theorem R0_at (kp d) (x : Fin 64) (q : Fin 256) : tR0 kp d (ix2 x q) = ∑ κ : Fin 128, tK kp (ix2 κ ⟨x, by omega⟩) * d (ix2 κ q) := by
  unfold tR0; pointwise
theorem R1_at (kp d) (x : Fin 64) (q : Fin 256) : tR1 kp d (ix2 x q) = ∑ κ : Fin 128, tK kp (ix2 κ ⟨64 + x, by omega⟩) * d (ix2 κ q) := by
  unfold tR1; pointwise
theorem Ok_at (a b) (κ x : Fin 128) : tOk a b (ix2 κ x) = (if tLow (ix2 κ x) = 1#1 then a (ix2 κ x) else b (ix2 κ x)) * ((1 / 8 : ℝ) : EReal) := by
  unfold tOk; pointwise; rw [eighth]; rfl
theorem Ov_at (a b) (κ x : Fin 128) : tOv a b (ix2 κ x) = if tLow (ix2 κ x) = 1#1 then a (ix2 κ x) else b (ix2 κ x) := by
  unfold tOv; pointwise; rfl
theorem Oq_at (a b) (q : Fin 256) (x : Fin 128) :
    tOq a b (ix2 q x) = if h : (x : ℕ) < 64 then a (ix2 ⟨x, h⟩ q) else b (ix2 ⟨x - 64, by omega⟩ q) := by
  unfold tOq; pointwise
theorem Own_at (y t) (a x : Fin 128) : tOwn y t (ix2 a x) = y (ix2 ⟨a, by omega⟩ x) + t (ix2 a x) := by
  unfold tOwn; pointwise
theorem Next_at (y) (a x : Fin 128) : tNext y (ix2 a x) = y (ix2 ⟨128 + a, by omega⟩ x) := by
  unfold tNext; pointwise

end Cert.KernelIdeal.Value
end
-- ==== Proof.KerTile.lean ====
module

public import proofs.«01_k».proof.Proof.KerVec

@[expose] public section

set_option maxRecDepth 16384

noncomputable section

namespace Cert.Attn

/-- The block after block `n`, the last one's being itself. -/
def nx (n : Fin 32) : Fin 32 := ⟨min (n + 1) 31, by omega⟩

/-- The block of query row `q`: the keys' own, or the next. -/
def nq (n : Fin 32) (q : Fin 256) : Fin 32 := if (q : ℕ) < 128 then n else nx n

/-- The place of query row `q` in its block. -/
def aq (q : Fin 256) : Fin 128 := ⟨q % 128, by omega⟩

/-- The place of key `b` in the window of query row `q`. -/
def cq (b : Fin 128) (q : Fin 256) : Fin 256 := if (q : ℕ) < 128 then ⟨b + 128, by omega⟩ else ⟨b, by omega⟩

/-- Query row `q` is a row of the sequence. -/
def Live (n : Fin 32) (q : Fin 256) : Prop := (q : ℕ) < 128 ∨ (n : ℕ) + 1 < 32

instance (n : Fin 32) (q : Fin 256) : Decidable (Live n q) := by unfold Live; infer_instance

/-- Key `b` is one that query row `q` sees. -/
def Ok (b : Fin 128) (q : Fin 256) : Prop := if (q : ℕ) < 128 then (b : ℕ) ≤ q else (q : ℕ) - 128 ≤ b

instance (b : Fin 128) (q : Fin 256) : Decidable (Ok b q) := by unfold Ok; infer_instance

/-- Head `t` of head pair `p`. -/
def hd (p : Fin 4) (x : Fin 128) : Fin 8 := ⟨2 * p + x / 64, by omega⟩

/-- The lane within its head. -/
def dm (x : Fin 128) : Fin 64 := ⟨x % 64, by omega⟩

theorem sees_iff (n : Fin 32) (b : Fin 128) (q : Fin 256) (hl : Live n q) : Sees (nq n q) (aq q) (cq b q) ↔ Ok b q := by
  unfold Sees nq aq cq Ok Live nx at *
  by_cases h : (q : ℕ) < 128
  · simp only [h, if_true]
    constructor
    · rintro ⟨h1, h2, h3⟩; omega
    · intro h1; refine ⟨?_, ?_, ?_⟩ <;> omega
  · simp only [h, if_false, false_or] at hl ⊢
    constructor
    · rintro ⟨h1, h2, h3⟩; omega
    · intro h1; refine ⟨?_, ?_, ?_⟩ <;> omega

theorem win_eq (x : Fin 16384 → Fin 8 → Fin 64 → ℝ) (r : Fin 4) (n : Fin 32) (b : Fin 128) (q : Fin 256) (h : Fin 8) (d : Fin 64)
    (hl : Live n q) : win x r (nq n q) (cq b q) h d = x (tok r n b) h d := by
  unfold win nq cq Live at *
  by_cases hq : (q : ℕ) < 128
  · simp only [hq, if_true]
    rw [dif_neg (by omega)]
    simp only [Nat.add_sub_cancel]
  · simp only [hq, if_false, false_or] at *
    have e : prv (nx n) = n := by unfold prv nx; ext; simp only []; omega
    rw [dif_pos (by omega), if_neg (by unfold nx; simp only []; omega), e]

namespace Inp
variable (I : Inp)

/-- The weights by key and query row. -/
def Pk (r : Fin 4) (n : Fin 32) (h : Fin 8) (b : Fin 128) (q : Fin 256) : ℝ :=
  if Live n q then I.P r (nq n q) h (aq q) (cq b q) else 0

/-- The gradient with respect to the scores, by key and query row. -/
def Dk (r : Fin 4) (n : Fin 32) (h : Fin 8) (b : Fin 128) (q : Fin 256) : ℝ :=
  if Live n q then I.ds r (nq n q) h (aq q) (cq b q) else 0

/-- The score of key `b` and query row `q`, the key scaled first. -/
def sk (r : Fin 4) (n : Fin 32) (h : Fin 8) (b : Fin 128) (q : Fin 256) : ℝ :=
  (∑ d, I.k (tok r n b) h d * (1 / 8) * I.q (tok r (nq n q) (aq q)) h d) + I.bias h (aq q) (cq b q)

theorem sk_eq (r n h b q) (hl : Live n q) : I.sk r n h b q = I.s r (nq n q) h (aq q) (cq b q) := by
  unfold sk s
  rw [Finset.sum_mul]
  congr 1
  refine Finset.sum_congr rfl fun d _ => ?_
  rw [win_eq _ _ _ _ _ _ _ hl]; ring

theorem Pk_eq (r n h b q) (hl : Live n q) :
    I.Pk r n h b q = if Ok b q then Real.exp (I.sk r n h b q - Real.log (I.den r (nq n q) h (aq q))) else 0 := by
  unfold Pk P w
  rw [if_pos hl, if_congr (sees_iff n b q hl) rfl rfl, sk_eq _ _ _ _ _ _ hl]
  by_cases h' : Ok b q
  · rw [if_pos h', if_pos h', Real.exp_sub, Real.exp_log (I.den_pos ..)]
  · rw [if_neg h', if_neg h', zero_div]

theorem Dk_eq (r n h b q) : I.Dk r n h b q
    = I.Pk r n h b q * ((∑ d, I.v (tok r n b) h d * I.ct (tok r (nq n q) (aq q)) h d) - I.dl r (nq n q) h (aq q)) := by
  unfold Dk Pk ds
  by_cases hl : Live n q
  · simp only [hl, if_true]
    congr 2
    refine Finset.sum_congr rfl fun d _ => ?_
    rw [win_eq _ _ _ _ _ _ _ hl]; ring
  · simp only [hl, if_false, zero_mul]

/-- A sum over the query rows: the own block's, then the next's. -/
theorem sum_rows {M : Type*} [AddCommMonoid M] (f : Fin 256 → M) : ∑ q, f q = (∑ a : Fin 128, f ⟨a, by omega⟩) + ∑ a : Fin 128, f ⟨a + 128, by omega⟩ := by
  refine (Fin.sum_univ_add (a := 128) (b := 128) f).trans ?_
  congr 1

theorem nq_own (n : Fin 32) (a : Fin 128) : nq n ⟨a, by omega⟩ = n := by unfold nq; rw [if_pos (by simp only []; omega)]
theorem nq_next (n : Fin 32) (a : Fin 128) : nq n ⟨a + 128, by omega⟩ = nx n := by unfold nq; rw [if_neg (by simp only []; omega)]
theorem aq_own (a : Fin 128) : aq ⟨a, by omega⟩ = a := by unfold aq; ext; simp only []; omega
theorem aq_next (a : Fin 128) : aq ⟨a + 128, by omega⟩ = a := by unfold aq; ext; simp only []; omega
theorem cq_own (b a : Fin 128) : cq b ⟨a, by omega⟩ = ⟨b + 128, by omega⟩ := by unfold cq; rw [if_pos (by simp only []; omega)]
theorem cq_next (b a : Fin 128) : cq b ⟨a + 128, by omega⟩ = ⟨b, by omega⟩ := by unfold cq; rw [if_neg (by simp only []; omega)]
theorem live_own (n : Fin 32) (a : Fin 128) : Live n ⟨a, by omega⟩ := Or.inl (by simp only []; omega)
theorem live_next (n : Fin 32) (a : Fin 128) : Live n ⟨a + 128, by omega⟩ = ((n : ℕ) + 1 < 32) := by
  unfold Live; simp only [eq_iff_iff]; omega
theorem nx_nxt (n : Fin 32) (h : (n : ℕ) + 1 < 32) : nx n = nxt n := by unfold nx nxt; ext; simp only []; omega

theorem Pk_own (r n h b) (a : Fin 128) : I.Pk r n h b ⟨a, by omega⟩ = I.P r n h a ⟨b + 128, by omega⟩ := by
  unfold Pk; rw [if_pos (live_own ..), nq_own, aq_own, cq_own]
theorem Dk_own (r n h b) (a : Fin 128) : I.Dk r n h b ⟨a, by omega⟩ = I.ds r n h a ⟨b + 128, by omega⟩ := by
  unfold Dk; rw [if_pos (live_own ..), nq_own, aq_own, cq_own]
theorem Pk_next (r n h b) (a : Fin 128) : I.Pk r n h b ⟨a + 128, by omega⟩ = if (n : ℕ) + 1 < 32 then I.P r (nx n) h a ⟨b, by omega⟩ else 0 := by
  unfold Pk; rw [nq_next, aq_next, cq_next]; exact if_congr (iff_of_eq (live_next ..)) rfl rfl
theorem Dk_next (r n h b) (a : Fin 128) : I.Dk r n h b ⟨a + 128, by omega⟩ = if (n : ℕ) + 1 < 32 then I.ds r (nx n) h a ⟨b, by omega⟩ else 0 := by
  unfold Dk; rw [nq_next, aq_next, cq_next]; exact if_congr (iff_of_eq (live_next ..)) rfl rfl

theorem dk_rows (r n h b d) : (∑ q, I.Dk r n h b q * I.q (tok r (nq n q) (aq q)) h d) * (1 / 8) = I.dk r n h b d := by
  unfold dk
  rw [sum_rows]
  simp only [Dk_own, Dk_next, nq_own, nq_next, aq_own, aq_next]
  by_cases hn : (n : ℕ) + 1 < 32
  · simp only [hn, if_true, nx_nxt n hn]
  · simp only [hn, if_false, zero_mul, Finset.sum_const_zero]

theorem dv_rows (r n h b d) : (∑ q, I.Pk r n h b q * I.ct (tok r (nq n q) (aq q)) h d) = I.dv r n h b d := by
  unfold dv
  rw [sum_rows]
  simp only [Pk_own, Pk_next, nq_own, nq_next, aq_own, aq_next]
  by_cases hn : (n : ℕ) + 1 < 32
  · simp only [hn, if_true, nx_nxt n hn]
  · simp only [hn, if_false, zero_mul, Finset.sum_const_zero]

/-- The part of a query row's gradient that the block before it leaves. -/
def tl (r : Fin 4) (n : Fin 32) (h : Fin 8) (a : Fin 128) (d : Fin 64) : ℝ :=
  if (n : ℕ) = 0 then 0 else ∑ b : Fin 128, I.k (tok r (prv n) b) h d * (1 / 8) * I.ds r n h a ⟨b, by omega⟩

/-- What block `n` leaves for the next. -/
def tlo (r : Fin 4) (n : Fin 32) (h : Fin 8) (a : Fin 128) (d : Fin 64) : ℝ :=
  ∑ b : Fin 128, I.k (tok r n b) h d * (1 / 8) * I.Dk r n h b ⟨a + 128, by omega⟩

theorem tlo_eq (r) (n : Fin 32) (h a d) (hn : (n : ℕ) + 1 < 32) : I.tlo r n h a d = I.tl r (nx n) h a d := by
  unfold tlo tl
  have e : prv (nx n) = n := by unfold prv nx; ext; simp only []; omega
  rw [if_neg (by unfold nx; simp only []; omega), e]
  simp only [Dk_next, hn, if_true]

theorem tlo_last (r) (n : Fin 32) (h a d) (hn : ¬ (n : ℕ) + 1 < 32) : I.tlo r n h a d = 0 := by
  unfold tlo
  simp only [Dk_next, hn, if_false, mul_zero, Finset.sum_const_zero]

theorem dq_rows (r n h) (a : Fin 128) (d) :
    (∑ b : Fin 128, I.k (tok r n b) h d * (1 / 8) * I.Dk r n h b ⟨a, by omega⟩) + I.tl r n h a d = I.dq r n h a d := by
  unfold dq tl
  rw [sum_rows]
  simp only [Dk_own, win]
  rw [add_mul, Finset.sum_mul, Finset.sum_mul, add_comm]
  congr 1
  · by_cases hn : (n : ℕ) = 0
    · simp only [hn, if_true, Fin.is_lt, dif_pos, mul_zero, zero_mul, Finset.sum_const_zero]
    · simp only [hn, if_false, Fin.is_lt, dif_pos]
      refine Finset.sum_congr rfl fun b _ => by ring
  · refine Finset.sum_congr rfl fun b _ => ?_
    rw [dif_neg (show ¬ ((b : ℕ) + 128 < 128) by omega)]
    have e : (⟨(b : ℕ) + 128 - 128, by omega⟩ : Fin 128) = b := by ext; simp
    simp only [e]
    ring

end Inp
end Cert.Attn

namespace Cert.KernelIdeal.Value

open Cert.KernelIdeal Cert.KernelIdeal.Gen Idealize.ShloMosaic Idealize.ShloMosaic.TcCoe Idealize.ShloMosaic.Tactic
open Cert.Attn

variable {I : Inp} {r : Fin 4} {n : Fin 32} {p : Fin 4}

/-- What a tile's loads of the four arrays hold. -/
structure Tile (I : Inp) (r : Fin 4) (n : Fin 32) (p : Fin 4) (kp vp : Vec Ideal S128x128 .bf16) (qp dd : Vec Ideal S256x128 .bf16) : Prop where
  k : ∀ b x, kp (ix2 b x) = ((I.k (tok r n b) (hd p x) (dm x) : ℝ) : EReal)
  v : ∀ b x, vp (ix2 b x) = ((I.v (tok r n b) (hd p x) (dm x) : ℝ) : EReal)
  q : ∀ q x, qp (ix2 q x) = ((I.q (tok r (nq n q) (aq q)) (hd p x) (dm x) : ℝ) : EReal)
  d : ∀ q x, dd (ix2 q x) = ((I.ct (tok r (nq n q) (aq q)) (hd p x) (dm x) : ℝ) : EReal)

/-- What a head's loads of the bias and the two rows of statistics hold. -/
structure Head (I : Inp) (r : Fin 4) (n : Fin 32) (h : Fin 8) (bb : Vec Ideal S1x128x256 .f32) (ll dd : Vec Ideal S1x256 .f32) : Prop where
  b : ∀ b q, bb (ix3 0 b q) = if Ok b q then ((I.bias h (aq q) (cq b q) : ℝ) : EReal) else ⊥
  l : ∀ q, ll (ix2 0 q) = ((Real.log (I.den r (nq n q) h (aq q)) : ℝ) : EReal)
  d : ∀ q, dd (ix2 0 q) = ((I.dl r (nq n q) h (aq q) : ℝ) : EReal)

/-- The bits of head `t`'s lanes. -/
def Lanes (m : IVec S128x128 1) (t : Fin 2) : Prop := ∀ b x : Fin 128, (m (ix2 b x) = 1#1) = ((x : ℕ) / 64 = t)

theorem lanes_low : Lanes tLow 0 := fun b x => by
  rw [low_at, bit_one]; simp only [eq_iff_iff, Fin.val_zero]; omega
theorem lanes_high : Lanes tHigh 1 := fun b x => by
  rw [high_at, bit_one]; simp only [eq_iff_iff, Fin.val_one]; omega

/-- Head `t` of pair `p`. -/
def ht (p : Fin 4) (t : Fin 2) : Fin 8 := ⟨2 * p + t, by omega⟩

/-- A sum over a head's lanes. -/
theorem sum_half {M : Type*} [AddCommMonoid M] (t : Fin 2) (f : Fin 128 → M) :
    ∑ x : Fin 128, (if (x : ℕ) / 64 = t then f x else 0) = ∑ d : Fin 64, f ⟨64 * t + d, by omega⟩ := by
  rw [← Finset.sum_filter]
  refine (Finset.sum_bij (fun (d : Fin 64) _ => (⟨64 * t + d, by omega⟩ : Fin 128)) ?_ ?_ ?_ ?_).symm
  · intro d _
    simp only [Finset.mem_filter, Finset.mem_univ, true_and]
    omega
  · intro a _ b _ h
    have := congrArg Fin.val h
    ext
    simp only at this
    omega
  · intro x hx
    simp only [Finset.mem_filter, Finset.mem_univ, true_and] at hx
    exact ⟨⟨x % 64, by omega⟩, Finset.mem_univ _, by ext; simp only []; omega⟩
  · intro d _; rfl

theorem hd_half (t : Fin 2) (d : Fin 64) : hd p ⟨64 * t + d, by omega⟩ = ht p t := by unfold hd ht; ext; simp only []; omega
theorem dm_half (t : Fin 2) (d : Fin 64) : dm ⟨64 * t + d, by omega⟩ = d := by unfold dm; ext; simp only []; omega

section
variable {kp vp : Vec Ideal S128x128 .bf16} {qp dd : Vec Ideal S256x128 .bf16} (T : Tile I r n p kp vp qp dd)
include T

theorem kq_val {m : IVec S128x128 1} {t : Fin 2} (hm : Lanes m t) (b q) :
    tDot (tHalf m (tK kp)) qp (ix2 b q) = ((∑ d, I.k (tok r n b) (ht p t) d * (1 / 8) * I.q (tok r (nq n q) (aq q)) (ht p t) d : ℝ) : EReal) := by
  rw [dot_at, coe_sum]
  simp only [half_at, hm b, K_at, T.k, T.q, ite_mul, zero_mul]
  rw [sum_half]
  simp only [hd_half, dm_half, ← EReal.coe_mul]

theorem vd_val {m : IVec S128x128 1} {t : Fin 2} (hm : Lanes m t) (b q) :
    tDot (tHalf m (tV vp)) dd (ix2 b q) = ((∑ d, I.v (tok r n b) (ht p t) d * I.ct (tok r (nq n q) (aq q)) (ht p t) d : ℝ) : EReal) := by
  rw [dot_at, coe_sum]
  simp only [half_at, hm b, V_at, T.v, T.d, ite_mul, zero_mul]
  rw [sum_half]
  simp only [hd_half, dm_half, ← EReal.coe_mul]

theorem s_val {m : IVec S128x128 1} {t : Fin 2} (hm : Lanes m t) {bb ll el} (B : Head I r n (ht p t) bb ll el) (b q) :
    tS m kp qp bb (ix2 b q) = if Ok b q then ((I.sk r n (ht p t) b q : ℝ) : EReal) else ⊥ := by
  rw [S_at, kq_val T hm, B.b]
  by_cases h : Ok b q
  · rw [if_pos h, if_pos h, ← EReal.coe_add]; rfl
  · rw [if_neg h, if_neg h, EReal.add_bot]

/-- The weights of a tile whose query rows are all of the sequence. -/
theorem p_val {m : IVec S128x128 1} {t : Fin 2} (hm : Lanes m t) {bb ll el} (B : Head I r n (ht p t) bb ll el) (hn : (n : ℕ) + 1 < 32) (b q) :
    tP (tS m kp qp bb) ll (ix2 b q) = ((I.Pk r n (ht p t) b q : ℝ) : EReal) := by
  rw [P_at, s_val T hm B, B.l, I.Pk_eq _ _ _ _ _ (Or.inr hn)]
  by_cases h : Ok b q
  · rw [if_pos h, if_pos h, ← EReal.coe_sub, Ideal.exp_coe]
  · rw [if_neg h, if_neg h, EReal.bot_sub, Ideal.exp_bot]; rfl

/-- The weights of a tile at a chunk's end. -/
theorem pm_val {m : IVec S128x128 1} {t : Fin 2} (hm : Lanes m t) {bb ll el} (B : Head I r n (ht p t) bb ll el) (i : Fin 8) (hn : (n : ℕ) = 4 * i + 3) (b q) :
    tP (tM (BitVec.ofNat 32 (i : ℕ)) (tS m kp qp bb)) ll (ix2 b q) = ((I.Pk r n (ht p t) b q : ℝ) : EReal) := by
  rw [P_at, M_at, last_at, if_bit, s_val T hm B, B.l]
  have e : ((q : ℕ) < 128 ∨ (i : ℕ) < 7) = Live n q := by unfold Live; simp only [eq_iff_iff]; omega
  simp only [e]
  by_cases hl : Live n q
  · rw [if_pos hl, I.Pk_eq _ _ _ _ _ hl]
    by_cases h : Ok b q
    · rw [if_pos h, if_pos h, ← EReal.coe_sub, Ideal.exp_coe]
    · rw [if_neg h, if_neg h, EReal.bot_sub, Ideal.exp_bot]; rfl
  · rw [if_neg hl, EReal.bot_sub, Ideal.exp_bot]
    unfold Inp.Pk; rw [if_neg hl]; rfl

/-- The gradient with respect to the scores, of a tile. -/
theorem d_val {m : IVec S128x128 1} {t : Fin 2} (hm : Lanes m t) {bb ll el} (B : Head I r n (ht p t) bb ll el) {w : FVec Ideal S128x256 .f32}
    (hw : ∀ b q, w (ix2 b q) = ((I.Pk r n (ht p t) b q : ℝ) : EReal)) (b q) :
    tD m vp dd w el (ix2 b q) = ((I.Dk r n (ht p t) b q : ℝ) : EReal) := by
  rw [D_at, hw, vd_val T hm, B.d, ← EReal.coe_sub, ← EReal.coe_mul, I.Dk_eq]

/-- A tile's gradient with respect to the keys. -/
theorem ok_val {d0 d1 : FVec Ideal S128x256 .f32} (h0 : ∀ b q, d0 (ix2 b q) = ((I.Dk r n (ht p 0) b q : ℝ) : EReal))
    (h1 : ∀ b q, d1 (ix2 b q) = ((I.Dk r n (ht p 1) b q : ℝ) : EReal)) (b x : Fin 128) :
    tOk (tQ d0 qp) (tQ d1 qp) (ix2 b x) = ((I.dk r n (hd p x) b (dm x) : ℝ) : EReal) := by
  rw [Ok_at, low_at, if_bit, Q_at, Q_at, ← I.dk_rows, EReal.coe_mul, coe_sum]
  simp only [h0, h1, T.q, ← EReal.coe_mul]
  by_cases hx : (x : ℕ) < 64
  · have e : hd p x = ht p 0 := by unfold hd ht; ext; simp only [Fin.val_zero]; omega
    rw [if_pos hx, e]
  · have e : hd p x = ht p 1 := by unfold hd ht; ext; simp only [Fin.val_one]; omega
    rw [if_neg hx, e]

/-- A tile's gradient with respect to the values. -/
theorem ov_val {d0 d1 : FVec Ideal S128x256 .f32} (h0 : ∀ b q, d0 (ix2 b q) = ((I.Pk r n (ht p 0) b q : ℝ) : EReal))
    (h1 : ∀ b q, d1 (ix2 b q) = ((I.Pk r n (ht p 1) b q : ℝ) : EReal)) (b x : Fin 128) :
    tOv (tQ d0 dd) (tQ d1 dd) (ix2 b x) = ((I.dv r n (hd p x) b (dm x) : ℝ) : EReal) := by
  rw [Ov_at, low_at, if_bit, Q_at, Q_at, ← I.dv_rows, coe_sum]
  simp only [h0, h1, T.d, ← EReal.coe_mul]
  by_cases hx : (x : ℕ) < 64
  · have e : hd p x = ht p 0 := by unfold hd ht; ext; simp only [Fin.val_zero]; omega
    rw [if_pos hx, e]
  · have e : hd p x = ht p 1 := by unfold hd ht; ext; simp only [Fin.val_one]; omega
    rw [if_neg hx, e]

/-- A tile's part of the gradient with respect to the query rows. -/
theorem oq_val {d0 d1 : FVec Ideal S128x256 .f32} (h0 : ∀ b q, d0 (ix2 b q) = ((I.Dk r n (ht p 0) b q : ℝ) : EReal))
    (h1 : ∀ b q, d1 (ix2 b q) = ((I.Dk r n (ht p 1) b q : ℝ) : EReal)) (q : Fin 256) (x : Fin 128) :
    tOq (tR0 kp d0) (tR1 kp d1) (ix2 q x)
      = ((∑ b : Fin 128, I.k (tok r n b) (hd p x) (dm x) * (1 / 8) * I.Dk r n (hd p x) b q : ℝ) : EReal) := by
  rw [Oq_at, coe_sum]
  by_cases hx : (x : ℕ) < 64
  · have e : hd p x = ht p 0 := by unfold hd ht; ext; simp only [Fin.val_zero]; omega
    rw [dif_pos hx, R0_at]
    refine Finset.sum_congr rfl fun b _ => ?_
    rw [K_at, h0, ← e, T.k, ← EReal.coe_mul, ← EReal.coe_mul]
  · have e : hd p x = ht p 1 := by unfold hd ht; ext; simp only [Fin.val_one]; omega
    rw [dif_neg hx, R1_at]
    refine Finset.sum_congr rfl fun b _ => ?_
    have ex : (⟨64 + ((x : ℕ) - 64), by omega⟩ : Fin 128) = x := by ext; simp only []; omega
    simp only [ex]
    rw [K_at, h1, ← e, T.k, ← EReal.coe_mul, ← EReal.coe_mul]

/-- A tile's gradient with respect to the query rows, given what the block before left. -/
theorem own_val {d0 d1 : FVec Ideal S128x256 .f32} (h0 : ∀ b q, d0 (ix2 b q) = ((I.Dk r n (ht p 0) b q : ℝ) : EReal))
    (h1 : ∀ b q, d1 (ix2 b q) = ((I.Dk r n (ht p 1) b q : ℝ) : EReal)) {t : FVec Ideal S128x128 .f32}
    (ht : ∀ a x, t (ix2 a x) = ((I.tl r n (hd p x) a (dm x) : ℝ) : EReal)) (a x : Fin 128) :
    tOwn (tOq (tR0 kp d0) (tR1 kp d1)) t (ix2 a x) = ((I.dq r n (hd p x) a (dm x) : ℝ) : EReal) := by
  rw [Own_at, oq_val T h0 h1, ht, ← EReal.coe_add, I.dq_rows]

/-- What a tile leaves for the next block. -/
theorem next_val {d0 d1 : FVec Ideal S128x256 .f32} (h0 : ∀ b q, d0 (ix2 b q) = ((I.Dk r n (ht p 0) b q : ℝ) : EReal))
    (h1 : ∀ b q, d1 (ix2 b q) = ((I.Dk r n (ht p 1) b q : ℝ) : EReal)) (a x : Fin 128) :
    tNext (tOq (tR0 kp d0) (tR1 kp d1)) (ix2 a x) = ((I.tlo r n (hd p x) a (dm x) : ℝ) : EReal) := by
  rw [Next_at, oq_val T h0 h1]
  have e : (⟨128 + (a : ℕ), by omega⟩ : Fin 256) = ⟨a + 128, by omega⟩ := by ext; simp only []; omega
  rw [e]; rfl

end

end Cert.KernelIdeal.Value
end
-- ==== Proof.KerLoad.lean ====
module

public import proofs.«01_k».proof.Proof.KerTile

@[expose] public section

set_option maxRecDepth 16384

noncomputable section

namespace Cert.KernelIdeal.Value

open Cert.KernelIdeal Cert.KernelIdeal.Gen Idealize.ShloMosaic Idealize.ShloMosaic.TcCoe Idealize.ShloMosaic.Tactic

variable {κ' : Kind} {sp : Space}

/-- The rows of a chunk and the block after it, in one buffer. -/
def qb (x : Vec Ideal S512x512 .bf16) (y : Vec Ideal S128x512 .bf16) : Vec Ideal S640x512 .bf16 := fun z =>
  if h : (z 0 : ℕ) < 512 then x (ix2 ⟨z 0, h⟩ ⟨z 1, (z 1).isLt⟩)
  else y (ix2 ⟨z 0 - 512, by have : (z 0 : ℕ) < 640 := (z 0).isLt; omega⟩ ⟨z 1, (z 1).isLt⟩)

/-- The statistics of a chunk and the block after it, turned, in one buffer. -/
def sb (x : Vec Ideal S512x128 .f32) (y : Vec Ideal S128x128 .f32) : Vec Ideal S128x640 .f32 := fun z =>
  if h : (z 1 : ℕ) < 512 then x (ix2 ⟨z 1, h⟩ ⟨z 0, (z 0).isLt⟩)
  else y (ix2 ⟨z 1 - 512, by have : (z 1 : ℕ) < 640 := (z 1).isLt; omega⟩ ⟨z 0, (z 0).isLt⟩)

theorem p4_at (x : Vec Ideal S512x512 .bf16) (a b) : k0_pay4 x (ix2 a b) = x (ix2 a b) := by pointwise [k0_pay4]
theorem p5_at (x : Vec Ideal S128x512 .bf16) (a b) : k0_pay5 x (ix2 a b) = x (ix2 a b) := by pointwise [k0_pay5]
theorem p13_at (x : Vec Ideal S128x128 .f32) (a b) : k0_pay13 x (ix2 a b) = x (ix2 b a) := by pointwise [k0_pay13]
theorem p11_at (x : Vec Ideal S128x128 .f32) (a b) : k0_pay11 x (ix2 a b) = x (ix2 b a) := by pointwise [k0_pay11]
theorem p12_at (x : Vec Ideal S128x128 .f32) (a b) : k0_pay12 x (ix2 a b) = x (ix2 b a) := by pointwise [k0_pay12]
theorem p9_at (x : Vec Ideal S128x128 .f32) (a b) : k0_pay9 (k0_pay8 x) (ix2 a b) = x (ix2 b a) := by pointwise [k0_pay8, k0_pay9]
theorem p10_at (x : Vec Ideal S128x128 .f32) (a b) : k0_pay10 x (ix2 a b) = x (ix2 b a) := by pointwise [k0_pay10]

/-- Every index of a rank-two shape is a pair. -/
theorem ix2_of {a b : ℕ} (x : (⟨2, ![a, b]⟩ : Shape).Idx) : ∃ i j, x = ix2 i j :=
  ⟨x 0, x 1, by funext k; refine Fin.cases rfl (fun k => ?_) k; refine Fin.cases rfl (fun k => k.elim0) k⟩

theorem cov_rows (v : View sig κ' sp S640x512 .bf16) (x : Vec Ideal S512x512 .bf16) (y : Vec Ideal S128x512 .bf16) (i1 i2)
    (B : Rect S640x512) :
    v.readCov [⟨Rect.unit ![512, 0] ![128, 512] i1, k0_pay5 y⟩, ⟨Rect.unit ![0, 0] ![512, 512] i2, k0_pay4 x⟩] B.toLoadRect
      = View.ld (qb x y) B := by
  rw [View.readCov_eq_canon']
  funext j
  refine View.canon_apply_of_pieces (qb x y) _ ?_ _ ?_
  · intro p hp
    simp only [List.mem_cons, List.not_mem_nil, or_false] at hp
    rcases hp with rfl | rfl
    · intro z
      obtain ⟨a, b, rfl⟩ := ix2_of (a := 128) (b := 512) z
      refine (p5_at y a b).trans ?_
      unfold qb
      rw [dif_neg]
      · congr 1
        funext k
        refine Fin.cases ?_ (fun k => ?_) k
        · ext; show (a : ℕ) = 512 + 1 * a - 512; omega
        · refine Fin.cases ?_ (fun k => k.elim0) k
          ext; show (b : ℕ) = 0 + 1 * b; omega
      · show ¬ (512 + 1 * (a : ℕ) < 512)
        omega
    · intro z
      obtain ⟨a, b, rfl⟩ := ix2_of (a := 512) (b := 512) z
      refine (p4_at x a b).trans ?_
      unfold qb
      rw [dif_pos]
      · congr 1
        funext k
        refine Fin.cases ?_ (fun k => ?_) k
        · ext; show (a : ℕ) = 0 + 1 * a; omega
        · refine Fin.cases ?_ (fun k => k.elim0) k
          ext; show (b : ℕ) = 0 + 1 * b; omega
      · show (0 + 1 * (a : ℕ) < 512)
        omega
  · have e0 : ((B.idx j 0 : Fin 640) : ℕ) < 640 := (B.idx j 0).isLt
    have e1 : ((B.idx j 1 : Fin 512) : ℕ) < 512 := (B.idx j 1).isLt
    have key : ∀ (o n : ℕ) (i : ∀ a, ![o, 0] a + ![n, 512] a ≤ S640x512.size a), o ≤ ((B.idx j 0 : Fin 640) : ℕ) → ((B.idx j 0 : Fin 640) : ℕ) < o + n →
        B.idx j ∈ (Rect.unit ![o, 0] ![n, 512] i).set := fun o n i h1 h2 =>
      Rect.mem_set_unit.mpr (Fin.forall_fin_two.mpr ⟨⟨h1, h2⟩, ⟨Nat.zero_le _, by show _ < 0 + 512; omega⟩⟩)
    by_cases h : ((B.idx j 0 : Fin 640) : ℕ) < 512
    · exact ⟨_, List.mem_cons_of_mem _ List.mem_cons_self, key 0 512 i2 (Nat.zero_le _) (by omega)⟩
    · exact ⟨_, List.mem_cons_self, key 512 128 i1 (by omega) (by omega)⟩

theorem ld_rows (x : Vec Ideal S512x512 .bf16) (o1 o2 : ℕ) (h1 : o1 ≤ 384) (h2 : o2 ≤ 384) (inb) (b c : Fin 128) :
    View.ld x (Rect.unit ![o1, o2] ![128, 128] inb) (ix2 b c) = x (ix2 ⟨o1 + b, by omega⟩ ⟨o2 + c, by omega⟩) :=
  View.ld_unit_apply_of _ _ _ _ _ _ (Fin.forall_fin_two.mpr ⟨rfl, rfl⟩)

theorem ld_qb (x : Vec Ideal S640x512 .bf16) (o1 o2 : ℕ) (h1 : o1 ≤ 384) (h2 : o2 ≤ 384) (inb) (b : Fin 256) (c : Fin 128) :
    View.ld x (Rect.unit ![o1, o2] ![256, 128] inb) (ix2 b c) = x (ix2 ⟨o1 + b, by omega⟩ ⟨o2 + c, by omega⟩) :=
  View.ld_unit_apply_of _ _ _ _ _ _ (Fin.forall_fin_two.mpr ⟨rfl, rfl⟩)

theorem ld_carry (x : Vec Ideal S128x512 .f32) (o1 : ℕ) (h1 : o1 ≤ 384) (inb) (b c : Fin 128) :
    View.ld x (Rect.unit ![0, o1] ![128, 128] inb) (ix2 b c) = x (ix2 b ⟨o1 + c, by omega⟩) :=
  View.ld_unit_apply_of _ _ _ _ _ _ (Fin.forall_fin_two.mpr ⟨(Nat.zero_add _).symm, rfl⟩)

theorem ld_stat (x : Vec Ideal S128x640 .f32) (o1 o2 : ℕ) (h1 : o1 < 128) (h2 : o2 ≤ 384) (inb) (b : Fin 256) :
    View.ld x (Rect.unit ![o1, o2] ![1, 256] inb) (ix2 0 b) = x (ix2 ⟨o1, by omega⟩ ⟨o2 + b, by omega⟩) :=
  View.ld_unit_apply_of _ _ _ _ _ _ (Fin.forall_fin_two.mpr ⟨rfl, rfl⟩)

theorem ld_plane (x : Vec Ideal S8x128x256 .f32) (o : ℕ) (h1 : o < 8) (inb) (b : Fin 128) (c : Fin 256) :
    View.ld x (Rect.unit ![o, 0, 0] ![1, 128, 256] inb) (ix3 0 b c) = x (ix3 ⟨o, by omega⟩ b c) :=
  View.ld_unit_apply_of _ _ _ _ _ _ (fun k => by
    refine Fin.cases rfl (fun k => ?_) k
    refine Fin.cases (Nat.zero_add _).symm (fun k => ?_) k
    refine Fin.cases (Nat.zero_add _).symm (fun k => k.elim0) k)

/-- A turned block of the statistics agrees with the buffer. -/
theorem stat_piece (x : Vec Ideal S512x128 .f32) (y : Vec Ideal S128x128 .f32) (o : ℕ) (ho : o ≤ 384) (inb) (inb') {w : FVec Ideal S128x128 .f32}
    (hw : ∀ a b, w (ix2 a b) = View.ld x (Rect.unit ![o, 0] ![128, 128] inb) (ix2 b a)) (z) :
    w z = sb x y ((Rect.unit (s := S128x640) ![0, o] ![128, 128] inb').emb z) := by
  obtain ⟨a, b, rfl⟩ := ix2_of (a := 128) (b := 128) z
  refine (hw a b).trans ?_
  unfold sb
  rw [dif_pos]
  · refine View.ld_unit_apply_of _ _ _ _ _ _ (Fin.forall_fin_two.mpr ⟨?_, ?_⟩)
    · show o + 1 * (b : ℕ) = o + b; omega
    · show 0 + 1 * (a : ℕ) = 0 + a; omega
  · show o + 1 * (b : ℕ) < 512; omega

theorem cov_rows' (v : View sig κ' sp S640x512 .bf16) (x : Vec Ideal S512x512 .bf16) (y : Vec Ideal S128x512 .bf16) (i1 i2)
    (B : Rect S640x512) :
    v.readCov [⟨Rect.unit ![512, 0] ![128, 512] i1, k0_pay7 y⟩, ⟨Rect.unit ![0, 0] ![512, 512] i2, k0_pay6 x⟩] B.toLoadRect
      = View.ld (qb x y) B := cov_rows v x y i1 i2 B

theorem cov_stat (v : View sig κ' sp S128x640 .f32) (x : Vec Ideal S512x128 .f32) (y : Vec Ideal S128x128 .f32) (i0 i1 i2 i3 i4 j0 j1 j2 j3)
    (B : Rect S128x640) :
    v.readCov [⟨Rect.unit ![0, 512] ![128, 128] i4, k0_pay13 y⟩,
      ⟨Rect.unit ![0, 384] ![128, 128] i3, k0_pay12 (View.ld x (Rect.unit ![384, 0] ![128, 128] j3))⟩,
      ⟨Rect.unit ![0, 256] ![128, 128] i2, k0_pay11 (View.ld x (Rect.unit ![256, 0] ![128, 128] j2))⟩,
      ⟨Rect.unit ![0, 128] ![128, 128] i1, k0_pay10 (View.ld x (Rect.unit ![128, 0] ![128, 128] j1))⟩,
      ⟨Rect.unit ![0, 0] ![128, 128] i0, k0_pay9 (k0_pay8 (View.ld x (Rect.unit ![0, 0] ![128, 128] j0)))⟩] B.toLoadRect
      = View.ld (sb x y) B := by
  rw [View.readCov_eq_canon']
  funext j
  refine View.canon_apply_of_pieces (sb x y) _ ?_ _ ?_
  · intro p hp
    simp only [List.mem_cons, List.not_mem_nil, or_false] at hp
    rcases hp with rfl | rfl | rfl | rfl | rfl
    · intro z
      obtain ⟨a, b, rfl⟩ := ix2_of (a := 128) (b := 128) z
      refine (p13_at y a b).trans ?_
      unfold sb
      rw [dif_neg]
      · congr 1
        funext k
        refine Fin.cases ?_ (fun k => ?_) k
        · ext; show (b : ℕ) = 512 + 1 * b - 512; omega
        · refine Fin.cases ?_ (fun k => k.elim0) k
          ext; show (a : ℕ) = 0 + 1 * a; omega
      · show ¬ (512 + 1 * (b : ℕ) < 512)
        omega
    · exact stat_piece x y 384 (by omega) j3 i3 (w := _) (fun a b => p12_at (View.ld x (Rect.unit ![384, 0] ![128, 128] j3)) a b)
    · exact stat_piece x y 256 (by omega) j2 i2 (w := _) (fun a b => p11_at (View.ld x (Rect.unit ![256, 0] ![128, 128] j2)) a b)
    · exact stat_piece x y 128 (by omega) j1 i1 (w := _) (fun a b => p10_at (View.ld x (Rect.unit ![128, 0] ![128, 128] j1)) a b)
    · exact stat_piece x y 0 (by omega) j0 i0 (w := _) (fun a b => p9_at (View.ld x (Rect.unit ![0, 0] ![128, 128] j0)) a b)
  · have e0 : ((B.idx j 0 : Fin 128) : ℕ) < 128 := (B.idx j 0).isLt
    have e1 : ((B.idx j 1 : Fin 640) : ℕ) < 640 := (B.idx j 1).isLt
    have key : ∀ (o : ℕ) (i : ∀ a, ![0, o] a + ![128, 128] a ≤ S128x640.size a), o ≤ ((B.idx j 1 : Fin 640) : ℕ) → ((B.idx j 1 : Fin 640) : ℕ) < o + 128 →
        B.idx j ∈ (Rect.unit ![0, o] ![128, 128] i).set := fun o i h1 h2 =>
      Rect.mem_set_unit.mpr (Fin.forall_fin_two.mpr ⟨⟨Nat.zero_le _, by show _ < 0 + 128; omega⟩, ⟨h1, h2⟩⟩)
    by_cases h4 : 512 ≤ ((B.idx j 1 : Fin 640) : ℕ)
    · exact ⟨_, List.mem_cons_self, key 512 i4 h4 (by omega)⟩
    by_cases h3 : 384 ≤ ((B.idx j 1 : Fin 640) : ℕ)
    · exact ⟨_, List.mem_cons_of_mem _ List.mem_cons_self, key 384 i3 h3 (by omega)⟩
    by_cases h2 : 256 ≤ ((B.idx j 1 : Fin 640) : ℕ)
    · exact ⟨_, List.mem_cons_of_mem _ (List.mem_cons_of_mem _ List.mem_cons_self), key 256 i2 h2 (by omega)⟩
    by_cases h1 : 128 ≤ ((B.idx j 1 : Fin 640) : ℕ)
    · exact ⟨_, List.mem_cons_of_mem _ (List.mem_cons_of_mem _ (List.mem_cons_of_mem _ List.mem_cons_self)), key 128 i1 h1 (by omega)⟩
    · exact ⟨_, List.mem_cons_of_mem _ (List.mem_cons_of_mem _ (List.mem_cons_of_mem _ (List.mem_cons_of_mem _ List.mem_cons_self))),
        key 0 i0 (Nat.zero_le _) (by omega)⟩

end Cert.KernelIdeal.Value
end
-- ==== Proof.KerCell.lean ====
module

public import proofs.«01_k».proof.Proof.KerLoad

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.Attn

/-- Block `j` of chunk `i`. -/
def nb (i : Fin 8) (j : Fin 4) : Fin 32 := ⟨4 * i + j, by omega⟩

/-- The token at row `y` of chunk `i` of residue class `r`. -/
def tp (r : Fin 4) (i : Fin 8) (y : Fin 512) : Fin 16384 := ⟨(i * 512 + y) * 4 + r, by omega⟩

/-- The head and the lane of a column. -/
def hc (z : Fin 512) : Fin 8 := ⟨z / 64, by omega⟩
def dc (z : Fin 512) : Fin 64 := ⟨z % 64, by omega⟩

/-- What the nine input blocks of a point hold. -/
structure Pt (I : Inp) (r : Fin 4) (i : Fin 8) (x0 x1 x2 : Vec Ideal S512x512 .bf16) (x3 : Vec Ideal S128x512 .bf16) (x4 : Vec Ideal S8x128x256 .f32)
    (x5 : Vec Ideal S512x512 .bf16) (x6 : Vec Ideal S128x512 .bf16) (x7 : Vec Ideal S512x128 .f32) (x8 : Vec Ideal S128x128 .f32) : Prop where
  k : ∀ y z, x0 (ix2 y z) = ((I.k (tp r i y) (hc z) (dc z) : ℝ) : EReal)
  v : ∀ y z, x1 (ix2 y z) = ((I.v (tp r i y) (hc z) (dc z) : ℝ) : EReal)
  q : ∀ y z, x2 (ix2 y z) = ((I.q (tp r i y) (hc z) (dc z) : ℝ) : EReal)
  qn : ∀ y z, x3 (ix2 y z) = ((I.q (tok r (nx (nb i 3)) y) (hc z) (dc z) : ℝ) : EReal)
  b : ∀ h b q, x4 (ix3 h b q) = if Ok b q then ((I.bias h (aq q) (cq b q) : ℝ) : EReal) else ⊥
  d : ∀ y z, x5 (ix2 y z) = ((I.ct (tp r i y) (hc z) (dc z) : ℝ) : EReal)
  en : ∀ y z, x6 (ix2 y z) = ((I.ct (tok r (nx (nb i 3)) y) (hc z) (dc z) : ℝ) : EReal)
  l : ∀ y (h : Fin 8), x7 (ix2 y ⟨h, by omega⟩) = ((Real.log (I.dn (tp r i y) h) : ℝ) : EReal)
  m : ∀ y (h : Fin 8), x7 (ix2 y ⟨8 + h, by omega⟩) = ((I.gm (tp r i y) h : ℝ) : EReal)
  ln : ∀ y (h : Fin 8), x8 (ix2 y ⟨h, by omega⟩) = ((Real.log (I.dn (tok r (nx (nb i 3)) y) h) : ℝ) : EReal)
  mn : ∀ y (h : Fin 8), x8 (ix2 y ⟨8 + h, by omega⟩) = ((I.gm (tok r (nx (nb i 3)) y) h : ℝ) : EReal)

variable {I : Inp} {r : Fin 4} {i : Fin 8} {x0 x1 x2 : Vec Ideal S512x512 .bf16} {x3 : Vec Ideal S128x512 .bf16} {x4 : Vec Ideal S8x128x256 .f32}
  {x5 : Vec Ideal S512x512 .bf16} {x6 : Vec Ideal S128x512 .bf16} {x7 : Vec Ideal S512x128 .f32} {x8 : Vec Ideal S128x128 .f32}

theorem tp_tok (j : Fin 4) (b : Fin 128) (y : Fin 512) (h : (y : ℕ) = 128 * j + b) : tp r i y = tok r (nb i j) b := by
  unfold tp tok nb; ext; simp only []; omega

theorem hc_hd (p : Fin 4) (x : Fin 128) (z : Fin 512) (h : (z : ℕ) = 128 * p + x) : hc z = hd p x := by
  unfold hc hd; ext; simp only []; omega
theorem dc_dm (p : Fin 4) (x : Fin 128) (z : Fin 512) (h : (z : ℕ) = 128 * p + x) : dc z = dm x := by
  unfold dc dm; ext; simp only []; omega

/-- The token of query row `q` of block `j`. -/
theorem row_lo (j : Fin 4) (q : Fin 256) (y : Fin 512) (h : (y : ℕ) = 128 * j + q) : tp r i y = tok r (nq (nb i j) q) (aq q) := by
  unfold tp tok nq aq nx nb; ext; split_ifs <;> simp only [] <;> omega

theorem row_hi (j : Fin 4) (q : Fin 256) (y : Fin 128) (h : 512 + (y : ℕ) = 128 * j + q) :
    tok r (nx (nb i 3)) y = tok r (nq (nb i j) q) (aq q) := by
  have e : (nb i 3 : ℕ) = 4 * i + 3 := rfl
  unfold tok nq aq nx nb; ext; split_ifs <;> simp only [e] <;> omega

theorem inb_stat {h o d : ℕ} (c : ∀ a : Fin S128x640.rank, ![h, o] a + ![1, 256] a ≤ S128x640.size a) (hd : d < 128) :
    ∀ a : Fin S128x640.rank, ![d, o] a + ![1, 256] a ≤ S128x640.size a := by
  intro a
  refine Fin.cases ?_ (fun k => ?_) a
  · show d + 1 ≤ 128; omega
  · refine Fin.cases ?_ (fun k => k.elim0) k
    have := c 1
    exact this

section
variable (E : Pt I r i x0 x1 x2 x3 x4 x5 x6 x7 x8)
include E

theorem tile_of (j p : Fin 4) {o1 o2 : ℕ} {a1 a2 a3 a4} (h1 : o1 = 128 * j) (h2 : o2 = 128 * p) :
    Tile I r (nb i j) p (View.ld x0 (Rect.unit ![o1, o2] ![128, 128] a1)) (View.ld x1 (Rect.unit ![o1, o2] ![128, 128] a2))
      (View.ld (qb x2 x3) (Rect.unit ![o1, o2] ![256, 128] a3)) (View.ld (qb x5 x6) (Rect.unit ![o1, o2] ![256, 128] a4)) where
  k b x := by
    rw [ld_rows _ _ _ (by omega) (by omega), E.k, tp_tok j b _ (by simp only [h1]), hc_hd p x _ (by simp only [h2]), dc_dm p x _ (by simp only [h2])]
  v b x := by
    rw [ld_rows _ _ _ (by omega) (by omega), E.v, tp_tok j b _ (by simp only [h1]), hc_hd p x _ (by simp only [h2]), dc_dm p x _ (by simp only [h2])]
  q q x := by
    rw [ld_qb _ _ _ (by omega) (by omega)]
    by_cases h : o1 + (q : ℕ) < 512
    · refine (dif_pos h).trans ((E.q ..).trans ?_)
      rw [row_lo j q _ (by show o1 + (q : ℕ) = _; omega), hc_hd p x _ (by show o2 + (x : ℕ) = _; omega), dc_dm p x _ (by show o2 + (x : ℕ) = _; omega)]
    · refine (dif_neg h).trans ((E.qn ..).trans ?_)
      rw [row_hi j q _ (by show 512 + (o1 + (q : ℕ) - 512) = _; omega), hc_hd p x _ (by show o2 + (x : ℕ) = _; omega), dc_dm p x _ (by show o2 + (x : ℕ) = _; omega)]
  d q x := by
    rw [ld_qb _ _ _ (by omega) (by omega)]
    by_cases h : o1 + (q : ℕ) < 512
    · refine (dif_pos h).trans ((E.d ..).trans ?_)
      rw [row_lo j q _ (by show o1 + (q : ℕ) = _; omega), hc_hd p x _ (by show o2 + (x : ℕ) = _; omega), dc_dm p x _ (by show o2 + (x : ℕ) = _; omega)]
    · refine (dif_neg h).trans ((E.en ..).trans ?_)
      rw [row_hi j q _ (by show 512 + (o1 + (q : ℕ) - 512) = _; omega), hc_hd p x _ (by show o2 + (x : ℕ) = _; omega), dc_dm p x _ (by show o2 + (x : ℕ) = _; omega)]

theorem head_of (j p : Fin 4) (t : Fin 2) {o h d : ℕ} {a1 a2 a3} (h1 : o = 128 * j) (h2 : h = 2 * p + t) (h3 : d = 8 + (2 * p + t)) :
    Head I r (nb i j) (ht p t) (View.ld x4 (Rect.unit ![h, 0, 0] ![1, 128, 256] a1)) (View.ld (sb x7 x8) (Rect.unit ![h, o] ![1, 256] a2))
      (View.ld (sb x7 x8) (Rect.unit ![d, o] ![1, 256] a3)) where
  b b q := by
    rw [ld_plane _ _ (by omega), E.b]
    subst h2; rfl
  l q := by
    rw [ld_stat _ _ _ (by omega) (by omega)]
    subst h2
    by_cases h : o + (q : ℕ) < 512
    · refine (dif_pos h).trans ((E.l _ (ht p t)).trans ?_)
      rw [row_lo j q _ (by show o + (q : ℕ) = _; omega), Inp.dn_tok]
    · refine (dif_neg h).trans ((E.ln _ (ht p t)).trans ?_)
      rw [row_hi j q _ (by show 512 + (o + (q : ℕ) - 512) = _; omega), Inp.dn_tok]
  d q := by
    rw [ld_stat _ _ _ (by omega) (by omega)]
    subst h3
    by_cases h : o + (q : ℕ) < 512
    · refine (dif_pos h).trans ((E.m _ (ht p t)).trans ?_)
      rw [row_lo j q _ (by show o + (q : ℕ) = _; omega), Inp.gm_tok]
    · refine (dif_neg h).trans ((E.mn _ (ht p t)).trans ?_)
      rw [row_hi j q _ (by show 512 + (o + (q : ℕ) - 512) = _; omega), Inp.gm_tok]

/-- The values' gradient, block `j < 3` of a chunk. -/
theorem cell_v (j p : Fin 4) (hj : (j : ℕ) < 3) {o1 o2 h0 h1 : ℕ} {a1 a3 a4 b0 b1 c0 c1} (g1 : o1 = 128 * (j : ℕ)) (g2 : o2 = 128 * (p : ℕ)) (k0 : h0 = 2 * (p : ℕ) + (0 : Fin 2)) (k1 : h1 = 2 * (p : ℕ) + (1 : Fin 2)) (y z : Fin 128) :
    tOv (tQ (tP (tS tLow (View.ld x0 (Rect.unit ![o1, o2] ![128, 128] a1)) (View.ld (qb x2 x3) (Rect.unit ![o1, o2] ![256, 128] a3)) (View.ld x4 (Rect.unit ![h0, 0, 0] ![1, 128, 256] b0))) (View.ld (sb x7 x8) (Rect.unit ![h0, o1] ![1, 256] c0))) (View.ld (qb x5 x6) (Rect.unit ![o1, o2] ![256, 128] a4))) (tQ (tP (tS tHigh (View.ld x0 (Rect.unit ![o1, o2] ![128, 128] a1)) (View.ld (qb x2 x3) (Rect.unit ![o1, o2] ![256, 128] a3)) (View.ld x4 (Rect.unit ![h1, 0, 0] ![1, 128, 256] b1))) (View.ld (sb x7 x8) (Rect.unit ![h1, o1] ![1, 256] c1))) (View.ld (qb x5 x6) (Rect.unit ![o1, o2] ![256, 128] a4))) (ix2 y z) = ((I.dv r (nb i j) (hd p z) y (dm z) : ℝ) : EReal) :=
  ov_val (tile_of E j p g1 g2 (a1 := a1) (a2 := a1) (a3 := a3) (a4 := a4)) (p_val (tile_of E j p g1 g2 (a1 := a1) (a2 := a1) (a3 := a3) (a4 := a4)) lanes_low (head_of E j p 0 g1 k0 rfl (a1 := b0) (a2 := c0) (a3 := inb_stat c0 (by show 8 + (2 * (p : ℕ) + 0) < 128; omega))) (by unfold nb; simp only []; omega)) (p_val (tile_of E j p g1 g2 (a1 := a1) (a2 := a1) (a3 := a3) (a4 := a4)) lanes_high (head_of E j p 1 g1 k1 rfl (a1 := b1) (a2 := c1) (a3 := inb_stat c1 (by show 8 + (2 * (p : ℕ) + 1) < 128; omega))) (by unfold nb; simp only []; omega)) y z

/-- The keys' gradient, block `j < 3` of a chunk. -/
theorem cell_k (j p : Fin 4) (hj : (j : ℕ) < 3) {o1 o2 h0 h1 d0 d1 : ℕ} {a1 a2 a3 a4 b0 b1 c0 c1 e0 e1} (g1 : o1 = 128 * (j : ℕ)) (g2 : o2 = 128 * (p : ℕ)) (k0 : h0 = 2 * (p : ℕ) + (0 : Fin 2)) (l0 : d0 = 8 + (2 * (p : ℕ) + (0 : Fin 2))) (k1 : h1 = 2 * (p : ℕ) + (1 : Fin 2)) (l1 : d1 = 8 + (2 * (p : ℕ) + (1 : Fin 2))) (y z : Fin 128) :
    tOk (tQ (tD tLow (View.ld x1 (Rect.unit ![o1, o2] ![128, 128] a2)) (View.ld (qb x5 x6) (Rect.unit ![o1, o2] ![256, 128] a4)) (tP (tS tLow (View.ld x0 (Rect.unit ![o1, o2] ![128, 128] a1)) (View.ld (qb x2 x3) (Rect.unit ![o1, o2] ![256, 128] a3)) (View.ld x4 (Rect.unit ![h0, 0, 0] ![1, 128, 256] b0))) (View.ld (sb x7 x8) (Rect.unit ![h0, o1] ![1, 256] c0))) (View.ld (sb x7 x8) (Rect.unit ![d0, o1] ![1, 256] e0))) (View.ld (qb x2 x3) (Rect.unit ![o1, o2] ![256, 128] a3))) (tQ (tD tHigh (View.ld x1 (Rect.unit ![o1, o2] ![128, 128] a2)) (View.ld (qb x5 x6) (Rect.unit ![o1, o2] ![256, 128] a4)) (tP (tS tHigh (View.ld x0 (Rect.unit ![o1, o2] ![128, 128] a1)) (View.ld (qb x2 x3) (Rect.unit ![o1, o2] ![256, 128] a3)) (View.ld x4 (Rect.unit ![h1, 0, 0] ![1, 128, 256] b1))) (View.ld (sb x7 x8) (Rect.unit ![h1, o1] ![1, 256] c1))) (View.ld (sb x7 x8) (Rect.unit ![d1, o1] ![1, 256] e1))) (View.ld (qb x2 x3) (Rect.unit ![o1, o2] ![256, 128] a3))) (ix2 y z) = ((I.dk r (nb i j) (hd p z) y (dm z) : ℝ) : EReal) :=
  ok_val (tile_of E j p g1 g2 (a1 := a1) (a2 := a2) (a3 := a3) (a4 := a4)) (d_val (tile_of E j p g1 g2 (a1 := a1) (a2 := a2) (a3 := a3) (a4 := a4)) lanes_low (head_of E j p 0 g1 k0 l0 (a1 := b0) (a2 := c0) (a3 := e0)) (p_val (tile_of E j p g1 g2 (a1 := a1) (a2 := a2) (a3 := a3) (a4 := a4)) lanes_low (head_of E j p 0 g1 k0 l0 (a1 := b0) (a2 := c0) (a3 := e0)) (by unfold nb; simp only []; omega))) (d_val (tile_of E j p g1 g2 (a1 := a1) (a2 := a2) (a3 := a3) (a4 := a4)) lanes_high (head_of E j p 1 g1 k1 l1 (a1 := b1) (a2 := c1) (a3 := e1)) (p_val (tile_of E j p g1 g2 (a1 := a1) (a2 := a2) (a3 := a3) (a4 := a4)) lanes_high (head_of E j p 1 g1 k1 l1 (a1 := b1) (a2 := c1) (a3 := e1)) (by unfold nb; simp only []; omega))) y z

/-- The queries' gradient, block `j < 3` of a chunk, given what the block before left. -/
theorem cell_q (j p : Fin 4) (hj : (j : ℕ) < 3) {o1 o2 h0 h1 d0 d1 : ℕ} {a1 a2 a3 a4 b0 b1 c0 c1 e0 e1} {t : FVec Ideal S128x128 .f32} (ht : ∀ a x, t (ix2 a x) = ((I.tl r (nb i j) (hd p x) a (dm x) : ℝ) : EReal)) (g1 : o1 = 128 * (j : ℕ)) (g2 : o2 = 128 * (p : ℕ)) (k0 : h0 = 2 * (p : ℕ) + (0 : Fin 2)) (l0 : d0 = 8 + (2 * (p : ℕ) + (0 : Fin 2))) (k1 : h1 = 2 * (p : ℕ) + (1 : Fin 2)) (l1 : d1 = 8 + (2 * (p : ℕ) + (1 : Fin 2))) (y z : Fin 128) :
    tOwn (tOq (tR0 (View.ld x0 (Rect.unit ![o1, o2] ![128, 128] a1)) (tD tLow (View.ld x1 (Rect.unit ![o1, o2] ![128, 128] a2)) (View.ld (qb x5 x6) (Rect.unit ![o1, o2] ![256, 128] a4)) (tP (tS tLow (View.ld x0 (Rect.unit ![o1, o2] ![128, 128] a1)) (View.ld (qb x2 x3) (Rect.unit ![o1, o2] ![256, 128] a3)) (View.ld x4 (Rect.unit ![h0, 0, 0] ![1, 128, 256] b0))) (View.ld (sb x7 x8) (Rect.unit ![h0, o1] ![1, 256] c0))) (View.ld (sb x7 x8) (Rect.unit ![d0, o1] ![1, 256] e0)))) (tR1 (View.ld x0 (Rect.unit ![o1, o2] ![128, 128] a1)) (tD tHigh (View.ld x1 (Rect.unit ![o1, o2] ![128, 128] a2)) (View.ld (qb x5 x6) (Rect.unit ![o1, o2] ![256, 128] a4)) (tP (tS tHigh (View.ld x0 (Rect.unit ![o1, o2] ![128, 128] a1)) (View.ld (qb x2 x3) (Rect.unit ![o1, o2] ![256, 128] a3)) (View.ld x4 (Rect.unit ![h1, 0, 0] ![1, 128, 256] b1))) (View.ld (sb x7 x8) (Rect.unit ![h1, o1] ![1, 256] c1))) (View.ld (sb x7 x8) (Rect.unit ![d1, o1] ![1, 256] e1))))) t (ix2 y z) = ((I.dq r (nb i j) (hd p z) y (dm z) : ℝ) : EReal) :=
  own_val (tile_of E j p g1 g2 (a1 := a1) (a2 := a2) (a3 := a3) (a4 := a4)) (d_val (tile_of E j p g1 g2 (a1 := a1) (a2 := a2) (a3 := a3) (a4 := a4)) lanes_low (head_of E j p 0 g1 k0 l0 (a1 := b0) (a2 := c0) (a3 := e0)) (p_val (tile_of E j p g1 g2 (a1 := a1) (a2 := a2) (a3 := a3) (a4 := a4)) lanes_low (head_of E j p 0 g1 k0 l0 (a1 := b0) (a2 := c0) (a3 := e0)) (by unfold nb; simp only []; omega))) (d_val (tile_of E j p g1 g2 (a1 := a1) (a2 := a2) (a3 := a3) (a4 := a4)) lanes_high (head_of E j p 1 g1 k1 l1 (a1 := b1) (a2 := c1) (a3 := e1)) (p_val (tile_of E j p g1 g2 (a1 := a1) (a2 := a2) (a3 := a3) (a4 := a4)) lanes_high (head_of E j p 1 g1 k1 l1 (a1 := b1) (a2 := c1) (a3 := e1)) (by unfold nb; simp only []; omega))) ht y z

/-- What block `j < 3` of a chunk leaves for the next. -/
theorem cell_n (j p : Fin 4) (hj : (j : ℕ) < 3) {o1 o2 h0 h1 d0 d1 : ℕ} {a1 a2 a3 a4 b0 b1 c0 c1 e0 e1} (g1 : o1 = 128 * (j : ℕ)) (g2 : o2 = 128 * (p : ℕ)) (k0 : h0 = 2 * (p : ℕ) + (0 : Fin 2)) (l0 : d0 = 8 + (2 * (p : ℕ) + (0 : Fin 2))) (k1 : h1 = 2 * (p : ℕ) + (1 : Fin 2)) (l1 : d1 = 8 + (2 * (p : ℕ) + (1 : Fin 2))) (y z : Fin 128) :
    tNext (tOq (tR0 (View.ld x0 (Rect.unit ![o1, o2] ![128, 128] a1)) (tD tLow (View.ld x1 (Rect.unit ![o1, o2] ![128, 128] a2)) (View.ld (qb x5 x6) (Rect.unit ![o1, o2] ![256, 128] a4)) (tP (tS tLow (View.ld x0 (Rect.unit ![o1, o2] ![128, 128] a1)) (View.ld (qb x2 x3) (Rect.unit ![o1, o2] ![256, 128] a3)) (View.ld x4 (Rect.unit ![h0, 0, 0] ![1, 128, 256] b0))) (View.ld (sb x7 x8) (Rect.unit ![h0, o1] ![1, 256] c0))) (View.ld (sb x7 x8) (Rect.unit ![d0, o1] ![1, 256] e0)))) (tR1 (View.ld x0 (Rect.unit ![o1, o2] ![128, 128] a1)) (tD tHigh (View.ld x1 (Rect.unit ![o1, o2] ![128, 128] a2)) (View.ld (qb x5 x6) (Rect.unit ![o1, o2] ![256, 128] a4)) (tP (tS tHigh (View.ld x0 (Rect.unit ![o1, o2] ![128, 128] a1)) (View.ld (qb x2 x3) (Rect.unit ![o1, o2] ![256, 128] a3)) (View.ld x4 (Rect.unit ![h1, 0, 0] ![1, 128, 256] b1))) (View.ld (sb x7 x8) (Rect.unit ![h1, o1] ![1, 256] c1))) (View.ld (sb x7 x8) (Rect.unit ![d1, o1] ![1, 256] e1))))) (ix2 y z) = ((I.tlo r (nb i j) (hd p z) y (dm z) : ℝ) : EReal) :=
  next_val (tile_of E j p g1 g2 (a1 := a1) (a2 := a2) (a3 := a3) (a4 := a4)) (d_val (tile_of E j p g1 g2 (a1 := a1) (a2 := a2) (a3 := a3) (a4 := a4)) lanes_low (head_of E j p 0 g1 k0 l0 (a1 := b0) (a2 := c0) (a3 := e0)) (p_val (tile_of E j p g1 g2 (a1 := a1) (a2 := a2) (a3 := a3) (a4 := a4)) lanes_low (head_of E j p 0 g1 k0 l0 (a1 := b0) (a2 := c0) (a3 := e0)) (by unfold nb; simp only []; omega))) (d_val (tile_of E j p g1 g2 (a1 := a1) (a2 := a2) (a3 := a3) (a4 := a4)) lanes_high (head_of E j p 1 g1 k1 l1 (a1 := b1) (a2 := c1) (a3 := e1)) (p_val (tile_of E j p g1 g2 (a1 := a1) (a2 := a2) (a3 := a3) (a4 := a4)) lanes_high (head_of E j p 1 g1 k1 l1 (a1 := b1) (a2 := c1) (a3 := e1)) (by unfold nb; simp only []; omega))) y z

/-- The scores' gradient, block `j < 3` of a chunk, first head of a pair. -/
theorem cell_d0 (j p : Fin 4) (hj : (j : ℕ) < 3) {o1 o2 h0 d0 : ℕ} {a1 a2 a3 a4 b0 c0 e0} (g1 : o1 = 128 * (j : ℕ)) (g2 : o2 = 128 * (p : ℕ)) (k0 : h0 = 2 * (p : ℕ) + (0 : Fin 2)) (l0 : d0 = 8 + (2 * (p : ℕ) + (0 : Fin 2)))  (y z) :
    (tD tLow (View.ld x1 (Rect.unit ![o1, o2] ![128, 128] a2)) (View.ld (qb x5 x6) (Rect.unit ![o1, o2] ![256, 128] a4)) (tP (tS tLow (View.ld x0 (Rect.unit ![o1, o2] ![128, 128] a1)) (View.ld (qb x2 x3) (Rect.unit ![o1, o2] ![256, 128] a3)) (View.ld x4 (Rect.unit ![h0, 0, 0] ![1, 128, 256] b0))) (View.ld (sb x7 x8) (Rect.unit ![h0, o1] ![1, 256] c0))) (View.ld (sb x7 x8) (Rect.unit ![d0, o1] ![1, 256] e0))) (ix2 y z) = ((I.Dk r (nb i j) (ht p 0) y z : ℝ) : EReal) :=
  (d_val (tile_of E j p g1 g2 (a1 := a1) (a2 := a2) (a3 := a3) (a4 := a4)) lanes_low (head_of E j p 0 g1 k0 l0 (a1 := b0) (a2 := c0) (a3 := e0)) (p_val (tile_of E j p g1 g2 (a1 := a1) (a2 := a2) (a3 := a3) (a4 := a4)) lanes_low (head_of E j p 0 g1 k0 l0 (a1 := b0) (a2 := c0) (a3 := e0)) (by unfold nb; simp only []; omega))) y z

/-- The scores' gradient, block `j < 3` of a chunk, second head of a pair. -/
theorem cell_d1 (j p : Fin 4) (hj : (j : ℕ) < 3) {o1 o2 h1 d1 : ℕ} {a1 a2 a3 a4 b1 c1 e1} (g1 : o1 = 128 * (j : ℕ)) (g2 : o2 = 128 * (p : ℕ)) (k1 : h1 = 2 * (p : ℕ) + (1 : Fin 2)) (l1 : d1 = 8 + (2 * (p : ℕ) + (1 : Fin 2))) (y z) :
    (tD tHigh (View.ld x1 (Rect.unit ![o1, o2] ![128, 128] a2)) (View.ld (qb x5 x6) (Rect.unit ![o1, o2] ![256, 128] a4)) (tP (tS tHigh (View.ld x0 (Rect.unit ![o1, o2] ![128, 128] a1)) (View.ld (qb x2 x3) (Rect.unit ![o1, o2] ![256, 128] a3)) (View.ld x4 (Rect.unit ![h1, 0, 0] ![1, 128, 256] b1))) (View.ld (sb x7 x8) (Rect.unit ![h1, o1] ![1, 256] c1))) (View.ld (sb x7 x8) (Rect.unit ![d1, o1] ![1, 256] e1))) (ix2 y z) = ((I.Dk r (nb i j) (ht p 1) y z : ℝ) : EReal) :=
  (d_val (tile_of E j p g1 g2 (a1 := a1) (a2 := a2) (a3 := a3) (a4 := a4)) lanes_high (head_of E j p 1 g1 k1 l1 (a1 := b1) (a2 := c1) (a3 := e1)) (p_val (tile_of E j p g1 g2 (a1 := a1) (a2 := a2) (a3 := a3) (a4 := a4)) lanes_high (head_of E j p 1 g1 k1 l1 (a1 := b1) (a2 := c1) (a3 := e1)) (by unfold nb; simp only []; omega))) y z

/-- The values' gradient, the last block of a chunk. -/
theorem last_v (p : Fin 4) {o1 o2 h0 h1 : ℕ} {a1 a3 a4 b0 b1 c0 c1} (g1 : o1 = 128 * ((3 : Fin 4) : ℕ)) (g2 : o2 = 128 * (p : ℕ)) (k0 : h0 = 2 * (p : ℕ) + (0 : Fin 2)) (k1 : h1 = 2 * (p : ℕ) + (1 : Fin 2)) (y z : Fin 128) :
    tOv (tQ (tP (tM (BitVec.ofNat 32 (i : ℕ)) (tS tLow (View.ld x0 (Rect.unit ![o1, o2] ![128, 128] a1)) (View.ld (qb x2 x3) (Rect.unit ![o1, o2] ![256, 128] a3)) (View.ld x4 (Rect.unit ![h0, 0, 0] ![1, 128, 256] b0)))) (View.ld (sb x7 x8) (Rect.unit ![h0, o1] ![1, 256] c0))) (View.ld (qb x5 x6) (Rect.unit ![o1, o2] ![256, 128] a4))) (tQ (tP (tM (BitVec.ofNat 32 (i : ℕ)) (tS tHigh (View.ld x0 (Rect.unit ![o1, o2] ![128, 128] a1)) (View.ld (qb x2 x3) (Rect.unit ![o1, o2] ![256, 128] a3)) (View.ld x4 (Rect.unit ![h1, 0, 0] ![1, 128, 256] b1)))) (View.ld (sb x7 x8) (Rect.unit ![h1, o1] ![1, 256] c1))) (View.ld (qb x5 x6) (Rect.unit ![o1, o2] ![256, 128] a4))) (ix2 y z) = ((I.dv r (nb i 3) (hd p z) y (dm z) : ℝ) : EReal) :=
  ov_val (tile_of E 3 p g1 g2 (a1 := a1) (a2 := a1) (a3 := a3) (a4 := a4)) (pm_val (tile_of E 3 p g1 g2 (a1 := a1) (a2 := a1) (a3 := a3) (a4 := a4)) lanes_low (head_of E 3 p 0 g1 k0 rfl (a1 := b0) (a2 := c0) (a3 := inb_stat c0 (by show 8 + (2 * (p : ℕ) + 0) < 128; omega))) i rfl) (pm_val (tile_of E 3 p g1 g2 (a1 := a1) (a2 := a1) (a3 := a3) (a4 := a4)) lanes_high (head_of E 3 p 1 g1 k1 rfl (a1 := b1) (a2 := c1) (a3 := inb_stat c1 (by show 8 + (2 * (p : ℕ) + 1) < 128; omega))) i rfl) y z

/-- The keys' gradient, the last block of a chunk. -/
theorem last_k (p : Fin 4) {o1 o2 h0 h1 d0 d1 : ℕ} {a1 a2 a3 a4 b0 b1 c0 c1 e0 e1} (g1 : o1 = 128 * ((3 : Fin 4) : ℕ)) (g2 : o2 = 128 * (p : ℕ)) (k0 : h0 = 2 * (p : ℕ) + (0 : Fin 2)) (l0 : d0 = 8 + (2 * (p : ℕ) + (0 : Fin 2))) (k1 : h1 = 2 * (p : ℕ) + (1 : Fin 2)) (l1 : d1 = 8 + (2 * (p : ℕ) + (1 : Fin 2))) (y z : Fin 128) :
    tOk (tQ (tD tLow (View.ld x1 (Rect.unit ![o1, o2] ![128, 128] a2)) (View.ld (qb x5 x6) (Rect.unit ![o1, o2] ![256, 128] a4)) (tP (tM (BitVec.ofNat 32 (i : ℕ)) (tS tLow (View.ld x0 (Rect.unit ![o1, o2] ![128, 128] a1)) (View.ld (qb x2 x3) (Rect.unit ![o1, o2] ![256, 128] a3)) (View.ld x4 (Rect.unit ![h0, 0, 0] ![1, 128, 256] b0)))) (View.ld (sb x7 x8) (Rect.unit ![h0, o1] ![1, 256] c0))) (View.ld (sb x7 x8) (Rect.unit ![d0, o1] ![1, 256] e0))) (View.ld (qb x2 x3) (Rect.unit ![o1, o2] ![256, 128] a3))) (tQ (tD tHigh (View.ld x1 (Rect.unit ![o1, o2] ![128, 128] a2)) (View.ld (qb x5 x6) (Rect.unit ![o1, o2] ![256, 128] a4)) (tP (tM (BitVec.ofNat 32 (i : ℕ)) (tS tHigh (View.ld x0 (Rect.unit ![o1, o2] ![128, 128] a1)) (View.ld (qb x2 x3) (Rect.unit ![o1, o2] ![256, 128] a3)) (View.ld x4 (Rect.unit ![h1, 0, 0] ![1, 128, 256] b1)))) (View.ld (sb x7 x8) (Rect.unit ![h1, o1] ![1, 256] c1))) (View.ld (sb x7 x8) (Rect.unit ![d1, o1] ![1, 256] e1))) (View.ld (qb x2 x3) (Rect.unit ![o1, o2] ![256, 128] a3))) (ix2 y z) = ((I.dk r (nb i 3) (hd p z) y (dm z) : ℝ) : EReal) :=
  ok_val (tile_of E 3 p g1 g2 (a1 := a1) (a2 := a2) (a3 := a3) (a4 := a4)) (d_val (tile_of E 3 p g1 g2 (a1 := a1) (a2 := a2) (a3 := a3) (a4 := a4)) lanes_low (head_of E 3 p 0 g1 k0 l0 (a1 := b0) (a2 := c0) (a3 := e0)) (pm_val (tile_of E 3 p g1 g2 (a1 := a1) (a2 := a2) (a3 := a3) (a4 := a4)) lanes_low (head_of E 3 p 0 g1 k0 l0 (a1 := b0) (a2 := c0) (a3 := e0)) i rfl)) (d_val (tile_of E 3 p g1 g2 (a1 := a1) (a2 := a2) (a3 := a3) (a4 := a4)) lanes_high (head_of E 3 p 1 g1 k1 l1 (a1 := b1) (a2 := c1) (a3 := e1)) (pm_val (tile_of E 3 p g1 g2 (a1 := a1) (a2 := a2) (a3 := a3) (a4 := a4)) lanes_high (head_of E 3 p 1 g1 k1 l1 (a1 := b1) (a2 := c1) (a3 := e1)) i rfl)) y z

/-- The queries' gradient, the last block of a chunk, given what the block before left. -/
theorem last_q (p : Fin 4) {o1 o2 h0 h1 d0 d1 : ℕ} {a1 a2 a3 a4 b0 b1 c0 c1 e0 e1} {t : FVec Ideal S128x128 .f32} (ht : ∀ a x, t (ix2 a x) = ((I.tl r (nb i 3) (hd p x) a (dm x) : ℝ) : EReal)) (g1 : o1 = 128 * ((3 : Fin 4) : ℕ)) (g2 : o2 = 128 * (p : ℕ)) (k0 : h0 = 2 * (p : ℕ) + (0 : Fin 2)) (l0 : d0 = 8 + (2 * (p : ℕ) + (0 : Fin 2))) (k1 : h1 = 2 * (p : ℕ) + (1 : Fin 2)) (l1 : d1 = 8 + (2 * (p : ℕ) + (1 : Fin 2))) (y z : Fin 128) :
    tOwn (tOq (tR0 (View.ld x0 (Rect.unit ![o1, o2] ![128, 128] a1)) (tD tLow (View.ld x1 (Rect.unit ![o1, o2] ![128, 128] a2)) (View.ld (qb x5 x6) (Rect.unit ![o1, o2] ![256, 128] a4)) (tP (tM (BitVec.ofNat 32 (i : ℕ)) (tS tLow (View.ld x0 (Rect.unit ![o1, o2] ![128, 128] a1)) (View.ld (qb x2 x3) (Rect.unit ![o1, o2] ![256, 128] a3)) (View.ld x4 (Rect.unit ![h0, 0, 0] ![1, 128, 256] b0)))) (View.ld (sb x7 x8) (Rect.unit ![h0, o1] ![1, 256] c0))) (View.ld (sb x7 x8) (Rect.unit ![d0, o1] ![1, 256] e0)))) (tR1 (View.ld x0 (Rect.unit ![o1, o2] ![128, 128] a1)) (tD tHigh (View.ld x1 (Rect.unit ![o1, o2] ![128, 128] a2)) (View.ld (qb x5 x6) (Rect.unit ![o1, o2] ![256, 128] a4)) (tP (tM (BitVec.ofNat 32 (i : ℕ)) (tS tHigh (View.ld x0 (Rect.unit ![o1, o2] ![128, 128] a1)) (View.ld (qb x2 x3) (Rect.unit ![o1, o2] ![256, 128] a3)) (View.ld x4 (Rect.unit ![h1, 0, 0] ![1, 128, 256] b1)))) (View.ld (sb x7 x8) (Rect.unit ![h1, o1] ![1, 256] c1))) (View.ld (sb x7 x8) (Rect.unit ![d1, o1] ![1, 256] e1))))) t (ix2 y z) = ((I.dq r (nb i 3) (hd p z) y (dm z) : ℝ) : EReal) :=
  own_val (tile_of E 3 p g1 g2 (a1 := a1) (a2 := a2) (a3 := a3) (a4 := a4)) (d_val (tile_of E 3 p g1 g2 (a1 := a1) (a2 := a2) (a3 := a3) (a4 := a4)) lanes_low (head_of E 3 p 0 g1 k0 l0 (a1 := b0) (a2 := c0) (a3 := e0)) (pm_val (tile_of E 3 p g1 g2 (a1 := a1) (a2 := a2) (a3 := a3) (a4 := a4)) lanes_low (head_of E 3 p 0 g1 k0 l0 (a1 := b0) (a2 := c0) (a3 := e0)) i rfl)) (d_val (tile_of E 3 p g1 g2 (a1 := a1) (a2 := a2) (a3 := a3) (a4 := a4)) lanes_high (head_of E 3 p 1 g1 k1 l1 (a1 := b1) (a2 := c1) (a3 := e1)) (pm_val (tile_of E 3 p g1 g2 (a1 := a1) (a2 := a2) (a3 := a3) (a4 := a4)) lanes_high (head_of E 3 p 1 g1 k1 l1 (a1 := b1) (a2 := c1) (a3 := e1)) i rfl)) ht y z

/-- What the last block of a chunk leaves for the next. -/
theorem last_n (p : Fin 4) {o1 o2 h0 h1 d0 d1 : ℕ} {a1 a2 a3 a4 b0 b1 c0 c1 e0 e1} (g1 : o1 = 128 * ((3 : Fin 4) : ℕ)) (g2 : o2 = 128 * (p : ℕ)) (k0 : h0 = 2 * (p : ℕ) + (0 : Fin 2)) (l0 : d0 = 8 + (2 * (p : ℕ) + (0 : Fin 2))) (k1 : h1 = 2 * (p : ℕ) + (1 : Fin 2)) (l1 : d1 = 8 + (2 * (p : ℕ) + (1 : Fin 2))) (y z : Fin 128) :
    tNext (tOq (tR0 (View.ld x0 (Rect.unit ![o1, o2] ![128, 128] a1)) (tD tLow (View.ld x1 (Rect.unit ![o1, o2] ![128, 128] a2)) (View.ld (qb x5 x6) (Rect.unit ![o1, o2] ![256, 128] a4)) (tP (tM (BitVec.ofNat 32 (i : ℕ)) (tS tLow (View.ld x0 (Rect.unit ![o1, o2] ![128, 128] a1)) (View.ld (qb x2 x3) (Rect.unit ![o1, o2] ![256, 128] a3)) (View.ld x4 (Rect.unit ![h0, 0, 0] ![1, 128, 256] b0)))) (View.ld (sb x7 x8) (Rect.unit ![h0, o1] ![1, 256] c0))) (View.ld (sb x7 x8) (Rect.unit ![d0, o1] ![1, 256] e0)))) (tR1 (View.ld x0 (Rect.unit ![o1, o2] ![128, 128] a1)) (tD tHigh (View.ld x1 (Rect.unit ![o1, o2] ![128, 128] a2)) (View.ld (qb x5 x6) (Rect.unit ![o1, o2] ![256, 128] a4)) (tP (tM (BitVec.ofNat 32 (i : ℕ)) (tS tHigh (View.ld x0 (Rect.unit ![o1, o2] ![128, 128] a1)) (View.ld (qb x2 x3) (Rect.unit ![o1, o2] ![256, 128] a3)) (View.ld x4 (Rect.unit ![h1, 0, 0] ![1, 128, 256] b1)))) (View.ld (sb x7 x8) (Rect.unit ![h1, o1] ![1, 256] c1))) (View.ld (sb x7 x8) (Rect.unit ![d1, o1] ![1, 256] e1))))) (ix2 y z) = ((I.tlo r (nb i 3) (hd p z) y (dm z) : ℝ) : EReal) :=
  next_val (tile_of E 3 p g1 g2 (a1 := a1) (a2 := a2) (a3 := a3) (a4 := a4)) (d_val (tile_of E 3 p g1 g2 (a1 := a1) (a2 := a2) (a3 := a3) (a4 := a4)) lanes_low (head_of E 3 p 0 g1 k0 l0 (a1 := b0) (a2 := c0) (a3 := e0)) (pm_val (tile_of E 3 p g1 g2 (a1 := a1) (a2 := a2) (a3 := a3) (a4 := a4)) lanes_low (head_of E 3 p 0 g1 k0 l0 (a1 := b0) (a2 := c0) (a3 := e0)) i rfl)) (d_val (tile_of E 3 p g1 g2 (a1 := a1) (a2 := a2) (a3 := a3) (a4 := a4)) lanes_high (head_of E 3 p 1 g1 k1 l1 (a1 := b1) (a2 := c1) (a3 := e1)) (pm_val (tile_of E 3 p g1 g2 (a1 := a1) (a2 := a2) (a3 := a3) (a4 := a4)) lanes_high (head_of E 3 p 1 g1 k1 l1 (a1 := b1) (a2 := c1) (a3 := e1)) i rfl)) y z

/-- The scores' gradient, the last block of a chunk, first head of a pair. -/
theorem last_d0 (p : Fin 4) {o1 o2 h0 d0 : ℕ} {a1 a2 a3 a4 b0 c0 e0} (g1 : o1 = 128 * ((3 : Fin 4) : ℕ)) (g2 : o2 = 128 * (p : ℕ)) (k0 : h0 = 2 * (p : ℕ) + (0 : Fin 2)) (l0 : d0 = 8 + (2 * (p : ℕ) + (0 : Fin 2)))  (y z) :
    (tD tLow (View.ld x1 (Rect.unit ![o1, o2] ![128, 128] a2)) (View.ld (qb x5 x6) (Rect.unit ![o1, o2] ![256, 128] a4)) (tP (tM (BitVec.ofNat 32 (i : ℕ)) (tS tLow (View.ld x0 (Rect.unit ![o1, o2] ![128, 128] a1)) (View.ld (qb x2 x3) (Rect.unit ![o1, o2] ![256, 128] a3)) (View.ld x4 (Rect.unit ![h0, 0, 0] ![1, 128, 256] b0)))) (View.ld (sb x7 x8) (Rect.unit ![h0, o1] ![1, 256] c0))) (View.ld (sb x7 x8) (Rect.unit ![d0, o1] ![1, 256] e0))) (ix2 y z) = ((I.Dk r (nb i 3) (ht p 0) y z : ℝ) : EReal) :=
  (d_val (tile_of E 3 p g1 g2 (a1 := a1) (a2 := a2) (a3 := a3) (a4 := a4)) lanes_low (head_of E 3 p 0 g1 k0 l0 (a1 := b0) (a2 := c0) (a3 := e0)) (pm_val (tile_of E 3 p g1 g2 (a1 := a1) (a2 := a2) (a3 := a3) (a4 := a4)) lanes_low (head_of E 3 p 0 g1 k0 l0 (a1 := b0) (a2 := c0) (a3 := e0)) i rfl)) y z

/-- The scores' gradient, the last block of a chunk, second head of a pair. -/
theorem last_d1 (p : Fin 4) {o1 o2 h1 d1 : ℕ} {a1 a2 a3 a4 b1 c1 e1} (g1 : o1 = 128 * ((3 : Fin 4) : ℕ)) (g2 : o2 = 128 * (p : ℕ)) (k1 : h1 = 2 * (p : ℕ) + (1 : Fin 2)) (l1 : d1 = 8 + (2 * (p : ℕ) + (1 : Fin 2))) (y z) :
    (tD tHigh (View.ld x1 (Rect.unit ![o1, o2] ![128, 128] a2)) (View.ld (qb x5 x6) (Rect.unit ![o1, o2] ![256, 128] a4)) (tP (tM (BitVec.ofNat 32 (i : ℕ)) (tS tHigh (View.ld x0 (Rect.unit ![o1, o2] ![128, 128] a1)) (View.ld (qb x2 x3) (Rect.unit ![o1, o2] ![256, 128] a3)) (View.ld x4 (Rect.unit ![h1, 0, 0] ![1, 128, 256] b1)))) (View.ld (sb x7 x8) (Rect.unit ![h1, o1] ![1, 256] c1))) (View.ld (sb x7 x8) (Rect.unit ![d1, o1] ![1, 256] e1))) (ix2 y z) = ((I.Dk r (nb i 3) (ht p 1) y z : ℝ) : EReal) :=
  (d_val (tile_of E 3 p g1 g2 (a1 := a1) (a2 := a2) (a3 := a3) (a4 := a4)) lanes_high (head_of E 3 p 1 g1 k1 l1 (a1 := b1) (a2 := c1) (a3 := e1)) (pm_val (tile_of E 3 p g1 g2 (a1 := a1) (a2 := a2) (a3 := a3) (a4 := a4)) lanes_high (head_of E 3 p 1 g1 k1 l1 (a1 := b1) (a2 := c1) (a3 := e1)) i rfl)) y z

end

end Cert.KernelIdeal.Value
end
-- ==== Proof.KerPart.lean ====
module

public import proofs.«01_k».proof.Proof.KerCell
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.Attn
open Cert.ReferenceIdeal.Value (eighth neg_inf zero_bits sel)

theorem cast_same {φ : FTy} (x : FVec Ideal S128x128 φ) (h : S128x128.ShapeCasts S128x128) (a b : Fin 128) :
    shapeCast S128x128 x h (ix2 a b) = x (ix2 a b) := by pointwise

/-- What a point writes: the keys' gradient, the values', the queries'. -/
def O9 (I : Inp) (r : Fin 4) (i : Fin 8) (y : Fin 512) (z : Fin 1536) : ℝ :=
  if (z : ℕ) < 512 then I.dk r ⟨4 * i + y / 128, by omega⟩ ⟨z % 512 / 64, by omega⟩ ⟨y % 128, by omega⟩ ⟨z % 64, by omega⟩
  else if (z : ℕ) < 1024 then I.dv r ⟨4 * i + y / 128, by omega⟩ ⟨z % 512 / 64, by omega⟩ ⟨y % 128, by omega⟩ ⟨z % 64, by omega⟩
  else I.dq r ⟨4 * i + y / 128, by omega⟩ ⟨z % 512 / 64, by omega⟩ ⟨y % 128, by omega⟩ ⟨z % 64, by omega⟩

section
variable {I : Inp} {r : Fin 4} {i : Fin 8}

theorem row_eq (j : Fin 4) (a : Fin 128) (y : Fin 512) (hy : (y : ℕ) = 128 * (j : ℕ) + a) :
    (⟨4 * i + y / 128, by omega⟩ : Fin 32) = nb i j ∧ (⟨y % 128, by omega⟩ : Fin 128) = a := by
  unfold nb; constructor <;> ext <;> simp only [] <;> omega

theorem col_eq (p : Fin 4) (b : Fin 128) (z : Fin 1536) (k : ℕ) (hz : (z : ℕ) = 512 * k + 128 * (p : ℕ) + b) :
    (⟨z % 512 / 64, by omega⟩ : Fin 8) = hd p b ∧ (⟨z % 64, by omega⟩ : Fin 64) = dm b := by
  unfold hd dm; constructor <;> ext <;> simp only [] <;> omega

theorem O9_k (j p : Fin 4) (a b : Fin 128) {y : Fin 512} {z : Fin 1536} (hy : (y : ℕ) = 128 * (j : ℕ) + a) (hz : (z : ℕ) = 128 * (p : ℕ) + b) :
    ((I.dk r (nb i j) (hd p b) a (dm b) : ℝ) : EReal) = ((O9 I r i y z : ℝ) : EReal) := by
  obtain ⟨e1, e2⟩ := row_eq (i := i) j a y hy
  obtain ⟨e3, e4⟩ := col_eq p b z 0 (by omega)
  unfold O9
  rw [if_pos (by omega), e1, e2, e3, e4]

theorem O9_v (j p : Fin 4) (a b : Fin 128) {y : Fin 512} {z : Fin 1536} (hy : (y : ℕ) = 128 * (j : ℕ) + a) (hz : (z : ℕ) = 512 + 128 * (p : ℕ) + b) :
    ((I.dv r (nb i j) (hd p b) a (dm b) : ℝ) : EReal) = ((O9 I r i y z : ℝ) : EReal) := by
  obtain ⟨e1, e2⟩ := row_eq (i := i) j a y hy
  obtain ⟨e3, e4⟩ := col_eq p b z 1 (by omega)
  unfold O9
  rw [if_neg (by omega), if_pos (by omega), e1, e2, e3, e4]

theorem O9_q (j p : Fin 4) (a b : Fin 128) {y : Fin 512} {z : Fin 1536} (hy : (y : ℕ) = 128 * (j : ℕ) + a) (hz : (z : ℕ) = 1024 + 128 * (p : ℕ) + b) :
    ((I.dq r (nb i j) (hd p b) a (dm b) : ℝ) : EReal) = ((O9 I r i y z : ℝ) : EReal) := by
  obtain ⟨e1, e2⟩ := row_eq (i := i) j a y hy
  obtain ⟨e3, e4⟩ := col_eq p b z 2 (by omega)
  unfold O9
  rw [if_neg (by omega), if_neg (by omega), e1, e2, e3, e4]

/-- What block `j` leaves is the next block's. -/
theorem tl_next (j j' : Fin 4) (h : (j' : ℕ) = j + 1) (p : Fin 4) (a x : Fin 128) :
    ((I.tlo r (nb i j) (hd p x) a (dm x) : ℝ) : EReal) = ((I.tl r (nb i j') (hd p x) a (dm x) : ℝ) : EReal) := by
  rw [I.tlo_eq r (nb i j) (hd p x) a (dm x) (by unfold nb; simp only []; omega)]
  have e : nx (nb i j) = nb i j' := by unfold nx nb; ext; simp only []; omega
  rw [e]

theorem car_of {xs3 : Vec Ideal S128x512 .f32} (hx : ∀ a z, xs3 (ix2 a z) = ((I.tl r (nb i 0) (hc z) a (dc z) : ℝ) : EReal))
    (p : Fin 4) {o : ℕ} {a1} (g : o = 128 * (p : ℕ)) (a x : Fin 128) :
    View.ld xs3 (Rect.unit ![0, o] ![128, 128] a1) (ix2 a x) = ((I.tl r (nb i 0) (hd p x) a (dm x) : ℝ) : EReal) := by
  rw [ld_carry _ _ (by omega), hx, hc_hd p x _ (by simp only [g]), dc_dm p x _ (by simp only [g])]

end

/-- Every index of a one-plane shape is a row and a column of its plane. -/
theorem ix3_of {a b : ℕ} (x : (⟨3, ![1, a, b]⟩ : Shape).Idx) : ∃ i j, x = ix3 0 i j :=
  ⟨x 1, x 2, by
    funext k
    refine Fin.cases ?_ (fun k => ?_) k
    · exact Fin.ext (by have : (x 0 : ℕ) < 1 := (x 0).isLt; show (x 0 : ℕ) = 0; omega)
    · refine Fin.cases rfl (fun k => ?_) k
      refine Fin.cases rfl (fun k => k.elim0) k⟩

/-- The bias's gradient, four blocks' added to the one before. -/
def tDb (old : Vec Ideal S1x128x256 .f32) (d0 d1 d2 d3 : FVec Ideal S128x256 .f32) : FVec Ideal S1x128x256 .f32 :=
  shapeCast S1x128x256 (addf (shapeCast S128x256 old shapeCasts_S1x128x256_S128x256)
    (addf (addf (addf (addf (k0_pay17 (F := Ideal)) d0) d1) d2) d3)) shapeCasts_S128x256_S1x128x256

theorem Db_at (old : Vec Ideal S1x128x256 .f32) (d0 d1 d2 d3 : FVec Ideal S128x256 .f32) (b : Fin 128) (q : Fin 256) :
    tDb old d0 d1 d2 d3 (ix3 0 b q) = old (ix3 0 b q) + (d0 (ix2 b q) + d1 (ix2 b q) + d2 (ix2 b q) + d3 (ix2 b q)) := by
  pointwise [tDb, k0_pay17]

section
variable {I : Inp} {r : Fin 4} {i : Fin 8}

theorem db_val (p : Fin 4) (t : Fin 2) (D : Fin 8 → Fin 128 → Fin 256 → ℝ) {xo : Vec Ideal S8x128x256 .f32} (ho : ∀ h b q, xo (ix3 h b q) = ((D h b q : ℝ) : EReal))
    {o : ℕ} {a1} {d0 d1 d2 d3 : FVec Ideal S128x256 .f32}
    (h0 : ∀ y z, d0 (ix2 y z) = ((I.Dk r (nb i 0) (ht p t) y z : ℝ) : EReal)) (h1 : ∀ y z, d1 (ix2 y z) = ((I.Dk r (nb i 1) (ht p t) y z : ℝ) : EReal))
    (h2 : ∀ y z, d2 (ix2 y z) = ((I.Dk r (nb i 2) (ht p t) y z : ℝ) : EReal)) (h3 : ∀ y z, d3 (ix2 y z) = ((I.Dk r (nb i 3) (ht p t) y z : ℝ) : EReal))
    (g : o = 2 * (p : ℕ) + (t : ℕ)) (a : Fin 128) (b : Fin 256) {u : Fin 8} {v : Fin 128} {w : Fin 256} (gu : (u : ℕ) = o) (gv : (v : ℕ) = a) (gw : (w : ℕ) = b) :
    tDb (View.ld xo (Rect.unit ![o, 0, 0] ![1, 128, 256] a1)) d0 d1 d2 d3 (ix3 0 a b)
      = ((D u v w + ∑ j : Fin 4, I.Dk r (nb i j) u v w : ℝ) : EReal) := by
  obtain rfl : v = a := Fin.ext gv
  obtain rfl : w = b := Fin.ext gw
  obtain rfl : u = ht p t := Fin.ext (by rw [gu, g]; rfl)
  subst g
  rw [Db_at, ld_plane _ _ (by omega), ho, h0, h1, h2, h3, Fin.sum_univ_four]
  simp only [← EReal.coe_add]
  rfl

end

/-- A store over which later stores cover a place leaves nothing there. -/
theorem canon_drop {S : Shape} {e : EltTy} (p : View.Piece (Elt Ideal) S e) (y : S.Idx) :
    ∀ (L : List (View.Piece (Elt Ideal) S e)) (_ : ∃ q ∈ L, y ∈ q.1.set), View.canon (L ++ [p]) y = View.canon L y
  | [], h => by obtain ⟨q, hq, _⟩ := h; simp at hq
  | q :: L, h => by
    by_cases hm : y ∈ q.1.set
    · obtain ⟨x, rfl⟩ := q.1.exists_idx_of_mem hm
      rw [List.cons_append, show q.1.idx x = q.1.emb x from rfl, View.canon_cons_emb, View.canon_cons_emb]
    · rw [List.cons_append, View.canon_cons_of_not_mem _ _ hm, View.canon_cons_of_not_mem _ _ hm]
      obtain ⟨q', hq, hy⟩ := h
      rcases List.mem_cons.mp hq with rfl | hq'
      · exact absurd hy hm
      · exact canon_drop p y L ⟨q', hq', hy⟩

theorem cov_zero10 {κ' : Kind} {sp : Space} (v : View sig κ' sp S8x128x256 .f32) (i1) (B : Rect S8x128x256) :
    v.readCov [⟨Rect.unit ![0, 0, 0] ![8, 128, 256] i1, k0_pay2 (F := Ideal)⟩] B.toLoadRect = View.ld (Val := Elt Ideal) (e' := .f32) (k0_pay2 (F := Ideal)) B :=
  View.readCov_fill (s := S8x128x256) v i1 _ _ _ (by decide)

theorem cov_zero3 {κ' : Kind} {sp : Space} (v : View sig κ' sp S128x512 .f32) (i1) (B : Rect S128x512) :
    v.readCov [⟨Rect.unit ![0, 0] ![128, 512] i1, k0_pay3 (F := Ideal)⟩] B.toLoadRect = View.ld (Val := Elt Ideal) (e' := .f32) (k0_pay3 (F := Ideal)) B :=
  View.readCov_fill (s := S128x512) v i1 _ _ _ (by decide)

theorem pay2_at (h b q) : k0_pay2 (F := Ideal) (ix3 h b q) = ((0 : ℝ) : EReal) := by
  pointwise [k0_pay2]
  exact EReal.coe_zero.symm
theorem pay3_at (a z) : k0_pay3 (F := Ideal) (ix2 a z) = ((0 : ℝ) : EReal) := by
  pointwise [k0_pay3]
  exact EReal.coe_zero.symm

theorem zero_car {I : Inp} {r : Fin 4} {i : Fin 8} (hi : (i : ℕ) = 0) (a z) :
    k0_pay3 (F := Ideal) (ix2 a z) = ((I.tl r (nb i 0) (hc z) a (dc z) : ℝ) : EReal) := by
  rw [pay3_at]
  unfold Inp.tl
  rw [if_pos (by unfold nb; simp only [hi]; rfl)]

theorem O3_eq {I : Inp} {r : Fin 4} (n : Fin 32) (p : Fin 4) (a b : Fin 128) {y : Fin 128} {z : Fin 512} (hy : (y : ℕ) = a) (hz : (z : ℕ) = 128 * (p : ℕ) + b) :
    ((I.tlo r n (hd p b) a (dm b) : ℝ) : EReal) = ((I.tlo r n (hc z) y (dc z) : ℝ) : EReal) := by
  obtain rfl : y = a := Fin.ext hy
  rw [hc_hd p b z hz, dc_dm p b z hz]

end Cert.KernelIdeal.Value
end
-- ==== Proof.KerBlk.lean ====
module

public import proofs.«01_k».proof.Proof.KerHost
public import proofs.«01_k».proof.Proof.KerPart
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem
open Cert.Attn

/-- Where each window's block lies, by point. -/
theorem idx : ∀ t : Fin cfg0.N,
    win0_0.index t = ![t.val, 0] ∧ win0_1.index t = ![t.val, 1] ∧ win0_2.index t = ![t.val, 2]
    ∧ win0_3.index t = ![t.val / 8 * 32 + min ((t.val % 8 + 1) * 4) 31, 2] ∧ win0_4.index t = ![0, 0, 0]
    ∧ win0_5.index t = ![t.val, 0] ∧ win0_6.index t = ![t.val / 8 * 32 + min ((t.val % 8 + 1) * 4) 31, 0]
    ∧ win0_7.index t = ![t.val, 0] ∧ win0_8.index t = ![t.val / 8 * 32 + min ((t.val % 8 + 1) * 4) 31, 0]
    ∧ win0_9.index t = ![t.val, 0] ∧ win0_10.index t = ![0, 0, 0]
    ∧ (grid0.coords t 0).val = t.val / 8 ∧ (grid0.coords t 1).val = t.val % 8 ∧ t.val < 32 :=
  (by decide +kernel : ∀ t : Fin grid0.N, _)

variable (m : (ℓ : Loc nD τ sig) → Buf (Elt Ideal) ℓ) (c : Dev nD)

/-- The chunk's number at a point. -/
def pi' (t : Fin cfg0.N) : Fin 8 := ⟨t.val % 8, by omega⟩
/-- The residue class at a point. -/
def pr (t : Fin cfg0.N) : Fin 4 := ⟨t.val / 8, by have := (idx t).2.2.2.2.2.2.2.2.2.2.2.2.2; omega⟩

theorem blk0 (t : Fin cfg0.N) (y z : Fin 512) (h : t.val * 512 + (y : ℕ) < 16384) :
    (iblk m c 0 t : Vec Ideal S512x512 .bf16) (ix2 y z) = (V m c main_v85 : Vec Ideal S16384x1536 .bf16) (ix2 ⟨t.val * 512 + y, h⟩ ⟨z, by omega⟩) := by
  blk_ext [iblk, idx t]
theorem blk1 (t : Fin cfg0.N) (y z : Fin 512) (h : t.val * 512 + (y : ℕ) < 16384) :
    (iblk m c 1 t : Vec Ideal S512x512 .bf16) (ix2 y z) = (V m c main_v85 : Vec Ideal S16384x1536 .bf16) (ix2 ⟨t.val * 512 + y, h⟩ ⟨512 + z, by omega⟩) := by
  blk_ext [iblk, idx t]
theorem blk2 (t : Fin cfg0.N) (y z : Fin 512) (h : t.val * 512 + (y : ℕ) < 16384) :
    (iblk m c 2 t : Vec Ideal S512x512 .bf16) (ix2 y z) = (V m c main_v85 : Vec Ideal S16384x1536 .bf16) (ix2 ⟨t.val * 512 + y, h⟩ ⟨1024 + z, by omega⟩) := by
  blk_ext [iblk, idx t]
theorem blk3 (t : Fin cfg0.N) (y : Fin 128) (z : Fin 512) (h : (t.val / 8 * 32 + min ((t.val % 8 + 1) * 4) 31) * 128 + (y : ℕ) < 16384) :
    (iblk m c 3 t : Vec Ideal S128x512 .bf16) (ix2 y z) = (V m c main_v85 : Vec Ideal S16384x1536 .bf16) (ix2 ⟨_, h⟩ ⟨1024 + z, by omega⟩) := by
  blk_ext [iblk, idx t]
theorem blk4 (t : Fin cfg0.N) (h : Fin 8) (b : Fin 128) (q : Fin 256) :
    (iblk m c 4 t : Vec Ideal S8x128x256 .f32) (ix3 h b q) = (V m c main_v89 : Vec Ideal S8x128x256 .f32) (ix3 h b q) := by
  blk_ext [iblk, idx t]
theorem blk5 (t : Fin cfg0.N) (y z : Fin 512) (h : t.val * 512 + (y : ℕ) < 16384) :
    (iblk m c 5 t : Vec Ideal S512x512 .bf16) (ix2 y z) = (V m c main_v93 : Vec Ideal S16384x512 .bf16) (ix2 ⟨t.val * 512 + y, h⟩ z) := by
  blk_ext [iblk, idx t]
theorem blk6 (t : Fin cfg0.N) (y : Fin 128) (z : Fin 512) (h : (t.val / 8 * 32 + min ((t.val % 8 + 1) * 4) 31) * 128 + (y : ℕ) < 16384) :
    (iblk m c 6 t : Vec Ideal S128x512 .bf16) (ix2 y z) = (V m c main_v93 : Vec Ideal S16384x512 .bf16) (ix2 ⟨_, h⟩ z) := by
  blk_ext [iblk, idx t]
theorem blk7 (t : Fin cfg0.N) (y : Fin 512) (z : Fin 128) (h : t.val * 512 + (y : ℕ) < 16384) :
    (iblk m c 7 t : Vec Ideal S512x128 .f32) (ix2 y z) = (V m c main_v96 : Vec Ideal S16384x128 .f32) (ix2 ⟨t.val * 512 + y, h⟩ z) := by
  blk_ext [iblk, idx t]
theorem blk8 (t : Fin cfg0.N) (y z : Fin 128) (h : (t.val / 8 * 32 + min ((t.val % 8 + 1) * 4) 31) * 128 + (y : ℕ) < 16384) :
    (iblk m c 8 t : Vec Ideal S128x128 .f32) (ix2 y z) = (V m c main_v96 : Vec Ideal S16384x128 .f32) (ix2 ⟨_, h⟩ z) := by
  blk_ext [iblk, idx t]

theorem rt_cur (t : Fin cfg0.N) (y : Fin 512) (h : t.val * 512 + (y : ℕ) < 16384) : rt ⟨t.val * 512 + y, h⟩ = tp (pr t) (pi' t) y := by
  unfold rt tp pr pi'; ext; simp only []; omega

theorem rt_nxt (t : Fin cfg0.N) (y : Fin 128) (h : (t.val / 8 * 32 + min ((t.val % 8 + 1) * 4) 31) * 128 + (y : ℕ) < 16384) :
    rt ⟨_, h⟩ = tok (pr t) (nx (nb (pi' t) 3)) y := by
  have e : ((nb (pi' t) 3 : Fin 32) : ℕ) = 4 * (t.val % 8) + 3 := rfl
  unfold rt tok nx; ext; simp only [e]; unfold pr; simp only []; omega

variable {m c} {I : Inp} (H : Of I (fun b => m (c, b)))
include H

/-- The nine input blocks of a point. -/
theorem pt (t : Fin cfg0.N) : Pt I (pr t) (pi' t) (iblk m c 0 t) (iblk m c 1 t) (iblk m c 2 t) (iblk m c 3 t) (iblk m c 4 t) (iblk m c 5 t) (iblk m c 6 t)
    (iblk m c 7 t) (iblk m c 8 t) := by
  have ht : t.val < 32 := (idx t).2.2.2.2.2.2.2.2.2.2.2.2.2
  choose M hM using m_at H
  have h5 : ∀ y : Fin 512, t.val * 512 + (y : ℕ) < 16384 := fun y => by omega
  have hn : ∀ y : Fin 128, (t.val / 8 * 32 + min ((t.val % 8 + 1) * 4) 31) * 128 + (y : ℕ) < 16384 := fun y => by omega
  refine ⟨?_, ?_, ?_, ?_, ?_, ?_, ?_, ?_, ?_, ?_, ?_⟩
  · intro y z
    rw [blk0 m c t y z (h5 y), V_eq, state8_v85, arr_at H, rt_cur, if_pos (by show (z : ℕ) < 512; omega)]
    congr 2 <;> (first | unfold hc | unfold dc) <;> ext <;> simp only [] <;> omega
  · intro y z
    rw [blk1 m c t y z (h5 y), V_eq, state8_v85, arr_at H, rt_cur, if_neg (by show ¬ 512 + (z : ℕ) < 512; omega),
      if_pos (by show 512 + (z : ℕ) < 1024; omega)]
    congr 2 <;> (first | unfold hc | unfold dc) <;> ext <;> simp only [] <;> omega
  · intro y z
    rw [blk2 m c t y z (h5 y), V_eq, state8_v85, arr_at H, rt_cur, if_neg (by show ¬ 1024 + (z : ℕ) < 512; omega),
      if_neg (by show ¬ 1024 + (z : ℕ) < 1024; omega)]
    congr 2 <;> (first | unfold hc | unfold dc) <;> ext <;> simp only [] <;> omega
  · intro y z
    rw [blk3 m c t y z (hn y), V_eq, state8_v85, arr_at H, rt_nxt, if_neg (by show ¬ 1024 + (z : ℕ) < 512; omega),
      if_neg (by show ¬ 1024 + (z : ℕ) < 1024; omega)]
    congr 2 <;> (first | unfold hc | unfold dc) <;> ext <;> simp only [] <;> omega
  · intro h b q
    rw [blk4 m c t h b q, V_eq, state8_v89, biast_at H]
    by_cases hx : (q : ℕ) < 128
    · have ea : aq q = ⟨q, hx⟩ := by unfold aq; ext; simp only []; omega
      rw [dif_pos hx, ea]
      unfold Ok cq
      simp only [if_pos hx]
    · have ea : aq q = ⟨q - 128, by omega⟩ := by unfold aq; ext; simp only []; omega
      rw [dif_neg hx, ea]
      unfold Ok cq
      simp only [if_neg hx]
  · intro y z
    rw [blk5 m c t y z (h5 y), V_eq, state8_v93, do_at H, rt_cur]
    rfl
  · intro y z
    rw [blk6 m c t y z (hn y), V_eq, state8_v93, do_at H, rt_nxt]
    rfl
  · intro y h
    rw [blk7 m c t y _ (h5 y), V_eq, state8_v96, stat_at H hM _ _ (by show (h : ℕ) < 16; omega), rt_cur, if_pos (by show (h : ℕ) < 8; omega)]
    congr 3 <;> ext <;> simp only [] <;> omega
  · intro y h
    rw [blk7 m c t y _ (h5 y), V_eq, state8_v96, stat_at H hM _ _ (by show 8 + (h : ℕ) < 16; omega), rt_cur, if_neg (by show ¬ 8 + (h : ℕ) < 8; omega)]
    congr 2 <;> ext <;> simp only [] <;> omega
  · intro y h
    rw [blk8 m c t y _ (hn y), V_eq, state8_v96, stat_at H hM _ _ (by show (h : ℕ) < 16; omega), rt_nxt, if_pos (by show (h : ℕ) < 8; omega)]
    congr 3 <;> ext <;> simp only [] <;> omega
  · intro y h
    rw [blk8 m c t y _ (hn y), V_eq, state8_v96, stat_at H hM _ _ (by show 8 + (h : ℕ) < 16; omega), rt_nxt, if_neg (by show ¬ 8 + (h : ℕ) < 8; omega)]
    congr 2 <;> ext <;> simp only [] <;> omega

end Cert.KernelIdeal.Value
end
-- ==== Proof.KerBodyA.lean ====
module

public import proofs.«01_k».proof.Proof.KerPart
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.Attn
open Cert.ReferenceIdeal.Value (eighth neg_inf zero_bits sel)

set_option maxHeartbeats 2000000 in
/-- What the first point writes. -/
theorem out9_A (I : Inp) (r : Fin 4) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S8x128x256 .f32) (harg6 : arg6.IsWhole) (arg7 : Memref sig .tc .vmem S512x512 .bf16) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x128 .f32) (harg10 : arg10.IsWhole) (arg11 : Memref sig .tc .vmem S512x1536 .bf16) (harg11 : arg11.IsWhole) (arg12 : Memref sig .tc .vmem S8x128x256 .f32) (harg12 : arg12.IsWhole) (arg13 : Memref sig .tc .vmem S640x512 .bf16) (harg13 : arg13.IsWhole) (arg14 : Memref sig .tc .vmem S640x512 .bf16) (harg14 : arg14.IsWhole) (arg15 : Memref sig .tc .vmem S128x640 .f32) (harg15 : arg15.IsWhole) (arg16 : Memref sig .tc .vmem S128x512 .f32) (harg16 : arg16.IsWhole) (hc0 : cond0_0 i)
    (x0 : Vec Ideal S512x512 .bf16) (x1 : Vec Ideal S512x512 .bf16) (x2 : Vec Ideal S512x512 .bf16) (x3 : Vec Ideal S128x512 .bf16) (x4 : Vec Ideal S8x128x256 .f32) (x5 : Vec Ideal S512x512 .bf16) (x6 : Vec Ideal S128x512 .bf16) (x7 : Vec Ideal S512x128 .f32) (x8 : Vec Ideal S128x128 .f32) (E : Pt I r (i 1) x0 x1 x2 x3 x4 x5 x6 x7 x8)
    (hi : ((i 1 : Fin 8) : ℕ) = 0)
    (y : S512x1536.Idx) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 y = ((O9 I r (i 1) (y 0) (y 1) : ℝ) : EReal) := by
  frame_out
  simp only [cov_rows, cov_rows', cov_stat, cov_zero3, cov_zero10]
  canon_tiles x h
  case piece47 =>
    obtain ⟨a, b, rfl⟩ := ix2_of (a := 128) (b := 128) x
    exact (cell_k E 0 0 (by decide) rfl rfl rfl rfl rfl rfl a b).trans (O9_k 0 0 a b (h0.trans (Nat.zero_add _).symm) (h1.trans (Nat.zero_add _).symm))
  case piece46 =>
    obtain ⟨a, b, rfl⟩ := ix2_of (a := 128) (b := 128) x
    exact (cell_v E 0 0 (by decide) rfl rfl rfl rfl a b).trans (O9_v 0 0 a b (h0.trans (Nat.zero_add _).symm) h1)
  case piece45 =>
    obtain ⟨a, b, rfl⟩ := ix2_of (a := 128) (b := 128) x
    exact (cell_q E 0 0 (by decide) (fun u w => car_of (zero_car hi) 0 rfl u w) rfl rfl rfl rfl rfl rfl a b).trans (O9_q 0 0 a b (h0.trans (Nat.zero_add _).symm) h1)
  case piece44 =>
    obtain ⟨a, b, rfl⟩ := ix2_of (a := 128) (b := 128) x
    exact (cell_k E 1 0 (by decide) rfl rfl rfl rfl rfl rfl a b).trans (O9_k 1 0 a b h0 (h1.trans (Nat.zero_add _).symm))
  case piece43 =>
    obtain ⟨a, b, rfl⟩ := ix2_of (a := 128) (b := 128) x
    exact (cell_v E 1 0 (by decide) rfl rfl rfl rfl a b).trans (O9_v 1 0 a b h0 h1)
  case piece42 =>
    obtain ⟨a, b, rfl⟩ := ix2_of (a := 128) (b := 128) x
    exact (cell_q E 1 0 (by decide) (fun u w => (cell_n E 0 0 (by decide) rfl rfl rfl rfl rfl rfl u w).trans (tl_next 0 1 rfl 0 u w)) rfl rfl rfl rfl rfl rfl a b).trans (O9_q 1 0 a b h0 h1)
  case piece41 =>
    obtain ⟨a, b, rfl⟩ := ix2_of (a := 128) (b := 128) x
    exact (cell_k E 2 0 (by decide) rfl rfl rfl rfl rfl rfl a b).trans (O9_k 2 0 a b h0 (h1.trans (Nat.zero_add _).symm))
  case piece40 =>
    obtain ⟨a, b, rfl⟩ := ix2_of (a := 128) (b := 128) x
    exact (cell_v E 2 0 (by decide) rfl rfl rfl rfl a b).trans (O9_v 2 0 a b h0 h1)
  case piece39 =>
    obtain ⟨a, b, rfl⟩ := ix2_of (a := 128) (b := 128) x
    exact (cell_q E 2 0 (by decide) (fun u w => (cell_n E 1 0 (by decide) rfl rfl rfl rfl rfl rfl u w).trans (tl_next 1 2 rfl 0 u w)) rfl rfl rfl rfl rfl rfl a b).trans (O9_q 2 0 a b h0 h1)
  case piece38 =>
    obtain ⟨a, b, rfl⟩ := ix2_of (a := 128) (b := 128) x
    exact (last_k E 0 rfl rfl rfl rfl rfl rfl a b).trans (O9_k 3 0 a b h0 (h1.trans (Nat.zero_add _).symm))
  case piece37 =>
    obtain ⟨a, b, rfl⟩ := ix2_of (a := 128) (b := 128) x
    exact (last_v E 0 rfl rfl rfl rfl a b).trans (O9_v 3 0 a b h0 h1)
  case piece36 =>
    obtain ⟨a, b, rfl⟩ := ix2_of (a := 128) (b := 128) x
    exact (last_q E 0 (fun u w => (cell_n E 2 0 (by decide) rfl rfl rfl rfl rfl rfl u w).trans (tl_next 2 3 rfl 0 u w)) rfl rfl rfl rfl rfl rfl a b).trans (O9_q 3 0 a b h0 h1)
  case piece35 =>
    obtain ⟨a, b, rfl⟩ := ix2_of (a := 128) (b := 128) x
    exact (cell_k E 0 1 (by decide) rfl rfl rfl rfl rfl rfl a b).trans (O9_k 0 1 a b (h0.trans (Nat.zero_add _).symm) h1)
  case piece34 =>
    obtain ⟨a, b, rfl⟩ := ix2_of (a := 128) (b := 128) x
    exact (cell_v E 0 1 (by decide) rfl rfl rfl rfl a b).trans (O9_v 0 1 a b (h0.trans (Nat.zero_add _).symm) h1)
  case piece33 =>
    obtain ⟨a, b, rfl⟩ := ix2_of (a := 128) (b := 128) x
    rw [View.readCov_skip, cov_zero3]
    rotate_left
    · rfl
    exact (cell_q E 0 1 (by decide) (fun u w => car_of (zero_car hi) 1 rfl u w) rfl rfl rfl rfl rfl rfl a b).trans (O9_q 0 1 a b (h0.trans (Nat.zero_add _).symm) h1)
  case piece32 =>
    obtain ⟨a, b, rfl⟩ := ix2_of (a := 128) (b := 128) x
    exact (cell_k E 1 1 (by decide) rfl rfl rfl rfl rfl rfl a b).trans (O9_k 1 1 a b h0 h1)
  case piece31 =>
    obtain ⟨a, b, rfl⟩ := ix2_of (a := 128) (b := 128) x
    exact (cell_v E 1 1 (by decide) rfl rfl rfl rfl a b).trans (O9_v 1 1 a b h0 h1)
  case piece30 =>
    obtain ⟨a, b, rfl⟩ := ix2_of (a := 128) (b := 128) x
    exact (cell_q E 1 1 (by decide) (fun u w => (cell_n E 0 1 (by decide) rfl rfl rfl rfl rfl rfl u w).trans (tl_next 0 1 rfl 1 u w)) rfl rfl rfl rfl rfl rfl a b).trans (O9_q 1 1 a b h0 h1)
  case piece29 =>
    obtain ⟨a, b, rfl⟩ := ix2_of (a := 128) (b := 128) x
    exact (cell_k E 2 1 (by decide) rfl rfl rfl rfl rfl rfl a b).trans (O9_k 2 1 a b h0 h1)
  case piece28 =>
    obtain ⟨a, b, rfl⟩ := ix2_of (a := 128) (b := 128) x
    exact (cell_v E 2 1 (by decide) rfl rfl rfl rfl a b).trans (O9_v 2 1 a b h0 h1)
  case piece27 =>
    obtain ⟨a, b, rfl⟩ := ix2_of (a := 128) (b := 128) x
    exact (cell_q E 2 1 (by decide) (fun u w => (cell_n E 1 1 (by decide) rfl rfl rfl rfl rfl rfl u w).trans (tl_next 1 2 rfl 1 u w)) rfl rfl rfl rfl rfl rfl a b).trans (O9_q 2 1 a b h0 h1)
  case piece26 =>
    obtain ⟨a, b, rfl⟩ := ix2_of (a := 128) (b := 128) x
    exact (last_k E 1 rfl rfl rfl rfl rfl rfl a b).trans (O9_k 3 1 a b h0 h1)
  case piece25 =>
    obtain ⟨a, b, rfl⟩ := ix2_of (a := 128) (b := 128) x
    exact (last_v E 1 rfl rfl rfl rfl a b).trans (O9_v 3 1 a b h0 h1)
  case piece24 =>
    obtain ⟨a, b, rfl⟩ := ix2_of (a := 128) (b := 128) x
    exact (last_q E 1 (fun u w => (cell_n E 2 1 (by decide) rfl rfl rfl rfl rfl rfl u w).trans (tl_next 2 3 rfl 1 u w)) rfl rfl rfl rfl rfl rfl a b).trans (O9_q 3 1 a b h0 h1)
  case piece23 =>
    obtain ⟨a, b, rfl⟩ := ix2_of (a := 128) (b := 128) x
    exact (cell_k E 0 2 (by decide) rfl rfl rfl rfl rfl rfl a b).trans (O9_k 0 2 a b (h0.trans (Nat.zero_add _).symm) h1)
  case piece22 =>
    obtain ⟨a, b, rfl⟩ := ix2_of (a := 128) (b := 128) x
    exact (cell_v E 0 2 (by decide) rfl rfl rfl rfl a b).trans (O9_v 0 2 a b (h0.trans (Nat.zero_add _).symm) h1)
  case piece21 =>
    obtain ⟨a, b, rfl⟩ := ix2_of (a := 128) (b := 128) x
    rw [View.readCov_skip, View.readCov_skip, cov_zero3]
    rotate_left
    · rfl
    · rfl
    exact (cell_q E 0 2 (by decide) (fun u w => car_of (zero_car hi) 2 rfl u w) rfl rfl rfl rfl rfl rfl a b).trans (O9_q 0 2 a b (h0.trans (Nat.zero_add _).symm) h1)
  case piece20 =>
    obtain ⟨a, b, rfl⟩ := ix2_of (a := 128) (b := 128) x
    exact (cell_k E 1 2 (by decide) rfl rfl rfl rfl rfl rfl a b).trans (O9_k 1 2 a b h0 h1)
  case piece19 =>
    obtain ⟨a, b, rfl⟩ := ix2_of (a := 128) (b := 128) x
    exact (cell_v E 1 2 (by decide) rfl rfl rfl rfl a b).trans (O9_v 1 2 a b h0 h1)
  case piece18 =>
    obtain ⟨a, b, rfl⟩ := ix2_of (a := 128) (b := 128) x
    exact (cell_q E 1 2 (by decide) (fun u w => (cell_n E 0 2 (by decide) rfl rfl rfl rfl rfl rfl u w).trans (tl_next 0 1 rfl 2 u w)) rfl rfl rfl rfl rfl rfl a b).trans (O9_q 1 2 a b h0 h1)
  case piece17 =>
    obtain ⟨a, b, rfl⟩ := ix2_of (a := 128) (b := 128) x
    exact (cell_k E 2 2 (by decide) rfl rfl rfl rfl rfl rfl a b).trans (O9_k 2 2 a b h0 h1)
  case piece16 =>
    obtain ⟨a, b, rfl⟩ := ix2_of (a := 128) (b := 128) x
    exact (cell_v E 2 2 (by decide) rfl rfl rfl rfl a b).trans (O9_v 2 2 a b h0 h1)
  case piece15 =>
    obtain ⟨a, b, rfl⟩ := ix2_of (a := 128) (b := 128) x
    exact (cell_q E 2 2 (by decide) (fun u w => (cell_n E 1 2 (by decide) rfl rfl rfl rfl rfl rfl u w).trans (tl_next 1 2 rfl 2 u w)) rfl rfl rfl rfl rfl rfl a b).trans (O9_q 2 2 a b h0 h1)
  case piece14 =>
    obtain ⟨a, b, rfl⟩ := ix2_of (a := 128) (b := 128) x
    exact (last_k E 2 rfl rfl rfl rfl rfl rfl a b).trans (O9_k 3 2 a b h0 h1)
  case piece13 =>
    obtain ⟨a, b, rfl⟩ := ix2_of (a := 128) (b := 128) x
    exact (last_v E 2 rfl rfl rfl rfl a b).trans (O9_v 3 2 a b h0 h1)
  case piece12 =>
    obtain ⟨a, b, rfl⟩ := ix2_of (a := 128) (b := 128) x
    exact (last_q E 2 (fun u w => (cell_n E 2 2 (by decide) rfl rfl rfl rfl rfl rfl u w).trans (tl_next 2 3 rfl 2 u w)) rfl rfl rfl rfl rfl rfl a b).trans (O9_q 3 2 a b h0 h1)
  case piece11 =>
    obtain ⟨a, b, rfl⟩ := ix2_of (a := 128) (b := 128) x
    exact (cell_k E 0 3 (by decide) rfl rfl rfl rfl rfl rfl a b).trans (O9_k 0 3 a b (h0.trans (Nat.zero_add _).symm) h1)
  case piece10 =>
    obtain ⟨a, b, rfl⟩ := ix2_of (a := 128) (b := 128) x
    exact (cell_v E 0 3 (by decide) rfl rfl rfl rfl a b).trans (O9_v 0 3 a b (h0.trans (Nat.zero_add _).symm) h1)
  case piece9 =>
    obtain ⟨a, b, rfl⟩ := ix2_of (a := 128) (b := 128) x
    rw [View.readCov_skip, View.readCov_skip, View.readCov_skip, cov_zero3]
    rotate_left
    · rfl
    · rfl
    · rfl
    exact (cell_q E 0 3 (by decide) (fun u w => car_of (zero_car hi) 3 rfl u w) rfl rfl rfl rfl rfl rfl a b).trans (O9_q 0 3 a b (h0.trans (Nat.zero_add _).symm) h1)
  case piece8 =>
    obtain ⟨a, b, rfl⟩ := ix2_of (a := 128) (b := 128) x
    exact (cell_k E 1 3 (by decide) rfl rfl rfl rfl rfl rfl a b).trans (O9_k 1 3 a b h0 h1)
  case piece7 =>
    obtain ⟨a, b, rfl⟩ := ix2_of (a := 128) (b := 128) x
    exact (cell_v E 1 3 (by decide) rfl rfl rfl rfl a b).trans (O9_v 1 3 a b h0 h1)
  case piece6 =>
    obtain ⟨a, b, rfl⟩ := ix2_of (a := 128) (b := 128) x
    exact (cell_q E 1 3 (by decide) (fun u w => (cell_n E 0 3 (by decide) rfl rfl rfl rfl rfl rfl u w).trans (tl_next 0 1 rfl 3 u w)) rfl rfl rfl rfl rfl rfl a b).trans (O9_q 1 3 a b h0 h1)
  case piece5 =>
    obtain ⟨a, b, rfl⟩ := ix2_of (a := 128) (b := 128) x
    exact (cell_k E 2 3 (by decide) rfl rfl rfl rfl rfl rfl a b).trans (O9_k 2 3 a b h0 h1)
  case piece4 =>
    obtain ⟨a, b, rfl⟩ := ix2_of (a := 128) (b := 128) x
    exact (cell_v E 2 3 (by decide) rfl rfl rfl rfl a b).trans (O9_v 2 3 a b h0 h1)
  case piece3 =>
    obtain ⟨a, b, rfl⟩ := ix2_of (a := 128) (b := 128) x
    exact (cell_q E 2 3 (by decide) (fun u w => (cell_n E 1 3 (by decide) rfl rfl rfl rfl rfl rfl u w).trans (tl_next 1 2 rfl 3 u w)) rfl rfl rfl rfl rfl rfl a b).trans (O9_q 2 3 a b h0 h1)
  case piece2 =>
    obtain ⟨a, b, rfl⟩ := ix2_of (a := 128) (b := 128) x
    exact (last_k E 3 rfl rfl rfl rfl rfl rfl a b).trans (O9_k 3 3 a b h0 h1)
  case piece1 =>
    obtain ⟨a, b, rfl⟩ := ix2_of (a := 128) (b := 128) x
    exact (last_v E 3 rfl rfl rfl rfl a b).trans (O9_v 3 3 a b h0 h1)
  case piece0 =>
    obtain ⟨a, b, rfl⟩ := ix2_of (a := 128) (b := 128) x
    exact (last_q E 3 (fun u w => (cell_n E 2 3 (by decide) rfl rfl rfl rfl rfl rfl u w).trans (tl_next 2 3 rfl 3 u w)) rfl rfl rfl rfl rfl rfl a b).trans (O9_q 3 3 a b h0 h1)

set_option maxHeartbeats 2000000 in
/-- What the first point leaves for the next. -/
theorem out3_A (I : Inp) (r : Fin 4) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S8x128x256 .f32) (harg6 : arg6.IsWhole) (arg7 : Memref sig .tc .vmem S512x512 .bf16) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x128 .f32) (harg10 : arg10.IsWhole) (arg11 : Memref sig .tc .vmem S512x1536 .bf16) (harg11 : arg11.IsWhole) (arg12 : Memref sig .tc .vmem S8x128x256 .f32) (harg12 : arg12.IsWhole) (arg13 : Memref sig .tc .vmem S640x512 .bf16) (harg13 : arg13.IsWhole) (arg14 : Memref sig .tc .vmem S640x512 .bf16) (harg14 : arg14.IsWhole) (arg15 : Memref sig .tc .vmem S128x640 .f32) (harg15 : arg15.IsWhole) (arg16 : Memref sig .tc .vmem S128x512 .f32) (harg16 : arg16.IsWhole) (hc0 : cond0_0 i)
    (x0 : Vec Ideal S512x512 .bf16) (x1 : Vec Ideal S512x512 .bf16) (x2 : Vec Ideal S512x512 .bf16) (x3 : Vec Ideal S128x512 .bf16) (x4 : Vec Ideal S8x128x256 .f32) (x5 : Vec Ideal S512x512 .bf16) (x6 : Vec Ideal S128x512 .bf16) (x7 : Vec Ideal S512x128 .f32) (x8 : Vec Ideal S128x128 .f32) (E : Pt I r (i 1) x0 x1 x2 x3 x4 x5 x6 x7 x8)
    (y : S128x512.Idx) : sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 y = ((I.tlo r (nb (i 1) 3) (hc (y 1)) (y 0) (dc (y 1)) : ℝ) : EReal) := by
  frame_out
  simp only [cov_rows, cov_rows', cov_stat, cov_zero3, cov_zero10]
  refine (canon_drop _ y [_, _, _, _] (View.cover_of_tiledBy _ ![128, 128] (by sl_kernel_rfl) y)).trans ?_
  canon_tiles x h
  case piece3 =>
    obtain ⟨a, b, rfl⟩ := ix2_of (a := 128) (b := 128) x
    exact (cast_same _ _ a b).trans ((last_n E 0 rfl rfl rfl rfl rfl rfl a b).trans (O3_eq (nb (i 1) 3) 0 a b h0 (h1.trans (Nat.zero_add _).symm)))
  case piece2 =>
    obtain ⟨a, b, rfl⟩ := ix2_of (a := 128) (b := 128) x
    exact (cast_same _ _ a b).trans ((last_n E 1 rfl rfl rfl rfl rfl rfl a b).trans (O3_eq (nb (i 1) 3) 1 a b h0 h1))
  case piece1 =>
    obtain ⟨a, b, rfl⟩ := ix2_of (a := 128) (b := 128) x
    exact (cast_same _ _ a b).trans ((last_n E 2 rfl rfl rfl rfl rfl rfl a b).trans (O3_eq (nb (i 1) 3) 2 a b h0 h1))
  case piece0 =>
    obtain ⟨a, b, rfl⟩ := ix2_of (a := 128) (b := 128) x
    exact (cast_same _ _ a b).trans ((last_n E 3 rfl rfl rfl rfl rfl rfl a b).trans (O3_eq (nb (i 1) 3) 3 a b h0 h1))

set_option maxHeartbeats 2000000 in
/-- The first point's part of the bias's gradient. -/
theorem out10_A (I : Inp) (r : Fin 4) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S8x128x256 .f32) (harg6 : arg6.IsWhole) (arg7 : Memref sig .tc .vmem S512x512 .bf16) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x128 .f32) (harg10 : arg10.IsWhole) (arg11 : Memref sig .tc .vmem S512x1536 .bf16) (harg11 : arg11.IsWhole) (arg12 : Memref sig .tc .vmem S8x128x256 .f32) (harg12 : arg12.IsWhole) (arg13 : Memref sig .tc .vmem S640x512 .bf16) (harg13 : arg13.IsWhole) (arg14 : Memref sig .tc .vmem S640x512 .bf16) (harg14 : arg14.IsWhole) (arg15 : Memref sig .tc .vmem S128x640 .f32) (harg15 : arg15.IsWhole) (arg16 : Memref sig .tc .vmem S128x512 .f32) (harg16 : arg16.IsWhole) (hc0 : cond0_0 i)
    (x0 : Vec Ideal S512x512 .bf16) (x1 : Vec Ideal S512x512 .bf16) (x2 : Vec Ideal S512x512 .bf16) (x3 : Vec Ideal S128x512 .bf16) (x4 : Vec Ideal S8x128x256 .f32) (x5 : Vec Ideal S512x512 .bf16) (x6 : Vec Ideal S128x512 .bf16) (x7 : Vec Ideal S512x128 .f32) (x8 : Vec Ideal S128x128 .f32) (E : Pt I r (i 1) x0 x1 x2 x3 x4 x5 x6 x7 x8)
    (y : S8x128x256.Idx) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 y = ((0 + ∑ j : Fin 4, I.Dk r (nb (i 1) j) (y 0) (y 1) (y 2) : ℝ) : EReal) := by
  frame_out
  simp only [cov_rows, cov_rows', cov_stat, cov_zero3, cov_zero10]
  refine (canon_drop _ y [_, _, _, _, _, _, _, _] (View.cover_of_tiledBy _ ![1, 128, 256] (by sl_kernel_rfl) y)).trans ?_
  canon_tiles x h
  case piece7 =>
    obtain ⟨a, b, rfl⟩ := ix3_of (a := 128) (b := 256) x
    refine (db_val 0 0 (fun _ _ _ => 0) (xo := k0_pay2 (F := Ideal)) pay2_at (a1 := inb_S8x128x256_S1x128x256_0_0_0) (cell_d0 E 0 0 (by decide) rfl rfl rfl rfl (b0 := inb_S8x128x256_S1x128x256_0_0_0)) (cell_d0 E 1 0 (by decide) rfl rfl rfl rfl (b0 := inb_S8x128x256_S1x128x256_0_0_0)) (cell_d0 E 2 0 (by decide) rfl rfl rfl rfl (b0 := inb_S8x128x256_S1x128x256_0_0_0)) (last_d0 E 0 rfl rfl rfl rfl (b0 := inb_S8x128x256_S1x128x256_0_0_0)) rfl a b h0 h1 h2).trans ?_
    rfl
  case piece6 =>
    obtain ⟨a, b, rfl⟩ := ix3_of (a := 128) (b := 256) x
    rw [View.readCov_skip, cov_zero10]
    rotate_left
    · rfl
    refine (db_val 0 1 (fun _ _ _ => 0) (xo := k0_pay2 (F := Ideal)) pay2_at (a1 := inb_S8x128x256_S1x128x256_1_0_0) (cell_d1 E 0 0 (by decide) rfl rfl rfl rfl (b1 := inb_S8x128x256_S1x128x256_1_0_0)) (cell_d1 E 1 0 (by decide) rfl rfl rfl rfl (b1 := inb_S8x128x256_S1x128x256_1_0_0)) (cell_d1 E 2 0 (by decide) rfl rfl rfl rfl (b1 := inb_S8x128x256_S1x128x256_1_0_0)) (last_d1 E 0 rfl rfl rfl rfl (b1 := inb_S8x128x256_S1x128x256_1_0_0)) rfl a b h0 h1 h2).trans ?_
    rfl
  case piece5 =>
    obtain ⟨a, b, rfl⟩ := ix3_of (a := 128) (b := 256) x
    rw [View.readCov_skip, View.readCov_skip, cov_zero10]
    rotate_left
    · rfl
    · rfl
    refine (db_val 1 0 (fun _ _ _ => 0) (xo := k0_pay2 (F := Ideal)) pay2_at (a1 := inb_S8x128x256_S1x128x256_2_0_0) (cell_d0 E 0 1 (by decide) rfl rfl rfl rfl (b0 := inb_S8x128x256_S1x128x256_2_0_0)) (cell_d0 E 1 1 (by decide) rfl rfl rfl rfl (b0 := inb_S8x128x256_S1x128x256_2_0_0)) (cell_d0 E 2 1 (by decide) rfl rfl rfl rfl (b0 := inb_S8x128x256_S1x128x256_2_0_0)) (last_d0 E 1 rfl rfl rfl rfl (b0 := inb_S8x128x256_S1x128x256_2_0_0)) rfl a b h0 h1 h2).trans ?_
    rfl
  case piece4 =>
    obtain ⟨a, b, rfl⟩ := ix3_of (a := 128) (b := 256) x
    rw [View.readCov_skip, View.readCov_skip, View.readCov_skip, cov_zero10]
    rotate_left
    · rfl
    · rfl
    · rfl
    refine (db_val 1 1 (fun _ _ _ => 0) (xo := k0_pay2 (F := Ideal)) pay2_at (a1 := inb_S8x128x256_S1x128x256_3_0_0) (cell_d1 E 0 1 (by decide) rfl rfl rfl rfl (b1 := inb_S8x128x256_S1x128x256_3_0_0)) (cell_d1 E 1 1 (by decide) rfl rfl rfl rfl (b1 := inb_S8x128x256_S1x128x256_3_0_0)) (cell_d1 E 2 1 (by decide) rfl rfl rfl rfl (b1 := inb_S8x128x256_S1x128x256_3_0_0)) (last_d1 E 1 rfl rfl rfl rfl (b1 := inb_S8x128x256_S1x128x256_3_0_0)) rfl a b h0 h1 h2).trans ?_
    rfl
  case piece3 =>
    obtain ⟨a, b, rfl⟩ := ix3_of (a := 128) (b := 256) x
    rw [View.readCov_skip, View.readCov_skip, View.readCov_skip, View.readCov_skip, cov_zero10]
    rotate_left
    · rfl
    · rfl
    · rfl
    · rfl
    refine (db_val 2 0 (fun _ _ _ => 0) (xo := k0_pay2 (F := Ideal)) pay2_at (a1 := inb_S8x128x256_S1x128x256_4_0_0) (cell_d0 E 0 2 (by decide) rfl rfl rfl rfl (b0 := inb_S8x128x256_S1x128x256_4_0_0)) (cell_d0 E 1 2 (by decide) rfl rfl rfl rfl (b0 := inb_S8x128x256_S1x128x256_4_0_0)) (cell_d0 E 2 2 (by decide) rfl rfl rfl rfl (b0 := inb_S8x128x256_S1x128x256_4_0_0)) (last_d0 E 2 rfl rfl rfl rfl (b0 := inb_S8x128x256_S1x128x256_4_0_0)) rfl a b h0 h1 h2).trans ?_
    rfl
  case piece2 =>
    obtain ⟨a, b, rfl⟩ := ix3_of (a := 128) (b := 256) x
    rw [View.readCov_skip, View.readCov_skip, View.readCov_skip, View.readCov_skip, View.readCov_skip, cov_zero10]
    rotate_left
    · rfl
    · rfl
    · rfl
    · rfl
    · rfl
    refine (db_val 2 1 (fun _ _ _ => 0) (xo := k0_pay2 (F := Ideal)) pay2_at (a1 := inb_S8x128x256_S1x128x256_5_0_0) (cell_d1 E 0 2 (by decide) rfl rfl rfl rfl (b1 := inb_S8x128x256_S1x128x256_5_0_0)) (cell_d1 E 1 2 (by decide) rfl rfl rfl rfl (b1 := inb_S8x128x256_S1x128x256_5_0_0)) (cell_d1 E 2 2 (by decide) rfl rfl rfl rfl (b1 := inb_S8x128x256_S1x128x256_5_0_0)) (last_d1 E 2 rfl rfl rfl rfl (b1 := inb_S8x128x256_S1x128x256_5_0_0)) rfl a b h0 h1 h2).trans ?_
    rfl
  case piece1 =>
    obtain ⟨a, b, rfl⟩ := ix3_of (a := 128) (b := 256) x
    rw [View.readCov_skip, View.readCov_skip, View.readCov_skip, View.readCov_skip, View.readCov_skip, View.readCov_skip, cov_zero10]
    rotate_left
    · rfl
    · rfl
    · rfl
    · rfl
    · rfl
    · rfl
    refine (db_val 3 0 (fun _ _ _ => 0) (xo := k0_pay2 (F := Ideal)) pay2_at (a1 := inb_S8x128x256_S1x128x256_6_0_0) (cell_d0 E 0 3 (by decide) rfl rfl rfl rfl (b0 := inb_S8x128x256_S1x128x256_6_0_0)) (cell_d0 E 1 3 (by decide) rfl rfl rfl rfl (b0 := inb_S8x128x256_S1x128x256_6_0_0)) (cell_d0 E 2 3 (by decide) rfl rfl rfl rfl (b0 := inb_S8x128x256_S1x128x256_6_0_0)) (last_d0 E 3 rfl rfl rfl rfl (b0 := inb_S8x128x256_S1x128x256_6_0_0)) rfl a b h0 h1 h2).trans ?_
    rfl
  case piece0 =>
    obtain ⟨a, b, rfl⟩ := ix3_of (a := 128) (b := 256) x
    rw [View.readCov_skip, View.readCov_skip, View.readCov_skip, View.readCov_skip, View.readCov_skip, View.readCov_skip, View.readCov_skip, cov_zero10]
    rotate_left
    · rfl
    · rfl
    · rfl
    · rfl
    · rfl
    · rfl
    · rfl
    refine (db_val 3 1 (fun _ _ _ => 0) (xo := k0_pay2 (F := Ideal)) pay2_at (a1 := inb_S8x128x256_S1x128x256_7_0_0) (cell_d1 E 0 3 (by decide) rfl rfl rfl rfl (b1 := inb_S8x128x256_S1x128x256_7_0_0)) (cell_d1 E 1 3 (by decide) rfl rfl rfl rfl (b1 := inb_S8x128x256_S1x128x256_7_0_0)) (cell_d1 E 2 3 (by decide) rfl rfl rfl rfl (b1 := inb_S8x128x256_S1x128x256_7_0_0)) (last_d1 E 3 rfl rfl rfl rfl (b1 := inb_S8x128x256_S1x128x256_7_0_0)) rfl a b h0 h1 h2).trans ?_
    rfl

end Cert.KernelIdeal.Value
end
-- ==== Proof.KerBodyB.lean ====
module

public import proofs.«01_k».proof.Proof.KerPart
public import Idealize.ShloMosaic.Lib.Pipeline.ValueKit
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.ShloMosaic.Tactic
open Cert.Attn
open Cert.ReferenceIdeal.Value (eighth neg_inf zero_bits sel)

set_option maxHeartbeats 2000000 in
/-- What a later point writes. -/
theorem out9_B (I : Inp) (r : Fin 4) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S8x128x256 .f32) (harg6 : arg6.IsWhole) (arg7 : Memref sig .tc .vmem S512x512 .bf16) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x128 .f32) (harg10 : arg10.IsWhole) (arg11 : Memref sig .tc .vmem S512x1536 .bf16) (harg11 : arg11.IsWhole) (arg12 : Memref sig .tc .vmem S8x128x256 .f32) (harg12 : arg12.IsWhole) (arg13 : Memref sig .tc .vmem S640x512 .bf16) (harg13 : arg13.IsWhole) (arg14 : Memref sig .tc .vmem S640x512 .bf16) (harg14 : arg14.IsWhole) (arg15 : Memref sig .tc .vmem S128x640 .f32) (harg15 : arg15.IsWhole) (arg16 : Memref sig .tc .vmem S128x512 .f32) (harg16 : arg16.IsWhole) (hc0 : ¬cond0_0 i)
    (x0 : Vec Ideal S512x512 .bf16) (x1 : Vec Ideal S512x512 .bf16) (x2 : Vec Ideal S512x512 .bf16) (x3 : Vec Ideal S128x512 .bf16) (x4 : Vec Ideal S8x128x256 .f32) (x5 : Vec Ideal S512x512 .bf16) (x6 : Vec Ideal S128x512 .bf16) (x7 : Vec Ideal S512x128 .f32) (x8 : Vec Ideal S128x128 .f32) (xo10 : Vec Ideal S8x128x256 .f32) (xs3 : Vec Ideal S128x512 .f32) (E : Pt I r (i 1) x0 x1 x2 x3 x4 x5 x6 x7 x8)
    (hx : ∀ a z, xs3 (ix2 a z) = ((I.tl r (nb (i 1) 0) (hc z) a (dc z) : ℝ) : EReal))
    (y : S512x1536.Idx) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xs3 y = ((O9 I r (i 1) (y 0) (y 1) : ℝ) : EReal) := by
  frame_out
  simp only [cov_rows, cov_rows', cov_stat]
  canon_tiles x h
  case piece47 =>
    obtain ⟨a, b, rfl⟩ := ix2_of (a := 128) (b := 128) x
    exact (cell_k E 0 0 (by decide) rfl rfl rfl rfl rfl rfl a b).trans (O9_k 0 0 a b (h0.trans (Nat.zero_add _).symm) (h1.trans (Nat.zero_add _).symm))
  case piece46 =>
    obtain ⟨a, b, rfl⟩ := ix2_of (a := 128) (b := 128) x
    exact (cell_v E 0 0 (by decide) rfl rfl rfl rfl a b).trans (O9_v 0 0 a b (h0.trans (Nat.zero_add _).symm) h1)
  case piece45 =>
    obtain ⟨a, b, rfl⟩ := ix2_of (a := 128) (b := 128) x
    exact (cell_q E 0 0 (by decide) (fun u w => car_of hx 0 rfl u w) rfl rfl rfl rfl rfl rfl a b).trans (O9_q 0 0 a b (h0.trans (Nat.zero_add _).symm) h1)
  case piece44 =>
    obtain ⟨a, b, rfl⟩ := ix2_of (a := 128) (b := 128) x
    exact (cell_k E 1 0 (by decide) rfl rfl rfl rfl rfl rfl a b).trans (O9_k 1 0 a b h0 (h1.trans (Nat.zero_add _).symm))
  case piece43 =>
    obtain ⟨a, b, rfl⟩ := ix2_of (a := 128) (b := 128) x
    exact (cell_v E 1 0 (by decide) rfl rfl rfl rfl a b).trans (O9_v 1 0 a b h0 h1)
  case piece42 =>
    obtain ⟨a, b, rfl⟩ := ix2_of (a := 128) (b := 128) x
    exact (cell_q E 1 0 (by decide) (fun u w => (cell_n E 0 0 (by decide) rfl rfl rfl rfl rfl rfl u w).trans (tl_next 0 1 rfl 0 u w)) rfl rfl rfl rfl rfl rfl a b).trans (O9_q 1 0 a b h0 h1)
  case piece41 =>
    obtain ⟨a, b, rfl⟩ := ix2_of (a := 128) (b := 128) x
    exact (cell_k E 2 0 (by decide) rfl rfl rfl rfl rfl rfl a b).trans (O9_k 2 0 a b h0 (h1.trans (Nat.zero_add _).symm))
  case piece40 =>
    obtain ⟨a, b, rfl⟩ := ix2_of (a := 128) (b := 128) x
    exact (cell_v E 2 0 (by decide) rfl rfl rfl rfl a b).trans (O9_v 2 0 a b h0 h1)
  case piece39 =>
    obtain ⟨a, b, rfl⟩ := ix2_of (a := 128) (b := 128) x
    exact (cell_q E 2 0 (by decide) (fun u w => (cell_n E 1 0 (by decide) rfl rfl rfl rfl rfl rfl u w).trans (tl_next 1 2 rfl 0 u w)) rfl rfl rfl rfl rfl rfl a b).trans (O9_q 2 0 a b h0 h1)
  case piece38 =>
    obtain ⟨a, b, rfl⟩ := ix2_of (a := 128) (b := 128) x
    exact (last_k E 0 rfl rfl rfl rfl rfl rfl a b).trans (O9_k 3 0 a b h0 (h1.trans (Nat.zero_add _).symm))
  case piece37 =>
    obtain ⟨a, b, rfl⟩ := ix2_of (a := 128) (b := 128) x
    exact (last_v E 0 rfl rfl rfl rfl a b).trans (O9_v 3 0 a b h0 h1)
  case piece36 =>
    obtain ⟨a, b, rfl⟩ := ix2_of (a := 128) (b := 128) x
    exact (last_q E 0 (fun u w => (cell_n E 2 0 (by decide) rfl rfl rfl rfl rfl rfl u w).trans (tl_next 2 3 rfl 0 u w)) rfl rfl rfl rfl rfl rfl a b).trans (O9_q 3 0 a b h0 h1)
  case piece35 =>
    obtain ⟨a, b, rfl⟩ := ix2_of (a := 128) (b := 128) x
    exact (cell_k E 0 1 (by decide) rfl rfl rfl rfl rfl rfl a b).trans (O9_k 0 1 a b (h0.trans (Nat.zero_add _).symm) h1)
  case piece34 =>
    obtain ⟨a, b, rfl⟩ := ix2_of (a := 128) (b := 128) x
    exact (cell_v E 0 1 (by decide) rfl rfl rfl rfl a b).trans (O9_v 0 1 a b (h0.trans (Nat.zero_add _).symm) h1)
  case piece33 =>
    obtain ⟨a, b, rfl⟩ := ix2_of (a := 128) (b := 128) x
    exact (cell_q E 0 1 (by decide) (fun u w => car_of hx 1 rfl u w) rfl rfl rfl rfl rfl rfl a b).trans (O9_q 0 1 a b (h0.trans (Nat.zero_add _).symm) h1)
  case piece32 =>
    obtain ⟨a, b, rfl⟩ := ix2_of (a := 128) (b := 128) x
    exact (cell_k E 1 1 (by decide) rfl rfl rfl rfl rfl rfl a b).trans (O9_k 1 1 a b h0 h1)
  case piece31 =>
    obtain ⟨a, b, rfl⟩ := ix2_of (a := 128) (b := 128) x
    exact (cell_v E 1 1 (by decide) rfl rfl rfl rfl a b).trans (O9_v 1 1 a b h0 h1)
  case piece30 =>
    obtain ⟨a, b, rfl⟩ := ix2_of (a := 128) (b := 128) x
    exact (cell_q E 1 1 (by decide) (fun u w => (cell_n E 0 1 (by decide) rfl rfl rfl rfl rfl rfl u w).trans (tl_next 0 1 rfl 1 u w)) rfl rfl rfl rfl rfl rfl a b).trans (O9_q 1 1 a b h0 h1)
  case piece29 =>
    obtain ⟨a, b, rfl⟩ := ix2_of (a := 128) (b := 128) x
    exact (cell_k E 2 1 (by decide) rfl rfl rfl rfl rfl rfl a b).trans (O9_k 2 1 a b h0 h1)
  case piece28 =>
    obtain ⟨a, b, rfl⟩ := ix2_of (a := 128) (b := 128) x
    exact (cell_v E 2 1 (by decide) rfl rfl rfl rfl a b).trans (O9_v 2 1 a b h0 h1)
  case piece27 =>
    obtain ⟨a, b, rfl⟩ := ix2_of (a := 128) (b := 128) x
    exact (cell_q E 2 1 (by decide) (fun u w => (cell_n E 1 1 (by decide) rfl rfl rfl rfl rfl rfl u w).trans (tl_next 1 2 rfl 1 u w)) rfl rfl rfl rfl rfl rfl a b).trans (O9_q 2 1 a b h0 h1)
  case piece26 =>
    obtain ⟨a, b, rfl⟩ := ix2_of (a := 128) (b := 128) x
    exact (last_k E 1 rfl rfl rfl rfl rfl rfl a b).trans (O9_k 3 1 a b h0 h1)
  case piece25 =>
    obtain ⟨a, b, rfl⟩ := ix2_of (a := 128) (b := 128) x
    exact (last_v E 1 rfl rfl rfl rfl a b).trans (O9_v 3 1 a b h0 h1)
  case piece24 =>
    obtain ⟨a, b, rfl⟩ := ix2_of (a := 128) (b := 128) x
    exact (last_q E 1 (fun u w => (cell_n E 2 1 (by decide) rfl rfl rfl rfl rfl rfl u w).trans (tl_next 2 3 rfl 1 u w)) rfl rfl rfl rfl rfl rfl a b).trans (O9_q 3 1 a b h0 h1)
  case piece23 =>
    obtain ⟨a, b, rfl⟩ := ix2_of (a := 128) (b := 128) x
    exact (cell_k E 0 2 (by decide) rfl rfl rfl rfl rfl rfl a b).trans (O9_k 0 2 a b (h0.trans (Nat.zero_add _).symm) h1)
  case piece22 =>
    obtain ⟨a, b, rfl⟩ := ix2_of (a := 128) (b := 128) x
    exact (cell_v E 0 2 (by decide) rfl rfl rfl rfl a b).trans (O9_v 0 2 a b (h0.trans (Nat.zero_add _).symm) h1)
  case piece21 =>
    obtain ⟨a, b, rfl⟩ := ix2_of (a := 128) (b := 128) x
    exact (cell_q E 0 2 (by decide) (fun u w => car_of hx 2 rfl u w) rfl rfl rfl rfl rfl rfl a b).trans (O9_q 0 2 a b (h0.trans (Nat.zero_add _).symm) h1)
  case piece20 =>
    obtain ⟨a, b, rfl⟩ := ix2_of (a := 128) (b := 128) x
    exact (cell_k E 1 2 (by decide) rfl rfl rfl rfl rfl rfl a b).trans (O9_k 1 2 a b h0 h1)
  case piece19 =>
    obtain ⟨a, b, rfl⟩ := ix2_of (a := 128) (b := 128) x
    exact (cell_v E 1 2 (by decide) rfl rfl rfl rfl a b).trans (O9_v 1 2 a b h0 h1)
  case piece18 =>
    obtain ⟨a, b, rfl⟩ := ix2_of (a := 128) (b := 128) x
    exact (cell_q E 1 2 (by decide) (fun u w => (cell_n E 0 2 (by decide) rfl rfl rfl rfl rfl rfl u w).trans (tl_next 0 1 rfl 2 u w)) rfl rfl rfl rfl rfl rfl a b).trans (O9_q 1 2 a b h0 h1)
  case piece17 =>
    obtain ⟨a, b, rfl⟩ := ix2_of (a := 128) (b := 128) x
    exact (cell_k E 2 2 (by decide) rfl rfl rfl rfl rfl rfl a b).trans (O9_k 2 2 a b h0 h1)
  case piece16 =>
    obtain ⟨a, b, rfl⟩ := ix2_of (a := 128) (b := 128) x
    exact (cell_v E 2 2 (by decide) rfl rfl rfl rfl a b).trans (O9_v 2 2 a b h0 h1)
  case piece15 =>
    obtain ⟨a, b, rfl⟩ := ix2_of (a := 128) (b := 128) x
    exact (cell_q E 2 2 (by decide) (fun u w => (cell_n E 1 2 (by decide) rfl rfl rfl rfl rfl rfl u w).trans (tl_next 1 2 rfl 2 u w)) rfl rfl rfl rfl rfl rfl a b).trans (O9_q 2 2 a b h0 h1)
  case piece14 =>
    obtain ⟨a, b, rfl⟩ := ix2_of (a := 128) (b := 128) x
    exact (last_k E 2 rfl rfl rfl rfl rfl rfl a b).trans (O9_k 3 2 a b h0 h1)
  case piece13 =>
    obtain ⟨a, b, rfl⟩ := ix2_of (a := 128) (b := 128) x
    exact (last_v E 2 rfl rfl rfl rfl a b).trans (O9_v 3 2 a b h0 h1)
  case piece12 =>
    obtain ⟨a, b, rfl⟩ := ix2_of (a := 128) (b := 128) x
    exact (last_q E 2 (fun u w => (cell_n E 2 2 (by decide) rfl rfl rfl rfl rfl rfl u w).trans (tl_next 2 3 rfl 2 u w)) rfl rfl rfl rfl rfl rfl a b).trans (O9_q 3 2 a b h0 h1)
  case piece11 =>
    obtain ⟨a, b, rfl⟩ := ix2_of (a := 128) (b := 128) x
    exact (cell_k E 0 3 (by decide) rfl rfl rfl rfl rfl rfl a b).trans (O9_k 0 3 a b (h0.trans (Nat.zero_add _).symm) h1)
  case piece10 =>
    obtain ⟨a, b, rfl⟩ := ix2_of (a := 128) (b := 128) x
    exact (cell_v E 0 3 (by decide) rfl rfl rfl rfl a b).trans (O9_v 0 3 a b (h0.trans (Nat.zero_add _).symm) h1)
  case piece9 =>
    obtain ⟨a, b, rfl⟩ := ix2_of (a := 128) (b := 128) x
    exact (cell_q E 0 3 (by decide) (fun u w => car_of hx 3 rfl u w) rfl rfl rfl rfl rfl rfl a b).trans (O9_q 0 3 a b (h0.trans (Nat.zero_add _).symm) h1)
  case piece8 =>
    obtain ⟨a, b, rfl⟩ := ix2_of (a := 128) (b := 128) x
    exact (cell_k E 1 3 (by decide) rfl rfl rfl rfl rfl rfl a b).trans (O9_k 1 3 a b h0 h1)
  case piece7 =>
    obtain ⟨a, b, rfl⟩ := ix2_of (a := 128) (b := 128) x
    exact (cell_v E 1 3 (by decide) rfl rfl rfl rfl a b).trans (O9_v 1 3 a b h0 h1)
  case piece6 =>
    obtain ⟨a, b, rfl⟩ := ix2_of (a := 128) (b := 128) x
    exact (cell_q E 1 3 (by decide) (fun u w => (cell_n E 0 3 (by decide) rfl rfl rfl rfl rfl rfl u w).trans (tl_next 0 1 rfl 3 u w)) rfl rfl rfl rfl rfl rfl a b).trans (O9_q 1 3 a b h0 h1)
  case piece5 =>
    obtain ⟨a, b, rfl⟩ := ix2_of (a := 128) (b := 128) x
    exact (cell_k E 2 3 (by decide) rfl rfl rfl rfl rfl rfl a b).trans (O9_k 2 3 a b h0 h1)
  case piece4 =>
    obtain ⟨a, b, rfl⟩ := ix2_of (a := 128) (b := 128) x
    exact (cell_v E 2 3 (by decide) rfl rfl rfl rfl a b).trans (O9_v 2 3 a b h0 h1)
  case piece3 =>
    obtain ⟨a, b, rfl⟩ := ix2_of (a := 128) (b := 128) x
    exact (cell_q E 2 3 (by decide) (fun u w => (cell_n E 1 3 (by decide) rfl rfl rfl rfl rfl rfl u w).trans (tl_next 1 2 rfl 3 u w)) rfl rfl rfl rfl rfl rfl a b).trans (O9_q 2 3 a b h0 h1)
  case piece2 =>
    obtain ⟨a, b, rfl⟩ := ix2_of (a := 128) (b := 128) x
    exact (last_k E 3 rfl rfl rfl rfl rfl rfl a b).trans (O9_k 3 3 a b h0 h1)
  case piece1 =>
    obtain ⟨a, b, rfl⟩ := ix2_of (a := 128) (b := 128) x
    exact (last_v E 3 rfl rfl rfl rfl a b).trans (O9_v 3 3 a b h0 h1)
  case piece0 =>
    obtain ⟨a, b, rfl⟩ := ix2_of (a := 128) (b := 128) x
    exact (last_q E 3 (fun u w => (cell_n E 2 3 (by decide) rfl rfl rfl rfl rfl rfl u w).trans (tl_next 2 3 rfl 3 u w)) rfl rfl rfl rfl rfl rfl a b).trans (O9_q 3 3 a b h0 h1)

set_option maxHeartbeats 2000000 in
/-- What a later point leaves for the next. -/
theorem out3_B (I : Inp) (r : Fin 4) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S8x128x256 .f32) (harg6 : arg6.IsWhole) (arg7 : Memref sig .tc .vmem S512x512 .bf16) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x128 .f32) (harg10 : arg10.IsWhole) (arg11 : Memref sig .tc .vmem S512x1536 .bf16) (harg11 : arg11.IsWhole) (arg12 : Memref sig .tc .vmem S8x128x256 .f32) (harg12 : arg12.IsWhole) (arg13 : Memref sig .tc .vmem S640x512 .bf16) (harg13 : arg13.IsWhole) (arg14 : Memref sig .tc .vmem S640x512 .bf16) (harg14 : arg14.IsWhole) (arg15 : Memref sig .tc .vmem S128x640 .f32) (harg15 : arg15.IsWhole) (arg16 : Memref sig .tc .vmem S128x512 .f32) (harg16 : arg16.IsWhole) (hc0 : ¬cond0_0 i)
    (x0 : Vec Ideal S512x512 .bf16) (x1 : Vec Ideal S512x512 .bf16) (x2 : Vec Ideal S512x512 .bf16) (x3 : Vec Ideal S128x512 .bf16) (x4 : Vec Ideal S8x128x256 .f32) (x5 : Vec Ideal S512x512 .bf16) (x6 : Vec Ideal S128x512 .bf16) (x7 : Vec Ideal S512x128 .f32) (x8 : Vec Ideal S128x128 .f32) (xo10 : Vec Ideal S8x128x256 .f32) (xs3 : Vec Ideal S128x512 .f32) (E : Pt I r (i 1) x0 x1 x2 x3 x4 x5 x6 x7 x8)
    (y : S128x512.Idx) : sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xs3 y = ((I.tlo r (nb (i 1) 3) (hc (y 1)) (y 0) (dc (y 1)) : ℝ) : EReal) := by
  frame_out
  simp only [cov_rows, cov_rows', cov_stat]
  canon_tiles x h
  case piece3 =>
    obtain ⟨a, b, rfl⟩ := ix2_of (a := 128) (b := 128) x
    exact (cast_same _ _ a b).trans ((last_n E 0 rfl rfl rfl rfl rfl rfl a b).trans (O3_eq (nb (i 1) 3) 0 a b h0 (h1.trans (Nat.zero_add _).symm)))
  case piece2 =>
    obtain ⟨a, b, rfl⟩ := ix2_of (a := 128) (b := 128) x
    exact (cast_same _ _ a b).trans ((last_n E 1 rfl rfl rfl rfl rfl rfl a b).trans (O3_eq (nb (i 1) 3) 1 a b h0 h1))
  case piece1 =>
    obtain ⟨a, b, rfl⟩ := ix2_of (a := 128) (b := 128) x
    exact (cast_same _ _ a b).trans ((last_n E 2 rfl rfl rfl rfl rfl rfl a b).trans (O3_eq (nb (i 1) 3) 2 a b h0 h1))
  case piece0 =>
    obtain ⟨a, b, rfl⟩ := ix2_of (a := 128) (b := 128) x
    exact (cast_same _ _ a b).trans ((last_n E 3 rfl rfl rfl rfl rfl rfl a b).trans (O3_eq (nb (i 1) 3) 3 a b h0 h1))

set_option maxHeartbeats 2000000 in
/-- A later point's part of the bias's gradient, added to the parts before. -/
theorem out10_B (I : Inp) (r : Fin 4) (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S128x512 .bf16) (harg5 : arg5.IsWhole) (arg6 : Memref sig .tc .vmem S8x128x256 .f32) (harg6 : arg6.IsWhole) (arg7 : Memref sig .tc .vmem S512x512 .bf16) (harg7 : arg7.IsWhole) (arg8 : Memref sig .tc .vmem S128x512 .bf16) (harg8 : arg8.IsWhole) (arg9 : Memref sig .tc .vmem S512x128 .f32) (harg9 : arg9.IsWhole) (arg10 : Memref sig .tc .vmem S128x128 .f32) (harg10 : arg10.IsWhole) (arg11 : Memref sig .tc .vmem S512x1536 .bf16) (harg11 : arg11.IsWhole) (arg12 : Memref sig .tc .vmem S8x128x256 .f32) (harg12 : arg12.IsWhole) (arg13 : Memref sig .tc .vmem S640x512 .bf16) (harg13 : arg13.IsWhole) (arg14 : Memref sig .tc .vmem S640x512 .bf16) (harg14 : arg14.IsWhole) (arg15 : Memref sig .tc .vmem S128x640 .f32) (harg15 : arg15.IsWhole) (arg16 : Memref sig .tc .vmem S128x512 .f32) (harg16 : arg16.IsWhole) (hc0 : ¬cond0_0 i)
    (x0 : Vec Ideal S512x512 .bf16) (x1 : Vec Ideal S512x512 .bf16) (x2 : Vec Ideal S512x512 .bf16) (x3 : Vec Ideal S128x512 .bf16) (x4 : Vec Ideal S8x128x256 .f32) (x5 : Vec Ideal S512x512 .bf16) (x6 : Vec Ideal S128x512 .bf16) (x7 : Vec Ideal S512x128 .f32) (x8 : Vec Ideal S128x128 .f32) (xo10 : Vec Ideal S8x128x256 .f32) (xs3 : Vec Ideal S128x512 .f32) (E : Pt I r (i 1) x0 x1 x2 x3 x4 x5 x6 x7 x8)
    (D : Fin 8 → Fin 128 → Fin 256 → ℝ) (hD : ∀ h b q, xo10 (ix3 h b q) = ((D h b q : ℝ) : EReal))
    (y : S8x128x256.Idx) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo10 xs3 y = ((D (y 0) (y 1) (y 2) + ∑ j : Fin 4, I.Dk r (nb (i 1) j) (y 0) (y 1) (y 2) : ℝ) : EReal) := by
  frame_out
  simp only [cov_rows, cov_rows', cov_stat]
  canon_tiles x h
  case piece7 =>
    obtain ⟨a, b, rfl⟩ := ix3_of (a := 128) (b := 256) x
    refine (db_val 0 0 D hD (a1 := inb_S8x128x256_S1x128x256_0_0_0) (cell_d0 E 0 0 (by decide) rfl rfl rfl rfl (b0 := inb_S8x128x256_S1x128x256_0_0_0)) (cell_d0 E 1 0 (by decide) rfl rfl rfl rfl (b0 := inb_S8x128x256_S1x128x256_0_0_0)) (cell_d0 E 2 0 (by decide) rfl rfl rfl rfl (b0 := inb_S8x128x256_S1x128x256_0_0_0)) (last_d0 E 0 rfl rfl rfl rfl (b0 := inb_S8x128x256_S1x128x256_0_0_0)) rfl a b h0 h1 h2).trans ?_
    rfl
  case piece6 =>
    obtain ⟨a, b, rfl⟩ := ix3_of (a := 128) (b := 256) x
    refine (db_val 0 1 D hD (a1 := inb_S8x128x256_S1x128x256_1_0_0) (cell_d1 E 0 0 (by decide) rfl rfl rfl rfl (b1 := inb_S8x128x256_S1x128x256_1_0_0)) (cell_d1 E 1 0 (by decide) rfl rfl rfl rfl (b1 := inb_S8x128x256_S1x128x256_1_0_0)) (cell_d1 E 2 0 (by decide) rfl rfl rfl rfl (b1 := inb_S8x128x256_S1x128x256_1_0_0)) (last_d1 E 0 rfl rfl rfl rfl (b1 := inb_S8x128x256_S1x128x256_1_0_0)) rfl a b h0 h1 h2).trans ?_
    rfl
  case piece5 =>
    obtain ⟨a, b, rfl⟩ := ix3_of (a := 128) (b := 256) x
    refine (db_val 1 0 D hD (a1 := inb_S8x128x256_S1x128x256_2_0_0) (cell_d0 E 0 1 (by decide) rfl rfl rfl rfl (b0 := inb_S8x128x256_S1x128x256_2_0_0)) (cell_d0 E 1 1 (by decide) rfl rfl rfl rfl (b0 := inb_S8x128x256_S1x128x256_2_0_0)) (cell_d0 E 2 1 (by decide) rfl rfl rfl rfl (b0 := inb_S8x128x256_S1x128x256_2_0_0)) (last_d0 E 1 rfl rfl rfl rfl (b0 := inb_S8x128x256_S1x128x256_2_0_0)) rfl a b h0 h1 h2).trans ?_
    rfl
  case piece4 =>
    obtain ⟨a, b, rfl⟩ := ix3_of (a := 128) (b := 256) x
    refine (db_val 1 1 D hD (a1 := inb_S8x128x256_S1x128x256_3_0_0) (cell_d1 E 0 1 (by decide) rfl rfl rfl rfl (b1 := inb_S8x128x256_S1x128x256_3_0_0)) (cell_d1 E 1 1 (by decide) rfl rfl rfl rfl (b1 := inb_S8x128x256_S1x128x256_3_0_0)) (cell_d1 E 2 1 (by decide) rfl rfl rfl rfl (b1 := inb_S8x128x256_S1x128x256_3_0_0)) (last_d1 E 1 rfl rfl rfl rfl (b1 := inb_S8x128x256_S1x128x256_3_0_0)) rfl a b h0 h1 h2).trans ?_
    rfl
  case piece3 =>
    obtain ⟨a, b, rfl⟩ := ix3_of (a := 128) (b := 256) x
    refine (db_val 2 0 D hD (a1 := inb_S8x128x256_S1x128x256_4_0_0) (cell_d0 E 0 2 (by decide) rfl rfl rfl rfl (b0 := inb_S8x128x256_S1x128x256_4_0_0)) (cell_d0 E 1 2 (by decide) rfl rfl rfl rfl (b0 := inb_S8x128x256_S1x128x256_4_0_0)) (cell_d0 E 2 2 (by decide) rfl rfl rfl rfl (b0 := inb_S8x128x256_S1x128x256_4_0_0)) (last_d0 E 2 rfl rfl rfl rfl (b0 := inb_S8x128x256_S1x128x256_4_0_0)) rfl a b h0 h1 h2).trans ?_
    rfl
  case piece2 =>
    obtain ⟨a, b, rfl⟩ := ix3_of (a := 128) (b := 256) x
    refine (db_val 2 1 D hD (a1 := inb_S8x128x256_S1x128x256_5_0_0) (cell_d1 E 0 2 (by decide) rfl rfl rfl rfl (b1 := inb_S8x128x256_S1x128x256_5_0_0)) (cell_d1 E 1 2 (by decide) rfl rfl rfl rfl (b1 := inb_S8x128x256_S1x128x256_5_0_0)) (cell_d1 E 2 2 (by decide) rfl rfl rfl rfl (b1 := inb_S8x128x256_S1x128x256_5_0_0)) (last_d1 E 2 rfl rfl rfl rfl (b1 := inb_S8x128x256_S1x128x256_5_0_0)) rfl a b h0 h1 h2).trans ?_
    rfl
  case piece1 =>
    obtain ⟨a, b, rfl⟩ := ix3_of (a := 128) (b := 256) x
    refine (db_val 3 0 D hD (a1 := inb_S8x128x256_S1x128x256_6_0_0) (cell_d0 E 0 3 (by decide) rfl rfl rfl rfl (b0 := inb_S8x128x256_S1x128x256_6_0_0)) (cell_d0 E 1 3 (by decide) rfl rfl rfl rfl (b0 := inb_S8x128x256_S1x128x256_6_0_0)) (cell_d0 E 2 3 (by decide) rfl rfl rfl rfl (b0 := inb_S8x128x256_S1x128x256_6_0_0)) (last_d0 E 3 rfl rfl rfl rfl (b0 := inb_S8x128x256_S1x128x256_6_0_0)) rfl a b h0 h1 h2).trans ?_
    rfl
  case piece0 =>
    obtain ⟨a, b, rfl⟩ := ix3_of (a := 128) (b := 256) x
    refine (db_val 3 1 D hD (a1 := inb_S8x128x256_S1x128x256_7_0_0) (cell_d1 E 0 3 (by decide) rfl rfl rfl rfl (b1 := inb_S8x128x256_S1x128x256_7_0_0)) (cell_d1 E 1 3 (by decide) rfl rfl rfl rfl (b1 := inb_S8x128x256_S1x128x256_7_0_0)) (cell_d1 E 2 3 (by decide) rfl rfl rfl rfl (b1 := inb_S8x128x256_S1x128x256_7_0_0)) (last_d1 E 3 rfl rfl rfl rfl (b1 := inb_S8x128x256_S1x128x256_7_0_0)) rfl a b h0 h1 h2).trans ?_
    rfl

end Cert.KernelIdeal.Value
end
-- ==== Proof.KerRun.lean ====
module

public import proofs.«01_k».proof.Proof.KerBlk
public import proofs.«01_k».proof.Proof.KerBodyA
public import proofs.«01_k».proof.Proof.KerBodyB

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem
open Cert.Attn

/-- The residue class and the chunk of the `t`-th point. -/
def cl (t : ℕ) : Fin 4 := ⟨t / 8 % 4, by omega⟩
def ch (t : ℕ) : Fin 8 := ⟨t % 8, by omega⟩

/-- The bias gradient summed over the first `n` points. -/
def acc (I : Inp) (n : ℕ) (h : Fin 8) (b : Fin 128) (q : Fin 256) : ℝ :=
  ∑ t ∈ Finset.range n, ∑ j : Fin 4, I.Dk (cl t) (nb (ch t) j) h b q

theorem acc_succ (I : Inp) (n h b q) : acc I (n + 1) h b q = acc I n h b q + ∑ j : Fin 4, I.Dk (cl n) (nb (ch n) j) h b q :=
  Finset.sum_range_succ _ n

variable {m : (ℓ : Loc nD τ sig) → Buf (Elt Ideal) ℓ} {c : Dev nD} {I : Inp} (H : Of I (fun b => m (c, b)))

theorem co1 (t : Fin cfg0.N) : (grid0.coords t 1 : Fin 8) = ch t.val := Fin.ext (idx t).2.2.2.2.2.2.2.2.2.2.2.2.1
theorem pr_cl (t : Fin cfg0.N) : pr t = cl t.val := by
  have := (idx t).2.2.2.2.2.2.2.2.2.2.2.2.2
  unfold pr cl; ext; simp only []; omega
include H in
theorem pt' (t : Fin cfg0.N) : Pt I (cl t.val) (grid0.coords t 1) (iblk m c 0 t) (iblk m c 1 t) (iblk m c 2 t) (iblk m c 3 t) (iblk m c 4 t) (iblk m c 5 t) (iblk m c 6 t)
    (iblk m c 7 t) (iblk m c 8 t) := by
  rw [co1, ← pr_cl]
  exact pt H t

/-- What the body has left after the `n`-th point: the gradients of the chunk, the bias gradient so far, the rows carried on. -/
structure Inv (I : Inp) (n : ℕ) (o : Vec Ideal S512x1536 .bf16 × Vec Ideal S8x128x256 .f32 × Vec Ideal S128x512 .f32) : Prop where
  g : ∀ y z, o.1 (ix2 y z) = ((O9 I (cl n) (ch n) y z : ℝ) : EReal)
  d : ∀ h b q, o.2.1 (ix3 h b q) = ((acc I (n + 1) h b q : ℝ) : EReal)
  t : ∀ a z, o.2.2 (ix2 a z) = ((I.tlo (cl n) (nb (ch n) 3) (hc z) a (dc z) : ℝ) : EReal)

/-- The rows carried on are what the next point's first block takes up: nothing across residue classes. -/
theorem carry (n : ℕ) (hn : ¬ (n + 1) % 32 = 0) (h a d) : I.tlo (cl n) (nb (ch n) 3) h a d = I.tl (cl (n + 1)) (nb (ch (n + 1)) 0) h a d := by
  by_cases h7 : n % 8 = 7
  · rw [I.tlo_last _ _ _ _ _ (by unfold nb ch; simp only [h7]; decide)]
    unfold Inp.tl
    rw [if_pos (by unfold nb ch; simp only [show (n + 1) % 8 = 0 by omega]; decide)]
  · have e : ((nb (ch n) 3 : Fin 32) : ℕ) = 4 * (n % 8) + 3 := rfl
    rw [I.tlo_eq _ _ _ _ _ (by rw [e]; omega)]
    have e1 : cl (n + 1) = cl n := by unfold cl; ext; simp only []; omega
    have e2 : nx (nb (ch n) 3) = nb (ch (n + 1)) 0 := by
      have e3 : ((nb (ch (n + 1)) 0 : Fin 32) : ℕ) = 4 * ((n + 1) % 8) + 0 := rfl
      unfold nx; ext; rw [e3]; simp only [e]; omega
    rw [e1, e2]

include H in
/-- The first point. -/
theorem inv_A (t : Fin cfg0.N) (h0 : t.val % 32 = 0) : Inv I t.val (outsAt0 m c t.val t.isLt) := by
  have ht := (idx t).2.2.2.2.2.2.2.2.2.2.2.2.2
  have ez : t.val = 0 := by omega
  rw [outsAt0_A m c t h0]
  refine ⟨fun y z => ?_, fun h b q => ?_, fun a z => ?_⟩ <;> dsimp only
  · refine (out9_A I (cl t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (pt' H t)
      (by rw [co1]; unfold ch; simp only []; omega) (ix2 y z)).trans ?_
    rw [co1]
    rfl
  · refine (out10_A I (cl t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (pt' H t) (ix3 h b q)).trans ?_
    rw [co1, acc_succ]
    have e : acc I t.val h b q = 0 := by rw [ez]; rfl
    rw [e]; rfl
  · refine (out3_A I (cl t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (pt' H t) (ix2 a z)).trans ?_
    rw [co1]
    rfl

include H in
/-- A later point, from the one before. -/
theorem inv_B (t : Fin cfg0.N) (h0 : ¬ t.val % 32 = 0)
    (J : Inv I (t.val - 1) (outsAt0 m c (t.val - 1) (Nat.lt_of_le_of_lt (Nat.sub_le _ _) t.isLt))) : Inv I t.val (outsAt0 m c t.val t.isLt) := by
  have e1 : t.val - 1 + 1 = t.val := by omega
  rw [outsAt0_B m c t h0]
  have hx : ∀ a z, (outsAt0 m c (t.val - 1) (Nat.lt_of_le_of_lt (Nat.sub_le _ _) t.isLt)).2.2 (ix2 a z)
      = ((I.tl (cl t.val) (nb (grid0.coords t 1) 0) (hc z) a (dc z) : ℝ) : EReal) := fun a z => by
    rw [J.t a z, carry _ (by rw [e1]; exact h0), e1, co1]
  have hD := J.d
  rw [e1] at hD
  refine ⟨fun y z => ?_, fun h b q => ?_, fun a z => ?_⟩ <;> dsimp only
  · refine (out9_B I (cl t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (pt' H t) hx (ix2 y z)).trans ?_
    rw [co1]
    rfl
  · refine (out10_B I (cl t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (pt' H t) (acc I t.val) hD (ix3 h b q)).trans ?_
    rw [co1, acc_succ]; rfl
  · refine (out3_B I (cl t.val) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2 (pt' H t) (ix2 a z)).trans ?_
    rw [co1]
    rfl

include H in
/-- Every point. -/
theorem inv : ∀ (n : ℕ) (hn : n < cfg0.N), Inv I n (outsAt0 m c n hn)
  | 0, hn => inv_A H ⟨0, hn⟩ rfl
  | n + 1, hn => by
    by_cases h0 : (n + 1) % 32 = 0
    · exact inv_A H ⟨n + 1, hn⟩ h0
    · exact inv_B H ⟨n + 1, hn⟩ h0 (inv n (Nat.lt_of_succ_lt hn))

end Cert.KernelIdeal.Value
end
-- ==== Proof.RefOut.lean ====
module

public import proofs.«01_k».proof.Proof.RefBwd

@[expose] public section

set_option maxRecDepth 16384

noncomputable section

namespace Cert.Attn.Inp
variable (I : Inp)

/-- The result's row `i`, column `j`: the rows by residue class, in the columns the gradients of the keys, of the values and of the queries. -/
def res (i : Fin 16384) (j : Fin 1536) : ℝ :=
  let r : Fin 4 := ⟨i / 4096, by omega⟩
  let n : Fin 32 := ⟨i % 4096 / 128, by omega⟩
  let a : Fin 128 := ⟨i % 128, by omega⟩
  let h : Fin 8 := ⟨j % 512 / 64, by omega⟩
  let d : Fin 64 := ⟨j % 64, by omega⟩
  if (j : ℕ) < 512 then I.dk r n h a d else if (j : ℕ) < 1024 then I.dv r n h a d else I.dq r n h a d

/-- The bias gradient in the kernel's layout: at key row `b`, the own block's columns, then the previous block's. -/
def resb (h : Fin 8) (b : Fin 128) (j : Fin 256) : ℝ :=
  if hj : (j : ℕ) < 128 then I.db h ⟨j, hj⟩ ⟨b + 128, by omega⟩ else I.db h ⟨j - 128, by omega⟩ ⟨b, by omega⟩

end Cert.Attn.Inp

namespace Cert.ReferenceIdeal.Value

open Cert.ReferenceIdeal Cert.ReferenceIdeal.Gen Idealize.ShloMosaic Idealize.ShloMosaic.TcCoe Idealize.SL.Sem Idealize.ShloMosaic.StableHlo
open Cert.Attn

/-- The first result gathered from the three gradients. -/
theorem out_at (k v : FVec Ideal S1x4x4224x8x64 .f32) (s : FVec Ideal S1x4x32x8x128x256 .f32) (w : FVec Ideal S1x4x32x256x8x64 .f32)
    (i : Fin 16384) (j : Fin 1536) :
    (truncf .bf16 (shapeCast _ (transpose S4x4096x1536 [1, 0, 2] (shapeCast _ ((concatenate S16384x1536 1 [⟨S16384x512, ((shapeCast _ (shapeCast _ (shapeCast _ (transpose S1x4096x4x8x64 [0, 2, 1, 3, 4] (extractStridedSlice S1x4x4096x8x64 ![0, 0, 128, 0, 0] k slices_S1x4x4224x8x64_S1x4x4096x8x64_0_0_128_0_0) transposes_S1x4x4096x8x64_S1x4096x4x8x64_0_2_1_3_4) shapeCasts_S1x4096x4x8x64_S1x16384x8x64) shapeCasts_S1x16384x8x64_S16384x8x64) shapeCasts_S16384x8x64_S16384x512) : (⟨S16384x512, .f32⟩ : BufTy).Contents (Elt Ideal))⟩, ⟨S16384x512, ((shapeCast _ (shapeCast _ (shapeCast _ (transpose S1x4096x4x8x64 [0, 2, 1, 3, 4] (extractStridedSlice S1x4x4096x8x64 ![0, 0, 128, 0, 0] v slices_S1x4x4224x8x64_S1x4x4096x8x64_0_0_128_0_0) transposes_S1x4x4096x8x64_S1x4096x4x8x64_0_2_1_3_4) shapeCasts_S1x4096x4x8x64_S1x16384x8x64) shapeCasts_S1x16384x8x64_S16384x8x64) shapeCasts_S16384x8x64_S16384x512) : (⟨S16384x512, .f32⟩ : BufTy).Contents (Elt Ideal))⟩, ⟨S16384x512, ((shapeCast _ (shapeCast _ (shapeCast _ (transpose S1x4096x4x8x64 [0, 2, 1, 3, 4] (shapeCast _ (transpose S1x4x32x128x8x64 [0, 1, 2, 4, 3, 5] (Host.dotGeneral dot_S1x4x32x8x128x256_S1x4x32x256x8x64_S1x4x32x8x128x64_5_3_4_5_0123_0124 none s w) transposes_S1x4x32x8x128x64_S1x4x32x128x8x64_0_1_2_4_3_5) shapeCasts_S1x4x32x128x8x64_S1x4x4096x8x64) transposes_S1x4x4096x8x64_S1x4096x4x8x64_0_2_1_3_4) shapeCasts_S1x4096x4x8x64_S1x16384x8x64) shapeCasts_S1x16384x8x64_S16384x8x64) shapeCasts_S16384x8x64_S16384x512) : (⟨S16384x512, .f32⟩ : BufTy).Contents (Elt Ideal))⟩] concatenates_S16384x512_S16384x512_S16384x512_S16384x1536_d1 : (⟨S16384x1536, .f32⟩ : BufTy).Contents (Elt Ideal))) shapeCasts_S16384x1536_S4096x4x1536) transposes_S4096x4x1536_S4x4096x1536_1_0_2) shapeCasts_S4x4096x1536_S16384x1536) bitsLt_bf16_f32 : FVec Ideal S16384x1536 .bf16) (ix2 i j)
      = if (j : ℕ) < 512 then k (ix5 0 ⟨i / 4096, by omega⟩ ⟨128 + (i % 4096 / 128 * 128 + i % 128), by omega⟩ ⟨j % 512 / 64, by omega⟩ ⟨j % 64, by omega⟩)
        else if (j : ℕ) < 1024 then
          v (ix5 0 ⟨i / 4096, by omega⟩ ⟨128 + (i % 4096 / 128 * 128 + i % 128), by omega⟩ ⟨j % 512 / 64, by omega⟩ ⟨j % 64, by omega⟩)
        else ∑ x : Fin 256,
          s (ix6 0 ⟨i / 4096, by omega⟩ ⟨i % 4096 / 128, by omega⟩ ⟨j % 512 / 64, by omega⟩ ⟨i % 128, by omega⟩ x)
            * w (ix6 0 ⟨i / 4096, by omega⟩ ⟨i % 4096 / 128, by omega⟩ x ⟨j % 512 / 64, by omega⟩ ⟨j % 64, by omega⟩) := by
  pointwise
  have q : ((i : ℕ) % 4096 * 4 + (i : ℕ) / 4096) / 4 = i % 4096 := by omega
  have q2 : (i : ℕ) % 4096 / 128 * 128 + i % 128 = i % 4096 := by omega
  have r1 : ((i : ℕ) % 4096 * 4 + (i : ℕ) / 4096) % 4 = i / 4096 := by omega
  have r4 : (i : ℕ) % 4096 % 128 = i % 128 := by omega
  simp only [r1, q, q2, r4]
  by_cases c1 : (j : ℕ) < 512
  · have h1 : (j : ℕ) % 512 = j := by omega
    simp only [c1, ↓reduceDIte, ↓reduceIte, h1]
  by_cases c2 : (j : ℕ) < 1024
  · have c3 : (j : ℕ) - 512 < 512 := by omega
    have h1 : (j : ℕ) % 512 = j - 512 := by omega
    have h2 : ((j : ℕ) - 512) % 64 = j % 64 := by omega
    simp only [c1, c2, c3, ↓reduceDIte, ↓reduceIte, h1, h2]
  · have c3 : ¬ (j : ℕ) - 512 < 512 := by omega
    have h1 : (j : ℕ) % 512 = j - 512 - 512 := by omega
    have h2 : ((j : ℕ) - 512 - 512) % 64 = j % 64 := by omega
    simp only [c1, c2, c3, ↓reduceDIte, ↓reduceIte, h1, h2]

/-- The second result gathered from the bias gradient. -/
theorem outb_at (y : FVec Ideal S8x256x128 .f32) (h : Fin 8) (b : Fin 128) (j : Fin 256) :
    (concatenate S8x128x256 2 [⟨S8x128x128, (extractStridedSlice S8x128x128 ![0, 128, 0] y slices_S8x256x128_S8x128x128_0_128_0)⟩, ⟨S8x128x128, (extractStridedSlice S8x128x128 ![0, 0, 0] y slices_S8x256x128_S8x128x128_0_0_0)⟩] concatenates_S8x128x128_S8x128x128_S8x128x256_d2 : FVec Ideal S8x128x256 .f32) (ix3 h b j) =
      if hj : (j : ℕ) < 128 then y (ix3 h ⟨b + 128, by omega⟩ ⟨j, hj⟩) else y (ix3 h ⟨b, by omega⟩ ⟨j - 128, by omega⟩) := by
  pointwise
  have e3 : ∀ hh, (⟨128 + (b : ℕ), hh⟩ : Fin 256) = ⟨b + 128, by omega⟩ := fun _ => Fin.ext (by simp only []; omega)
  simp only [e3]

variable {I : Inp} {V0 : Valuation τ sig (Elt Ideal)} (H : Of I V0)
include H

/-- The reference's first result, at every row and column. -/
theorem result_at (i : Fin 16384) (j : Fin 1536) :
    (val5 V0 (Proc.devRef .tc main_v231) : FVec Ideal S16384x1536 .bf16) (ix2 i j) = ((I.res i j : ℝ) : EReal) := by
  choose M hM using m_at H
  choose X hX using top_at H hM
  refine (congrFun (val5_main_v231 V0) (ix2 i j)).trans ?_
  refine (out_at (res_main_v209 V0) (res_main_v199 V0) (res_main_v189 V0) (res_main_v11 V0) i j).trans ?_
  unfold Inp.res
  simp only []
  split_ifs
  · exact dks_at H hM hX ⟨i / 4096, by omega⟩ ⟨i % 4096 / 128, by omega⟩ ⟨i % 128, by omega⟩ ⟨j % 512 / 64, by omega⟩ ⟨j % 64, by omega⟩
  · exact dvs_at H hM hX ⟨i / 4096, by omega⟩ ⟨i % 4096 / 128, by omega⟩ ⟨i % 128, by omega⟩ ⟨j % 512 / 64, by omega⟩ ⟨j % 64, by omega⟩
  · simp only [ds8_at H hM hX, k_at H, ← EReal.coe_mul, ← coe_sum]
    congr 1
    unfold Inp.dq
    rw [Finset.sum_mul]
    exact Finset.sum_congr rfl fun c _ => by ring

/-- The reference's second result, at every index. -/
theorem resultb_at (h : Fin 8) (b : Fin 128) (j : Fin 256) :
    (val5 V0 (Proc.devRef .tc main_v230) : FVec Ideal S8x128x256 .f32) (ix3 h b j) = ((I.resb h b j : ℝ) : EReal) := by
  choose M hM using m_at H
  choose X hX using top_at H hM
  refine (congrFun (val5_main_v230 V0) (ix3 h b j)).trans ?_
  refine (outb_at (res_main_v227 V0) h b j).trans ?_
  unfold Inp.resb
  split_ifs
  · exact db_at H hM hX ..
  · exact db_at H hM hX ..

end Cert.ReferenceIdeal.Value
-- ==== Proof.KerOut.lean ====
module

public import proofs.«01_k».proof.Proof.KerRun
public import proofs.«01_k».proof.Proof.RefOut

@[expose] public section

set_option maxRecDepth 16384

noncomputable section

namespace Cert.KernelIdeal.Value

open Cert.KernelIdeal Cert.KernelIdeal.Gen Idealize.ShloMosaic Idealize.ShloMosaic.TcCoe Idealize.ShloMosaic.Tactic Idealize.SL.Sem
open Cert.Attn

/-- A chunk's gradients are rows of the whole result. -/
theorem O9_res (I : Inp) (n : ℕ) (hn : n < 32) (y : Fin 512) (z : Fin 1536) (h : n * 512 + (y : ℕ) < 16384) :
    O9 I (cl n) (ch n) y z = I.res ⟨n * 512 + y, h⟩ z := by
  unfold O9 Inp.res
  have e1 : (⟨(n * 512 + (y : ℕ)) / 4096, by omega⟩ : Fin 4) = cl n := by unfold cl; ext; simp only []; omega
  have e2 : (⟨(n * 512 + (y : ℕ)) % 4096 / 128, by omega⟩ : Fin 32) = ⟨4 * (ch n : ℕ) + y / 128, by omega⟩ := by unfold ch; ext; simp only []; omega
  have e3 : (⟨(n * 512 + (y : ℕ)) % 128, by omega⟩ : Fin 128) = ⟨y % 128, by omega⟩ := by ext; simp only []; omega
  simp only [e1, e2, e3]

theorem ds_zero (I : Inp) (r : Fin 4) (h : Fin 8) (a b : Fin 128) : I.ds r 0 h a ⟨b, by omega⟩ = 0 := by
  unfold Inp.ds Inp.P Inp.w
  rw [if_neg (by unfold Sees; simp only [Fin.val_zero]; omega)]
  simp

/-- The thirty-two points' chunks are the residue classes' blocks. -/
theorem sum_points (f : Fin 4 → Fin 32 → ℝ) : ∑ t ∈ Finset.range 32, ∑ j : Fin 4, f (cl t) (nb (ch t) j) = ∑ r, ∑ n, f r n := by
  rw [Finset.sum_range]
  have e : ∀ r : Fin 4, ∑ n, f r n = ∑ i : Fin 8, ∑ j : Fin 4, f r (nb i j) := fun r => by
    refine (Fin.sum_mul_add_congr fun i j hl => ?_).symm
    congr 1; unfold nb; ext; simp only []; omega
  simp only [e]
  refine (Fin.sum_mul_add_congr fun r i hl => ?_).symm
  have e1 : cl ((r : ℕ) * 8 + i) = r := by unfold cl; ext; simp only []; omega
  have e2 : ch ((r : ℕ) * 8 + i) = i := by unfold ch; ext; simp only []; omega
  simp only [e1, e2]

/-- The bias gradient after the last point. -/
theorem acc_last (I : Inp) (h : Fin 8) (b : Fin 128) (q : Fin 256) : acc I 32 h b q = I.resb h b q := by
  unfold acc
  rw [sum_points (fun r n => I.Dk r n h b q)]
  unfold Inp.resb Inp.db
  by_cases hq : (q : ℕ) < 128
  · rw [dif_pos hq]
    refine Finset.sum_congr rfl fun r _ => Finset.sum_congr rfl fun n _ => ?_
    exact I.Dk_own r n h b ⟨q, hq⟩
  · rw [dif_neg hq]
    refine Finset.sum_congr rfl fun r _ => ?_
    have e : ∀ n, I.Dk r n h b q = if (n : ℕ) + 1 < 32 then I.ds r (nx n) h ⟨q - 128, by omega⟩ ⟨b, by omega⟩ else 0 := fun n => by
      rw [← I.Dk_next r n h b ⟨q - 128, by omega⟩]
      congr 1; ext; simp only []; omega
    simp only [e]
    rw [Fin.sum_univ_castSucc, Fin.sum_univ_succ (fun n => I.ds r n h ⟨(q : ℕ) - 128, by omega⟩ ⟨b, by omega⟩), ds_zero, add_comm]
    congr 1

variable {m : (ℓ : Loc nD τ sig) → Buf (Elt Ideal) ℓ} {c : Dev nD} {I : Inp} (H : Of I (fun b => m (c, b)))
include H

/-- A point's rows of the first result. -/
theorem row9 (t : Fin cfg0.N) (ht : t.val < 32) (y : S512x1536.Idx) (h : t.val * 512 + ((y 0 : Fin 512) : ℕ) < 16384) :
    (outsAt0 m c t.val t.isLt).1 y = ((I.res ⟨t.val * 512 + (y 0 : Fin 512), h⟩ (y 1) : ℝ) : EReal) := by
  obtain ⟨a, b, rfl⟩ := ix2_of y
  rw [(inv H t.val t.isLt).g a b, O9_res I t.val ht a b h]
  rfl

/-- The second result after the last point. -/
theorem row10 (t : Fin cfg0.N) (ht : t.val + 1 = 32) (y : S8x128x256.Idx) :
    (outsAt0 m c t.val t.isLt).2.1 y = ((I.resb (y 0) (y 1) (y 2) : ℝ) : EReal) := by
  obtain ⟨a, b, d, rfl⟩ : ∃ a b d, y = ix3 a b d := ⟨y 0, y 1, y 2, by funext k; fin_cases k <;> rfl⟩
  rw [(inv H t.val t.isLt).d a b d, ht, acc_last]
  rfl

/-- The first result's array. -/
theorem arr9 : (dats m 0 c).arrAt 9 (cfgs 0).N = fun i : S16384x1536.Idx => ((I.res (i 0) (i 1) : ℝ) : EReal) := by
  refine (dats m 0 c).arrAt_eq_of_covers 9 _ (by decide +kernel) fun t _ y => ?_
  blk_simp
  rw [after0_9]
  have ht : t.val < 32 := (idx t).2.2.2.2.2.2.2.2.2.2.2.2.2
  have h0 : ((y : S512x1536.Idx) 0 : ℕ) < 512 := (y 0).isLt
  refine (row9 H t ht y (by omega)).trans (congrArg (fun x : ℝ => (x : EReal)) (congrArg₂ I.res ?_ ?_)) <;> refine Fin.ext ?_ <;> blk_simp [idx t]

/-- The second result's array. -/
theorem arr10 : (dats m 0 c).arrAt 10 (cfgs 0).N = fun i : S8x128x256.Idx => ((I.resb (i 0) (i 1) (i 2) : ℝ) : EReal) := by
  refine (dats m 0 c).arrAt_eq_of_covers 10 _ (by decide +kernel) fun t hf y => ?_
  blk_simp
  rw [after0_10]
  have hl := (flush0_10 t).mp hf
  have ht : t.val < 32 := (idx t).2.2.2.2.2.2.2.2.2.2.2.2.2
  have e0 : (((cfg0.win 10).blk t).view.emb y 0 : Fin 8) = (y : S8x128x256.Idx) 0 := Fin.ext (by blk_simp [idx t])
  have e1 : (((cfg0.win 10).blk t).view.emb y 1 : Fin 128) = (y : S8x128x256.Idx) 1 := Fin.ext (by blk_simp [idx t])
  have e2 : (((cfg0.win 10).blk t).view.emb y 2 : Fin 256) = (y : S8x128x256.Idx) 2 := Fin.ext (by blk_simp [idx t])
  refine (row10 H t (by omega) y).trans (congrArg (fun x : ℝ => (x : EReal)) ?_)
  exact (congr (congrArg₂ I.resb e0 e1) e2).symm

end Cert.KernelIdeal.Value
end
-- ==== Proof.Args.lean ====
module

public import proofs.«01_k».proof.Defs
public import proofs.«01_k».proof.Proof.KerOut

@[expose] public section

set_option maxRecDepth 16384

noncomputable section

namespace Cert.Args

open Idealize.ShloMosaic Idealize.ShloMosaic.TcCoe Idealize.ShloMosaic.Tactic Idealize.SL.Sem
open Cert.Attn

/-- The shapes' relations the precondition states. -/
theorem facts : Cert.Pre_finite.Facts := ⟨by decide, by decide, by decide⟩

/-- The word of the positive infinity. -/
theorem top_word : Ideal.ofBits .f32 0x7F800000#32 = (⊤ : EReal) := by
  simp [Ideal.ofBits, Ideal.ieee]

/-- An array whose elements' absolute values lie below infinity is real. -/
theorem real_of {S : Shape} (x : FVec Ideal S .f32) (hb : Cert.Pre_finite.S_.BroadcastsInDim S ![])
    (h : cmpf .olt (Host.absf x) (broadcastInDim S ![] hb (constant (F := Ideal) Cert.Pre_finite.S_ .f32 0x7F800000#32)) = fun _ => 1#1) (i : S.Idx) :
    x i = (((x i).toReal : ℝ) : EReal) := by
  have e := congrFun h i
  unfold cmpf Host.absf broadcastInDim constant at e
  have e' : BitVec.ofBool (decide (max (x i : EReal) (-(x i : EReal)) < Ideal.ofBits .f32 0x7F800000#32)) = 1#1 := e
  rw [top_word] at e'
  have e2 : max (x i : EReal) (-(x i : EReal)) < ⊤ := by
    by_contra hn
    rw [decide_eq_false hn] at e'
    exact absurd e' (by decide)
  obtain ⟨e3, e4⟩ := max_lt_iff.mp e2
  refine (EReal.coe_toReal (ne_of_lt e3) ?_).symm
  intro hb
  have e5 : (x i : EReal) = ⊥ := hb
  rw [e5, EReal.neg_bot] at e4
  exact lt_irrefl _ e4

/-- A real array of rank four, by its coordinates. -/
theorem arr4 (x : FVec Ideal Cert.Pre_finite.S1x16384x8x64 .f32) (h : ∀ i, x i = (((x i).toReal : ℝ) : EReal)) :
    x = fun i : Cert.Pre_finite.S1x16384x8x64.Idx => (((x (ix4 0 (i 1) (i 2) (i 3))).toReal : ℝ) : EReal) := by
  funext i
  have e : ix4 0 (i 1) (i 2) (i 3) = i := by
    funext k
    fin_cases k
    · exact Fin.ext (by have : (i 0 : ℕ) < 1 := (i 0).isLt; show 0 = (i 0 : ℕ); omega)
    all_goals rfl
  exact (h i).trans (congrArg (fun j => (((x j).toReal : ℝ) : EReal)) e.symm)

/-- A real array of rank three, by its coordinates. -/
theorem arr3 (x : FVec Ideal Cert.Pre_finite.S8x128x256 .f32) (h : ∀ i, x i = (((x i).toReal : ℝ) : EReal)) :
    x = fun i : Cert.Pre_finite.S8x128x256.Idx => (((x (ix3 (i 0) (i 1) (i 2))).toReal : ℝ) : EReal) := by
  funext i
  have e : ix3 (i 0) (i 1) (i 2) = i := by funext k; fin_cases k <;> rfl
  exact (h i).trans (congrArg (fun j => (((x j).toReal : ℝ) : EReal)) e.symm)

/-- A real array of rank three with one leading row, by its coordinates. -/
theorem arr2 (x : FVec Ideal Cert.Pre_finite.S1x16384x8 .f32) (h : ∀ i, x i = (((x i).toReal : ℝ) : EReal)) :
    x = fun i : Cert.Pre_finite.S1x16384x8.Idx => (((x (ix3 0 (i 1) (i 2))).toReal : ℝ) : EReal) := by
  funext i
  have e : ix3 0 (i 1) (i 2) = i := by
    funext k
    fin_cases k
    · exact Fin.ext (by have : (i 0 : ℕ) < 1 := (i 0).isLt; show 0 = (i 0 : ℕ); omega)
    all_goals rfl
  exact (h i).trans (congrArg (fun j => (((x j).toReal : ℝ) : EReal)) e.symm)

/-- An index of the first result is its row and column. -/
theorem rows (i : Cert.KernelIdeal.S16384x1536.Idx) : ∃ a b, i = ix2 a b := ⟨i 0, i 1, by funext k; fin_cases k <;> rfl⟩

/-- An index of the second result is its coordinates. -/
theorem band (i : Cert.KernelIdeal.S8x128x256.Idx) : ∃ a b d, i = ix3 a b d := ⟨i 0, i 1, i 2, by funext k; fin_cases k <;> rfl⟩

/-- The nine arguments' real arrays. -/
def inp (m : (ℓ : Loc Cert.KernelIdeal.nD Cert.KernelIdeal.τ Cert.KernelIdeal.sig) → Buf (Elt Ideal) ℓ) (c : Dev Cert.KernelIdeal.nD) : Inp where
  q := fun n h d => ((m ((c.tc : Thread Cert.KernelIdeal.nD Cert.KernelIdeal.τ).loc Cert.KernelIdeal.main_arg0) : FVec Ideal Cert.Pre_finite.S1x16384x8x64 .f32) (ix4 0 n h d)).toReal
  k := fun n h d => ((m ((c.tc : Thread Cert.KernelIdeal.nD Cert.KernelIdeal.τ).loc Cert.KernelIdeal.main_arg1) : FVec Ideal Cert.Pre_finite.S1x16384x8x64 .f32) (ix4 0 n h d)).toReal
  v := fun n h d => ((m ((c.tc : Thread Cert.KernelIdeal.nD Cert.KernelIdeal.τ).loc Cert.KernelIdeal.main_arg2) : FVec Ideal Cert.Pre_finite.S1x16384x8x64 .f32) (ix4 0 n h d)).toReal
  bias := fun h a c' => ((m ((c.tc : Thread Cert.KernelIdeal.nD Cert.KernelIdeal.τ).loc Cert.KernelIdeal.main_arg3) : FVec Ideal Cert.Pre_finite.S8x128x256 .f32) (ix3 h a c')).toReal
  ob := fun n h d => ((m ((c.tc : Thread Cert.KernelIdeal.nD Cert.KernelIdeal.τ).loc Cert.KernelIdeal.main_arg4) : FVec Ideal Cert.Pre_finite.S1x16384x8x64 .f32) (ix4 0 n h d)).toReal
  lb := fun n h => ((m ((c.tc : Thread Cert.KernelIdeal.nD Cert.KernelIdeal.τ).loc Cert.KernelIdeal.main_arg5) : FVec Ideal Cert.Pre_finite.S1x16384x8 .f32) (ix3 0 n h)).toReal
  oc := fun n h d => ((m ((c.tc : Thread Cert.KernelIdeal.nD Cert.KernelIdeal.τ).loc Cert.KernelIdeal.main_arg6) : FVec Ideal Cert.Pre_finite.S1x16384x8x64 .f32) (ix4 0 n h d)).toReal
  lc := fun n h => ((m ((c.tc : Thread Cert.KernelIdeal.nD Cert.KernelIdeal.τ).loc Cert.KernelIdeal.main_arg7) : FVec Ideal Cert.Pre_finite.S1x16384x8 .f32) (ix3 0 n h)).toReal
  ct := fun n h d => ((m ((c.tc : Thread Cert.KernelIdeal.nD Cert.KernelIdeal.τ).loc Cert.KernelIdeal.main_arg8) : FVec Ideal Cert.Pre_finite.S1x16384x8x64 .f32) (ix4 0 n h d)).toReal

/-- Under the precondition the kernel's arguments are those real arrays. -/
theorem ker (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) : Cert.KernelIdeal.Value.Of (inp m c) (fun b => m (c, b)) := by
  obtain ⟨h0, h1, h2, h3, h4, h5, h6, h7, h8⟩ := h c
  exact ⟨arr4 _ (real_of _ _ h0),
    arr4 _ (real_of _ _ h1),
    arr4 _ (real_of _ _ h2),
    arr3 _ (real_of _ _ h3),
    arr4 _ (real_of _ _ h4),
    arr2 _ (real_of _ _ h5),
    arr4 _ (real_of _ _ h6),
    arr2 _ (real_of _ _ h7),
    arr4 _ (real_of _ _ h8)⟩

/-- And so are the reference's, when it is given the same arguments. -/
theorem ref (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) (V0 : Valuation Cert.ReferenceIdeal.τ Cert.ReferenceIdeal.sig (Elt Ideal))
    (e0 : V0 (Proc.devRef .tc Cert.ReferenceIdeal.main_arg0) = m ((c.tc : Thread Cert.KernelIdeal.nD Cert.KernelIdeal.τ).loc Cert.KernelIdeal.main_arg0))
    (e1 : V0 (Proc.devRef .tc Cert.ReferenceIdeal.main_arg1) = m ((c.tc : Thread Cert.KernelIdeal.nD Cert.KernelIdeal.τ).loc Cert.KernelIdeal.main_arg1))
    (e2 : V0 (Proc.devRef .tc Cert.ReferenceIdeal.main_arg2) = m ((c.tc : Thread Cert.KernelIdeal.nD Cert.KernelIdeal.τ).loc Cert.KernelIdeal.main_arg2))
    (e3 : V0 (Proc.devRef .tc Cert.ReferenceIdeal.main_arg3) = m ((c.tc : Thread Cert.KernelIdeal.nD Cert.KernelIdeal.τ).loc Cert.KernelIdeal.main_arg3))
    (e4 : V0 (Proc.devRef .tc Cert.ReferenceIdeal.main_arg4) = m ((c.tc : Thread Cert.KernelIdeal.nD Cert.KernelIdeal.τ).loc Cert.KernelIdeal.main_arg4))
    (e5 : V0 (Proc.devRef .tc Cert.ReferenceIdeal.main_arg5) = m ((c.tc : Thread Cert.KernelIdeal.nD Cert.KernelIdeal.τ).loc Cert.KernelIdeal.main_arg5))
    (e6 : V0 (Proc.devRef .tc Cert.ReferenceIdeal.main_arg6) = m ((c.tc : Thread Cert.KernelIdeal.nD Cert.KernelIdeal.τ).loc Cert.KernelIdeal.main_arg6))
    (e7 : V0 (Proc.devRef .tc Cert.ReferenceIdeal.main_arg7) = m ((c.tc : Thread Cert.KernelIdeal.nD Cert.KernelIdeal.τ).loc Cert.KernelIdeal.main_arg7))
    (e8 : V0 (Proc.devRef .tc Cert.ReferenceIdeal.main_arg8) = m ((c.tc : Thread Cert.KernelIdeal.nD Cert.KernelIdeal.τ).loc Cert.KernelIdeal.main_arg8)) :
    Cert.ReferenceIdeal.Value.Of (inp m c) V0 :=
  have H := ker m h c
  ⟨e0.trans H.q, e1.trans H.k, e2.trans H.v, e3.trans H.bias, e4.trans H.ob, e5.trans H.lb, e6.trans H.oc, e7.trans H.lc, e8.trans H.ct⟩

end Cert.Args
end
-- ==== Proof.InRun.lean ====
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Run
public import proofs.«01_k».proof.Proof.Gen.Reference2Ideal
public import proofs.«01_k».proof.Proof.Gen.Reference2Ideal.Run
-- ==== Proof.InSpec.lean ====
module

public import Idealize.ShloMosaic.Lib.Pipeline.ValueKit
public import Idealize.ShloMosaic.Lib.Pointwise

@[expose] public section

noncomputable section

namespace Cert.InProj

open Idealize.ShloMosaic

/-- The five arguments: the tokens, the norm's gain, the projection's weights, the cotangent coming through the residual and the
    cotangent of the projection. -/
structure Inp where
  x : Fin 16384 → Fin 1024 → EReal
  g : Fin 1024 → EReal
  w : Fin 1024 → Fin 8704 → EReal
  d : Fin 16384 → Fin 1024 → EReal
  z : Fin 16384 → Fin 8704 → EReal

/-- The word of 1024. -/
abbrev width : EReal := Ideal.ofBits .f32 0x44800000#32
/-- The word of the norm's small constant. -/
abbrev small : EReal := Ideal.ofBits .f32 0x358637BD#32

variable (I : Inp)

/-- The cotangent of the normalised tokens. -/
def Inp.dh (n : Fin 16384) (e : Fin 1024) : EReal := ∑ j : Fin 8704, I.z n j * I.w e j
/-- A token's mean square and the small constant. -/
def Inp.ms (n : Fin 16384) : EReal := Ideal.div (∑ e : Fin 1024, I.x n e * I.x n e) width + small
/-- A token's reciprocal root mean square. -/
def Inp.r (n : Fin 16384) : EReal := Ideal.rsqrt (I.ms n)
/-- A token's product with its scaled cotangent. -/
def Inp.s (n : Fin 16384) : EReal := ∑ e : Fin 1024, I.x n e * (I.dh n e * I.g e)
/-- The gradient of the tokens. -/
def Inp.gx (n : Fin 16384) (e : Fin 1024) : EReal :=
  I.d n e + (I.r n * (I.dh n e * I.g e) - I.x n e * (I.r n * I.r n * I.r n) * Ideal.div (I.s n) width)
/-- The gradient of the gain. -/
def Inp.gg (e : Fin 1024) : EReal := ∑ n : Fin 16384, I.dh n e * I.x n e * I.r n

/-- The word of 1024 is 1024. -/
theorem width_eq : width = ((1024 : ℝ) : EReal) := by
  simp [Ideal.ofBits, Ideal.ieee]
  rw [← EReal.coe_mul]
  congr 1
  norm_num

/-- The word of minus one half. -/
theorem neg_half : Ideal.ofBits .f32 0xBF000000#32 = ((-(1 / 2) : ℝ) : EReal) := by
  simp [Ideal.ofBits, Ideal.ieee]
  rw [← EReal.coe_mul]
  congr 1
  norm_num

/-- The zero word. -/
theorem zero_word : Ideal.ofBits .f32 0x00000000#32 = (0 : EReal) := by
  simp [Ideal.ofBits, Ideal.ieee]

/-- The small constant is positive. -/
theorem small_pos : 0 < small := by
  simp [Ideal.ofBits, Ideal.ieee]
  rw [← EReal.coe_mul]
  exact_mod_cast (by positivity : (0 : ℝ) < 8796093 * (2 ^ 43)⁻¹)

/-- Dividing by the width is multiplying by its reciprocal. -/
theorem div_width (a : EReal) : Ideal.div a width = a * ((1 / 1024 : ℝ) : EReal) := by
  unfold Ideal.div
  rw [width_eq, if_neg (by norm_num)]
  congr 1
  rw [← EReal.coe_inv]
  norm_num

/-- A square is not negative. -/
theorem sq_nonneg' (a : EReal) : 0 ≤ a * a := by
  rcases le_total 0 a with h | h
  · exact mul_nonneg h h
  · have h' : 0 ≤ -a := by simpa using h
    have := mul_nonneg h' h'
    simpa using this

/-- A token's mean square and the small constant is positive. -/
theorem ms_pos (n : Fin 16384) : 0 < I.ms n := by
  unfold Inp.ms
  rw [div_width]
  refine lt_of_lt_of_le small_pos ?_
  have h : 0 ≤ (∑ e : Fin 1024, I.x n e * I.x n e) * ((1 / 1024 : ℝ) : EReal) :=
    mul_nonneg (Finset.sum_nonneg fun e _ => sq_nonneg' _) (by norm_num)
  calc small = 0 + small := (zero_add _).symm
    _ ≤ _ := add_le_add_left h _

/-- The derivative of the reciprocal root mean square, written with its cube and written as a quotient: the same correction. -/
theorem correct (v x s : EReal) (hv : 0 < v) :
    -(x * (Ideal.rsqrt v * Ideal.rsqrt v * Ideal.rsqrt v) * Ideal.div s width)
      = x * (Ideal.div (s * (Ideal.ofBits .f32 0xBF000000#32 * Ideal.div (Ideal.rsqrt v) v)) width)
        + (Ideal.div (s * (Ideal.ofBits .f32 0xBF000000#32 * Ideal.div (Ideal.rsqrt v) v)) width) * x := by
  rw [div_width, div_width, neg_half]
  have hd : Ideal.div (Ideal.rsqrt v) v = Ideal.rsqrt v * v⁻¹ := by unfold Ideal.div; rw [if_neg hv.ne']
  rw [hd]
  induction v with
  | bot => exact absurd hv (by simp)
  | top => simp
  | coe v =>
    have hv' : 0 < v := by exact_mod_cast hv
    rw [Ideal.rsqrt_coe, if_neg (not_lt.mpr hv'.le), if_neg hv'.ne']
    obtain ⟨ρ, hρ⟩ : ∃ ρ, ρ = (Real.sqrt v)⁻¹ := ⟨_, rfl⟩
    have hp : 0 < ρ := by rw [hρ]; exact inv_pos.mpr (Real.sqrt_pos.mpr hv')
    have hi : v⁻¹ = ρ * ρ := by rw [hρ, ← mul_inv, Real.mul_self_sqrt hv'.le]
    rw [← hρ, ← EReal.coe_inv, hi]
    obtain ⟨q, hq⟩ : ∃ q : ℝ, q = 1 / 2048 * (ρ * (ρ * ρ)) := ⟨_, rfl⟩
    have hq0 : 0 ≤ (q : EReal) := by
      have : 0 ≤ q := by rw [hq]; positivity
      exact_mod_cast this
    have e1 : x * ((ρ : EReal) * ρ * ρ) * (s * ((1 / 1024 : ℝ) : EReal)) = ((q : EReal) + q) * (x * s) := by
      have e : (q : EReal) + q = (ρ : EReal) * ρ * ρ * ((1 / 1024 : ℝ) : EReal) := by
        rw [← EReal.coe_add, ← EReal.coe_mul, ← EReal.coe_mul, ← EReal.coe_mul]
        congr 1
        rw [hq]; ring
      rw [e]
      ac_rfl
    have e2 : s * (((-(1 / 2) : ℝ) : EReal) * ((ρ : EReal) * ((ρ * ρ : ℝ) : EReal))) * ((1 / 1024 : ℝ) : EReal) = -(q : EReal) * s := by
      rw [← EReal.coe_mul, ← EReal.coe_mul, ← EReal.coe_neg, mul_assoc, ← EReal.coe_mul]
      rw [show -(1 / 2) * (ρ * (ρ * ρ)) * (1 / 1024) = -q by rw [hq]; ring, mul_comm]
    rw [e1, e2, EReal.right_distrib_of_nonneg hq0 hq0, EReal.neg_mul]
    rw [show x * -((q : EReal) * s) = -((q : EReal) * (x * s)) by rw [mul_neg]; congr 1; ac_rfl]
    rw [show -((q : EReal) * s) * x = -((q : EReal) * (x * s)) by rw [EReal.neg_mul]; congr 1; ac_rfl]
    have hz : ∀ u : EReal, -((q : EReal) * u + (q : EReal) * u) = -((q : EReal) * u) + -((q : EReal) * u) := fun u => by
      induction (q : EReal) * u with
      | bot => rfl
      | top => rfl
      | coe a => norm_cast; ring
    exact hz _

/-- The gradient of the tokens as the chain rule writes it. -/
theorem gx_eq (n : Fin 16384) (e : Fin 1024) :
    I.d n e + I.dh n e * I.g e * I.r n
      + I.x n e * (Ideal.div (I.s n * (Ideal.ofBits .f32 0xBF000000#32 * Ideal.div (I.r n) (I.ms n))) width)
      + (Ideal.div (I.s n * (Ideal.ofBits .f32 0xBF000000#32 * Ideal.div (I.r n) (I.ms n))) width) * I.x n e = I.gx n e := by
  unfold Inp.gx Inp.r
  rw [sub_eq_add_neg, correct _ _ _ (ms_pos I n), mul_comm (Ideal.rsqrt (I.ms n)) (I.dh n e * I.g e)]
  simp only [add_assoc]

/-- Where the kernel's `l`-th column of group `k`'s keys, values and queries lies among the projection's columns. -/
def col (k : Fin 3) (l : Fin 1536) : Fin 8704 :=
  if l.val < 512 then ⟨1536 + 512 * k.val + l.val, by omega⟩
  else if l.val < 1024 then ⟨3072 + 512 * k.val + (l.val - 512), by omega⟩ else ⟨512 * k.val + (l.val - 1024), by omega⟩

/-- A sum over the projection's columns, in the kernel's order. -/
theorem sum_cols {M : Type} [AddCommMonoid M] (f : Fin 8704 → M) :
    (∑ l : Fin 2048, f ⟨4608 + l.val, by omega⟩) + (∑ l : Fin 2048, f ⟨6656 + l.val, by omega⟩) + (∑ l : Fin 1536, f (col 0 l))
      + (∑ l : Fin 1536, f (col 1 l)) + (∑ l : Fin 1536, f (col 2 l)) = ∑ j : Fin 8704, f j := by
  obtain ⟨F, hF⟩ : ∃ F : ℕ → M, ∀ j : Fin 8704, f j = F j.val := ⟨fun n => if h : n < 8704 then f ⟨n, h⟩ else 0, fun j => by simp⟩
  simp only [hF]
  have hc : ∀ k : Fin 3, ∑ l : Fin 1536, F (col k l).val = (∑ l ∈ Finset.range 512, F (1536 + 512 * k.val + l))
      + (∑ l ∈ Finset.range 512, F (3072 + 512 * k.val + l)) + ∑ l ∈ Finset.range 512, F (512 * k.val + l) := fun k => by
    obtain ⟨G, hG⟩ : ∃ G : ℕ → M, G = fun l => F (if l < 512 then 1536 + 512 * k.val + l else if l < 1024 then 3072 + 512 * k.val + (l - 512)
      else 512 * k.val + (l - 1024)) := ⟨_, rfl⟩
    have e : ∀ l : Fin 1536, F (col k l).val = G l.val := fun l => by
      rw [hG]; unfold col; simp only []; congr 1; split_ifs <;> rfl
    simp only [e]
    rw [← Finset.sum_range (fun l => G l), show 1536 = 512 + 512 + 512 from rfl, Finset.sum_range_add, Finset.sum_range_add]
    congr 1
    · congr 1
      · refine Finset.sum_congr rfl fun l hl => ?_
        have := Finset.mem_range.mp hl
        rw [hG]; simp only []; rw [if_pos this]
      · refine Finset.sum_congr rfl fun l hl => ?_
        have := Finset.mem_range.mp hl
        rw [hG]; simp only []; rw [if_neg (by omega), if_pos (by omega)]; congr 1; omega
    · refine Finset.sum_congr rfl fun l hl => ?_
      have := Finset.mem_range.mp hl
      rw [hG]; simp only []; rw [if_neg (by omega), if_neg (by omega)]; congr 1; omega
  rw [hc 0, hc 1, hc 2, ← Finset.sum_range (fun j => F j), ← Finset.sum_range (fun l => F (4608 + l)), ← Finset.sum_range (fun l => F (6656 + l))]
  rw [show 8704 = 512 + 512 + 512 + 512 + 512 + 512 + 512 + 512 + 512 + 2048 + 2048 from rfl]
  simp only [Finset.sum_range_add]
  norm_num
  abel

/-- An index of a table is its row and column. -/
theorem rows (i : (⟨2, ![16384, 1024]⟩ : Shape).Idx) : ∃ a b, i = ix2 a b := ⟨i 0, i 1, by funext k; fin_cases k <;> rfl⟩

/-- An index of a vector is its coordinate. -/
theorem cols (i : (⟨1, ![1024]⟩ : Shape).Idx) : ∃ a, i = ix1 a := ⟨i 0, by funext k; fin_cases k; rfl⟩

end Cert.InProj
end
-- ==== Proof.InVec.lean ====
module

public import proofs.«01_k».proof.Proof.Gen.Kernel2Ideal.Frame
public import proofs.«01_k».proof.Proof.InSpec
public import Idealize.ShloMosaic.Lib.Pipeline.ReadBack

@[expose] public section

set_option maxRecDepth 16384

noncomputable section

namespace Cert.Kernel2Ideal.Value

open Cert.Kernel2Ideal Cert.Kernel2Ideal.Gen Idealize.ShloMosaic Idealize.ShloMosaic.TcCoe Idealize.ShloMosaic.Tactic
open Cert.InProj

/-- The first four products at an index. -/
theorem pay3_at (v3 : Vec Ideal S512x2048 .bf16) (v5 : Vec Ideal S1024x2048 .bf16) (v8 : Vec Ideal S512x2048 .bf16) (v10 : Vec Ideal S1024x2048 .bf16)
    (v14 : Vec Ideal S512x1536 .bf16) (v16 : Vec Ideal S1024x1536 .bf16) (v20 : Vec Ideal S512x1536 .bf16) (v22 : Vec Ideal S1024x1536 .bf16)
    (a : Fin 512) (e : Fin 1024) :
    k0_pay3 (F := Ideal) v3 v5 v8 v10 v14 v16 v20 v22 (ix2 a e)
      = (∑ l : Fin 2048, v3 (ix2 a l) * v5 (ix2 e l)) + (∑ l : Fin 2048, v8 (ix2 a l) * v10 (ix2 e l))
        + (∑ l : Fin 1536, v14 (ix2 a l) * v16 (ix2 e l)) + (∑ l : Fin 1536, v20 (ix2 a l) * v22 (ix2 e l)) := by
  pointwise [k0_pay3]

/-- The fifth product at an index. -/
theorem pay4_at (v26 : Vec Ideal S512x1536 .bf16) (v28 : Vec Ideal S1024x1536 .bf16) (a : Fin 512) (e : Fin 1024) :
    k0_pay4 (F := Ideal) v26 v28 (ix2 a e) = ∑ l : Fin 1536, v26 (ix2 a l) * v28 (ix2 e l) := by
  pointwise [k0_pay4]

/-- The reciprocal root mean square at a row. -/
theorem pay6_at (x : Vec Ideal S512x1024 .f32) (a : Fin 512) :
    k0_pay6 (F := Ideal) x (ix2 a 0) = Ideal.rsqrt (Ideal.div (∑ e : Fin 1024, x (ix2 a e) * x (ix2 a e)) width + small) := by
  pointwise [k0_pay6]

/-- The gradient of the tokens at an index. -/
theorem pay7_at (v25 v30 : FVec Ideal S512x1024 .f32) (x : Vec Ideal S512x1024 .f32) (g : Vec Ideal S1x1024 .f32) (d : Vec Ideal S512x1024 .f32)
    (a : Fin 512) (e : Fin 1024) :
    k0_pay7 (F := Ideal) v25 v30 x g d (ix2 a e)
      = d (ix2 a e) + (k0_pay6 x (ix2 a 0) * ((v25 (ix2 a e) + v30 (ix2 a e)) * g (ix2 0 e))
        - x (ix2 a e) * (k0_pay6 x (ix2 a 0) * k0_pay6 x (ix2 a 0) * k0_pay6 x (ix2 a 0))
          * Ideal.div (∑ j : Fin 1024, x (ix2 a j) * ((v25 (ix2 a j) + v30 (ix2 a j)) * g (ix2 0 j))) width) := by
  pointwise [k0_pay7, k0_pay5]

/-- The gain's gradient carried on at an index: eight rows, each summing every eighth token. -/
theorem pay8_at (v25 v30 : FVec Ideal S512x1024 .f32) (x : Vec Ideal S512x1024 .f32) (o : Vec Ideal S8x1024 .f32) (s : Fin 8) (e : Fin 1024) :
    k0_pay8 (F := Ideal) v25 v30 x o (ix2 s e)
      = o (ix2 s e) + ∑ b : Fin 64, (v25 (ix2 ⟨b.val * 8 + s.val, by omega⟩ e) + v30 (ix2 ⟨b.val * 8 + s.val, by omega⟩ e))
          * x (ix2 ⟨b.val * 8 + s.val, by omega⟩ e) * k0_pay6 x (ix2 ⟨b.val * 8 + s.val, by omega⟩ 0) := by
  pointwise [k0_pay8, k0_pay5]

/-- The first point's zeros. -/
theorem pay2_at (s : Fin 8) (e : Fin 1024) : k0_pay2 (F := Ideal) (ix2 s e) = 0 := zero_word

/-- The eight rows summed. -/
theorem pay1_at (o : Vec Ideal S8x1024 .f32) (e : Fin 1024) : k0_pay1 (F := Ideal) o (ix2 0 e) = ∑ s : Fin 8, o (ix2 s e) := by
  pointwise [k0_pay1]

/-- The first four products of a block of tokens. -/
def A3 (x0 : Vec Ideal S512x2048 .bf16) (x1 : Vec Ideal S512x2048 .bf16) (x2 : Vec Ideal S512x1536 .bf16) (x3 : Vec Ideal S512x1536 .bf16) (x4 : Vec Ideal S512x1536 .bf16) (x5 : Vec Ideal S1024x8704 .bf16) : FVec Ideal S512x1024 .f32 :=
  k0_pay3 x0 (View.ld x5 (Rect.unit ![0, 0] ![1024, 2048] inb_S1024x8704_S1024x2048_0_0)) x1
    (View.ld x5 (Rect.unit ![0, 2048] ![1024, 2048] inb_S1024x8704_S1024x2048_0_2048)) x2
    (View.ld x5 (Rect.unit ![0, 4096] ![1024, 1536] inb_S1024x8704_S1024x1536_0_4096)) x3
    (View.ld x5 (Rect.unit ![0, 5632] ![1024, 1536] inb_S1024x8704_S1024x1536_0_5632))

/-- The fifth product of a block of tokens. -/
def A4 (x4 : Vec Ideal S512x1536 .bf16) (x5 : Vec Ideal S1024x8704 .bf16) : FVec Ideal S512x1024 .f32 :=
  k0_pay4 x4 (View.ld x5 (Rect.unit ![0, 7168] ![1024, 1536] inb_S1024x8704_S1024x1536_0_7168))

/-- The five products summed, at an index. -/
theorem prod_at (x0 : Vec Ideal S512x2048 .bf16) (x1 : Vec Ideal S512x2048 .bf16) (x2 : Vec Ideal S512x1536 .bf16) (x3 : Vec Ideal S512x1536 .bf16) (x4 : Vec Ideal S512x1536 .bf16) (x5 : Vec Ideal S1024x8704 .bf16) (a : Fin 512) (e : Fin 1024) :
    A3 x0 x1 x2 x3 x4 x5 (ix2 a e) + A4 x4 x5 (ix2 a e)
      = (∑ l : Fin 2048, x0 (ix2 a l) * x5 (ix2 e ⟨l.val, by omega⟩)) + (∑ l : Fin 2048, x1 (ix2 a l) * x5 (ix2 e ⟨2048 + l.val, by omega⟩))
        + (∑ l : Fin 1536, x2 (ix2 a l) * x5 (ix2 e ⟨4096 + l.val, by omega⟩)) + (∑ l : Fin 1536, x3 (ix2 a l) * x5 (ix2 e ⟨5632 + l.val, by omega⟩))
        + (∑ l : Fin 1536, x4 (ix2 a l) * x5 (ix2 e ⟨7168 + l.val, by omega⟩)) := by
  unfold A3 A4
  rw [pay3_at, pay4_at]
  have e0 : ∀ l : Fin 2048, View.ld x5 (Rect.unit ![0, 0] ![1024, 2048] inb_S1024x8704_S1024x2048_0_0) (ix2 e l) = x5 (ix2 e ⟨l.val, by omega⟩) := fun l =>
    congrArg x5 (by funext k; apply Fin.ext; fin_cases k <;> simp [View.ld, Rect.unit, ix2])
  have e1 : ∀ l : Fin 2048, View.ld x5 (Rect.unit ![0, 2048] ![1024, 2048] inb_S1024x8704_S1024x2048_0_2048) (ix2 e l) = x5 (ix2 e ⟨2048 + l.val, by omega⟩) := fun l =>
    congrArg x5 (by funext k; apply Fin.ext; fin_cases k <;> simp [View.ld, Rect.unit, ix2])
  have e2 : ∀ l : Fin 1536, View.ld x5 (Rect.unit ![0, 4096] ![1024, 1536] inb_S1024x8704_S1024x1536_0_4096) (ix2 e l) = x5 (ix2 e ⟨4096 + l.val, by omega⟩) := fun l =>
    congrArg x5 (by funext k; apply Fin.ext; fin_cases k <;> simp [View.ld, Rect.unit, ix2])
  have e3 : ∀ l : Fin 1536, View.ld x5 (Rect.unit ![0, 5632] ![1024, 1536] inb_S1024x8704_S1024x1536_0_5632) (ix2 e l) = x5 (ix2 e ⟨5632 + l.val, by omega⟩) := fun l =>
    congrArg x5 (by funext k; apply Fin.ext; fin_cases k <;> simp [View.ld, Rect.unit, ix2])
  have e4 : ∀ l : Fin 1536, View.ld x5 (Rect.unit ![0, 7168] ![1024, 1536] inb_S1024x8704_S1024x1536_0_7168) (ix2 e l) = x5 (ix2 e ⟨7168 + l.val, by omega⟩) := fun l =>
    congrArg x5 (by funext k; apply Fin.ext; fin_cases k <;> simp [View.ld, Rect.unit, ix2])
  simp only [e0, e1, e2, e3, e4]

variable (m : (ℓ : Loc nD τ sig) → Buf (Elt Ideal) ℓ) (c : Dev nD)

/-- A point's rows of the first result. -/
abbrev dxT (t : Fin cfg0.N) : FVec Ideal S512x1024 .f32 :=
  k0_pay7 (A3 (iblk m c 0 t) (iblk m c 1 t) (iblk m c 2 t) (iblk m c 3 t) (iblk m c 4 t) (iblk m c 5 t)) (A4 (iblk m c 4 t) (iblk m c 5 t)) (iblk m c 7 t) (iblk m c 8 t) (iblk m c 6 t)
/-- A point's shares of the gain's gradient, onto eight rows. -/
abbrev onto (t : Fin cfg0.N) (o : Vec Ideal S8x1024 .f32) : FVec Ideal S8x1024 .f32 :=
  k0_pay8 (A3 (iblk m c 0 t) (iblk m c 1 t) (iblk m c 2 t) (iblk m c 3 t) (iblk m c 4 t) (iblk m c 5 t)) (A4 (iblk m c 4 t) (iblk m c 5 t)) (iblk m c 7 t) o

set_option maxHeartbeats 2000000 in
/-- What the first point leaves. -/
theorem outs_A (t : Fin cfg0.N) (h0 : t.val % 32 = 0) (h1 : ¬t.val % 32 = 31) :
    outsAt0 m c t.val t.isLt = (dxT m c t, onto m c t (k0_pay2 (F := Ideal))) := by
  rw [outsAt0_A m c t h0 h1]
  refine Prod.ext ?_ ?_ <;> funext y <;> dsimp only
  all_goals
    frame_out
    try rfl

set_option maxHeartbeats 2000000 in
/-- What a point between leaves, over what the point before left. -/
theorem outs_B (t : Fin cfg0.N) (h0 : ¬t.val % 32 = 0) (h1 : ¬t.val % 32 = 31) (hp : t.val - 1 < cfg0.N) :
    outsAt0 m c t.val t.isLt = (dxT m c t, onto m c t (outsAt0 m c (t.val - 1) hp).2) := by
  rw [outsAt0_B m c t h0 h1]
  generalize outsAt0 m c (t.val - 1) _ = q
  refine Prod.ext ?_ ?_ <;> funext y <;> dsimp only
  all_goals
    frame_out
    try rfl

set_option maxHeartbeats 2000000 in
/-- What the last point leaves: of the eight rows the first, their sum. -/
theorem outs_C (t : Fin cfg0.N) (h0 : ¬t.val % 32 = 0) (h1 : t.val % 32 = 31) (hp : t.val - 1 < cfg0.N) :
    (outsAt0 m c t.val t.isLt).1 = dxT m c t
    ∧ ∀ e : Fin 1024, (outsAt0 m c t.val t.isLt).2 (ix2 0 e) = (k0_pay1 (F := Ideal) (onto m c t (outsAt0 m c (t.val - 1) hp).2) : FVec Ideal S1x1024 .f32) (ix2 0 e) := by
  rw [outsAt0_C m c t h0 h1]
  generalize outsAt0 m c (t.val - 1) _ = q
  have ey : ∀ e : Fin 1024, (ix2 0 e : S8x1024.Idx) = (Rect.unit (s := S8x1024) ![0, 0] S1x1024.size inb_S8x1024_S1x1024_0_0).emb (ix2 0 e : S1x1024.Idx) := fun e => by
    funext k; apply Fin.ext; fin_cases k <;> simp [Rect.unit, Rect.emb, ix2]
  refine ⟨funext fun y => ?_, fun e => ?_⟩ <;> dsimp only
  · frame_out
    try rfl
  · frame_out
    rw [ey]
    exact View.canon_cons_emb _ _ _ _

end Cert.Kernel2Ideal.Value
end
-- ==== Proof.InBlk.lean ====
module

public import proofs.«01_k».proof.Proof.InVec
public import Idealize.ShloMosaic.Lib.Pipeline.ValueKit

@[expose] public section

set_option maxRecDepth 16384

noncomputable section

namespace Cert.Kernel2Ideal.Value

open Cert.Kernel2Ideal Cert.Kernel2Ideal.Gen Idealize.ShloMosaic Idealize.ShloMosaic.TcCoe Idealize.ShloMosaic.Tactic Idealize.SL.Sem Idealize.ShloMosaic.StableHlo
open Cert.InProj

/-- Where each window's block lies, by point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0]
    ∧ win0_8.index t = ![0, 0] ∧ win0_9.index t = ![t.val, 0] ∧ win0_10.index t = ![0, 0] ∧ t.val < 32 :=
  (by decide +kernel : ∀ t : Fin grid0.N, _)

variable (m : (ℓ : Loc nD τ sig) → Buf (Elt Ideal) ℓ) (c : Dev nD)

/-- The arguments' contents. -/
def inp : Inp where
  x n e := (m ((c.tc : Thread nD τ).loc main_arg0) : Vec Ideal S16384x1024 .f32) (ix2 n e)
  g e := (m ((c.tc : Thread nD τ).loc main_arg1) : Vec Ideal S1024 .f32) (ix1 e)
  w e j := (m ((c.tc : Thread nD τ).loc main_arg2) : Vec Ideal S1024x8704 .f32) (ix2 e j)
  d n e := (m ((c.tc : Thread nD τ).loc main_arg3) : Vec Ideal S16384x1024 .f32) (ix2 n e)
  z n j := (m ((c.tc : Thread nD τ).loc main_arg4) : Vec Ideal S16384x8704 .f32) (ix2 n j)

/-- The cotangent of the projection, rounded. -/
abbrev zb : FVec Ideal S16384x8704 .bf16 := truncf .bf16 (m ((c.tc : Thread nD τ).loc main_arg4) : FVec Ideal S16384x8704 .f32) bitsLt_bf16_f32
/-- The projection's weights, rounded. -/
abbrev wb : FVec Ideal S1024x8704 .bf16 := truncf .bf16 (m ((c.tc : Thread nD τ).loc main_arg2) : FVec Ideal S1024x8704 .f32) bitsLt_bf16_f32

/-- The cotangent's first stretch of columns. -/
theorem V_v13 : (V m c main_v13 : Vec Ideal S16384x2048 .bf16) = extractStridedSlice S16384x2048 ![0, 4608] (zb m c) slices_S16384x8704_S16384x2048_0_4608 := by
  unfold V V0
  simp only [hostOps0, List.flatten_cons, List.flatten_nil, List.append_nil, List.cons_append, List.nil_append]
  after_results <;> rfl

/-- The cotangent's second stretch of columns. -/
theorem V_v14 : (V m c main_v14 : Vec Ideal S16384x2048 .bf16) = extractStridedSlice S16384x2048 ![0, 6656] (zb m c) slices_S16384x8704_S16384x2048_0_6656 := by
  unfold V V0
  simp only [hostOps0, List.flatten_cons, List.flatten_nil, List.append_nil, List.cons_append, List.nil_append]
  after_results <;> rfl

/-- The cotangent's columns of group 0. -/
theorem V_v18 : (V m c main_v18 : Vec Ideal S16384x1536 .bf16) = concatenate S16384x1536 1 [⟨S16384x512, extractStridedSlice S16384x512 ![0, 1536] (zb m c) slices_S16384x8704_S16384x512_0_1536⟩, ⟨S16384x512, extractStridedSlice S16384x512 ![0, 3072] (zb m c) slices_S16384x8704_S16384x512_0_3072⟩, ⟨S16384x512, extractStridedSlice S16384x512 ![0, 0] (zb m c) slices_S16384x8704_S16384x512_0_0⟩] concatenates_S16384x512_S16384x512_S16384x512_S16384x1536_d1 := by
  unfold V V0
  simp only [hostOps0, List.flatten_cons, List.flatten_nil, List.append_nil, List.cons_append, List.nil_append]
  after_results <;> rfl

/-- The cotangent's columns of group 1. -/
theorem V_v22 : (V m c main_v22 : Vec Ideal S16384x1536 .bf16) = concatenate S16384x1536 1 [⟨S16384x512, extractStridedSlice S16384x512 ![0, 2048] (zb m c) slices_S16384x8704_S16384x512_0_2048⟩, ⟨S16384x512, extractStridedSlice S16384x512 ![0, 3584] (zb m c) slices_S16384x8704_S16384x512_0_3584⟩, ⟨S16384x512, extractStridedSlice S16384x512 ![0, 512] (zb m c) slices_S16384x8704_S16384x512_0_512⟩] concatenates_S16384x512_S16384x512_S16384x512_S16384x1536_d1 := by
  unfold V V0
  simp only [hostOps0, List.flatten_cons, List.flatten_nil, List.append_nil, List.cons_append, List.nil_append]
  after_results <;> rfl

/-- The cotangent's columns of group 2. -/
theorem V_v26 : (V m c main_v26 : Vec Ideal S16384x1536 .bf16) = concatenate S16384x1536 1 [⟨S16384x512, extractStridedSlice S16384x512 ![0, 2560] (zb m c) slices_S16384x8704_S16384x512_0_2560⟩, ⟨S16384x512, extractStridedSlice S16384x512 ![0, 4096] (zb m c) slices_S16384x8704_S16384x512_0_4096⟩, ⟨S16384x512, extractStridedSlice S16384x512 ![0, 1024] (zb m c) slices_S16384x8704_S16384x512_0_1024⟩] concatenates_S16384x512_S16384x512_S16384x512_S16384x1536_d1 := by
  unfold V V0
  simp only [hostOps0, List.flatten_cons, List.flatten_nil, List.append_nil, List.cons_append, List.nil_append]
  after_results <;> rfl

/-- The weights, their columns in the kernel's order. -/
theorem V_v11 : (V m c main_v11 : Vec Ideal S1024x8704 .bf16) = concatenate S1024x8704 1 [⟨S1024x4096, extractStridedSlice S1024x4096 ![0, 4608] (wb m c) slices_S1024x8704_S1024x4096_0_4608⟩, ⟨S1024x512, extractStridedSlice S1024x512 ![0, 1536] (wb m c) slices_S1024x8704_S1024x512_0_1536⟩, ⟨S1024x512, extractStridedSlice S1024x512 ![0, 3072] (wb m c) slices_S1024x8704_S1024x512_0_3072⟩, ⟨S1024x512, extractStridedSlice S1024x512 ![0, 0] (wb m c) slices_S1024x8704_S1024x512_0_0⟩, ⟨S1024x512, extractStridedSlice S1024x512 ![0, 2048] (wb m c) slices_S1024x8704_S1024x512_0_2048⟩, ⟨S1024x512, extractStridedSlice S1024x512 ![0, 3584] (wb m c) slices_S1024x8704_S1024x512_0_3584⟩, ⟨S1024x512, extractStridedSlice S1024x512 ![0, 512] (wb m c) slices_S1024x8704_S1024x512_0_512⟩, ⟨S1024x512, extractStridedSlice S1024x512 ![0, 2560] (wb m c) slices_S1024x8704_S1024x512_0_2560⟩, ⟨S1024x512, extractStridedSlice S1024x512 ![0, 4096] (wb m c) slices_S1024x8704_S1024x512_0_4096⟩, ⟨S1024x512, extractStridedSlice S1024x512 ![0, 1024] (wb m c) slices_S1024x8704_S1024x512_0_1024⟩] concatenates_S1024x4096_S1024x512_S1024x512_S1024x512_S1024x512_S1024x512_S1024x512_S1024x512_S1024x512_S1024x512_S1024x8704_d1 := by
  unfold V V0
  simp only [hostOps0, List.flatten_cons, List.flatten_nil, List.append_nil, List.cons_append, List.nil_append]
  after_results <;> rfl

/-- The first stretch at an index. -/
theorem v13_at (n : Fin 16384) (l : Fin 2048) : (V m c main_v13 : Vec Ideal S16384x2048 .bf16) (ix2 n l) = (inp m c).z n ⟨4608 + l.val, by omega⟩ := by
  rw [V_v13]; pointwise [inp]

/-- The second stretch at an index. -/
theorem v14_at (n : Fin 16384) (l : Fin 2048) : (V m c main_v14 : Vec Ideal S16384x2048 .bf16) (ix2 n l) = (inp m c).z n ⟨6656 + l.val, by omega⟩ := by
  rw [V_v14]; pointwise [inp]

/-- Group 0's columns at an index. -/
theorem v18_at (n : Fin 16384) (l : Fin 1536) : (V m c main_v18 : Vec Ideal S16384x1536 .bf16) (ix2 n l) = (inp m c).z n (col 0 l) := by
  rw [V_v18]
  by_cases h : l.val < 512
  · have e : col 0 l = ⟨1536 + l.val, by omega⟩ := by unfold col; rw [if_pos h]; apply Fin.ext; simp
    rw [e]; pointwise [inp]
    rw [dif_pos h]
  · by_cases h' : l.val < 1024
    · have e : col 0 l = ⟨3072 + (l.val - 512), by omega⟩ := by unfold col; rw [if_neg h, if_pos h']; apply Fin.ext; simp
      rw [e]; pointwise [inp]
      rw [dif_neg h, dif_pos (by omega)]
    · have e : col 0 l = ⟨0 + (l.val - 512 - 512), by omega⟩ := by unfold col; rw [if_neg h, if_neg h']; apply Fin.ext; simp; try omega
      rw [e]; pointwise [inp]
      rw [dif_neg h, dif_neg (by omega)]
      try (congr 2; apply Fin.ext; simp)

/-- Group 1's columns at an index. -/
theorem v22_at (n : Fin 16384) (l : Fin 1536) : (V m c main_v22 : Vec Ideal S16384x1536 .bf16) (ix2 n l) = (inp m c).z n (col 1 l) := by
  rw [V_v22]
  by_cases h : l.val < 512
  · have e : col 1 l = ⟨2048 + l.val, by omega⟩ := by unfold col; rw [if_pos h]; apply Fin.ext; simp
    rw [e]; pointwise [inp]
    rw [dif_pos h]
  · by_cases h' : l.val < 1024
    · have e : col 1 l = ⟨3584 + (l.val - 512), by omega⟩ := by unfold col; rw [if_neg h, if_pos h']; apply Fin.ext; simp
      rw [e]; pointwise [inp]
      rw [dif_neg h, dif_pos (by omega)]
    · have e : col 1 l = ⟨512 + (l.val - 512 - 512), by omega⟩ := by unfold col; rw [if_neg h, if_neg h']; apply Fin.ext; simp; try omega
      rw [e]; pointwise [inp]
      rw [dif_neg h, dif_neg (by omega)]
      try (congr 2; apply Fin.ext; simp)

/-- Group 2's columns at an index. -/
theorem v26_at (n : Fin 16384) (l : Fin 1536) : (V m c main_v26 : Vec Ideal S16384x1536 .bf16) (ix2 n l) = (inp m c).z n (col 2 l) := by
  rw [V_v26]
  by_cases h : l.val < 512
  · have e : col 2 l = ⟨2560 + l.val, by omega⟩ := by unfold col; rw [if_pos h]; apply Fin.ext; simp
    rw [e]; pointwise [inp]
    rw [dif_pos h]
  · by_cases h' : l.val < 1024
    · have e : col 2 l = ⟨4096 + (l.val - 512), by omega⟩ := by unfold col; rw [if_neg h, if_pos h']; apply Fin.ext; simp
      rw [e]; pointwise [inp]
      rw [dif_neg h, dif_pos (by omega)]
    · have e : col 2 l = ⟨1024 + (l.val - 512 - 512), by omega⟩ := by unfold col; rw [if_neg h, if_neg h']; apply Fin.ext; simp; try omega
      rw [e]; pointwise [inp]
      rw [dif_neg h, dif_neg (by omega)]
      try (congr 2; apply Fin.ext; simp)

/-- The weights' first columns. -/
theorem w_front (e : Fin 1024) (l : Fin 4096) : (V m c main_v11 : Vec Ideal S1024x8704 .bf16) (ix2 e ⟨l.val, by omega⟩) = (inp m c).w e ⟨4608 + l.val, by omega⟩ := by
  rw [V_v11]; pointwise [inp]

/-- The weights' stretch 0 of the keys', values' and queries' columns. -/
theorem w_seg0 (e : Fin 1024) (l : Fin 512) : (V m c main_v11 : Vec Ideal S1024x8704 .bf16) (ix2 e ⟨4096 + l.val, by omega⟩) = (inp m c).w e ⟨1536 + l.val, by omega⟩ := by
  rw [V_v11]; pointwise [inp]
  all_goals
    repeat rw [dif_neg (by omega)]
    try (refine congrArg (fun q => (m ((c.tc : Thread nD τ).loc main_arg2) : Vec Ideal S1024x8704 .f32) (ix2 e q)) (Fin.ext ?_); simp only []; omega)

/-- The weights' stretch 1 of the keys', values' and queries' columns. -/
theorem w_seg1 (e : Fin 1024) (l : Fin 512) : (V m c main_v11 : Vec Ideal S1024x8704 .bf16) (ix2 e ⟨4608 + l.val, by omega⟩) = (inp m c).w e ⟨3072 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 2 of the keys', values' and queries' columns. -/
theorem w_seg2 (e : Fin 1024) (l : Fin 512) : (V m c main_v11 : Vec Ideal S1024x8704 .bf16) (ix2 e ⟨5120 + l.val, by omega⟩) = (inp m c).w e ⟨0 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 3 of the keys', values' and queries' columns. -/
theorem w_seg3 (e : Fin 1024) (l : Fin 512) : (V m c main_v11 : Vec Ideal S1024x8704 .bf16) (ix2 e ⟨5632 + l.val, by omega⟩) = (inp m c).w e ⟨2048 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 4 of the keys', values' and queries' columns. -/
theorem w_seg4 (e : Fin 1024) (l : Fin 512) : (V m c main_v11 : Vec Ideal S1024x8704 .bf16) (ix2 e ⟨6144 + l.val, by omega⟩) = (inp m c).w e ⟨3584 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 5 of the keys', values' and queries' columns. -/
theorem w_seg5 (e : Fin 1024) (l : Fin 512) : (V m c main_v11 : Vec Ideal S1024x8704 .bf16) (ix2 e ⟨6656 + l.val, by omega⟩) = (inp m c).w e ⟨512 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 6 of the keys', values' and queries' columns. -/
theorem w_seg6 (e : Fin 1024) (l : Fin 512) : (V m c main_v11 : Vec Ideal S1024x8704 .bf16) (ix2 e ⟨7168 + l.val, by omega⟩) = (inp m c).w e ⟨2560 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 7 of the keys', values' and queries' columns. -/
theorem w_seg7 (e : Fin 1024) (l : Fin 512) : (V m c main_v11 : Vec Ideal S1024x8704 .bf16) (ix2 e ⟨7680 + l.val, by omega⟩) = (inp m c).w e ⟨4096 + l.val, by omega⟩ := by
  rw [V_v11]; pointwise [inp]
  repeat rw [dif_neg (by omega)]
  rw [dif_pos (by omega)]
  refine congrArg (fun q => (m ((c.tc : Thread nD τ).loc main_arg2) : Vec Ideal S1024x8704 .f32) (ix2 e q)) (Fin.ext ?_)
  simp only []; omega

/-- The weights' stretch 8 of the keys', values' and queries' columns. -/
theorem w_seg8 (e : Fin 1024) (l : Fin 512) : (V m c main_v11 : Vec Ideal S1024x8704 .bf16) (ix2 e ⟨8192 + l.val, by omega⟩) = (inp m c).w e ⟨1024 + l.val, by omega⟩ := by
  rw [V_v11]; pointwise [inp]
  repeat rw [dif_neg (by omega)]
  refine congrArg (fun q => (m ((c.tc : Thread nD τ).loc main_arg2) : Vec Ideal S1024x8704 .f32) (ix2 e q)) (Fin.ext ?_)
  simp only []; omega

/-- The first stretch of the weights. -/
theorem w0_at (e : Fin 1024) (l : Fin 2048) : (V m c main_v11 : Vec Ideal S1024x8704 .bf16) (ix2 e ⟨l.val, by omega⟩) = (inp m c).w e ⟨4608 + l.val, by omega⟩ :=
  w_front m c e ⟨l.val, by omega⟩

/-- The second stretch of the weights. -/
theorem w1_at (e : Fin 1024) (l : Fin 2048) : (V m c main_v11 : Vec Ideal S1024x8704 .bf16) (ix2 e ⟨2048 + l.val, by omega⟩) = (inp m c).w e ⟨6656 + l.val, by omega⟩ := by
  refine (w_front m c e ⟨2048 + l.val, by omega⟩).trans (congrArg ((inp m c).w e) (Fin.ext ?_))
  simp only []; omega

/-- Group 0's weights. -/
theorem w2_at (e : Fin 1024) (l : Fin 1536) : (V m c main_v11 : Vec Ideal S1024x8704 .bf16) (ix2 e ⟨4096 + l.val, by omega⟩) = (inp m c).w e (col 0 l) := by
  by_cases h : l.val < 512
  · have e1 : col 0 l = ⟨1536 + l.val, by omega⟩ := by unfold col; rw [if_pos h]; apply Fin.ext; simp
    rw [e1]
    exact w_seg0 m c e ⟨l.val, h⟩
  · by_cases h' : l.val < 1024
    · have e1 : col 0 l = ⟨3072 + (l.val - 512), by omega⟩ := by unfold col; rw [if_neg h, if_pos h']; apply Fin.ext; simp
      have e2 : (⟨4096 + l.val, by omega⟩ : Fin 8704) = ⟨4608 + (l.val - 512), by omega⟩ := by apply Fin.ext; simp only []; omega
      rw [e1, e2]
      exact w_seg1 m c e ⟨l.val - 512, by omega⟩
    · have e1 : col 0 l = ⟨0 + (l.val - 1024), by omega⟩ := by unfold col; rw [if_neg h, if_neg h']; apply Fin.ext; simp
      have e2 : (⟨4096 + l.val, by omega⟩ : Fin 8704) = ⟨5120 + (l.val - 1024), by omega⟩ := by apply Fin.ext; simp only []; omega
      rw [e1, e2]
      exact w_seg2 m c e ⟨l.val - 1024, by omega⟩

/-- Group 1's weights. -/
theorem w3_at (e : Fin 1024) (l : Fin 1536) : (V m c main_v11 : Vec Ideal S1024x8704 .bf16) (ix2 e ⟨5632 + l.val, by omega⟩) = (inp m c).w e (col 1 l) := by
  by_cases h : l.val < 512
  · have e1 : col 1 l = ⟨2048 + l.val, by omega⟩ := by unfold col; rw [if_pos h]; apply Fin.ext; simp
    rw [e1]
    exact w_seg3 m c e ⟨l.val, h⟩
  · by_cases h' : l.val < 1024
    · have e1 : col 1 l = ⟨3584 + (l.val - 512), by omega⟩ := by unfold col; rw [if_neg h, if_pos h']; apply Fin.ext; simp
      have e2 : (⟨5632 + l.val, by omega⟩ : Fin 8704) = ⟨6144 + (l.val - 512), by omega⟩ := by apply Fin.ext; simp only []; omega
      rw [e1, e2]
      exact w_seg4 m c e ⟨l.val - 512, by omega⟩
    · have e1 : col 1 l = ⟨512 + (l.val - 1024), by omega⟩ := by unfold col; rw [if_neg h, if_neg h']; apply Fin.ext; simp
      have e2 : (⟨5632 + l.val, by omega⟩ : Fin 8704) = ⟨6656 + (l.val - 1024), by omega⟩ := by apply Fin.ext; simp only []; omega
      rw [e1, e2]
      exact w_seg5 m c e ⟨l.val - 1024, by omega⟩

/-- Group 2's weights. -/
theorem w4_at (e : Fin 1024) (l : Fin 1536) : (V m c main_v11 : Vec Ideal S1024x8704 .bf16) (ix2 e ⟨7168 + l.val, by omega⟩) = (inp m c).w e (col 2 l) := by
  by_cases h : l.val < 512
  · have e1 : col 2 l = ⟨2560 + l.val, by omega⟩ := by unfold col; rw [if_pos h]; apply Fin.ext; simp
    rw [e1]
    exact w_seg6 m c e ⟨l.val, h⟩
  · by_cases h' : l.val < 1024
    · have e1 : col 2 l = ⟨4096 + (l.val - 512), by omega⟩ := by unfold col; rw [if_neg h, if_pos h']; apply Fin.ext; simp
      have e2 : (⟨7168 + l.val, by omega⟩ : Fin 8704) = ⟨7680 + (l.val - 512), by omega⟩ := by apply Fin.ext; simp only []; omega
      rw [e1, e2]
      exact w_seg7 m c e ⟨l.val - 512, by omega⟩
    · have e1 : col 2 l = ⟨1024 + (l.val - 1024), by omega⟩ := by unfold col; rw [if_neg h, if_neg h']; apply Fin.ext; simp
      have e2 : (⟨7168 + l.val, by omega⟩ : Fin 8704) = ⟨8192 + (l.val - 1024), by omega⟩ := by apply Fin.ext; simp only []; omega
      rw [e1, e2]
      exact w_seg8 m c e ⟨l.val - 1024, by omega⟩

/-- Window 0's block at an index. -/
theorem blk0 (t : Fin cfg0.N) (a : Fin 512) (l : Fin 2048) (h : t.val * 512 + (a : ℕ) < 16384) :
    (iblk m c 0 t : Vec Ideal S512x2048 .bf16) (ix2 a l) = (V m c main_v13 : Vec Ideal S16384x2048 .bf16) (ix2 ⟨t.val * 512 + a, h⟩ l) := by
  blk_ext [iblk, idx t]

/-- Window 1's block at an index. -/
theorem blk1 (t : Fin cfg0.N) (a : Fin 512) (l : Fin 2048) (h : t.val * 512 + (a : ℕ) < 16384) :
    (iblk m c 1 t : Vec Ideal S512x2048 .bf16) (ix2 a l) = (V m c main_v14 : Vec Ideal S16384x2048 .bf16) (ix2 ⟨t.val * 512 + a, h⟩ l) := by
  blk_ext [iblk, idx t]

/-- Window 2's block at an index. -/
theorem blk2 (t : Fin cfg0.N) (a : Fin 512) (l : Fin 1536) (h : t.val * 512 + (a : ℕ) < 16384) :
    (iblk m c 2 t : Vec Ideal S512x1536 .bf16) (ix2 a l) = (V m c main_v18 : Vec Ideal S16384x1536 .bf16) (ix2 ⟨t.val * 512 + a, h⟩ l) := by
  blk_ext [iblk, idx t]

/-- Window 3's block at an index. -/
theorem blk3 (t : Fin cfg0.N) (a : Fin 512) (l : Fin 1536) (h : t.val * 512 + (a : ℕ) < 16384) :
    (iblk m c 3 t : Vec Ideal S512x1536 .bf16) (ix2 a l) = (V m c main_v22 : Vec Ideal S16384x1536 .bf16) (ix2 ⟨t.val * 512 + a, h⟩ l) := by
  blk_ext [iblk, idx t]

/-- Window 4's block at an index. -/
theorem blk4 (t : Fin cfg0.N) (a : Fin 512) (l : Fin 1536) (h : t.val * 512 + (a : ℕ) < 16384) :
    (iblk m c 4 t : Vec Ideal S512x1536 .bf16) (ix2 a l) = (V m c main_v26 : Vec Ideal S16384x1536 .bf16) (ix2 ⟨t.val * 512 + a, h⟩ l) := by
  blk_ext [iblk, idx t]

/-- Window 6's block at an index. -/
theorem blk6 (t : Fin cfg0.N) (a : Fin 512) (l : Fin 1024) (h : t.val * 512 + (a : ℕ) < 16384) :
    (iblk m c 6 t : Vec Ideal S512x1024 .f32) (ix2 a l) = (V m c main_arg3 : Vec Ideal S16384x1024 .f32) (ix2 ⟨t.val * 512 + a, h⟩ l) := by
  blk_ext [iblk, idx t]

/-- Window 7's block at an index. -/
theorem blk7 (t : Fin cfg0.N) (a : Fin 512) (l : Fin 1024) (h : t.val * 512 + (a : ℕ) < 16384) :
    (iblk m c 7 t : Vec Ideal S512x1024 .f32) (ix2 a l) = (V m c main_arg0 : Vec Ideal S16384x1024 .f32) (ix2 ⟨t.val * 512 + a, h⟩ l) := by
  blk_ext [iblk, idx t]

/-- Window 5's block at an index: the whole of the weights. -/
theorem blk5 (t : Fin cfg0.N) (e : Fin 1024) (l : Fin 8704) :
    (iblk m c 5 t : Vec Ideal S1024x8704 .bf16) (ix2 e l) = (V m c main_v11 : Vec Ideal S1024x8704 .bf16) (ix2 e l) := by
  blk_ext [iblk, idx t]

/-- Window 8's block at an index: the gain. -/
theorem blk8 (t : Fin cfg0.N) (e : Fin 1024) :
    (iblk m c 8 t : Vec Ideal S1x1024 .f32) (ix2 0 e) = (V m c main_v27 : Vec Ideal S1x1024 .f32) (ix2 0 e) := by
  blk_ext [iblk, idx t]

/-- The gain as the kernel takes it. -/
theorem V_v27 : (V m c main_v27 : Vec Ideal S1x1024 .f32) = shapeCast S1x1024 (m ((c.tc : Thread nD τ).loc main_arg1) : Vec Ideal S1024 .f32) shapeCasts_S1024_S1x1024 := by
  unfold V V0
  simp only [hostOps0, List.flatten_cons, List.flatten_nil, List.append_nil, List.cons_append, List.nil_append]
  after_results <;> rfl

/-- The gain at an index. -/
theorem v27_at (e : Fin 1024) : (V m c main_v27 : Vec Ideal S1x1024 .f32) (ix2 0 e) = (inp m c).g e := by
  rw [V_v27]; pointwise [inp]

end Cert.Kernel2Ideal.Value
end
-- ==== Proof.RowSum.lean ====
module

public import Idealize.ShloMosaic.Lib.Pipeline.ValueKit

@[expose] public section

noncomputable section

namespace Cert.Rows

variable (f : Fin 16384 → Fin 1024 → EReal)

/-- A token's share; nothing past the last token. -/
def share (k : ℕ) (e : Fin 1024) : EReal := if h : k < 16384 then f ⟨k, h⟩ e else 0

/-- A point's share in one of the eight rows. -/
def part (t : ℕ) (s : Fin 8) (e : Fin 1024) : EReal := ∑ b : Fin 64, share f (t * 512 + (b.val * 8 + s.val)) e

/-- What the eight rows hold after `n` points. -/
def acc (n : ℕ) (s : Fin 8) (e : Fin 1024) : EReal := ∑ t ∈ Finset.range n, part f t s e

/-- One point more. -/
theorem acc_succ (n : ℕ) (s : Fin 8) (e : Fin 1024) : acc f (n + 1) s e = acc f n s e + part f n s e := Finset.sum_range_succ _ n

/-- What a point adds. -/
theorem adds (t : ℕ) (ht : t < 32) (v : Fin 512 → Fin 1024 → EReal) (hv : ∀ a e, v a e = f ⟨t * 512 + a.val, by omega⟩ e) (s : Fin 8) (e : Fin 1024) :
    ∑ b : Fin 64, v ⟨b.val * 8 + s.val, by omega⟩ e = part f t s e := by
  refine Finset.sum_congr rfl fun b _ => ?_
  have hk : t * 512 + (b.val * 8 + s.val) < 16384 := by omega
  unfold share
  rw [dif_pos hk, hv]

/-- The eight rows after the last point, summed. -/
theorem acc_all (e : Fin 1024) : ∑ s : Fin 8, acc f 32 s e = ∑ n : Fin 16384, f n e := by
  unfold acc part
  simp only [Finset.sum_range]
  rw [Finset.sum_comm]
  have e2 : ∀ t : Fin 32, ∑ s : Fin 8, ∑ b : Fin 64, share f (t.val * 512 + (b.val * 8 + s.val)) e
      = ∑ a : Fin 512, share f (t.val * 512 + a.val) e := fun t => by
    rw [Finset.sum_comm]
    exact Fin.sum_mul_add_congr fun b s hl => rfl
  simp only [e2]
  refine Fin.sum_mul_add_congr fun t a hl => ?_
  unfold share
  rw [dif_pos hl]

/-- Eight rows that begin at zero and take a point's share at each point but the last hold the sum so far. -/
theorem fold (N : ℕ) (o : ∀ n, n < N → Fin 8 → Fin 1024 → EReal) (first : ∀ h s e, o 0 h s e = 0 + part f 0 s e)
    (later : ∀ n (h : n + 1 < N) (hp : n < N), n + 1 < 31 → ∀ s e, o (n + 1) h s e = o n hp s e + part f (n + 1) s e) :
    ∀ n (h : n < N), n < 31 → ∀ s e, o n h s e = acc f (n + 1) s e
  | 0, h, _, s, e => by
    rw [first, acc_succ]
    rfl
  | n + 1, h, h1, s, e => by
    rw [later n h (by omega) h1, fold N o first later n _ (by omega), acc_succ f (n + 1)]

end Cert.Rows
end
-- ==== Proof.InGo.lean ====
module

public import proofs.«01_k».proof.Proof.InBlk
public import proofs.«01_k».proof.Proof.RowSum
public import proofs.«01_k».proof.Proof.Gen.Kernel2Ideal.Run

@[expose] public section

set_option maxRecDepth 16384

noncomputable section

namespace Cert.Kernel2Ideal.Value

open Cert.Kernel2Ideal Cert.Kernel2Ideal.Gen Idealize.ShloMosaic Idealize.ShloMosaic.TcCoe Idealize.ShloMosaic.Tactic Idealize.SL.Sem Idealize.ShloMosaic.StableHlo
open Cert.InProj
open Cert.Rows hiding adds

variable (m : (ℓ : Loc nD τ sig) → Buf (Elt Ideal) ℓ) (c : Dev nD)

/-- There are thirty-two points. -/
theorem lt32 (t : Fin cfg0.N) : t.val < 32 := (idx t).2.2.2.2.2.2.2.2.2.2.2

/-- The token of a point's row. -/
def tok (t : Fin cfg0.N) (a : Fin 512) : Fin 16384 := ⟨t.val * 512 + a, by have := lt32 t; omega⟩

/-- A point's products are the cotangent of the normalised tokens. -/
theorem prod (t : Fin cfg0.N) (a : Fin 512) (e : Fin 1024) :
    A3 (iblk m c 0 t) (iblk m c 1 t) (iblk m c 2 t) (iblk m c 3 t) (iblk m c 4 t) (iblk m c 5 t) (ix2 a e) + A4 (iblk m c 4 t) (iblk m c 5 t) (ix2 a e) = (inp m c).dh (tok t a) e := by
  refine (prod_at _ _ _ _ _ _ a e).trans ?_
  have h : t.val * 512 + (a : ℕ) < 16384 := (tok t a).isLt
  unfold Inp.dh
  rw [← sum_cols]
  refine congr (congrArg HAdd.hAdd (congr (congrArg HAdd.hAdd (congr (congrArg HAdd.hAdd (congr (congrArg HAdd.hAdd ?_) ?_)) ?_)) ?_)) ?_ <;>
    refine Finset.sum_congr rfl fun l _ => ?_
  · exact congrArg₂ (fun p q : EReal => p * q) ((blk0 m c t a l h).trans (v13_at m c _ l)) ((blk5 m c t e _).trans (w0_at m c e l))
  · exact congrArg₂ (fun p q : EReal => p * q) ((blk1 m c t a l h).trans (v14_at m c _ l)) ((blk5 m c t e _).trans (w1_at m c e l))
  · exact congrArg₂ (fun p q : EReal => p * q) ((blk2 m c t a l h).trans (v18_at m c _ l)) ((blk5 m c t e _).trans (w2_at m c e l))
  · exact congrArg₂ (fun p q : EReal => p * q) ((blk3 m c t a l h).trans (v22_at m c _ l)) ((blk5 m c t e _).trans (w3_at m c e l))
  · exact congrArg₂ (fun p q : EReal => p * q) ((blk4 m c t a l h).trans (v26_at m c _ l)) ((blk5 m c t e _).trans (w4_at m c e l))

/-- A point's tokens. -/
theorem x_blk (t : Fin cfg0.N) (a : Fin 512) (e : Fin 1024) : (iblk m c 7 t : Vec Ideal S512x1024 .f32) (ix2 a e) = (inp m c).x (tok t a) e :=
  (blk7 m c t a e (tok t a).isLt).trans (congrFun (V_main_arg0 m c) _)

/-- A point's rows of the cotangent coming through the residual. -/
theorem d_blk (t : Fin cfg0.N) (a : Fin 512) (e : Fin 1024) : (iblk m c 6 t : Vec Ideal S512x1024 .f32) (ix2 a e) = (inp m c).d (tok t a) e :=
  (blk6 m c t a e (tok t a).isLt).trans (congrFun (V_main_arg3 m c) _)

/-- The gain at a point. -/
theorem g_blk (t : Fin cfg0.N) (e : Fin 1024) : (iblk m c 8 t : Vec Ideal S1x1024 .f32) (ix2 0 e) = (inp m c).g e :=
  (blk8 m c t e).trans (v27_at m c e)

/-- A point's reciprocal root mean squares. -/
theorem r_blk (t : Fin cfg0.N) (a : Fin 512) : k0_pay6 (F := Ideal) (iblk m c 7 t) (ix2 a 0) = (inp m c).r (tok t a) := by
  refine (pay6_at (iblk m c 7 t) a).trans ?_
  unfold Inp.r Inp.ms
  simp only [x_blk]

/-- A point's rows of the first result. -/
theorem rows (t : Fin cfg0.N) (a : Fin 512) (e : Fin 1024) :
    k0_pay7 (A3 (iblk m c 0 t) (iblk m c 1 t) (iblk m c 2 t) (iblk m c 3 t) (iblk m c 4 t) (iblk m c 5 t)) (A4 (iblk m c 4 t) (iblk m c 5 t)) (iblk m c 7 t) (iblk m c 8 t) (iblk m c 6 t) (ix2 a e)
      = (inp m c).gx (tok t a) e := by
  refine (pay7_at _ _ _ _ _ a e).trans ?_
  unfold Inp.gx Inp.s
  simp only [prod, x_blk, d_blk, g_blk, r_blk]

/-- A token's share of the gain's gradient. -/
def sh (n : Fin 16384) (e : Fin 1024) : EReal := (inp m c).dh n e * (inp m c).x n e * (inp m c).r n

/-- What a point adds. -/
theorem adds (t : Fin cfg0.N) (o : Vec Ideal S8x1024 .f32) (s : Fin 8) (e : Fin 1024) :
    k0_pay8 (A3 (iblk m c 0 t) (iblk m c 1 t) (iblk m c 2 t) (iblk m c 3 t) (iblk m c 4 t) (iblk m c 5 t)) (A4 (iblk m c 4 t) (iblk m c 5 t)) (iblk m c 7 t) o (ix2 s e) = o (ix2 s e) + part (sh m c) t.val s e := by
  refine (pay8_at _ _ _ _ s e).trans ?_
  refine congrArg (fun q : EReal => o (ix2 s e) + q) (Eq.trans (Finset.sum_congr rfl fun b _ => ?_)
    (Cert.Rows.adds (sh m c) t.val (lt32 t) (fun a e => sh m c (tok t a) e) (fun _ _ => rfl) s e))
  rw [prod, x_blk, r_blk]
  rfl

/-- What the body has left after the `n`-th point: the rows of the first result, and the gain's gradient so far in eight rows — after
    the last point their sum in the first row. -/
structure Inv (n : ℕ) (hn : n < cfg0.N) : Prop where
  x : ∀ a e, (outsAt0 m c n hn).1 (ix2 a e) = (inp m c).gx (tok ⟨n, hn⟩ a) e
  g : n % 32 ≠ 31 → ∀ s e, (outsAt0 m c n hn).2 (ix2 s e) = acc (sh m c) (n + 1) s e
  l : n % 32 = 31 → ∀ e, (outsAt0 m c n hn).2 (ix2 0 e) = ∑ s : Fin 8, acc (sh m c) (n + 1) s e

/-- The first point. -/
theorem inv_A (t : Fin cfg0.N) (h0 : t.val % 32 = 0) (h1 : ¬t.val % 32 = 31) : Inv m c t.val t.isLt := by
  have ez : t.val = 0 := by have := lt32 t; omega
  refine ⟨fun a e => ?_, fun _ s e => ?_, fun h => absurd h h1⟩ <;> rw [outs_A m c t h0 h1]
  · exact rows m c t a e
  · refine (adds m c t _ s e).trans ?_
    rw [pay2_at, acc_succ]
    refine congrArg (fun q : EReal => q + part (sh m c) t.val s e) ?_
    rw [ez]; rfl

/-- A point between. -/
theorem inv_B (t : Fin cfg0.N) (h0 : ¬t.val % 32 = 0) (h1 : ¬t.val % 32 = 31) (hp : t.val - 1 < cfg0.N) (J : Inv m c (t.val - 1) hp) : Inv m c t.val t.isLt := by
  have e1 : t.val - 1 + 1 = t.val := by omega
  have ht := lt32 t
  have hg := J.g (by omega)
  rw [e1] at hg
  refine ⟨fun a e => ?_, fun _ s e => ?_, fun h => absurd h h1⟩ <;> rw [outs_B m c t h0 h1 hp]
  · exact rows m c t a e
  · refine (adds m c t _ s e).trans ?_
    rw [hg, acc_succ]

/-- The last point. -/
theorem inv_C (t : Fin cfg0.N) (h0 : ¬t.val % 32 = 0) (h1 : t.val % 32 = 31) (hp : t.val - 1 < cfg0.N) (J : Inv m c (t.val - 1) hp) : Inv m c t.val t.isLt := by
  have e1 : t.val - 1 + 1 = t.val := by omega
  have ht := lt32 t
  have hg := J.g (by omega)
  rw [e1] at hg
  obtain ⟨o9, o10⟩ := outs_C m c t h0 h1 hp
  refine ⟨fun a e => ?_, fun h => absurd h1 h, fun _ e => (o10 e).trans ((pay1_at _ e).trans (Finset.sum_congr rfl fun s _ => (adds m c t _ s e).trans ?_))⟩
  · rw [o9]
    exact rows m c t a e
  · rw [hg, acc_succ]

/-- Every point. -/
theorem inv : ∀ (n : ℕ) (hn : n < cfg0.N), Inv m c n hn
  | 0, hn => inv_A m c ⟨0, hn⟩ rfl (by simp)
  | n + 1, hn => by
    have h32 := lt32 ⟨n + 1, hn⟩
    by_cases h1 : (n + 1) % 32 = 31
    · exact inv_C m c ⟨n + 1, hn⟩ (by simp only []; omega) h1 (Nat.lt_of_succ_lt hn) (inv n (Nat.lt_of_succ_lt hn))
    · exact inv_B m c ⟨n + 1, hn⟩ (by simp only [] at h32 ⊢; omega) h1 (Nat.lt_of_succ_lt hn) (inv n (Nat.lt_of_succ_lt hn))

/-- The first result's array. -/
theorem arr9 : reg_main_v28_0 m c = fun i : S16384x1024.Idx => (inp m c).gx (i 0) (i 1) := by
  unfold reg_main_v28_0
  refine (dats m 0 c).arrAt_eq_of_covers 9 _ (by decide +kernel) fun t _ y => ?_
  blk_simp
  rw [after0_9]
  have ht := lt32 t
  have h0 : ((y : S512x1024.Idx) 0 : ℕ) < 512 := (y 0).isLt
  have key : ∀ (z : S512x1024.Idx), (outsAt0 m c t.val t.isLt).1 z = (inp m c).gx (tok t (z 0)) (z 1) := fun z => by
    have ez : z = ix2 (z 0) (z 1) := by funext k; fin_cases k <;> rfl
    rw [ez]
    exact (inv m c t.val t.isLt).x (z 0) (z 1)
  refine (key y).trans (congrArg₂ (inp m c).gx ?_ ?_) <;> refine Fin.ext ?_
  · unfold tok
    blk_simp [idx t]
  · blk_simp [idx t]

/-- The second result's array, its first row. -/
theorem arr10 (e : Fin 1024) : (reg_main_v28_1 m c : Vec Ideal S8x1024 .f32) (ix2 0 e) = (inp m c).gg e := by
  have h31 : 31 < cfg0.N := by decide +kernel
  have hl := (inv m c 31 h31).l rfl e
  rw [acc_all (sh m c)] at hl
  have key : (reg_main_v28_1 m c : Vec Ideal S8x1024 .f32) = (outsAt0 m c 31 h31).2 := by
    unfold reg_main_v28_1
    refine (dats m 0 c).arrAt_eq_of_covers 10 _ (by decide +kernel) fun t hf y => ?_
    blk_simp
    rw [after0_10]
    have hl := (flush0_10 t).mp hf
    have ht := lt32 t
    have et : t = ⟨31, h31⟩ := Fin.ext (by simp only []; omega)
    have key : ∀ (s : Fin cfg0.N) (hs : s = ⟨31, h31⟩) (z : S8x1024.Idx), (outsAt0 m c s.val s.isLt).2 z = (outsAt0 m c 31 h31).2 z := by
      intro s hs z
      subst hs
      rfl
    refine (key t et y).trans (congrArg (outsAt0 m c 31 h31).2 ?_)
    funext k
    refine Fin.ext ?_
    fin_cases k <;> blk_simp [idx t]
  rw [key]
  exact hl

/-- The second result: the first row, as a vector. -/
theorem gain_row : (shapeCast _ (extractStridedSlice S1x1024 ![0, 0] (reg_main_v28_1 m c : Vec Ideal S8x1024 .f32) slices_S8x1024_S1x1024_0_0) shapeCasts_S1x1024_S1024 : Vec Ideal S1024 .f32)
    = fun i : S1024.Idx => (inp m c).gg (i 0) := by
  funext i
  obtain ⟨e, rfl⟩ := cols i
  refine Eq.trans ?_ (arr10 m c e)
  generalize (reg_main_v28_1 m c : Vec Ideal S8x1024 .f32) = q
  pointwise

end Cert.Kernel2Ideal.Value
end
-- ==== Proof.InRef.lean ====
module

public import proofs.«01_k».proof.Proof.Gen.Reference2Ideal.Run
public import proofs.«01_k».proof.Proof.InSpec

@[expose] public section

set_option maxRecDepth 16384

noncomputable section

namespace Cert.Reference2Ideal.Value

open Cert.Reference2Ideal Cert.Reference2Ideal.Gen Idealize.ShloMosaic Idealize.ShloMosaic.TcCoe Idealize.ShloMosaic.Tactic Idealize.SL.Sem Idealize.ShloMosaic.StableHlo
open Cert.InProj

variable (m : (ℓ : Loc nD τ sig) → Buf (Elt Ideal) ℓ) (c : Dev nD)

/-- The arguments' contents. -/
def inp : Inp where
  x n e := (m ((c.tc : Thread nD τ).loc main_arg0) : Vec Ideal S16384x1024 .f32) (ix2 n e)
  g e := (m ((c.tc : Thread nD τ).loc main_arg1) : Vec Ideal S1024 .f32) (ix1 e)
  w e j := (m ((c.tc : Thread nD τ).loc main_arg2) : Vec Ideal S1024x8704 .f32) (ix2 e j)
  d n e := (m ((c.tc : Thread nD τ).loc main_arg3) : Vec Ideal S16384x1024 .f32) (ix2 n e)
  z n j := (m ((c.tc : Thread nD τ).loc main_arg4) : Vec Ideal S16384x8704 .f32) (ix2 n j)

/-- The gain's gradient as the reference computes it. -/
def gain (x : FVec Ideal S16384x1024 .f32) (w : FVec Ideal S1024x8704 .f32) (z : FVec Ideal S16384x8704 .f32) : FVec Ideal S1024 .f32 :=
  Host.reduceAdd (shapeCast _ (Host.reduceAdd (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (Host.dotGeneral dot_S16384x8704_S1024x8704_S16384x1024_1_1_0_0_n_n none z w)) (constant S_ .f32 0x00000000#32) reducesTo_S16384x1024_S1024_d0 h_S_) shapeCasts_S1024_S1x1024) (constant S_ .f32 0x00000000#32) reducesTo_S1x1024_S1024_d0 h_S_

/-- The reference's second result. -/
def res_gain : FVec Ideal S1024 .f32 :=
  gain (m ((c.tc : Thread nD τ).loc main_arg0)) (m ((c.tc : Thread nD τ).loc main_arg2)) (m ((c.tc : Thread nD τ).loc main_arg4))

/-- The reference's first result at an index. -/
theorem x_at (n : Fin 16384) (e : Fin 1024) : (res_main_v38 m c : Vec Ideal S16384x1024 .f32) (ix2 n e) = (inp m c).gx n e := by
  rw [← gx_eq]
  unfold Inp.s Inp.r Inp.ms Inp.dh
  pointwise [res_main_v38, inp]
  simp only [Fin.sum_univ_one]

/-- The reference's second result at an index. -/
theorem g_at (e : Fin 1024) : res_gain m c (ix1 e) = (inp m c).gg e := by
  unfold Inp.gg Inp.r Inp.ms Inp.dh
  pointwise [res_gain, gain, inp]
  refine (Fin.sum_univ_one _).trans (Finset.sum_congr rfl fun n _ => ?_)
  exact (mul_comm (G := EReal) _ _).trans (mul_assoc (G := EReal) _ _ _).symm

end Cert.Reference2Ideal.Value
end
-- ==== Proof.DwSum.lean ====
module

public import Idealize.ShloMosaic.Lib.Pipeline.ValueKit
public import Idealize.ShloMosaic.Lib.Pointwise

@[expose] public section

noncomputable section

/-!
The sum over the tokens that every weight gradient makes: eight blocks of 2048 tokens, added one by one. The lemmas are about any two
operands and any layout of the tiles, and every weight gradient uses them.
-/

namespace Cert.Dw

open Idealize.ShloMosaic

/-- An operand by token and column, zero outside. -/
def lim {K : ℕ} (A : Fin 16384 → Fin K → EReal) (n k : ℕ) : EReal := if h : n < 16384 ∧ k < K then A ⟨n, h.1⟩ ⟨k, h.2⟩ else 0

/-- Inside it is the operand. -/
theorem lim_eq {K : ℕ} (A : Fin 16384 → Fin K → EReal) (n k : ℕ) (hn : n < 16384) (hk : k < K) : lim A n k = A ⟨n, hn⟩ ⟨k, hk⟩ := dif_pos ⟨hn, hk⟩

variable {K J : ℕ} (A : Fin 16384 → Fin K → EReal) (B : Fin 16384 → Fin J → EReal)

/-- One block of tokens' share of an entry. -/
def part (s i j : ℕ) : EReal := ∑ b : Fin 2048, lim A (s * 2048 + b.val) i * lim B (s * 2048 + b.val) j

/-- An entry after `n` blocks of tokens. -/
def acc (n i j : ℕ) : EReal := ∑ s ∈ Finset.range n, part A B s i j

/-- One block more. -/
theorem acc_succ (n i j : ℕ) : acc A B (n + 1) i j = acc A B n i j + part A B n i j := Finset.sum_range_succ _ n

/-- All eight blocks of tokens: the product over the tokens. -/
theorem acc_all (i : Fin K) (j : Fin J) : acc A B 8 i.val j.val = ∑ n : Fin 16384, A n i * B n j := by
  unfold acc part
  rw [Finset.sum_range]
  refine Fin.sum_mul_add_congr fun s b hl => ?_
  rw [lim_eq A _ _ hl i.isLt, lim_eq B _ _ hl j.isLt]

/-- An accumulator that a tile's first point fills and every later one adds to holds the sum so far. The tile of point `n` is
    `n / 8`; `r` and `s` say where its entries lie in the result. -/
theorem fold {N P Q : ℕ} (r s : ℕ → ℕ → ℕ) (o : ∀ n, n < N → Fin P → Fin Q → EReal)
    (first : ∀ n hn, n % 8 = 0 → ∀ a e, o n hn a e = 0 + part A B (n % 8) (r (n / 8) a) (s (n / 8) e))
    (later : ∀ n hn, ¬n % 8 = 0 → ∀ hp a e, o n hn a e = o (n - 1) hp a e + part A B (n % 8) (r (n / 8) a) (s (n / 8) e)) :
    ∀ n hn a e, o n hn a e = acc A B (n % 8 + 1) (r (n / 8) a) (s (n / 8) e) := by
  intro n
  induction n with
  | zero =>
    intro hn a e
    rw [first 0 hn rfl a e, acc_succ]
    rfl
  | succ n ih =>
    intro hn a e
    by_cases h : (n + 1) % 8 = 0
    · rw [first _ hn h a e, acc_succ, h]
      rfl
    · have e1 : n % 8 + 1 = (n + 1) % 8 := by omega
      have e2 : n / 8 = (n + 1) / 8 := by omega
      have hp : n < N := Nat.lt_of_succ_lt hn
      rw [later _ hn h hp a e, acc_succ]
      refine congrArg (fun q : EReal => q + _) ((ih hp a e).trans ?_)
      rw [e1, e2]

end Cert.Dw
end
-- ==== Proof.Dw3.lean ====
module

public import proofs.«01_k».proof.Proof.Gen.Kernel3Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Tactic Idealize.SL.Sem Idealize.ShloMosaic.StableHlo

/-- The first point's zeros. -/
theorem pay1_at (a : Fin 1408) (e : Fin 1024) : k0_pay1 (F := Ideal) (ix2 a e) = 0 := by
  pointwise [k0_pay1]

/-- A block of tokens' product, added to what is there. -/
theorem pay2_at (o : Vec Ideal S1408x1024 .f32) (x : Vec Ideal S2048x1408 .bf16) (z : Vec Ideal S2048x1024 .bf16) (a : Fin 1408) (e : Fin 1024) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 16 :=
  (by decide +kernel : ∀ t : Fin grid0.N, _)

variable (m : (ℓ : Loc nD τ sig) → Buf (Elt Ideal) ℓ) (c : Dev nD)

/-- The left operand. -/
def A (n : Fin 16384) (k : Fin 2816) : EReal := (V m c main_v2 : Vec Ideal S16384x2816 .bf16) (ix2 n k)
/-- The right operand. -/
def B (n : Fin 16384) (k : Fin 1024) : EReal := (V m c main_v3 : Vec Ideal S16384x1024 .bf16) (ix2 n k)

/-- Window 0's block at an index. -/
theorem blk0 (t : Fin cfg0.N) (b : Fin 2048) (a : Fin 1408) :
    (iblk m c 0 t : Vec Ideal S2048x1408 .bf16) (ix2 b a) = Dw.lim (A m c) (t.val % 8 * 2048 + b.val) (t.val / 8 / 1 * 1408 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1024) :
    (iblk m c 1 t : Vec Ideal S2048x1024 .bf16) (ix2 b e) = Dw.lim (B m c) (t.val % 8 * 2048 + b.val) (t.val / 8 % 1 * 1024 + e.val) := by
  have ht := (idx t).2.2.2
  rw [Dw.lim_eq _ _ _ (by omega) (by omega)]
  unfold B
  blk_ext [iblk, idx t]

/-- What a point adds. -/
theorem adds (t : Fin cfg0.N) (o : Vec Ideal S1408x1024 .f32) (a : Fin 1408) (e : Fin 1024) :
    k0_pay2 (F := Ideal) o (iblk m c 0 t) (iblk m c 1 t) (ix2 a e)
      = o (ix2 a e) + Dw.part (A m c) (B m c) (t.val % 8) (t.val / 8 / 1 * 1408 + a.val) (t.val / 8 % 1 * 1024 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1408x1024.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1408x1024.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1408) (e : Fin 1024), (outsAt0 m c n hn).2 (ix2 a e)
    = Dw.acc (A m c) (B m c) (n % 8 + 1) (n / 8 / 1 * 1408 + a.val) (n / 8 % 1 * 1024 + e.val) :=
  Dw.fold (A m c) (B m c) (fun u a => u / 1 * 1408 + a) (fun u e => u % 1 * 1024 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S2816x1024.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1408x1024.Idx), (outsAt0 m c t.val t.isLt).1 z
      = Dw.acc (A m c) (B m c) 8 (t.val / 8 / 1 * 1408 + (z 0).val) (t.val / 8 % 1 * 1024 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel3Ideal.Value
end
-- ==== Proof.DwOut3.lean ====
module

public import proofs.«01_k».proof.Defs
public import proofs.«01_k».proof.Proof.Dw3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pointwise
public import Idealize.ShloMosaic.Adequacy
public import Idealize.ShloMosaic.Init

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Tactic Idealize.SL.Sem Idealize.ShloMosaic.StableHlo

/-- The feed-forward layer's activations, `silu gate * up`. -/
def act (gate : FVec Ideal S16384x2816 .f32) (up : FVec Ideal S16384x2816 .f32) : FVec Ideal S16384x2816 .f32 :=
  mulf (mulf gate (Host.divf (broadcastInDim S16384x2816 ![] bcast_S_S16384x2816 (constant S_ .f32 0x3F800000#32)) (addf (broadcastInDim S16384x2816 ![] bcast_S_S16384x2816 (constant S_ .f32 0x3F800000#32)) (Host.exp (Host.negf gate))))) up

variable (m : (ℓ : Loc nD τ sig) → Buf (Elt Ideal) ℓ) (c : Dev nD)

/-- The cotangent, rounded. -/
abbrev zb : FVec Ideal S16384x1024 .bf16 := truncf .bf16 (m ((c.tc : Thread nD τ).loc main_arg3) : FVec Ideal S16384x1024 .f32) bitsLt_bf16_f32

/-- The left factor as the call finds it. -/
theorem V_A : (V m c main_v2 : Vec Ideal S16384x2816 .bf16) = truncf .bf16 (act (m ((c.tc : Thread nD τ).loc main_arg0) : FVec Ideal S16384x2816 .f32) (m ((c.tc : Thread nD τ).loc main_arg1) : FVec Ideal S16384x2816 .f32)) bitsLt_bf16_f32 := by
  unfold V
  simp only [hostOps0, hostOps0_1, TRef.binary, TRef.nullary, TRef.unary, TRef.toBuf, TRef.ofBuf, cast_eq, List.flatten_cons, List.flatten_nil, List.append_nil, List.cons_append, List.nil_append]
  after_results <;> rfl

/-- The left factor at an index. -/
theorem A_at (n : Fin 16384) (k : Fin 2816) : A m c n k = act (m ((c.tc : Thread nD τ).loc main_arg0) : FVec Ideal S16384x2816 .f32) (m ((c.tc : Thread nD τ).loc main_arg1) : FVec Ideal S16384x2816 .f32) (ix2 n k) := by
  unfold A; rw [V_A]; rfl

/-- The right factor as the call finds it. -/
theorem V_B : (V m c main_v3 : Vec Ideal S16384x1024 .bf16) = zb m c := by
  unfold V
  simp only [hostOps0, hostOps0_1, TRef.binary, TRef.nullary, TRef.unary, TRef.toBuf, TRef.ofBuf, cast_eq, List.flatten_cons, List.flatten_nil, List.append_nil, List.cons_append, List.nil_append]
  after_results <;> rfl

/-- The right factor at an index. -/
theorem B_at (n : Fin 16384) (j : Fin 1024) : B m c n j = (m ((c.tc : Thread nD τ).loc main_arg3) : FVec Ideal S16384x1024 .f32) (ix2 n j) := by
  unfold B; rw [V_B]; pointwise []

/-- Any index of the result is a row and a column. -/
theorem rows (i : S2816x1024.Idx) : ∃ (a : Fin 2816) (b : Fin 1024), i = ix2 a b :=
  ⟨i 0, i 1, by funext k; fin_cases k <;> rfl⟩

end Cert.Kernel3Ideal.Value

namespace Cert.Reference3Ideal.Value

open Cert.Reference3Ideal Cert.Reference3Ideal.Gen Idealize.ShloMosaic Idealize.ShloMosaic.TcCoe Idealize.ShloMosaic.Tactic Idealize.SL.Sem Idealize.ShloMosaic.StableHlo

/-- The product over the tokens, turned, at an index. -/
theorem dw_at (z : FVec Ideal S16384x1024 .f32) (w : FVec Ideal S16384x2816 .f32) (a : Fin 2816) (b : Fin 1024) :
    (truncf .bf16 (transpose S2816x1024 [1, 0] (Host.dotGeneral (F := Ideal) dot_S16384x1024_S16384x2816_S1024x2816_0_0_1_1_n_n none z w) transposes_S1024x2816_S2816x1024_1_0) bitsLt_bf16_f32 : FVec Ideal S2816x1024 .bf16) (ix2 a b) = ∑ n : Fin 16384, z (ix2 n b) * w (ix2 n a) := by
  pointwise []

end Cert.Reference3Ideal.Value

namespace Cert.Proof

open Idealize.ShloMosaic Idealize.ShloMosaic.TcCoe Idealize.SL.Sem

/-- The frame of the reference of the gradient of the feed-forward layer's second weights: its run read at the arguments; it declares no semaphore. -/
theorem reference3_frame : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

/-- From any arguments the weight-gradient call and its reference leave the same gradient of the feed-forward layer's second weights. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => fun i : Cert.Kernel3Ideal.S2816x1024.Idx => (∑ n : Fin 16384, Cert.Kernel3Ideal.Value.A m c n (i 0) * Cert.Kernel3Ideal.Value.B m c n (i 1) : EReal), ?_, ?_⟩
  · refine (θ_run Cert.Kernel3Ideal.defs _ _).mono (fun r h c => ?_) (Cert.Kernel3Ideal.Value.run_blocks m g)
    obtain ⟨r0, rest⟩ := h c
    exact ⟨r0.trans (Cert.Kernel3Ideal.Value.arr m c), rest⟩
  · refine (θ_run Cert.Reference3Ideal.defs _ _).mono (fun r h c => ?_) (Cert.Reference3Ideal.Value.run m' g')
    obtain ⟨a0, a1, a2, a3⟩ := hagree c
    obtain ⟨r0, rest⟩ := h c
    refine ⟨r0.trans ?_, rest⟩
    funext i
    obtain ⟨a, b, rfl⟩ := Cert.Kernel3Ideal.Value.rows i
    refine (Cert.Reference3Ideal.Value.dw_at _ _ a b).trans (Finset.sum_congr rfl fun n _ => (mul_comm (G := EReal) _ _).trans (congrArg₂ (fun p q : EReal => p * q) ?_ ?_))
    · refine Eq.trans ?_ (Cert.Kernel3Ideal.Value.A_at m c n a).symm
      rw [a0, a1]; try rfl
    · refine Eq.trans ?_ (Cert.Kernel3Ideal.Value.B_at m c n b).symm
      rw [a3]; try rfl

end Cert.Proof

end
-- ==== Proof.Dw4.lean ====
module

public import proofs.«01_k».proof.Proof.Gen.Kernel4Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel4Ideal.Value

open Cert.Kernel4Ideal Cert.Kernel4Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1408) : k0_pay1 (F := Ideal) (ix2 a e) = 0 := by
  pointwise [k0_pay1]

/-- A block of tokens' product, added to what is there. -/
theorem pay2_at (o : Vec Ideal S1024x1408 .f32) (x : Vec Ideal S2048x1024 .bf16) (z : Vec Ideal S2048x1408 .bf16) (a : Fin 1024) (e : Fin 1408) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 2] ∧ win0_1.index t = ![t.val % 8, t.val / 8 % 2]
    ∧ win0_2.index t = ![t.val / 8 / 2, t.val / 8 % 2] ∧ t.val < 16 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v13 : Vec Ideal S16384x1024 .bf16) (ix2 n k)
/-- The right operand. -/
def B (n : Fin 16384) (k : Fin 2816) : EReal := (V m c main_v15 : Vec Ideal S16384x2816 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 2 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1408) :
    (iblk m c 1 t : Vec Ideal S2048x1408 .bf16) (ix2 b e) = Dw.lim (B m c) (t.val % 8 * 2048 + b.val) (t.val / 8 % 2 * 1408 + e.val) := by
  have ht := (idx t).2.2.2
  rw [Dw.lim_eq _ _ _ (by omega) (by omega)]
  unfold B
  blk_ext [iblk, idx t]

/-- What a point adds. -/
theorem adds (t : Fin cfg0.N) (o : Vec Ideal S1024x1408 .f32) (a : Fin 1024) (e : Fin 1408) :
    k0_pay2 (F := Ideal) o (iblk m c 0 t) (iblk m c 1 t) (ix2 a e)
      = o (ix2 a e) + Dw.part (A m c) (B m c) (t.val % 8) (t.val / 8 / 2 * 1024 + a.val) (t.val / 8 % 2 * 1408 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1408.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1408.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1408), (outsAt0 m c n hn).2 (ix2 a e)
    = Dw.acc (A m c) (B m c) (n % 8 + 1) (n / 8 / 2 * 1024 + a.val) (n / 8 % 2 * 1408 + e.val) :=
  Dw.fold (A m c) (B m c) (fun u a => u / 2 * 1024 + a) (fun u e => u % 2 * 1408 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x2816.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1408.Idx), (outsAt0 m c t.val t.isLt).1 z
      = Dw.acc (A m c) (B m c) 8 (t.val / 8 / 2 * 1024 + (z 0).val) (t.val / 8 % 2 * 1408 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel4Ideal.Value
end
-- ==== Proof.DwIn.lean ====
module

public import proofs.«01_k».proof.Proof.Gen.Reference9Ideal.Run
public import Idealize.ShloMosaic.Lib.Pointwise

@[expose] public section

set_option maxRecDepth 16384

noncomputable section

namespace Cert.Dw

open Cert.Reference9Ideal Cert.Reference9Ideal.Gen Idealize.ShloMosaic Idealize.ShloMosaic.TcCoe Idealize.ShloMosaic.Tactic

/-- The normalised rows, `rms_norm x g`. -/
def act (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The product over the tokens, turned. -/
abbrev dwV (z : FVec Ideal S16384x8704 .f32) (w : FVec Ideal S16384x1024 .f32) : FVec Ideal S1024x8704 .bf16 :=
  truncf .bf16 (transpose S1024x8704 [1, 0] (Host.dotGeneral (F := Ideal) dot_S16384x8704_S16384x1024_S8704x1024_0_0_1_1_n_n none z w) transposes_S8704x1024_S1024x8704_1_0) bitsLt_bf16_f32

/-- The product over the tokens, turned, at an index. -/
theorem dw_at (z : FVec Ideal S16384x8704 .f32) (w : FVec Ideal S16384x1024 .f32) (a : Fin 1024) (b : Fin 8704) :
    dwV z w (ix2 a b) = ∑ n : Fin 16384, z (ix2 n b) * w (ix2 n a) := by
  pointwise []

/-- Any index of a table is a row and a column. -/
theorem rows {p q : ℕ} (i : (⟨2, ![p, q]⟩ : Shape).Idx) : ∃ (a : Fin p) (b : Fin q), i = ix2 a b :=
  ⟨i 0, i 1, by funext k; fin_cases k <;> rfl⟩

/-- Which of the projection's columns a column of a head group is: its keys, then its values, then its queries. -/
def col (k v q : ℕ) (hk : k ≤ 8192) (hv : v ≤ 8192) (hq : q ≤ 8192) (j : Fin 1536) : Fin 8704 :=
  if h : j.val < 512 then ⟨k + j.val, by omega⟩ else if h' : j.val < 1024 then ⟨v + (j.val - 512), by omega⟩ else ⟨q + (j.val - 512 - 512), by omega⟩

end Cert.Dw
end
-- ==== Proof.DwOut4.lean ====
module

public import proofs.«01_k».proof.Defs
public import proofs.«01_k».proof.Proof.Dw4
public import proofs.«01_k».proof.Proof.DwIn
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pointwise
public import Idealize.ShloMosaic.Adequacy
public import Idealize.ShloMosaic.Init

@[expose] public section

set_option maxRecDepth 16384

noncomputable section

namespace Cert.Kernel4Ideal.Value

open Cert.Kernel4Ideal Cert.Kernel4Ideal.Gen Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The cotangent, rounded. -/
abbrev zb : FVec Ideal S16384x5632 .bf16 := truncf .bf16 (m ((c.tc : Thread nD τ).loc main_arg3) : FVec Ideal S16384x5632 .f32) bitsLt_bf16_f32

/-- The left factor as the call finds it. -/
theorem V_A : (V m c main_v13 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The right factor as the call finds it. -/
theorem V_B : (V m c main_v15 : Vec Ideal S16384x2816 .bf16) = extractStridedSlice S16384x2816 ![0, 0] (zb m c) slices_S16384x5632_S16384x2816_0_0 := by
  unfold V
  simp only [hostOps0, List.flatten_cons, List.flatten_nil, List.append_nil, List.cons_append, List.nil_append]
  after_results <;> rfl

/-- The right factor at an index. -/
theorem B_at (n : Fin 16384) (j : Fin 2816) : B m c n j = (m ((c.tc : Thread nD τ).loc main_arg3) : FVec Ideal S16384x5632 .f32) (ix2 n ⟨0 + j.val, by omega⟩) := by
  unfold B; rw [V_B]; pointwise []

end Cert.Kernel4Ideal.Value

namespace Cert.Reference4Ideal.Value

open Cert.Reference4Ideal Cert.Reference4Ideal.Gen Idealize.ShloMosaic Idealize.ShloMosaic.TcCoe Idealize.ShloMosaic.Tactic Idealize.SL.Sem Idealize.ShloMosaic.StableHlo

/-- The product over the tokens, turned, at an index. -/
theorem dw_at (z : FVec Ideal S16384x5632 .f32) (w : FVec Ideal S16384x1024 .f32) (a : Fin 1024) (b : Fin 5632) :
    (truncf .bf16 (transpose S1024x5632 [1, 0] (Host.dotGeneral (F := Ideal) dot_S16384x5632_S16384x1024_S5632x1024_0_0_1_1_n_n none z w) transposes_S5632x1024_S1024x5632_1_0) bitsLt_bf16_f32 : FVec Ideal S1024x5632 .bf16) (ix2 a b) = ∑ n : Fin 16384, z (ix2 n b) * w (ix2 n a) := by
  pointwise []

/-- The same, for the columns taken. -/
theorem cols_at (z : FVec Ideal S16384x5632 .f32) (w : FVec Ideal S16384x1024 .f32) (a : Fin 1024) (j : Fin 2816) :
    (extractStridedSlice S1024x2816 ![0, 0] (truncf .bf16 (transpose S1024x5632 [1, 0] (Host.dotGeneral (F := Ideal) dot_S16384x5632_S16384x1024_S5632x1024_0_0_1_1_n_n none z w) transposes_S5632x1024_S1024x5632_1_0) bitsLt_bf16_f32) slices_S1024x5632_S1024x2816_0_0 : FVec Ideal S1024x2816 .bf16) (ix2 a j) = ∑ n : Fin 16384, z (ix2 n ⟨0 + j.val, by omega⟩) * w (ix2 n a) := by
  refine Eq.trans ?_ (dw_at z w a ⟨0 + j.val, by omega⟩)
  generalize truncf .bf16 (transpose S1024x5632 [1, 0] (Host.dotGeneral (F := Ideal) dot_S16384x5632_S16384x1024_S5632x1024_0_0_1_1_n_n none z w) transposes_S5632x1024_S1024x5632_1_0) bitsLt_bf16_f32 = q
  pointwise []

end Cert.Reference4Ideal.Value

namespace Cert.Proof

open Idealize.ShloMosaic Idealize.ShloMosaic.TcCoe Idealize.SL.Sem

/-- The frame of the reference of the gradient of the feed-forward layer's gate weights: its run read at the arguments; it declares no semaphore. -/
theorem reference4_frame : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

/-- From any arguments the weight-gradient call and its reference leave the same gradient of the feed-forward layer's gate weights. -/
theorem algebraic4 : Cert.algebraic_Kernel4Ideal_Reference4Ideal (hKernel4Ideal := Cert.Kernel4Ideal.Gen.facts)
    (hReference4Ideal := Cert.Reference4Ideal.Gen.facts) := by
  intro m g m' g' _ hagree
  refine ⟨fun c => fun i : Cert.Kernel4Ideal.S1024x2816.Idx => (∑ n : Fin 16384, Cert.Kernel4Ideal.Value.A m c n (i 0) * Cert.Kernel4Ideal.Value.B m c n (i 1) : EReal), ?_, ?_⟩
  · refine (θ_run Cert.Kernel4Ideal.defs _ _).mono (fun r h c => ?_) (Cert.Kernel4Ideal.Value.run_blocks m g)
    obtain ⟨r0, rest⟩ := h c
    exact ⟨r0.trans (Cert.Kernel4Ideal.Value.arr m c), rest⟩
  · refine (θ_run Cert.Reference4Ideal.defs _ _).mono (fun r h c => ?_) (Cert.Reference4Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference4Ideal.Value.cols_at _ _ a b).trans (Finset.sum_congr rfl fun n _ => (mul_comm (G := EReal) _ _).trans (congrArg₂ (fun p q : EReal => p * q) ?_ ?_))
    · refine Eq.trans ?_ (Cert.Kernel4Ideal.Value.A_at m c n a).symm
      rw [a0, a1]; try rfl
    · refine Eq.trans ?_ (Cert.Kernel4Ideal.Value.B_at m c n b).symm
      rw [a3]; try rfl

end Cert.Proof

end
-- ==== Proof.Dw5.lean ====
module

public import proofs.«01_k».proof.Proof.Gen.Kernel5Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel5Ideal.Value

open Cert.Kernel5Ideal Cert.Kernel5Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1408) : k0_pay1 (F := Ideal) (ix2 a e) = 0 := by
  pointwise [k0_pay1]

/-- A block of tokens' product, added to what is there. -/
theorem pay2_at (o : Vec Ideal S1024x1408 .f32) (x : Vec Ideal S2048x1024 .bf16) (z : Vec Ideal S2048x1408 .bf16) (a : Fin 1024) (e : Fin 1408) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 2] ∧ win0_1.index t = ![t.val % 8, t.val / 8 % 2]
    ∧ win0_2.index t = ![t.val / 8 / 2, t.val / 8 % 2] ∧ t.val < 16 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v13 : Vec Ideal S16384x1024 .bf16) (ix2 n k)
/-- The right operand. -/
def B (n : Fin 16384) (k : Fin 2816) : EReal := (V m c main_v15 : Vec Ideal S16384x2816 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 2 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1408) :
    (iblk m c 1 t : Vec Ideal S2048x1408 .bf16) (ix2 b e) = Dw.lim (B m c) (t.val % 8 * 2048 + b.val) (t.val / 8 % 2 * 1408 + e.val) := by
  have ht := (idx t).2.2.2
  rw [Dw.lim_eq _ _ _ (by omega) (by omega)]
  unfold B
  blk_ext [iblk, idx t]

/-- What a point adds. -/
theorem adds (t : Fin cfg0.N) (o : Vec Ideal S1024x1408 .f32) (a : Fin 1024) (e : Fin 1408) :
    k0_pay2 (F := Ideal) o (iblk m c 0 t) (iblk m c 1 t) (ix2 a e)
      = o (ix2 a e) + Dw.part (A m c) (B m c) (t.val % 8) (t.val / 8 / 2 * 1024 + a.val) (t.val / 8 % 2 * 1408 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1408.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1408.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1408), (outsAt0 m c n hn).2 (ix2 a e)
    = Dw.acc (A m c) (B m c) (n % 8 + 1) (n / 8 / 2 * 1024 + a.val) (n / 8 % 2 * 1408 + e.val) :=
  Dw.fold (A m c) (B m c) (fun u a => u / 2 * 1024 + a) (fun u e => u % 2 * 1408 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x2816.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1408.Idx), (outsAt0 m c t.val t.isLt).1 z
      = Dw.acc (A m c) (B m c) 8 (t.val / 8 / 2 * 1024 + (z 0).val) (t.val / 8 % 2 * 1408 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel5Ideal.Value
end
-- ==== Proof.DwOut5.lean ====
module

public import proofs.«01_k».proof.Defs
public import proofs.«01_k».proof.Proof.Dw5
public import proofs.«01_k».proof.Proof.DwIn
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pointwise
public import Idealize.ShloMosaic.Adequacy
public import Idealize.ShloMosaic.Init

@[expose] public section

set_option maxRecDepth 16384

noncomputable section

namespace Cert.Kernel5Ideal.Value

open Cert.Kernel5Ideal Cert.Kernel5Ideal.Gen Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The cotangent, rounded. -/
abbrev zb : FVec Ideal S16384x5632 .bf16 := truncf .bf16 (m ((c.tc : Thread nD τ).loc main_arg3) : FVec Ideal S16384x5632 .f32) bitsLt_bf16_f32

/-- The left factor as the call finds it. -/
theorem V_A : (V m c main_v13 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The right factor as the call finds it. -/
theorem V_B : (V m c main_v15 : Vec Ideal S16384x2816 .bf16) = extractStridedSlice S16384x2816 ![0, 2816] (zb m c) slices_S16384x5632_S16384x2816_0_2816 := by
  unfold V
  simp only [hostOps0, List.flatten_cons, List.flatten_nil, List.append_nil, List.cons_append, List.nil_append]
  after_results <;> rfl

/-- The right factor at an index. -/
theorem B_at (n : Fin 16384) (j : Fin 2816) : B m c n j = (m ((c.tc : Thread nD τ).loc main_arg3) : FVec Ideal S16384x5632 .f32) (ix2 n ⟨2816 + j.val, by omega⟩) := by
  unfold B; rw [V_B]; pointwise []

end Cert.Kernel5Ideal.Value

namespace Cert.Reference5Ideal.Value

open Cert.Reference5Ideal Cert.Reference5Ideal.Gen Idealize.ShloMosaic Idealize.ShloMosaic.TcCoe Idealize.ShloMosaic.Tactic Idealize.SL.Sem Idealize.ShloMosaic.StableHlo

/-- The product over the tokens, turned, at an index. -/
theorem dw_at (z : FVec Ideal S16384x5632 .f32) (w : FVec Ideal S16384x1024 .f32) (a : Fin 1024) (b : Fin 5632) :
    (truncf .bf16 (transpose S1024x5632 [1, 0] (Host.dotGeneral (F := Ideal) dot_S16384x5632_S16384x1024_S5632x1024_0_0_1_1_n_n none z w) transposes_S5632x1024_S1024x5632_1_0) bitsLt_bf16_f32 : FVec Ideal S1024x5632 .bf16) (ix2 a b) = ∑ n : Fin 16384, z (ix2 n b) * w (ix2 n a) := by
  pointwise []

/-- The same, for the columns taken. -/
theorem cols_at (z : FVec Ideal S16384x5632 .f32) (w : FVec Ideal S16384x1024 .f32) (a : Fin 1024) (j : Fin 2816) :
    (extractStridedSlice S1024x2816 ![0, 2816] (truncf .bf16 (transpose S1024x5632 [1, 0] (Host.dotGeneral (F := Ideal) dot_S16384x5632_S16384x1024_S5632x1024_0_0_1_1_n_n none z w) transposes_S5632x1024_S1024x5632_1_0) bitsLt_bf16_f32) slices_S1024x5632_S1024x2816_0_2816 : FVec Ideal S1024x2816 .bf16) (ix2 a j) = ∑ n : Fin 16384, z (ix2 n ⟨2816 + j.val, by omega⟩) * w (ix2 n a) := by
  refine Eq.trans ?_ (dw_at z w a ⟨2816 + j.val, by omega⟩)
  generalize truncf .bf16 (transpose S1024x5632 [1, 0] (Host.dotGeneral (F := Ideal) dot_S16384x5632_S16384x1024_S5632x1024_0_0_1_1_n_n none z w) transposes_S5632x1024_S1024x5632_1_0) bitsLt_bf16_f32 = q
  pointwise []

end Cert.Reference5Ideal.Value

namespace Cert.Proof

open Idealize.ShloMosaic Idealize.ShloMosaic.TcCoe Idealize.SL.Sem

/-- The frame of the reference of the gradient of the feed-forward layer's up weights: its run read at the arguments; it declares no semaphore. -/
theorem reference5_frame : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run m g)

/-- From any arguments the weight-gradient call and its reference leave the same gradient of the feed-forward layer's up weights. -/
theorem algebraic5 : Cert.algebraic_Kernel5Ideal_Reference5Ideal (hKernel5Ideal := Cert.Kernel5Ideal.Gen.facts)
    (hReference5Ideal := Cert.Reference5Ideal.Gen.facts) := by
  intro m g m' g' _ hagree
  refine ⟨fun c => fun i : Cert.Kernel5Ideal.S1024x2816.Idx => (∑ n : Fin 16384, Cert.Kernel5Ideal.Value.A m c n (i 0) * Cert.Kernel5Ideal.Value.B m c n (i 1) : EReal), ?_, ?_⟩
  · refine (θ_run Cert.Kernel5Ideal.defs _ _).mono (fun r h c => ?_) (Cert.Kernel5Ideal.Value.run_blocks m g)
    obtain ⟨r0, rest⟩ := h c
    exact ⟨r0.trans (Cert.Kernel5Ideal.Value.arr m c), rest⟩
  · refine (θ_run Cert.Reference5Ideal.defs _ _).mono (fun r h c => ?_) (Cert.Reference5Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference5Ideal.Value.cols_at _ _ a b).trans (Finset.sum_congr rfl fun n _ => (mul_comm (G := EReal) _ _).trans (congrArg₂ (fun p q : EReal => p * q) ?_ ?_))
    · refine Eq.trans ?_ (Cert.Kernel5Ideal.Value.A_at m c n a).symm
      rw [a0, a1]; try rfl
    · refine Eq.trans ?_ (Cert.Kernel5Ideal.Value.B_at m c n b).symm
      rw [a3]; try rfl

end Cert.Proof

end
-- ==== Proof.Dw6.lean ====
module

public import proofs.«01_k».proof.Proof.Gen.Kernel6Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel6Ideal.Value

open Cert.Kernel6Ideal Cert.Kernel6Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1024) : k0_pay1 (F := Ideal) (ix2 a e) = 0 := by
  pointwise [k0_pay1]

/-- A block of tokens' product, added to what is there. -/
theorem pay2_at (o : Vec Ideal S1024x1024 .f32) (x : Vec Ideal S2048x1024 .bf16) (z : Vec Ideal S2048x1024 .bf16) (a : Fin 1024) (e : Fin 1024) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 8 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v15 : Vec Ideal S16384x1024 .bf16) (ix2 n k)
/-- The right operand. -/
def B (n : Fin 16384) (k : Fin 1024) : EReal := (V m c main_v16 : Vec Ideal S16384x1024 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 1 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1024) :
    (iblk m c 1 t : Vec Ideal S2048x1024 .bf16) (ix2 b e) = Dw.lim (B m c) (t.val % 8 * 2048 + b.val) (t.val / 8 % 1 * 1024 + e.val) := by
  have ht := (idx t).2.2.2
  rw [Dw.lim_eq _ _ _ (by omega) (by omega)]
  unfold B
  blk_ext [iblk, idx t]

/-- What a point adds. -/
theorem adds (t : Fin cfg0.N) (o : Vec Ideal S1024x1024 .f32) (a : Fin 1024) (e : Fin 1024) :
    k0_pay2 (F := Ideal) o (iblk m c 0 t) (iblk m c 1 t) (ix2 a e)
      = o (ix2 a e) + Dw.part (A m c) (B m c) (t.val % 8) (t.val / 8 / 1 * 1024 + a.val) (t.val / 8 % 1 * 1024 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1024.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1024.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1024), (outsAt0 m c n hn).2 (ix2 a e)
    = Dw.acc (A m c) (B m c) (n % 8 + 1) (n / 8 / 1 * 1024 + a.val) (n / 8 % 1 * 1024 + e.val) :=
  Dw.fold (A m c) (B m c) (fun u a => u / 1 * 1024 + a) (fun u e => u % 1 * 1024 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x1024.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1024.Idx), (outsAt0 m c t.val t.isLt).1 z
      = Dw.acc (A m c) (B m c) 8 (t.val / 8 / 1 * 1024 + (z 0).val) (t.val / 8 % 1 * 1024 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel6Ideal.Value
end
-- ==== Proof.DwOut6.lean ====
module

public import proofs.«01_k».proof.Defs
public import proofs.«01_k».proof.Proof.Dw6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Lib.Pointwise
public import Idealize.ShloMosaic.Adequacy
public import Idealize.ShloMosaic.Init

@[expose] public section

set_option maxRecDepth 16384

noncomputable section

namespace Cert.Kernel6Ideal.Value

open Cert.Kernel6Ideal Cert.Kernel6Ideal.Gen Idealize.ShloMosaic Idealize.ShloMosaic.TcCoe Idealize.ShloMosaic.Tactic Idealize.SL.Sem Idealize.ShloMosaic.StableHlo

/-- The merged branches, `sigmoid za * ya + sigmoid zc * yc`. -/
def act (za : FVec Ideal S16384x1024 .f32) (ya : FVec Ideal S16384x1024 .f32) (zc : FVec Ideal S16384x1024 .f32) (yc : FVec Ideal S16384x1024 .f32) : FVec Ideal S16384x1024 .f32 :=
  addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf za)))) ya) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf zc)))) yc)

variable (m : (ℓ : Loc nD τ sig) → Buf (Elt Ideal) ℓ) (c : Dev nD)

/-- The cotangent, rounded. -/
abbrev zb : FVec Ideal S16384x1024 .bf16 := truncf .bf16 (m ((c.tc : Thread nD τ).loc main_arg5) : FVec Ideal S16384x1024 .f32) bitsLt_bf16_f32

/-- The left factor as the call finds it. -/
theorem V_A : (V m c main_v15 : Vec Ideal S16384x1024 .bf16) = truncf .bf16 (act (m ((c.tc : Thread nD τ).loc main_arg0) : FVec Ideal S16384x1024 .f32) (m ((c.tc : Thread nD τ).loc main_arg1) : FVec Ideal S16384x1024 .f32) (m ((c.tc : Thread nD τ).loc main_arg2) : FVec Ideal S16384x1024 .f32) (m ((c.tc : Thread nD τ).loc main_arg3) : FVec Ideal S16384x1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = act (m ((c.tc : Thread nD τ).loc main_arg0) : FVec Ideal S16384x1024 .f32) (m ((c.tc : Thread nD τ).loc main_arg1) : FVec Ideal S16384x1024 .f32) (m ((c.tc : Thread nD τ).loc main_arg2) : FVec Ideal S16384x1024 .f32) (m ((c.tc : Thread nD τ).loc main_arg3) : FVec Ideal S16384x1024 .f32) (ix2 n k) := by
  unfold A; rw [V_A]; rfl

/-- The right factor as the call finds it. -/
theorem V_B : (V m c main_v16 : Vec Ideal S16384x1024 .bf16) = zb m c := by
  unfold V
  simp only [hostOps0, List.flatten_cons, List.flatten_nil, List.append_nil, List.cons_append, List.nil_append]
  after_results <;> rfl

/-- The right factor at an index. -/
theorem B_at (n : Fin 16384) (j : Fin 1024) : B m c n j = (m ((c.tc : Thread nD τ).loc main_arg5) : FVec Ideal S16384x1024 .f32) (ix2 n j) := by
  unfold B; rw [V_B]; pointwise []

/-- Any index of the result is a row and a column. -/
theorem rows (i : S1024x1024.Idx) : ∃ (a : Fin 1024) (b : Fin 1024), i = ix2 a b :=
  ⟨i 0, i 1, by funext k; fin_cases k <;> rfl⟩

end Cert.Kernel6Ideal.Value

namespace Cert.Reference6Ideal.Value

open Cert.Reference6Ideal Cert.Reference6Ideal.Gen Idealize.ShloMosaic Idealize.ShloMosaic.TcCoe Idealize.ShloMosaic.Tactic Idealize.SL.Sem Idealize.ShloMosaic.StableHlo

/-- The product over the tokens, turned, at an index. -/
theorem dw_at (z : FVec Ideal S16384x1024 .f32) (w : FVec Ideal S16384x1024 .f32) (a : Fin 1024) (b : Fin 1024) :
    (truncf .bf16 (transpose S1024x1024 [1, 0] (Host.dotGeneral (F := Ideal) dot_S16384x1024_S16384x1024_S1024x1024_0_0_1_1_n_n none z w) transposes_S1024x1024_S1024x1024_1_0) bitsLt_bf16_f32 : FVec Ideal S1024x1024 .bf16) (ix2 a b) = ∑ n : Fin 16384, z (ix2 n b) * w (ix2 n a) := by
  pointwise []

end Cert.Reference6Ideal.Value

namespace Cert.Proof

open Idealize.ShloMosaic Idealize.ShloMosaic.TcCoe Idealize.SL.Sem

/-- The frame of the reference of the gradient of the merge's weights: its run read at the arguments; it declares no semaphore. -/
theorem reference6_frame : Cert.quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run m g)

/-- From any arguments the weight-gradient call and its reference leave the same gradient of the merge's weights. -/
theorem algebraic6 : Cert.algebraic_Kernel6Ideal_Reference6Ideal (hKernel6Ideal := Cert.Kernel6Ideal.Gen.facts)
    (hReference6Ideal := Cert.Reference6Ideal.Gen.facts) := by
  intro m g m' g' _ hagree
  refine ⟨fun c => fun i : Cert.Kernel6Ideal.S1024x1024.Idx => (∑ n : Fin 16384, Cert.Kernel6Ideal.Value.A m c n (i 0) * Cert.Kernel6Ideal.Value.B m c n (i 1) : EReal), ?_, ?_⟩
  · refine (θ_run Cert.Kernel6Ideal.defs _ _).mono (fun r h c => ?_) (Cert.Kernel6Ideal.Value.run_blocks m g)
    obtain ⟨r0, rest⟩ := h c
    exact ⟨r0.trans (Cert.Kernel6Ideal.Value.arr m c), rest⟩
  · refine (θ_run Cert.Reference6Ideal.defs _ _).mono (fun r h c => ?_) (Cert.Reference6Ideal.Value.run m' g')
    obtain ⟨a0, a1, a2, a3, a4, a5⟩ := hagree c
    obtain ⟨r0, rest⟩ := h c
    refine ⟨r0.trans ?_, rest⟩
    funext i
    obtain ⟨a, b, rfl⟩ := Cert.Kernel6Ideal.Value.rows i
    refine (Cert.Reference6Ideal.Value.dw_at _ _ a b).trans (Finset.sum_congr rfl fun n _ => (mul_comm (G := EReal) _ _).trans (congrArg₂ (fun p q : EReal => p * q) ?_ ?_))
    · refine Eq.trans ?_ (Cert.Kernel6Ideal.Value.A_at m c n a).symm
      rw [a0, a1, a2, a3]; try rfl
    · refine Eq.trans ?_ (Cert.Kernel6Ideal.Value.B_at m c n b).symm
      rw [a5]; try rfl

end Cert.Proof

end
-- ==== Proof.Dw7.lean ====
module

public import proofs.«01_k».proof.Proof.Gen.Kernel7Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel7Ideal.Value

open Cert.Kernel7Ideal Cert.Kernel7Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1024) : k0_pay1 (F := Ideal) (ix2 a e) = 0 := by
  pointwise [k0_pay1]

/-- A block of tokens' product, added to what is there. -/
theorem pay2_at (o : Vec Ideal S1024x1024 .f32) (x : Vec Ideal S2048x1024 .bf16) (z : Vec Ideal S2048x1024 .bf16) (a : Fin 1024) (e : Fin 1024) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 8 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v23 : Vec Ideal S16384x1024 .bf16) (ix2 n k)
/-- The right operand. -/
def B (n : Fin 16384) (k : Fin 1024) : EReal := (V m c main_v24 : Vec Ideal S16384x1024 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 1 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1024) :
    (iblk m c 1 t : Vec Ideal S2048x1024 .bf16) (ix2 b e) = Dw.lim (B m c) (t.val % 8 * 2048 + b.val) (t.val / 8 % 1 * 1024 + e.val) := by
  have ht := (idx t).2.2.2
  rw [Dw.lim_eq _ _ _ (by omega) (by omega)]
  unfold B
  blk_ext [iblk, idx t]

/-- What a point adds. -/
theorem adds (t : Fin cfg0.N) (o : Vec Ideal S1024x1024 .f32) (a : Fin 1024) (e : Fin 1024) :
    k0_pay2 (F := Ideal) o (iblk m c 0 t) (iblk m c 1 t) (ix2 a e)
      = o (ix2 a e) + Dw.part (A m c) (B m c) (t.val % 8) (t.val / 8 / 1 * 1024 + a.val) (t.val / 8 % 1 * 1024 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1024.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1024.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1024), (outsAt0 m c n hn).2 (ix2 a e)
    = Dw.acc (A m c) (B m c) (n % 8 + 1) (n / 8 / 1 * 1024 + a.val) (n / 8 % 1 * 1024 + e.val) :=
  Dw.fold (A m c) (B m c) (fun u a => u / 1 * 1024 + a) (fun u e => u % 1 * 1024 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x1024.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1024.Idx), (outsAt0 m c t.val t.isLt).1 z
      = Dw.acc (A m c) (B m c) 8 (t.val / 8 / 1 * 1024 + (z 0).val) (t.val / 8 % 1 * 1024 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel7Ideal.Value
end
-- ==== Proof.DwOut7.lean ====
module

public import proofs.«01_k».proof.Defs
public import proofs.«01_k».proof.Proof.Dw7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import Idealize.ShloMosaic.Lib.Pointwise
public import Idealize.ShloMosaic.Adequacy
public import Idealize.ShloMosaic.Init

@[expose] public section

set_option maxRecDepth 16384

noncomputable section

namespace Cert.Kernel7Ideal.Value

open Cert.Kernel7Ideal Cert.Kernel7Ideal.Gen Idealize.ShloMosaic Idealize.ShloMosaic.TcCoe Idealize.ShloMosaic.Tactic Idealize.SL.Sem Idealize.ShloMosaic.StableHlo

/-- The rows less their means. -/
def ctr (u : FVec Ideal S16384x1024 .f32) : FVec Ideal S16384x1024 .f32 :=
  subf u (broadcastInDim S16384x1024 ![0, 1] bcast_S16384x1_S16384x1024_0_1 (Host.divf (broadcastInDim S16384x1 ![0] bcast_S16384_S16384x1_0 (Host.reduceAdd u (constant S_ .f32 0x00000000#32) reducesTo_S16384x1024_S16384_d1 h_S_)) (broadcastInDim S16384x1 ![] bcast_S_S16384x1 (constant S_ .f32 0x44800000#32))))

/-- The normalised rows, `layer_norm u g b`. -/
def ln (u : FVec Ideal S16384x1024 .f32) (g : FVec Ideal S1024 .f32) (b : FVec Ideal S1024 .f32) : FVec Ideal S16384x1024 .f32 :=
  addf (mulf (mulf (ctr u) (broadcastInDim S16384x1024 ![0, 1] bcast_S16384x1_S16384x1024_0_1 (Host.rsqrt (addf (Host.divf (broadcastInDim S16384x1 ![0] bcast_S16384_S16384x1_0 (Host.reduceAdd (mulf (ctr u) (ctr u)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The convolution branch's activations, `silu (layer_norm u)`. -/
def act (u : FVec Ideal S16384x1024 .f32) (g : FVec Ideal S1024 .f32) (b : FVec Ideal S1024 .f32) : FVec Ideal S16384x1024 .f32 :=
  mulf (ln u g b) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (ln u g b)))))

variable (m : (ℓ : Loc nD τ sig) → Buf (Elt Ideal) ℓ) (c : Dev nD)

/-- The cotangent, rounded. -/
abbrev zb : FVec Ideal S16384x1024 .bf16 := truncf .bf16 (m ((c.tc : Thread nD τ).loc main_arg4) : FVec Ideal S16384x1024 .f32) bitsLt_bf16_f32

/-- The left factor as the call finds it. -/
theorem V_A : (V m c main_v23 : Vec Ideal S16384x1024 .bf16) = truncf .bf16 (act (m ((c.tc : Thread nD τ).loc main_arg0) : FVec Ideal S16384x1024 .f32) (m ((c.tc : Thread nD τ).loc main_arg1) : FVec Ideal S1024 .f32) (m ((c.tc : Thread nD τ).loc main_arg2) : FVec Ideal S1024 .f32)) bitsLt_bf16_f32 := by
  unfold V
  simp only [hostOps0, hostOps0_1, hostOps0_2, TRef.binary, TRef.nullary, TRef.unary, TRef.toBuf, TRef.ofBuf, cast_eq, List.flatten_cons, List.flatten_nil, List.append_nil, List.cons_append, List.nil_append]
  after_results <;> rfl

/-- The left factor at an index. -/
theorem A_at (n : Fin 16384) (k : Fin 1024) : A m c n k = act (m ((c.tc : Thread nD τ).loc main_arg0) : FVec Ideal S16384x1024 .f32) (m ((c.tc : Thread nD τ).loc main_arg1) : FVec Ideal S1024 .f32) (m ((c.tc : Thread nD τ).loc main_arg2) : FVec Ideal S1024 .f32) (ix2 n k) := by
  unfold A; rw [V_A]; rfl

/-- The right factor as the call finds it. -/
theorem V_B : (V m c main_v24 : Vec Ideal S16384x1024 .bf16) = zb m c := by
  unfold V
  simp only [hostOps0, hostOps0_1, hostOps0_2, TRef.binary, TRef.nullary, TRef.unary, TRef.toBuf, TRef.ofBuf, cast_eq, List.flatten_cons, List.flatten_nil, List.append_nil, List.cons_append, List.nil_append]
  after_results <;> rfl

/-- The right factor at an index. -/
theorem B_at (n : Fin 16384) (j : Fin 1024) : B m c n j = (m ((c.tc : Thread nD τ).loc main_arg4) : FVec Ideal S16384x1024 .f32) (ix2 n j) := by
  unfold B; rw [V_B]; pointwise []

/-- Any index of the result is a row and a column. -/
theorem rows (i : S1024x1024.Idx) : ∃ (a : Fin 1024) (b : Fin 1024), i = ix2 a b :=
  ⟨i 0, i 1, by funext k; fin_cases k <;> rfl⟩

end Cert.Kernel7Ideal.Value

namespace Cert.Reference7Ideal.Value

open Cert.Reference7Ideal Cert.Reference7Ideal.Gen Idealize.ShloMosaic Idealize.ShloMosaic.TcCoe Idealize.ShloMosaic.Tactic Idealize.SL.Sem Idealize.ShloMosaic.StableHlo

/-- The product over the tokens, turned, at an index. -/
theorem dw_at (z : FVec Ideal S16384x1024 .f32) (w : FVec Ideal S16384x1024 .f32) (a : Fin 1024) (b : Fin 1024) :
    (truncf .bf16 (transpose S1024x1024 [1, 0] (Host.dotGeneral (F := Ideal) dot_S16384x1024_S16384x1024_S1024x1024_0_0_1_1_n_n none z w) transposes_S1024x1024_S1024x1024_1_0) bitsLt_bf16_f32 : FVec Ideal S1024x1024 .bf16) (ix2 a b) = ∑ n : Fin 16384, z (ix2 n b) * w (ix2 n a) := by
  pointwise []

end Cert.Reference7Ideal.Value

namespace Cert.Proof

open Idealize.ShloMosaic Idealize.ShloMosaic.TcCoe Idealize.SL.Sem

/-- The frame of the reference of the gradient of the convolution branch's last weights: its run read at the arguments; it declares no semaphore. -/
theorem reference7_frame : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run m g)

/-- From any arguments the weight-gradient call and its reference leave the same gradient of the convolution branch's last weights. -/
theorem algebraic7 : Cert.algebraic_Kernel7Ideal_Reference7Ideal (hKernel7Ideal := Cert.Kernel7Ideal.Gen.facts)
    (hReference7Ideal := Cert.Reference7Ideal.Gen.facts) := by
  intro m g m' g' _ hagree
  refine ⟨fun c => fun i : Cert.Kernel7Ideal.S1024x1024.Idx => (∑ n : Fin 16384, Cert.Kernel7Ideal.Value.A m c n (i 0) * Cert.Kernel7Ideal.Value.B m c n (i 1) : EReal), ?_, ?_⟩
  · refine (θ_run Cert.Kernel7Ideal.defs _ _).mono (fun r h c => ?_) (Cert.Kernel7Ideal.Value.run_blocks m g)
    obtain ⟨r0, rest⟩ := h c
    exact ⟨r0.trans (Cert.Kernel7Ideal.Value.arr m c), rest⟩
  · refine (θ_run Cert.Reference7Ideal.defs _ _).mono (fun r h c => ?_) (Cert.Reference7Ideal.Value.run m' g')
    obtain ⟨a0, a1, a2, a3, a4⟩ := hagree c
    obtain ⟨r0, rest⟩ := h c
    refine ⟨r0.trans ?_, rest⟩
    unfold Cert.Reference7Ideal.Value.res_main_v26
    funext i
    obtain ⟨a, b, rfl⟩ := Cert.Kernel7Ideal.Value.rows i
    refine (Cert.Reference7Ideal.Value.dw_at _ _ a b).trans (Finset.sum_congr rfl fun n _ => (mul_comm (G := EReal) _ _).trans (congrArg₂ (fun p q : EReal => p * q) ?_ ?_))
    · refine Eq.trans ?_ (Cert.Kernel7Ideal.Value.A_at m c n a).symm
      rw [a0, a1, a2]; try rfl
    · refine Eq.trans ?_ (Cert.Kernel7Ideal.Value.B_at m c n b).symm
      rw [a4]; try rfl

end Cert.Proof

end
-- ==== Proof.Dw8.lean ====
module

public import proofs.«01_k».proof.Proof.Gen.Kernel8Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel8Ideal.Value

open Cert.Kernel8Ideal Cert.Kernel8Ideal.Gen Idealize.ShloMosaic Idealize.ShloMosaic.TcCoe Idealize.ShloMosaic.Tactic Idealize.SL.Sem Idealize.ShloMosaic.StableHlo

/-- The first point's zeros. -/
theorem pay1_at (a : Fin 512) (e : Fin 1024) : k0_pay1 (F := Ideal) (ix2 a e) = 0 := by
  pointwise [k0_pay1]

/-- A block of tokens' product, added to what is there. -/
theorem pay2_at (o : Vec Ideal S512x1024 .f32) (x : Vec Ideal S2048x512 .bf16) (z : Vec Ideal S2048x1024 .bf16) (a : Fin 512) (e : Fin 1024) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 8 :=
  (by decide +kernel : ∀ t : Fin grid0.N, _)

variable (m : (ℓ : Loc nD τ sig) → Buf (Elt Ideal) ℓ) (c : Dev nD)

/-- The left operand. -/
def A (n : Fin 16384) (k : Fin 512) : EReal := (V m c main_v0 : Vec Ideal S16384x512 .bf16) (ix2 n k)
/-- The right operand. -/
def B (n : Fin 16384) (k : Fin 1024) : EReal := (V m c main_v1 : Vec Ideal S16384x1024 .bf16) (ix2 n k)

/-- Window 0's block at an index. -/
theorem blk0 (t : Fin cfg0.N) (b : Fin 2048) (a : Fin 512) :
    (iblk m c 0 t : Vec Ideal S2048x512 .bf16) (ix2 b a) = Dw.lim (A m c) (t.val % 8 * 2048 + b.val) (t.val / 8 / 1 * 512 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1024) :
    (iblk m c 1 t : Vec Ideal S2048x1024 .bf16) (ix2 b e) = Dw.lim (B m c) (t.val % 8 * 2048 + b.val) (t.val / 8 % 1 * 1024 + e.val) := by
  have ht := (idx t).2.2.2
  rw [Dw.lim_eq _ _ _ (by omega) (by omega)]
  unfold B
  blk_ext [iblk, idx t]

/-- What a point adds. -/
theorem adds (t : Fin cfg0.N) (o : Vec Ideal S512x1024 .f32) (a : Fin 512) (e : Fin 1024) :
    k0_pay2 (F := Ideal) o (iblk m c 0 t) (iblk m c 1 t) (ix2 a e)
      = o (ix2 a e) + Dw.part (A m c) (B m c) (t.val % 8) (t.val / 8 / 1 * 512 + a.val) (t.val / 8 % 1 * 1024 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S512x1024.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S512x1024.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 512) (e : Fin 1024), (outsAt0 m c n hn).2 (ix2 a e)
    = Dw.acc (A m c) (B m c) (n % 8 + 1) (n / 8 / 1 * 512 + a.val) (n / 8 % 1 * 1024 + e.val) :=
  Dw.fold (A m c) (B m c) (fun u a => u / 1 * 512 + a) (fun u e => u % 1 * 1024 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S512x1024.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S512x1024.Idx), (outsAt0 m c t.val t.isLt).1 z
      = Dw.acc (A m c) (B m c) 8 (t.val / 8 / 1 * 512 + (z 0).val) (t.val / 8 % 1 * 1024 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel8Ideal.Value
end
-- ==== Proof.DwOut8.lean ====
module

public import proofs.«01_k».proof.Defs
public import proofs.«01_k».proof.Proof.Dw8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import Idealize.ShloMosaic.Lib.Pointwise
public import Idealize.ShloMosaic.Adequacy
public import Idealize.ShloMosaic.Init

@[expose] public section

set_option maxRecDepth 16384

noncomputable section

namespace Cert.Kernel8Ideal.Value

open Cert.Kernel8Ideal Cert.Kernel8Ideal.Gen Idealize.ShloMosaic Idealize.ShloMosaic.TcCoe Idealize.ShloMosaic.Tactic Idealize.SL.Sem Idealize.ShloMosaic.StableHlo

/-- The merged heads' outputs. -/
def act (o : FVec Ideal S16384x512 .f32) : FVec Ideal S16384x512 .f32 :=
  o

variable (m : (ℓ : Loc nD τ sig) → Buf (Elt Ideal) ℓ) (c : Dev nD)

/-- The cotangent, rounded. -/
abbrev zb : FVec Ideal S16384x1024 .bf16 := truncf .bf16 (m ((c.tc : Thread nD τ).loc main_arg2) : FVec Ideal S16384x1024 .f32) bitsLt_bf16_f32

/-- The left factor as the call finds it. -/
theorem V_A : (V m c main_v0 : Vec Ideal S16384x512 .bf16) = truncf .bf16 (act (m ((c.tc : Thread nD τ).loc main_arg0) : FVec Ideal S16384x512 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 512) : A m c n k = act (m ((c.tc : Thread nD τ).loc main_arg0) : FVec Ideal S16384x512 .f32) (ix2 n k) := by
  unfold A; rw [V_A]; rfl

/-- The right factor as the call finds it. -/
theorem V_B : (V m c main_v1 : Vec Ideal S16384x1024 .bf16) = zb m c := by
  unfold V
  simp only [hostOps0, List.flatten_cons, List.flatten_nil, List.append_nil, List.cons_append, List.nil_append]
  after_results <;> rfl

/-- The right factor at an index. -/
theorem B_at (n : Fin 16384) (j : Fin 1024) : B m c n j = (m ((c.tc : Thread nD τ).loc main_arg2) : FVec Ideal S16384x1024 .f32) (ix2 n j) := by
  unfold B; rw [V_B]; pointwise []

/-- Any index of the result is a row and a column. -/
theorem rows (i : S512x1024.Idx) : ∃ (a : Fin 512) (b : Fin 1024), i = ix2 a b :=
  ⟨i 0, i 1, by funext k; fin_cases k <;> rfl⟩

end Cert.Kernel8Ideal.Value

namespace Cert.Reference8Ideal.Value

open Cert.Reference8Ideal Cert.Reference8Ideal.Gen Idealize.ShloMosaic Idealize.ShloMosaic.TcCoe Idealize.ShloMosaic.Tactic Idealize.SL.Sem Idealize.ShloMosaic.StableHlo

/-- The product over the tokens, turned, at an index. -/
theorem dw_at (z : FVec Ideal S16384x1024 .f32) (w : FVec Ideal S16384x512 .f32) (a : Fin 512) (b : Fin 1024) :
    (truncf .bf16 (transpose S512x1024 [1, 0] (Host.dotGeneral (F := Ideal) dot_S16384x1024_S16384x512_S1024x512_0_0_1_1_n_n none z w) transposes_S1024x512_S512x1024_1_0) bitsLt_bf16_f32 : FVec Ideal S512x1024 .bf16) (ix2 a b) = ∑ n : Fin 16384, z (ix2 n b) * w (ix2 n a) := by
  pointwise []

end Cert.Reference8Ideal.Value

namespace Cert.Proof

open Idealize.ShloMosaic Idealize.ShloMosaic.TcCoe Idealize.SL.Sem

/-- The frame of the reference of the gradient of the attention branch's last weights: its run read at the arguments; it declares no semaphore. -/
theorem reference8_frame : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run m g)

/-- From any arguments the weight-gradient call and its reference leave the same gradient of the attention branch's last weights. -/
theorem algebraic8 : Cert.algebraic_Kernel8Ideal_Reference8Ideal (hKernel8Ideal := Cert.Kernel8Ideal.Gen.facts)
    (hReference8Ideal := Cert.Reference8Ideal.Gen.facts) := by
  intro m g m' g' _ hagree
  refine ⟨fun c => fun i : Cert.Kernel8Ideal.S512x1024.Idx => (∑ n : Fin 16384, Cert.Kernel8Ideal.Value.A m c n (i 0) * Cert.Kernel8Ideal.Value.B m c n (i 1) : EReal), ?_, ?_⟩
  · refine (θ_run Cert.Kernel8Ideal.defs _ _).mono (fun r h c => ?_) (Cert.Kernel8Ideal.Value.run_blocks m g)
    obtain ⟨r0, rest⟩ := h c
    exact ⟨r0.trans (Cert.Kernel8Ideal.Value.arr m c), rest⟩
  · refine (θ_run Cert.Reference8Ideal.defs _ _).mono (fun r h c => ?_) (Cert.Reference8Ideal.Value.run m' g')
    obtain ⟨a0, a1, a2⟩ := hagree c
    obtain ⟨r0, rest⟩ := h c
    refine ⟨r0.trans ?_, rest⟩
    funext i
    obtain ⟨a, b, rfl⟩ := Cert.Kernel8Ideal.Value.rows i
    refine (Cert.Reference8Ideal.Value.dw_at _ _ a b).trans (Finset.sum_congr rfl fun n _ => (mul_comm (G := EReal) _ _).trans (congrArg₂ (fun p q : EReal => p * q) ?_ ?_))
    · refine Eq.trans ?_ (Cert.Kernel8Ideal.Value.A_at m c n a).symm
      rw [a0]; try rfl
    · refine Eq.trans ?_ (Cert.Kernel8Ideal.Value.B_at m c n b).symm
      rw [a2]; try rfl

end Cert.Proof

end
-- ==== Proof.Dw9.lean ====
module

public import proofs.«01_k».proof.Proof.Gen.Kernel9Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel9Ideal.Value

open Cert.Kernel9Ideal Cert.Kernel9Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1536) : k0_pay1 (F := Ideal) (ix2 a e) = 0 := by
  pointwise [k0_pay1]

/-- A block of tokens' product, added to what is there. -/
theorem pay2_at (o : Vec Ideal S1024x1536 .f32) (x : Vec Ideal S2048x1024 .bf16) (z : Vec Ideal S2048x1536 .bf16) (a : Fin 1024) (e : Fin 1536) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 8 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v18 : Vec Ideal S16384x1024 .bf16) (ix2 n k)
/-- The right operand. -/
def B (n : Fin 16384) (k : Fin 1536) : EReal := (V m c main_v4 : Vec Ideal S16384x1536 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 1 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1536) :
    (iblk m c 1 t : Vec Ideal S2048x1536 .bf16) (ix2 b e) = Dw.lim (B m c) (t.val % 8 * 2048 + b.val) (t.val / 8 % 1 * 1536 + e.val) := by
  have ht := (idx t).2.2.2
  rw [Dw.lim_eq _ _ _ (by omega) (by omega)]
  unfold B
  blk_ext [iblk, idx t]

/-- What a point adds. -/
theorem adds (t : Fin cfg0.N) (o : Vec Ideal S1024x1536 .f32) (a : Fin 1024) (e : Fin 1536) :
    k0_pay2 (F := Ideal) o (iblk m c 0 t) (iblk m c 1 t) (ix2 a e)
      = o (ix2 a e) + Dw.part (A m c) (B m c) (t.val % 8) (t.val / 8 / 1 * 1024 + a.val) (t.val / 8 % 1 * 1536 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1536.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1536.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1536), (outsAt0 m c n hn).2 (ix2 a e)
    = Dw.acc (A m c) (B m c) (n % 8 + 1) (n / 8 / 1 * 1024 + a.val) (n / 8 % 1 * 1536 + e.val) :=
  Dw.fold (A m c) (B m c) (fun u a => u / 1 * 1024 + a) (fun u e => u % 1 * 1536 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x1536.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1536.Idx), (outsAt0 m c t.val t.isLt).1 z
      = Dw.acc (A m c) (B m c) 8 (t.val / 8 / 1 * 1024 + (z 0).val) (t.val / 8 % 1 * 1536 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel9Ideal.Value
end
-- ==== Proof.DwOut9.lean ====
module

public import proofs.«01_k».proof.Defs
public import proofs.«01_k».proof.Proof.Dw9
public import proofs.«01_k».proof.Proof.DwIn
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import Idealize.ShloMosaic.Lib.Pointwise
public import Idealize.ShloMosaic.Adequacy
public import Idealize.ShloMosaic.Init

@[expose] public section

set_option maxRecDepth 16384

noncomputable section

namespace Cert.Kernel9Ideal.Value

open Cert.Kernel9Ideal Cert.Kernel9Ideal.Gen Idealize.ShloMosaic Idealize.ShloMosaic.TcCoe Idealize.ShloMosaic.Tactic Idealize.SL.Sem Idealize.ShloMosaic.StableHlo

/-- Which of the projection's columns a column of the group is. -/
abbrev col : Fin 1536 → Fin 8704 := Dw.col 1536 3072 0 (by decide) (by decide) (by decide)

variable (m : (ℓ : Loc nD τ sig) → Buf (Elt Ideal) ℓ) (c : Dev nD)

/-- The cotangent, rounded. -/
abbrev zb : FVec Ideal S16384x8704 .bf16 := truncf .bf16 (m ((c.tc : Thread nD τ).loc main_arg3) : FVec Ideal S16384x8704 .f32) bitsLt_bf16_f32

/-- The left factor as the call finds it. -/
theorem V_A : (V m c main_v18 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The columns of the group: its keys', its values', its queries'. -/
def grp (z : FVec Ideal S16384x8704 .bf16) : FVec Ideal S16384x1536 .bf16 :=
  concatenate S16384x1536 1 [⟨S16384x512, extractStridedSlice S16384x512 ![0, 1536] z slices_S16384x8704_S16384x512_0_1536⟩, ⟨S16384x512, extractStridedSlice S16384x512 ![0, 3072] z slices_S16384x8704_S16384x512_0_3072⟩, ⟨S16384x512, extractStridedSlice S16384x512 ![0, 0] z slices_S16384x8704_S16384x512_0_0⟩] concatenates_S16384x512_S16384x512_S16384x512_S16384x1536_d1

/-- The cotangent's columns of the group, at an index. -/
theorem cat_at (z : FVec Ideal S16384x8704 .bf16) (n : Fin 16384) (j : Fin 1536) : grp z (ix2 n j) = z (ix2 n (col j)) := by
  unfold col Dw.col
  by_cases h : j.val < 512
  · rw [dif_pos h]; pointwise [grp]
    rw [dif_pos h]
  · by_cases h' : j.val < 1024
    · rw [dif_neg h, dif_pos h']; pointwise [grp]
      rw [dif_neg h, dif_pos (by omega)]
    · rw [dif_neg h, dif_neg h']; pointwise [grp]
      rw [dif_neg h, dif_neg (by omega)]
      try (congr 2; apply Fin.ext; simp)

/-- The right factor as the call finds it. -/
theorem V_B : (V m c main_v4 : Vec Ideal S16384x1536 .bf16) = grp (zb m c) := by
  unfold V
  simp only [hostOps0, List.flatten_cons, List.flatten_nil, List.append_nil, List.cons_append, List.nil_append]
  after_results <;> rfl

/-- The right factor at an index. -/
theorem B_at (n : Fin 16384) (j : Fin 1536) : B m c n j = (m ((c.tc : Thread nD τ).loc main_arg3) : FVec Ideal S16384x8704 .f32) (ix2 n (col j)) := by
  unfold B; rw [V_B]
  exact cat_at _ n j

end Cert.Kernel9Ideal.Value

namespace Cert.Reference9Ideal.Value

open Cert.Kernel9Ideal.Value (col)
open Cert.Reference9Ideal Cert.Reference9Ideal.Gen Idealize.ShloMosaic Idealize.ShloMosaic.TcCoe Idealize.ShloMosaic.Tactic Idealize.SL.Sem Idealize.ShloMosaic.StableHlo

/-- The columns of the group: its keys', its values', its queries'. -/
def grp (z : FVec Ideal S1024x8704 .bf16) : FVec Ideal S1024x1536 .bf16 :=
  concatenate S1024x1536 1 [⟨S1024x512, extractStridedSlice S1024x512 ![0, 1536] z slices_S1024x8704_S1024x512_0_1536⟩, ⟨S1024x512, extractStridedSlice S1024x512 ![0, 3072] z slices_S1024x8704_S1024x512_0_3072⟩, ⟨S1024x512, extractStridedSlice S1024x512 ![0, 0] z slices_S1024x8704_S1024x512_0_0⟩] concatenates_S1024x512_S1024x512_S1024x512_S1024x1536_d1

/-- The columns of the group, at an index. -/
theorem cat_at (z : FVec Ideal S1024x8704 .bf16) (n : Fin 1024) (j : Fin 1536) : grp z (ix2 n j) = z (ix2 n (col j)) := by
  unfold col Dw.col
  by_cases h : j.val < 512
  · rw [dif_pos h]; pointwise [grp]
    rw [dif_pos h]
  · by_cases h' : j.val < 1024
    · rw [dif_neg h, dif_pos h']; pointwise [grp]
      rw [dif_neg h, dif_pos (by omega)]
    · rw [dif_neg h, dif_neg h']; pointwise [grp]
      rw [dif_neg h, dif_neg (by omega)]
      try (congr 2; apply Fin.ext; simp)

/-- The product over the tokens, turned, for the columns taken. -/
theorem cols_at (z : FVec Ideal S16384x8704 .f32) (w : FVec Ideal S16384x1024 .f32) (a : Fin 1024) (j : Fin 1536) :
    (grp (Dw.dwV z w) : FVec Ideal S1024x1536 .bf16) (ix2 a j) = ∑ n : Fin 16384, z (ix2 n (col j)) * w (ix2 n a) :=
  (cat_at _ a j).trans (Dw.dw_at z w a (col j))

end Cert.Reference9Ideal.Value

namespace Cert.Proof

open Idealize.ShloMosaic Idealize.ShloMosaic.TcCoe Idealize.SL.Sem

/-- The frame of the reference of the gradient of the input projection's weights, head group 0: its run read at the arguments; it declares no semaphore. -/
theorem reference9_frame : Cert.quiescent_Reference9Ideal (hReference9Ideal := Cert.Reference9Ideal.Gen.facts) := fun m g _ =>
  (θ_run Cert.Reference9Ideal.defs _ _).mono (fun r h => ⟨fun c => (h c).2, sem_eq_zero_of_no_sems (by decide) r.2⟩)
    (Cert.Reference9Ideal.Value.run m g)

/-- From any arguments the weight-gradient call and its reference leave the same gradient of the input projection's weights, head group 0. -/
theorem algebraic9 : Cert.algebraic_Kernel9Ideal_Reference9Ideal (hKernel9Ideal := Cert.Kernel9Ideal.Gen.facts)
    (hReference9Ideal := Cert.Reference9Ideal.Gen.facts) := by
  intro m g m' g' _ hagree
  refine ⟨fun c => fun i : Cert.Kernel9Ideal.S1024x1536.Idx => (∑ n : Fin 16384, Cert.Kernel9Ideal.Value.A m c n (i 0) * Cert.Kernel9Ideal.Value.B m c n (i 1) : EReal), ?_, ?_⟩
  · refine (θ_run Cert.Kernel9Ideal.defs _ _).mono (fun r h c => ?_) (Cert.Kernel9Ideal.Value.run_blocks m g)
    obtain ⟨r0, rest⟩ := h c
    exact ⟨r0.trans (Cert.Kernel9Ideal.Value.arr m c), rest⟩
  · refine (θ_run Cert.Reference9Ideal.defs _ _).mono (fun r h c => ?_) (Cert.Reference9Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference9Ideal.Value.cols_at _ _ a b).trans (Finset.sum_congr rfl fun n _ => (mul_comm (G := EReal) _ _).trans (congrArg₂ (fun p q : EReal => p * q) ?_ ?_))
    · refine Eq.trans ?_ (Cert.Kernel9Ideal.Value.A_at m c n a).symm
      rw [a0, a1]; try rfl
    · refine Eq.trans ?_ (Cert.Kernel9Ideal.Value.B_at m c n b).symm
      rw [a3]; try rfl

end Cert.Proof

end
-- ==== Proof.Dw10.lean ====
module

public import proofs.«01_k».proof.Proof.Gen.Kernel10Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel10Ideal.Value

open Cert.Kernel10Ideal Cert.Kernel10Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1536) : k0_pay1 (F := Ideal) (ix2 a e) = 0 := by
  pointwise [k0_pay1]

/-- A block of tokens' product, added to what is there. -/
theorem pay2_at (o : Vec Ideal S1024x1536 .f32) (x : Vec Ideal S2048x1024 .bf16) (z : Vec Ideal S2048x1536 .bf16) (a : Fin 1024) (e : Fin 1536) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 8 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v18 : Vec Ideal S16384x1024 .bf16) (ix2 n k)
/-- The right operand. -/
def B (n : Fin 16384) (k : Fin 1536) : EReal := (V m c main_v4 : Vec Ideal S16384x1536 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 1 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1536) :
    (iblk m c 1 t : Vec Ideal S2048x1536 .bf16) (ix2 b e) = Dw.lim (B m c) (t.val % 8 * 2048 + b.val) (t.val / 8 % 1 * 1536 + e.val) := by
  have ht := (idx t).2.2.2
  rw [Dw.lim_eq _ _ _ (by omega) (by omega)]
  unfold B
  blk_ext [iblk, idx t]

/-- What a point adds. -/
theorem adds (t : Fin cfg0.N) (o : Vec Ideal S1024x1536 .f32) (a : Fin 1024) (e : Fin 1536) :
    k0_pay2 (F := Ideal) o (iblk m c 0 t) (iblk m c 1 t) (ix2 a e)
      = o (ix2 a e) + Dw.part (A m c) (B m c) (t.val % 8) (t.val / 8 / 1 * 1024 + a.val) (t.val / 8 % 1 * 1536 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1536.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1536.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1536), (outsAt0 m c n hn).2 (ix2 a e)
    = Dw.acc (A m c) (B m c) (n % 8 + 1) (n / 8 / 1 * 1024 + a.val) (n / 8 % 1 * 1536 + e.val) :=
  Dw.fold (A m c) (B m c) (fun u a => u / 1 * 1024 + a) (fun u e => u % 1 * 1536 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x1536.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1536.Idx), (outsAt0 m c t.val t.isLt).1 z
      = Dw.acc (A m c) (B m c) 8 (t.val / 8 / 1 * 1024 + (z 0).val) (t.val / 8 % 1 * 1536 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel10Ideal.Value
end
-- ==== Proof.DwOut10.lean ====
module

public import proofs.«01_k».proof.Defs
public import proofs.«01_k».proof.Proof.Dw10
public import proofs.«01_k».proof.Proof.DwIn
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import Idealize.ShloMosaic.Lib.Pointwise
public import Idealize.ShloMosaic.Adequacy
public import Idealize.ShloMosaic.Init

@[expose] public section

set_option maxRecDepth 16384

noncomputable section

namespace Cert.Kernel10Ideal.Value

open Cert.Kernel10Ideal Cert.Kernel10Ideal.Gen Idealize.ShloMosaic Idealize.ShloMosaic.TcCoe Idealize.ShloMosaic.Tactic Idealize.SL.Sem Idealize.ShloMosaic.StableHlo

/-- Which of the projection's columns a column of the group is. -/
abbrev col : Fin 1536 → Fin 8704 := Dw.col 2048 3584 512 (by decide) (by decide) (by decide)

variable (m : (ℓ : Loc nD τ sig) → Buf (Elt Ideal) ℓ) (c : Dev nD)

/-- The cotangent, rounded. -/
abbrev zb : FVec Ideal S16384x8704 .bf16 := truncf .bf16 (m ((c.tc : Thread nD τ).loc main_arg3) : FVec Ideal S16384x8704 .f32) bitsLt_bf16_f32

/-- The left factor as the call finds it. -/
theorem V_A : (V m c main_v18 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The columns of the group: its keys', its values', its queries'. -/
def grp (z : FVec Ideal S16384x8704 .bf16) : FVec Ideal S16384x1536 .bf16 :=
  concatenate S16384x1536 1 [⟨S16384x512, extractStridedSlice S16384x512 ![0, 2048] z slices_S16384x8704_S16384x512_0_2048⟩, ⟨S16384x512, extractStridedSlice S16384x512 ![0, 3584] z slices_S16384x8704_S16384x512_0_3584⟩, ⟨S16384x512, extractStridedSlice S16384x512 ![0, 512] z slices_S16384x8704_S16384x512_0_512⟩] concatenates_S16384x512_S16384x512_S16384x512_S16384x1536_d1

/-- The cotangent's columns of the group, at an index. -/
theorem cat_at (z : FVec Ideal S16384x8704 .bf16) (n : Fin 16384) (j : Fin 1536) : grp z (ix2 n j) = z (ix2 n (col j)) := by
  unfold col Dw.col
  by_cases h : j.val < 512
  · rw [dif_pos h]; pointwise [grp]
    rw [dif_pos h]
  · by_cases h' : j.val < 1024
    · rw [dif_neg h, dif_pos h']; pointwise [grp]
      rw [dif_neg h, dif_pos (by omega)]
    · rw [dif_neg h, dif_neg h']; pointwise [grp]
      rw [dif_neg h, dif_neg (by omega)]
      try (congr 2; apply Fin.ext; simp)

/-- The right factor as the call finds it. -/
theorem V_B : (V m c main_v4 : Vec Ideal S16384x1536 .bf16) = grp (zb m c) := by
  unfold V
  simp only [hostOps0, List.flatten_cons, List.flatten_nil, List.append_nil, List.cons_append, List.nil_append]
  after_results <;> rfl

/-- The right factor at an index. -/
theorem B_at (n : Fin 16384) (j : Fin 1536) : B m c n j = (m ((c.tc : Thread nD τ).loc main_arg3) : FVec Ideal S16384x8704 .f32) (ix2 n (col j)) := by
  unfold B; rw [V_B]
  exact cat_at _ n j

end Cert.Kernel10Ideal.Value

namespace Cert.Reference10Ideal.Value

open Cert.Kernel10Ideal.Value (col)
open Cert.Reference10Ideal Cert.Reference10Ideal.Gen Idealize.ShloMosaic Idealize.ShloMosaic.TcCoe Idealize.ShloMosaic.Tactic Idealize.SL.Sem Idealize.ShloMosaic.StableHlo

/-- The columns of the group: its keys', its values', its queries'. -/
def grp (z : FVec Ideal S1024x8704 .bf16) : FVec Ideal S1024x1536 .bf16 :=
  concatenate S1024x1536 1 [⟨S1024x512, extractStridedSlice S1024x512 ![0, 2048] z slices_S1024x8704_S1024x512_0_2048⟩, ⟨S1024x512, extractStridedSlice S1024x512 ![0, 3584] z slices_S1024x8704_S1024x512_0_3584⟩, ⟨S1024x512, extractStridedSlice S1024x512 ![0, 512] z slices_S1024x8704_S1024x512_0_512⟩] concatenates_S1024x512_S1024x512_S1024x512_S1024x1536_d1

/-- The columns of the group, at an index. -/
theorem cat_at (z : FVec Ideal S1024x8704 .bf16) (n : Fin 1024) (j : Fin 1536) : grp z (ix2 n j) = z (ix2 n (col j)) := by
  unfold col Dw.col
  by_cases h : j.val < 512
  · rw [dif_pos h]; pointwise [grp]
    rw [dif_pos h]
  · by_cases h' : j.val < 1024
    · rw [dif_neg h, dif_pos h']; pointwise [grp]
      rw [dif_neg h, dif_pos (by omega)]
    · rw [dif_neg h, dif_neg h']; pointwise [grp]
      rw [dif_neg h, dif_neg (by omega)]
      try (congr 2; apply Fin.ext; simp)

/-- The product over the tokens, turned, for the columns taken. -/
theorem cols_at (z : FVec Ideal S16384x8704 .f32) (w : FVec Ideal S16384x1024 .f32) (a : Fin 1024) (j : Fin 1536) :
    (grp (Dw.dwV z w) : FVec Ideal S1024x1536 .bf16) (ix2 a j) = ∑ n : Fin 16384, z (ix2 n (col j)) * w (ix2 n a) :=
  (cat_at _ a j).trans (Dw.dw_at z w a (col j))

end Cert.Reference10Ideal.Value

namespace Cert.Proof

open Idealize.ShloMosaic Idealize.ShloMosaic.TcCoe Idealize.SL.Sem

/-- The frame of the reference of the gradient of the input projection's weights, head group 1: its run read at the arguments; it declares no semaphore. -/
theorem reference10_frame : Cert.quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run m g)

/-- From any arguments the weight-gradient call and its reference leave the same gradient of the input projection's weights, head group 1. -/
theorem algebraic10 : Cert.algebraic_Kernel10Ideal_Reference10Ideal (hKernel10Ideal := Cert.Kernel10Ideal.Gen.facts)
    (hReference10Ideal := Cert.Reference10Ideal.Gen.facts) := by
  intro m g m' g' _ hagree
  refine ⟨fun c => fun i : Cert.Kernel10Ideal.S1024x1536.Idx => (∑ n : Fin 16384, Cert.Kernel10Ideal.Value.A m c n (i 0) * Cert.Kernel10Ideal.Value.B m c n (i 1) : EReal), ?_, ?_⟩
  · refine (θ_run Cert.Kernel10Ideal.defs _ _).mono (fun r h c => ?_) (Cert.Kernel10Ideal.Value.run_blocks m g)
    obtain ⟨r0, rest⟩ := h c
    exact ⟨r0.trans (Cert.Kernel10Ideal.Value.arr m c), rest⟩
  · refine (θ_run Cert.Reference10Ideal.defs _ _).mono (fun r h c => ?_) (Cert.Reference10Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference10Ideal.Value.cols_at _ _ a b).trans (Finset.sum_congr rfl fun n _ => (mul_comm (G := EReal) _ _).trans (congrArg₂ (fun p q : EReal => p * q) ?_ ?_))
    · refine Eq.trans ?_ (Cert.Kernel10Ideal.Value.A_at m c n a).symm
      rw [a0, a1]; try rfl
    · refine Eq.trans ?_ (Cert.Kernel10Ideal.Value.B_at m c n b).symm
      rw [a3]; try rfl

end Cert.Proof

end
-- ==== Proof.Dw11.lean ====
module

public import proofs.«01_k».proof.Proof.Gen.Kernel11Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel11Ideal.Value

open Cert.Kernel11Ideal Cert.Kernel11Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1536) : k0_pay1 (F := Ideal) (ix2 a e) = 0 := by
  pointwise [k0_pay1]

/-- A block of tokens' product, added to what is there. -/
theorem pay2_at (o : Vec Ideal S1024x1536 .f32) (x : Vec Ideal S2048x1024 .bf16) (z : Vec Ideal S2048x1536 .bf16) (a : Fin 1024) (e : Fin 1536) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 1] ∧ win0_1.index t = ![t.val % 8, t.val / 8 % 1]
    ∧ win0_2.index t = ![t.val / 8 / 1, t.val / 8 % 1] ∧ t.val < 8 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v18 : Vec Ideal S16384x1024 .bf16) (ix2 n k)
/-- The right operand. -/
def B (n : Fin 16384) (k : Fin 1536) : EReal := (V m c main_v4 : Vec Ideal S16384x1536 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 1 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1536) :
    (iblk m c 1 t : Vec Ideal S2048x1536 .bf16) (ix2 b e) = Dw.lim (B m c) (t.val % 8 * 2048 + b.val) (t.val / 8 % 1 * 1536 + e.val) := by
  have ht := (idx t).2.2.2
  rw [Dw.lim_eq _ _ _ (by omega) (by omega)]
  unfold B
  blk_ext [iblk, idx t]

/-- What a point adds. -/
theorem adds (t : Fin cfg0.N) (o : Vec Ideal S1024x1536 .f32) (a : Fin 1024) (e : Fin 1536) :
    k0_pay2 (F := Ideal) o (iblk m c 0 t) (iblk m c 1 t) (ix2 a e)
      = o (ix2 a e) + Dw.part (A m c) (B m c) (t.val % 8) (t.val / 8 / 1 * 1024 + a.val) (t.val / 8 % 1 * 1536 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1536.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1536.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1536), (outsAt0 m c n hn).2 (ix2 a e)
    = Dw.acc (A m c) (B m c) (n % 8 + 1) (n / 8 / 1 * 1024 + a.val) (n / 8 % 1 * 1536 + e.val) :=
  Dw.fold (A m c) (B m c) (fun u a => u / 1 * 1024 + a) (fun u e => u % 1 * 1536 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x1536.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1536.Idx), (outsAt0 m c t.val t.isLt).1 z
      = Dw.acc (A m c) (B m c) 8 (t.val / 8 / 1 * 1024 + (z 0).val) (t.val / 8 % 1 * 1536 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel11Ideal.Value
end
-- ==== Proof.DwOut11.lean ====
module

public import proofs.«01_k».proof.Defs
public import proofs.«01_k».proof.Proof.Dw11
public import proofs.«01_k».proof.Proof.DwIn
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import Idealize.ShloMosaic.Lib.Pointwise
public import Idealize.ShloMosaic.Adequacy
public import Idealize.ShloMosaic.Init

@[expose] public section

set_option maxRecDepth 16384

noncomputable section

namespace Cert.Kernel11Ideal.Value

open Cert.Kernel11Ideal Cert.Kernel11Ideal.Gen Idealize.ShloMosaic Idealize.ShloMosaic.TcCoe Idealize.ShloMosaic.Tactic Idealize.SL.Sem Idealize.ShloMosaic.StableHlo

/-- Which of the projection's columns a column of the group is. -/
abbrev col : Fin 1536 → Fin 8704 := Dw.col 2560 4096 1024 (by decide) (by decide) (by decide)

variable (m : (ℓ : Loc nD τ sig) → Buf (Elt Ideal) ℓ) (c : Dev nD)

/-- The cotangent, rounded. -/
abbrev zb : FVec Ideal S16384x8704 .bf16 := truncf .bf16 (m ((c.tc : Thread nD τ).loc main_arg3) : FVec Ideal S16384x8704 .f32) bitsLt_bf16_f32

/-- The left factor as the call finds it. -/
theorem V_A : (V m c main_v18 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The columns of the group: its keys', its values', its queries'. -/
def grp (z : FVec Ideal S16384x8704 .bf16) : FVec Ideal S16384x1536 .bf16 :=
  concatenate S16384x1536 1 [⟨S16384x512, extractStridedSlice S16384x512 ![0, 2560] z slices_S16384x8704_S16384x512_0_2560⟩, ⟨S16384x512, extractStridedSlice S16384x512 ![0, 4096] z slices_S16384x8704_S16384x512_0_4096⟩, ⟨S16384x512, extractStridedSlice S16384x512 ![0, 1024] z slices_S16384x8704_S16384x512_0_1024⟩] concatenates_S16384x512_S16384x512_S16384x512_S16384x1536_d1

/-- The cotangent's columns of the group, at an index. -/
theorem cat_at (z : FVec Ideal S16384x8704 .bf16) (n : Fin 16384) (j : Fin 1536) : grp z (ix2 n j) = z (ix2 n (col j)) := by
  unfold col Dw.col
  by_cases h : j.val < 512
  · rw [dif_pos h]; pointwise [grp]
    rw [dif_pos h]
  · by_cases h' : j.val < 1024
    · rw [dif_neg h, dif_pos h']; pointwise [grp]
      rw [dif_neg h, dif_pos (by omega)]
    · rw [dif_neg h, dif_neg h']; pointwise [grp]
      rw [dif_neg h, dif_neg (by omega)]
      try (congr 2; apply Fin.ext; simp)

/-- The right factor as the call finds it. -/
theorem V_B : (V m c main_v4 : Vec Ideal S16384x1536 .bf16) = grp (zb m c) := by
  unfold V
  simp only [hostOps0, List.flatten_cons, List.flatten_nil, List.append_nil, List.cons_append, List.nil_append]
  after_results <;> rfl

/-- The right factor at an index. -/
theorem B_at (n : Fin 16384) (j : Fin 1536) : B m c n j = (m ((c.tc : Thread nD τ).loc main_arg3) : FVec Ideal S16384x8704 .f32) (ix2 n (col j)) := by
  unfold B; rw [V_B]
  exact cat_at _ n j

end Cert.Kernel11Ideal.Value

namespace Cert.Reference11Ideal.Value

open Cert.Kernel11Ideal.Value (col)
open Cert.Reference11Ideal Cert.Reference11Ideal.Gen Idealize.ShloMosaic Idealize.ShloMosaic.TcCoe Idealize.ShloMosaic.Tactic Idealize.SL.Sem Idealize.ShloMosaic.StableHlo

/-- The columns of the group: its keys', its values', its queries'. -/
def grp (z : FVec Ideal S1024x8704 .bf16) : FVec Ideal S1024x1536 .bf16 :=
  concatenate S1024x1536 1 [⟨S1024x512, extractStridedSlice S1024x512 ![0, 2560] z slices_S1024x8704_S1024x512_0_2560⟩, ⟨S1024x512, extractStridedSlice S1024x512 ![0, 4096] z slices_S1024x8704_S1024x512_0_4096⟩, ⟨S1024x512, extractStridedSlice S1024x512 ![0, 1024] z slices_S1024x8704_S1024x512_0_1024⟩] concatenates_S1024x512_S1024x512_S1024x512_S1024x1536_d1

/-- The columns of the group, at an index. -/
theorem cat_at (z : FVec Ideal S1024x8704 .bf16) (n : Fin 1024) (j : Fin 1536) : grp z (ix2 n j) = z (ix2 n (col j)) := by
  unfold col Dw.col
  by_cases h : j.val < 512
  · rw [dif_pos h]; pointwise [grp]
    rw [dif_pos h]
  · by_cases h' : j.val < 1024
    · rw [dif_neg h, dif_pos h']; pointwise [grp]
      rw [dif_neg h, dif_pos (by omega)]
    · rw [dif_neg h, dif_neg h']; pointwise [grp]
      rw [dif_neg h, dif_neg (by omega)]
      try (congr 2; apply Fin.ext; simp)

/-- The product over the tokens, turned, for the columns taken. -/
theorem cols_at (z : FVec Ideal S16384x8704 .f32) (w : FVec Ideal S16384x1024 .f32) (a : Fin 1024) (j : Fin 1536) :
    (grp (Dw.dwV z w) : FVec Ideal S1024x1536 .bf16) (ix2 a j) = ∑ n : Fin 16384, z (ix2 n (col j)) * w (ix2 n a) :=
  (cat_at _ a j).trans (Dw.dw_at z w a (col j))

end Cert.Reference11Ideal.Value

namespace Cert.Proof

open Idealize.ShloMosaic Idealize.ShloMosaic.TcCoe Idealize.SL.Sem

/-- The frame of the reference of the gradient of the input projection's weights, head group 2: its run read at the arguments; it declares no semaphore. -/
theorem reference11_frame : Cert.quiescent_Reference11Ideal (hReference11Ideal := Cert.Reference11Ideal.Gen.facts) := fun m g _ =>
  (θ_run Cert.Reference11Ideal.defs _ _).mono (fun r h => ⟨fun c => (h c).2, sem_eq_zero_of_no_sems (by decide) r.2⟩)
    (Cert.Reference11Ideal.Value.run m g)

/-- From any arguments the weight-gradient call and its reference leave the same gradient of the input projection's weights, head group 2. -/
theorem algebraic11 : Cert.algebraic_Kernel11Ideal_Reference11Ideal (hKernel11Ideal := Cert.Kernel11Ideal.Gen.facts)
    (hReference11Ideal := Cert.Reference11Ideal.Gen.facts) := by
  intro m g m' g' _ hagree
  refine ⟨fun c => fun i : Cert.Kernel11Ideal.S1024x1536.Idx => (∑ n : Fin 16384, Cert.Kernel11Ideal.Value.A m c n (i 0) * Cert.Kernel11Ideal.Value.B m c n (i 1) : EReal), ?_, ?_⟩
  · refine (θ_run Cert.Kernel11Ideal.defs _ _).mono (fun r h c => ?_) (Cert.Kernel11Ideal.Value.run_blocks m g)
    obtain ⟨r0, rest⟩ := h c
    exact ⟨r0.trans (Cert.Kernel11Ideal.Value.arr m c), rest⟩
  · refine (θ_run Cert.Reference11Ideal.defs _ _).mono (fun r h c => ?_) (Cert.Reference11Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference11Ideal.Value.cols_at _ _ a b).trans (Finset.sum_congr rfl fun n _ => (mul_comm (G := EReal) _ _).trans (congrArg₂ (fun p q : EReal => p * q) ?_ ?_))
    · refine Eq.trans ?_ (Cert.Kernel11Ideal.Value.A_at m c n a).symm
      rw [a0, a1]; try rfl
    · refine Eq.trans ?_ (Cert.Kernel11Ideal.Value.B_at m c n b).symm
      rw [a3]; try rfl

end Cert.Proof

end
-- ==== Proof.Dw12.lean ====
module

public import proofs.«01_k».proof.Proof.Gen.Kernel12Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel12Ideal.Value

open Cert.Kernel12Ideal Cert.Kernel12Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1024) : k0_pay1 (F := Ideal) (ix2 a e) = 0 := by
  pointwise [k0_pay1]

/-- A block of tokens' product, added to what is there. -/
theorem pay2_at (o : Vec Ideal S1024x1024 .f32) (x : Vec Ideal S2048x1024 .bf16) (z : Vec Ideal S2048x1024 .bf16) (a : Fin 1024) (e : Fin 1024) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 2] ∧ win0_1.index t = ![t.val % 8, t.val / 8 % 2]
    ∧ win0_2.index t = ![t.val / 8 / 2, t.val / 8 % 2] ∧ t.val < 16 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v13 : Vec Ideal S16384x1024 .bf16) (ix2 n k)
/-- The right operand. -/
def B (n : Fin 16384) (k : Fin 2048) : EReal := (V m c main_v15 : Vec Ideal S16384x2048 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 2 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1024) :
    (iblk m c 1 t : Vec Ideal S2048x1024 .bf16) (ix2 b e) = Dw.lim (B m c) (t.val % 8 * 2048 + b.val) (t.val / 8 % 2 * 1024 + e.val) := by
  have ht := (idx t).2.2.2
  rw [Dw.lim_eq _ _ _ (by omega) (by omega)]
  unfold B
  blk_ext [iblk, idx t]

/-- What a point adds. -/
theorem adds (t : Fin cfg0.N) (o : Vec Ideal S1024x1024 .f32) (a : Fin 1024) (e : Fin 1024) :
    k0_pay2 (F := Ideal) o (iblk m c 0 t) (iblk m c 1 t) (ix2 a e)
      = o (ix2 a e) + Dw.part (A m c) (B m c) (t.val % 8) (t.val / 8 / 2 * 1024 + a.val) (t.val / 8 % 2 * 1024 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1024.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1024.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1024), (outsAt0 m c n hn).2 (ix2 a e)
    = Dw.acc (A m c) (B m c) (n % 8 + 1) (n / 8 / 2 * 1024 + a.val) (n / 8 % 2 * 1024 + e.val) :=
  Dw.fold (A m c) (B m c) (fun u a => u / 2 * 1024 + a) (fun u e => u % 2 * 1024 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x2048.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1024.Idx), (outsAt0 m c t.val t.isLt).1 z
      = Dw.acc (A m c) (B m c) 8 (t.val / 8 / 2 * 1024 + (z 0).val) (t.val / 8 % 2 * 1024 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel12Ideal.Value
end
-- ==== Proof.DwOut12.lean ====
module

public import proofs.«01_k».proof.Defs
public import proofs.«01_k».proof.Proof.Dw12
public import proofs.«01_k».proof.Proof.DwIn
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import Idealize.ShloMosaic.Lib.Pointwise
public import Idealize.ShloMosaic.Adequacy
public import Idealize.ShloMosaic.Init

@[expose] public section

set_option maxRecDepth 16384

noncomputable section

namespace Cert.Kernel12Ideal.Value

open Cert.Kernel12Ideal Cert.Kernel12Ideal.Gen Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The cotangent, rounded. -/
abbrev zb : FVec Ideal S16384x8704 .bf16 := truncf .bf16 (m ((c.tc : Thread nD τ).loc main_arg3) : FVec Ideal S16384x8704 .f32) bitsLt_bf16_f32

/-- The left factor as the call finds it. -/
theorem V_A : (V m c main_v13 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The right factor as the call finds it. -/
theorem V_B : (V m c main_v15 : Vec Ideal S16384x2048 .bf16) = extractStridedSlice S16384x2048 ![0, 4608] (zb m c) slices_S16384x8704_S16384x2048_0_4608 := by
  unfold V
  simp only [hostOps0, List.flatten_cons, List.flatten_nil, List.append_nil, List.cons_append, List.nil_append]
  after_results <;> rfl

/-- The right factor at an index. -/
theorem B_at (n : Fin 16384) (j : Fin 2048) : B m c n j = (m ((c.tc : Thread nD τ).loc main_arg3) : FVec Ideal S16384x8704 .f32) (ix2 n ⟨4608 + j.val, by omega⟩) := by
  unfold B; rw [V_B]; pointwise []

end Cert.Kernel12Ideal.Value

namespace Cert.Reference12Ideal.Value

open Cert.Reference12Ideal Cert.Reference12Ideal.Gen Idealize.ShloMosaic Idealize.ShloMosaic.TcCoe Idealize.ShloMosaic.Tactic Idealize.SL.Sem Idealize.ShloMosaic.StableHlo

/-- The product over the tokens, turned, for the columns taken. -/
theorem cols_at (z : FVec Ideal S16384x8704 .f32) (w : FVec Ideal S16384x1024 .f32) (a : Fin 1024) (j : Fin 2048) :
    (extractStridedSlice S1024x2048 ![0, 4608] (Dw.dwV z w) slices_S1024x8704_S1024x2048_0_4608 : FVec Ideal S1024x2048 .bf16) (ix2 a j) = ∑ n : Fin 16384, z (ix2 n ⟨4608 + j.val, by omega⟩) * w (ix2 n a) := by
  refine Eq.trans ?_ (Dw.dw_at z w a ⟨4608 + j.val, by omega⟩)
  generalize Dw.dwV z w = q
  pointwise []

end Cert.Reference12Ideal.Value

namespace Cert.Proof

open Idealize.ShloMosaic Idealize.ShloMosaic.TcCoe Idealize.SL.Sem

/-- The frame of the reference of the gradient of the input projection's weights, the gated unit's columns: its run read at the arguments; it declares no semaphore. -/
theorem reference12_frame : Cert.quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run m g)

/-- From any arguments the weight-gradient call and its reference leave the same gradient of the input projection's weights, the gated unit's columns. -/
theorem algebraic12 : Cert.algebraic_Kernel12Ideal_Reference12Ideal (hKernel12Ideal := Cert.Kernel12Ideal.Gen.facts)
    (hReference12Ideal := Cert.Reference12Ideal.Gen.facts) := by
  intro m g m' g' _ hagree
  refine ⟨fun c => fun i : Cert.Kernel12Ideal.S1024x2048.Idx => (∑ n : Fin 16384, Cert.Kernel12Ideal.Value.A m c n (i 0) * Cert.Kernel12Ideal.Value.B m c n (i 1) : EReal), ?_, ?_⟩
  · refine (θ_run Cert.Kernel12Ideal.defs _ _).mono (fun r h c => ?_) (Cert.Kernel12Ideal.Value.run_blocks m g)
    obtain ⟨r0, rest⟩ := h c
    exact ⟨r0.trans (Cert.Kernel12Ideal.Value.arr m c), rest⟩
  · refine (θ_run Cert.Reference12Ideal.defs _ _).mono (fun r h c => ?_) (Cert.Reference12Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference12Ideal.Value.cols_at _ _ a b).trans (Finset.sum_congr rfl fun n _ => (mul_comm (G := EReal) _ _).trans (congrArg₂ (fun p q : EReal => p * q) ?_ ?_))
    · refine Eq.trans ?_ (Cert.Kernel12Ideal.Value.A_at m c n a).symm
      rw [a0, a1]; try rfl
    · refine Eq.trans ?_ (Cert.Kernel12Ideal.Value.B_at m c n b).symm
      rw [a3]; try rfl

end Cert.Proof

end
-- ==== Proof.Dw13.lean ====
module

public import proofs.«01_k».proof.Proof.Gen.Kernel13Ideal.Frame
public import proofs.«01_k».proof.Proof.DwSum
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Kernel13Ideal.Value

open Cert.Kernel13Ideal Cert.Kernel13Ideal.Gen Idealize.ShloMosaic Idealize.ShloMosaic.TcCoe Idealize.ShloMosaic.Tactic Idealize.SL.Sem Idealize.ShloMosaic.StableHlo

/-- The first point's zeros. -/
theorem pay1_at (a : Fin 1024) (e : Fin 1024) : k0_pay1 (F := Ideal) (ix2 a e) = 0 := by
  pointwise [k0_pay1]

/-- A block of tokens' product, added to what is there. -/
theorem pay2_at (o : Vec Ideal S1024x1024 .f32) (x : Vec Ideal S2048x1024 .bf16) (z : Vec Ideal S2048x1024 .bf16) (a : Fin 1024) (e : Fin 1024) :
    k0_pay2 (F := Ideal) o x z (ix2 a e) = o (ix2 a e) + ∑ b : Fin 2048, x (ix2 b a) * z (ix2 b e) := by
  pointwise [k0_pay2]

/-- Where each window's block lies, by point. -/
theorem idx : ∀ t : Fin cfg0.N,
    win0_0.index t = ![t.val % 8, t.val / 8 / 2] ∧ win0_1.index t = ![t.val % 8, t.val / 8 % 2]
    ∧ win0_2.index t = ![t.val / 8 / 2, t.val / 8 % 2] ∧ t.val < 16 :=
  (by decide +kernel : ∀ t : Fin grid0.N, _)

variable (m : (ℓ : Loc nD τ sig) → Buf (Elt Ideal) ℓ) (c : Dev nD)

/-- The left operand. -/
def A (n : Fin 16384) (k : Fin 1024) : EReal := (V m c main_v13 : Vec Ideal S16384x1024 .bf16) (ix2 n k)
/-- The right operand. -/
def B (n : Fin 16384) (k : Fin 2048) : EReal := (V m c main_v15 : Vec Ideal S16384x2048 .bf16) (ix2 n k)

/-- Window 0's block at an index. -/
theorem blk0 (t : Fin cfg0.N) (b : Fin 2048) (a : Fin 1024) :
    (iblk m c 0 t : Vec Ideal S2048x1024 .bf16) (ix2 b a) = Dw.lim (A m c) (t.val % 8 * 2048 + b.val) (t.val / 8 / 2 * 1024 + a.val) := by
  have ht := (idx t).2.2.2
  rw [Dw.lim_eq _ _ _ (by omega) (by omega)]
  unfold A
  blk_ext [iblk, idx t]

/-- Window 1's block at an index. -/
theorem blk1 (t : Fin cfg0.N) (b : Fin 2048) (e : Fin 1024) :
    (iblk m c 1 t : Vec Ideal S2048x1024 .bf16) (ix2 b e) = Dw.lim (B m c) (t.val % 8 * 2048 + b.val) (t.val / 8 % 2 * 1024 + e.val) := by
  have ht := (idx t).2.2.2
  rw [Dw.lim_eq _ _ _ (by omega) (by omega)]
  unfold B
  blk_ext [iblk, idx t]

/-- What a point adds. -/
theorem adds (t : Fin cfg0.N) (o : Vec Ideal S1024x1024 .f32) (a : Fin 1024) (e : Fin 1024) :
    k0_pay2 (F := Ideal) o (iblk m c 0 t) (iblk m c 1 t) (ix2 a e)
      = o (ix2 a e) + Dw.part (A m c) (B m c) (t.val % 8) (t.val / 8 / 2 * 1024 + a.val) (t.val / 8 % 2 * 1024 + e.val) :=
  (pay2_at o _ _ a e).trans (congrArg (fun q : EReal => o (ix2 a e) + q) (Finset.sum_congr rfl fun b _ =>
    congrArg₂ (fun p q : EReal => p * q) (blk0 m c t b a) (blk1 m c t b e)))

set_option maxHeartbeats 2000000 in
/-- What a tile's first point leaves in the accumulator. -/
theorem first (t : Fin cfg0.N) (h0 : t.val % 8 = 0) (y : S1024x1024.Idx) :
    (outsAt0 m c t.val t.isLt).2 y = k0_pay2 (F := Ideal) (k0_pay1 (F := Ideal)) (iblk m c 0 t) (iblk m c 1 t) y := by
  rw [outsAt0_A m c t h0 (by omega)]
  dsimp only
  frame_out
  all_goals rfl

set_option maxHeartbeats 2000000 in
/-- What a later point leaves in the accumulator, and a tile's last one in the result. -/
theorem later (t : Fin cfg0.N) (h0 : ¬t.val % 8 = 0) (hp : t.val - 1 < cfg0.N) (y : S1024x1024.Idx) :
    (outsAt0 m c t.val t.isLt).2 y = k0_pay2 (F := Ideal) (outsAt0 m c (t.val - 1) hp).2 (iblk m c 0 t) (iblk m c 1 t) y
      ∧ (t.val % 8 = 7 → (outsAt0 m c t.val t.isLt).1 y = (outsAt0 m c t.val t.isLt).2 y) := by
  by_cases h1 : t.val % 8 = 7
  · rw [outsAt0_C m c t h0 h1]
    generalize outsAt0 m c (t.val - 1) _ = q
    refine ⟨?_, fun _ => ?_⟩ <;> dsimp only
    · frame_out
      exact congrFun (congrArg (fun s => k0_pay2 (F := Ideal) s (iblk m c 0 t) (iblk m c 1 t)) (Memref.IsWhole.read_unread (Memref.isWhole_whole cc0_scratch0) q.2)) y
    · frame_out
      all_goals rfl
  · refine ⟨?_, fun h => absurd h h1⟩
    rw [outsAt0_B m c t h0 h1]
    generalize outsAt0 m c (t.val - 1) _ = q
    dsimp only
    frame_out
    exact congrFun (congrArg (fun s => k0_pay2 (F := Ideal) s (iblk m c 0 t) (iblk m c 1 t)) (Memref.IsWhole.read_unread (Memref.isWhole_whole cc0_scratch0) q.2)) y

/-- What the accumulator holds after every point. -/
theorem sums : ∀ n (hn : n < cfg0.N) (a : Fin 1024) (e : Fin 1024), (outsAt0 m c n hn).2 (ix2 a e)
    = Dw.acc (A m c) (B m c) (n % 8 + 1) (n / 8 / 2 * 1024 + a.val) (n / 8 % 2 * 1024 + e.val) :=
  Dw.fold (A m c) (B m c) (fun u a => u / 2 * 1024 + a) (fun u e => u % 2 * 1024 + e) (fun n hn a e => (outsAt0 m c n hn).2 (ix2 a e))
    (fun n hn h a e => (first m c ⟨n, hn⟩ h (ix2 a e)).trans (by rw [adds, pay1_at]))
    (fun n hn h hp a e => (later m c ⟨n, hn⟩ h hp (ix2 a e)).1.trans (adds m c ⟨n, hn⟩ _ a e))

/-- The result's array. -/
theorem arr : (dats m 0 c).arrAt 2 cfg0.N = fun i : S1024x2048.Idx =>
    (∑ n : Fin 16384, A m c n (i 0) * B m c n (i 1) : EReal) := by
  refine (dats m 0 c).arrAt_eq_of_covers 2 _ (by decide +kernel) fun t hf y => ?_
  blk_simp
  rw [after0_2]
  have h7 := (flush0_2 t).mp hf
  have key : ∀ (z : S1024x1024.Idx), (outsAt0 m c t.val t.isLt).1 z
      = Dw.acc (A m c) (B m c) 8 (t.val / 8 / 2 * 1024 + (z 0).val) (t.val / 8 % 2 * 1024 + (z 1).val) := fun z => by
    have ez : z = ix2 (z 0) (z 1) := by funext k; fin_cases k <;> rfl
    rw [(later m c t (by omega) (by omega) z).2 h7, ez]
    refine (sums m c t.val t.isLt (z 0) (z 1)).trans ?_
    rw [h7]
    try rfl
  refine (key y).trans (Eq.trans ?_ (Dw.acc_all (A m c) (B m c) _ _))
  refine congrArg₂ (Dw.acc (A m c) (B m c) 8) ?_ ?_ <;> blk_simp [idx t]

end Cert.Kernel13Ideal.Value
end
-- ==== Proof.DwOut13.lean ====
module

public import proofs.«01_k».proof.Defs
public import proofs.«01_k».proof.Proof.Dw13
public import proofs.«01_k».proof.Proof.DwIn
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import Idealize.ShloMosaic.Lib.Pointwise
public import Idealize.ShloMosaic.Adequacy
public import Idealize.ShloMosaic.Init

@[expose] public section

set_option maxRecDepth 16384

noncomputable section

namespace Cert.Kernel13Ideal.Value

open Cert.Kernel13Ideal Cert.Kernel13Ideal.Gen Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

/-- The cotangent, rounded. -/
abbrev zb : FVec Ideal S16384x8704 .bf16 := truncf .bf16 (m ((c.tc : Thread nD τ).loc main_arg3) : FVec Ideal S16384x8704 .f32) bitsLt_bf16_f32

/-- The left factor as the call finds it. -/
theorem V_A : (V m c main_v13 : Vec Ideal S16384x1024 .bf16) = truncf .bf16 (Dw.act (m ((c.tc : Thread nD τ).loc main_arg0) : FVec Ideal S16384x1024 .f32) (m ((c.tc : Thread nD τ).loc main_arg1) : FVec Ideal S1024 .f32)) bitsLt_bf16_f32 := by
  unfold V
  simp only [hostOps0, List.flatten_cons, List.flatten_nil, List.append_nil, List.cons_append, List.nil_append]
  after_results <;> rfl

/-- The left factor at an index. -/
theorem A_at (n : Fin 16384) (k : Fin 1024) : A m c n k = Dw.act (m ((c.tc : Thread nD τ).loc main_arg0) : FVec Ideal S16384x1024 .f32) (m ((c.tc : Thread nD τ).loc main_arg1) : FVec Ideal S1024 .f32) (ix2 n k) := by
  unfold A; rw [V_A]; rfl

/-- The right factor as the call finds it. -/
theorem V_B : (V m c main_v15 : Vec Ideal S16384x2048 .bf16) = extractStridedSlice S16384x2048 ![0, 6656] (zb m c) slices_S16384x8704_S16384x2048_0_6656 := by
  unfold V
  simp only [hostOps0, List.flatten_cons, List.flatten_nil, List.append_nil, List.cons_append, List.nil_append]
  after_results <;> rfl

/-- The right factor at an index. -/
theorem B_at (n : Fin 16384) (j : Fin 2048) : B m c n j = (m ((c.tc : Thread nD τ).loc main_arg3) : FVec Ideal S16384x8704 .f32) (ix2 n ⟨6656 + j.val, by omega⟩) := by
  unfold B; rw [V_B]; pointwise []

end Cert.Kernel13Ideal.Value

namespace Cert.Reference13Ideal.Value

open Cert.Reference13Ideal Cert.Reference13Ideal.Gen Idealize.ShloMosaic Idealize.ShloMosaic.TcCoe Idealize.ShloMosaic.Tactic Idealize.SL.Sem Idealize.ShloMosaic.StableHlo

/-- The product over the tokens, turned, for the columns taken. -/
theorem cols_at (z : FVec Ideal S16384x8704 .f32) (w : FVec Ideal S16384x1024 .f32) (a : Fin 1024) (j : Fin 2048) :
    (extractStridedSlice S1024x2048 ![0, 6656] (Dw.dwV z w) slices_S1024x8704_S1024x2048_0_6656 : FVec Ideal S1024x2048 .bf16) (ix2 a j) = ∑ n : Fin 16384, z (ix2 n ⟨6656 + j.val, by omega⟩) * w (ix2 n a) := by
  refine Eq.trans ?_ (Dw.dw_at z w a ⟨6656 + j.val, by omega⟩)
  generalize Dw.dwV z w = q
  pointwise []

end Cert.Reference13Ideal.Value

namespace Cert.Proof

open Idealize.ShloMosaic Idealize.ShloMosaic.TcCoe Idealize.SL.Sem

/-- The frame of the reference of the gradient of the input projection's weights, the merge's columns: its run read at the arguments; it declares no semaphore. -/
theorem reference13_frame : Cert.quiescent_Reference13Ideal (hReference13Ideal := Cert.Reference13Ideal.Gen.facts) := fun m g _ =>
  (θ_run Cert.Reference13Ideal.defs _ _).mono (fun r h => ⟨fun c => (h c).2, sem_eq_zero_of_no_sems (by decide) r.2⟩)
    (Cert.Reference13Ideal.Value.run m g)

/-- From any arguments the weight-gradient call and its reference leave the same gradient of the input projection's weights, the merge's columns. -/
theorem algebraic13 : Cert.algebraic_Kernel13Ideal_Reference13Ideal (hKernel13Ideal := Cert.Kernel13Ideal.Gen.facts)
    (hReference13Ideal := Cert.Reference13Ideal.Gen.facts) := by
  intro m g m' g' _ hagree
  refine ⟨fun c => fun i : Cert.Kernel13Ideal.S1024x2048.Idx => (∑ n : Fin 16384, Cert.Kernel13Ideal.Value.A m c n (i 0) * Cert.Kernel13Ideal.Value.B m c n (i 1) : EReal), ?_, ?_⟩
  · refine (θ_run Cert.Kernel13Ideal.defs _ _).mono (fun r h c => ?_) (Cert.Kernel13Ideal.Value.run_blocks m g)
    obtain ⟨r0, rest⟩ := h c
    exact ⟨r0.trans (Cert.Kernel13Ideal.Value.arr m c), rest⟩
  · refine (θ_run Cert.Reference13Ideal.defs _ _).mono (fun r h c => ?_) (Cert.Reference13Ideal.Value.run m' g')
    obtain ⟨a0, a1, a2, a3⟩ := hagree c
    obtain ⟨r0, rest⟩ := h c
    refine ⟨r0.trans ?_, rest⟩
    funext i
    obtain ⟨a, b, rfl⟩ := Cert.Dw.rows i
    refine (Cert.Reference13Ideal.Value.cols_at _ _ a b).trans (Finset.sum_congr rfl fun n _ => (mul_comm (G := EReal) _ _).trans (congrArg₂ (fun p q : EReal => p * q) ?_ ?_))
    · refine Eq.trans ?_ (Cert.Kernel13Ideal.Value.A_at m c n a).symm
      rw [a0, a1]; try rfl
    · refine Eq.trans ?_ (Cert.Kernel13Ideal.Value.B_at m c n b).symm
      rw [a3]; try rfl

end Cert.Proof

end
-- ==== Proof.FfnSpec.lean ====
module

public import proofs.«01_k».proof.Proof.InSpec

@[expose] public section

noncomputable section

namespace Cert.Ffn

open Idealize.ShloMosaic Cert.InProj

/-- A row's mean square and the small constant. -/
def msq (v : Fin 1024 → EReal) : EReal := Ideal.div (∑ e : Fin 1024, v e * v e) width + small

/-- A row's reciprocal root mean square. -/
def rms (v : Fin 1024 → EReal) : EReal := Ideal.rsqrt (msq v)

/-- A row's mean square and the small constant is positive. -/
theorem msq_pos (v : Fin 1024 → EReal) : 0 < msq v := by
  unfold msq
  rw [div_width]
  refine lt_of_lt_of_le small_pos ?_
  have h : 0 ≤ (∑ e : Fin 1024, v e * v e) * ((1 / 1024 : ℝ) : EReal) :=
    mul_nonneg (Finset.sum_nonneg fun e _ => sq_nonneg' _) (by norm_num)
  calc small = 0 + small := (zero_add _).symm
    _ ≤ _ := add_le_add_left h _

/-- The derivative of the norm of a row `v` with gain `g`, at the cotangent `d`. -/
def back (v d g : Fin 1024 → EReal) (e : Fin 1024) : EReal :=
  rms v * (d e * g e) - v e * (rms v * rms v * rms v) * Ideal.div (∑ j : Fin 1024, v j * (d j * g j)) width

/-- The correction as the chain rule writes it. -/
def corr (v d g : Fin 1024 → EReal) : EReal :=
  Ideal.div ((∑ j : Fin 1024, v j * (d j * g j)) * (Ideal.ofBits .f32 0xBF000000#32 * Ideal.div (rms v) (msq v))) width

/-- The derivative as the chain rule writes it. -/
theorem back_eq (v d g : Fin 1024 → EReal) (e : Fin 1024) : d e * g e * rms v + v e * corr v d g + corr v d g * v e = back v d g e := by
  unfold back corr rms
  rw [sub_eq_add_neg, correct _ _ _ (msq_pos v), mul_comm (Ideal.rsqrt (msq v)) (d e * g e)]
  simp only [add_assoc]

/-- The derivative as the chain rule writes it, onto what comes through the residual. -/
theorem add_back_eq (y : EReal) (v d g : Fin 1024 → EReal) (e : Fin 1024) :
    y + d e * g e * rms v + v e * corr v d g + corr v d g * v e = y + back v d g e := by
  rw [← back_eq]
  simp only [add_assoc]

/-- The arguments: the tokens, the mixing layer's output, its norm's gain, the feed-forward norm's gain, the first weights, the
    cotangent coming through the residual and the cotangent of the first product. -/
structure Inp where
  x : Fin 16384 → Fin 1024 → EReal
  u : Fin 16384 → Fin 1024 → EReal
  gq : Fin 1024 → EReal
  gp : Fin 1024 → EReal
  w : Fin 1024 → Fin 5632 → EReal
  d : Fin 16384 → Fin 1024 → EReal
  z : Fin 16384 → Fin 5632 → EReal

variable (I : Inp)

/-- The tokens after the mixing layer. -/
def Inp.x1 (n : Fin 16384) (e : Fin 1024) : EReal := I.x n e + I.u n e * rms (I.u n) * I.gq e
/-- The cotangent of the normalised tokens. -/
def Inp.dh (n : Fin 16384) (e : Fin 1024) : EReal := ∑ j : Fin 5632, I.z n j * I.w e j
/-- The gradient of the tokens. -/
def Inp.dx (n : Fin 16384) (e : Fin 1024) : EReal := I.d n e + back (I.x1 n) (I.dh n) I.gp e
/-- The gradient of the mixing layer's output. -/
def Inp.du (n : Fin 16384) (e : Fin 1024) : EReal := back (I.u n) (I.dx n) I.gq e
/-- The gradient of the feed-forward norm's gain. -/
def Inp.gpre (e : Fin 1024) : EReal := ∑ n : Fin 16384, I.dh n e * I.x1 n e * rms (I.x1 n)
/-- The gradient of the mixing layer's norm's gain. -/
def Inp.gpost (e : Fin 1024) : EReal := ∑ n : Fin 16384, I.dx n e * I.u n e * rms (I.u n)

/-- A sum over the columns, in halves. -/
theorem sum_halves (f : Fin 5632 → EReal) :
    (∑ l : Fin 2816, f ⟨l.val, by omega⟩) + (∑ l : Fin 2816, f ⟨2816 + l.val, by omega⟩) = ∑ j : Fin 5632, f j :=
  (Fin.sum_univ_add (a := 2816) (b := 2816) f).symm

end Cert.Ffn
end
-- ==== Proof.FfnVec.lean ====
module

public import proofs.«01_k».proof.Proof.Gen.Kernel14Ideal.Frame
public import proofs.«01_k».proof.Proof.FfnSpec
public import Idealize.ShloMosaic.Lib.Pipeline.ReadBack

@[expose] public section

set_option maxRecDepth 16384

noncomputable section

namespace Cert.Kernel14Ideal.Value

open Cert.Kernel14Ideal Cert.Kernel14Ideal.Gen Idealize.ShloMosaic Idealize.ShloMosaic.TcCoe Idealize.ShloMosaic.Tactic
open Cert.InProj hiding Inp
open Cert.Ffn

/-- A block of tokens' rows. -/
abbrev Blk := FVec Ideal S512x1024 .f32

/-- The two products of a block, at an index. -/
theorem pay7_at (v3 : Vec Ideal S512x2816 .bf16) (v5 : Vec Ideal S1024x2816 .bf16) (v8 : Vec Ideal S512x2816 .bf16) (v10 : Vec Ideal S1024x2816 .bf16) (a : Fin 512) (e : Fin 1024) :
    k0_pay7 (F := Ideal) v3 v5 v8 v10 (ix2 a e) = (∑ l : Fin 2816, v3 (ix2 a l) * v5 (ix2 e l)) + (∑ l : Fin 2816, v8 (ix2 a l) * v10 (ix2 e l)) := by
  pointwise [k0_pay7]

/-- The tokens' reciprocal root mean square at a row. -/
theorem pay9_at (v : Vec Ideal S512x1024 .f32) (a : Fin 512) : k0_pay9 (F := Ideal) v (ix2 a 0) = rms (fun e => v (ix2 a e)) := by
  unfold rms msq
  pointwise [k0_pay9, k0_pay8]

/-- The mixing layer's output's reciprocal root mean square at a row. -/
theorem pay17_at (v : Vec Ideal S512x1024 .bf16) (a : Fin 512) : k0_pay17 (F := Ideal) v (ix2 a 0) = rms (fun e => v (ix2 a e)) := by
  unfold rms msq
  pointwise [k0_pay17, k0_pay16]

/-- The cotangent of a block's normalised tokens. -/
def dhB (x0 x1 : Vec Ideal S512x2816 .bf16) (x2 : Vec Ideal S1024x5632 .bf16) : Blk :=
  k0_pay7 x0 (View.ld x2 (Rect.unit ![0, 0] ![1024, 2816] inb_S1024x5632_S1024x2816_0_0)) x1 (View.ld x2 (Rect.unit ![0, 2816] ![1024, 2816] inb_S1024x5632_S1024x2816_0_2816))

/-- A block's rows of the gradient of the tokens. -/
def dxB (x0 x1 : Vec Ideal S512x2816 .bf16) (x2 : Vec Ideal S1024x5632 .bf16) (x3 x4 : Vec Ideal S512x1024 .f32) (x6 : Vec Ideal S1x1024 .f32) : Blk :=
  k0_pay15 (k0_pay11 x0 (View.ld x2 (Rect.unit ![0, 0] ![1024, 2816] inb_S1024x5632_S1024x2816_0_0)) x1 (View.ld x2 (Rect.unit ![0, 2816] ![1024, 2816] inb_S1024x5632_S1024x2816_0_2816)) x4 x6)
    (k0_pay12 x4)
    (k0_pay13 x0 (View.ld x2 (Rect.unit ![0, 0] ![1024, 2816] inb_S1024x5632_S1024x2816_0_0)) x1 (View.ld x2 (Rect.unit ![0, 2816] ![1024, 2816] inb_S1024x5632_S1024x2816_0_2816)) x4 x6)
    (Scalar.ofBits .f32 0x44800000#32) x3

/-- A block's rows of the gradient of the mixing layer's output. -/
def duB (x0 x1 : Vec Ideal S512x2816 .bf16) (x2 : Vec Ideal S1024x5632 .bf16) (x3 x4 : Vec Ideal S512x1024 .f32) (x5 : Vec Ideal S512x1024 .bf16) (x6 x7 : Vec Ideal S1x1024 .f32) : FVec Ideal S512x1024 .bf16 :=
  k0_pay19 (k0_pay11 x0 (View.ld x2 (Rect.unit ![0, 0] ![1024, 2816] inb_S1024x5632_S1024x2816_0_0)) x1 (View.ld x2 (Rect.unit ![0, 2816] ![1024, 2816] inb_S1024x5632_S1024x2816_0_2816)) x4 x6)
    (k0_pay12 x4)
    (k0_pay13 x0 (View.ld x2 (Rect.unit ![0, 0] ![1024, 2816] inb_S1024x5632_S1024x2816_0_0)) x1 (View.ld x2 (Rect.unit ![0, 2816] ![1024, 2816] inb_S1024x5632_S1024x2816_0_2816)) x4 x6)
    (Scalar.ofBits .f32 0x44800000#32) x3 x5 x7

/-- The tokens' shares of the feed-forward norm's gain's gradient. -/
def preB (x0 x1 : Vec Ideal S512x2816 .bf16) (x2 : Vec Ideal S1024x5632 .bf16) (x4 : Vec Ideal S512x1024 .f32) : Blk :=
  k0_pay14 (dhB x0 x1 x2) (k0_pay8 x4) (k0_pay9 x4)

/-- The tokens' shares of the mixing layer's norm's gain's gradient. -/
def postB (x0 x1 : Vec Ideal S512x2816 .bf16) (x2 : Vec Ideal S1024x5632 .bf16) (x3 x4 : Vec Ideal S512x1024 .f32) (x5 : Vec Ideal S512x1024 .bf16) (x6 : Vec Ideal S1x1024 .f32) : Blk :=
  k0_pay18 (k0_pay11 x0 (View.ld x2 (Rect.unit ![0, 0] ![1024, 2816] inb_S1024x5632_S1024x2816_0_0)) x1 (View.ld x2 (Rect.unit ![0, 2816] ![1024, 2816] inb_S1024x5632_S1024x2816_0_2816)) x4 x6)
    (k0_pay12 x4)
    (k0_pay13 x0 (View.ld x2 (Rect.unit ![0, 0] ![1024, 2816] inb_S1024x5632_S1024x2816_0_0)) x1 (View.ld x2 (Rect.unit ![0, 2816] ![1024, 2816] inb_S1024x5632_S1024x2816_0_2816)) x4 x6)
    (Scalar.ofBits .f32 0x44800000#32) x3 x5

/-- The cotangent of a block's normalised tokens, at an index. -/
theorem dhB_at (x0 x1 : Vec Ideal S512x2816 .bf16) (x2 : Vec Ideal S1024x5632 .bf16) (a : Fin 512) (e : Fin 1024) :
    dhB x0 x1 x2 (ix2 a e) = (∑ l : Fin 2816, x0 (ix2 a l) * x2 (ix2 e ⟨l.val, by omega⟩)) + (∑ l : Fin 2816, x1 (ix2 a l) * x2 (ix2 e ⟨2816 + l.val, by omega⟩)) := by
  unfold dhB
  rw [pay7_at]
  have e0 : ∀ l : Fin 2816, View.ld x2 (Rect.unit ![0, 0] ![1024, 2816] inb_S1024x5632_S1024x2816_0_0) (ix2 e l) = x2 (ix2 e ⟨l.val, by omega⟩) := fun l =>
    congrArg x2 (by funext k; apply Fin.ext; fin_cases k <;> simp [View.ld, Rect.unit, ix2])
  have e1 : ∀ l : Fin 2816, View.ld x2 (Rect.unit ![0, 2816] ![1024, 2816] inb_S1024x5632_S1024x2816_0_2816) (ix2 e l) = x2 (ix2 e ⟨2816 + l.val, by omega⟩) := fun l =>
    congrArg x2 (by funext k; apply Fin.ext; fin_cases k <;> simp [View.ld, Rect.unit, ix2])
  simp only [e0, e1]

/-- A block's rows of the gradient of the tokens, at an index. -/
theorem dxB_at (x0 x1 : Vec Ideal S512x2816 .bf16) (x2 : Vec Ideal S1024x5632 .bf16) (x3 x4 : Vec Ideal S512x1024 .f32) (x6 : Vec Ideal S1x1024 .f32) (a : Fin 512) (e : Fin 1024) :
    dxB x0 x1 x2 x3 x4 x6 (ix2 a e)
      = x3 (ix2 a e) + back (fun j => x4 (ix2 a j)) (fun j => dhB x0 x1 x2 (ix2 a j)) (fun j => x6 (ix2 0 j)) e := by
  unfold back
  rw [← pay9_at]
  unfold dxB dhB
  generalize View.ld x2 (Rect.unit ![0, 0] ![1024, 2816] inb_S1024x5632_S1024x2816_0_0) = w0
  generalize View.ld x2 (Rect.unit ![0, 2816] ![1024, 2816] inb_S1024x5632_S1024x2816_0_2816) = w1
  pointwise [k0_pay15, k0_pay11, k0_pay12, k0_pay13, k0_pay10, k0_pay8]

/-- A block's rows of the gradient of the mixing layer's output, at an index. -/
theorem duB_at (x0 x1 : Vec Ideal S512x2816 .bf16) (x2 : Vec Ideal S1024x5632 .bf16) (x3 x4 : Vec Ideal S512x1024 .f32) (x5 : Vec Ideal S512x1024 .bf16) (x6 x7 : Vec Ideal S1x1024 .f32) (a : Fin 512) (e : Fin 1024) :
    duB x0 x1 x2 x3 x4 x5 x6 x7 (ix2 a e)
      = back (fun j => x5 (ix2 a j)) (fun j => dxB x0 x1 x2 x3 x4 x6 (ix2 a j)) (fun j => x7 (ix2 0 j)) e := by
  unfold back
  rw [← pay17_at]
  unfold duB dxB k0_pay19
  generalize k0_pay15 (F := Ideal) _ _ _ _ x3 = d
  pointwise [k0_pay16]

/-- A token's share of the feed-forward norm's gain's gradient. -/
theorem preB_at (x0 x1 : Vec Ideal S512x2816 .bf16) (x2 : Vec Ideal S1024x5632 .bf16) (x4 : Vec Ideal S512x1024 .f32) (a : Fin 512) (e : Fin 1024) :
    preB x0 x1 x2 x4 (ix2 a e) = dhB x0 x1 x2 (ix2 a e) * x4 (ix2 a e) * rms (fun j => x4 (ix2 a j)) := by
  rw [← pay9_at]
  unfold preB
  generalize dhB x0 x1 x2 = d
  pointwise [k0_pay14, k0_pay8]

/-- A token's share of the mixing layer's norm's gain's gradient. -/
theorem postB_at (x0 x1 : Vec Ideal S512x2816 .bf16) (x2 : Vec Ideal S1024x5632 .bf16) (x3 x4 : Vec Ideal S512x1024 .f32) (x5 : Vec Ideal S512x1024 .bf16) (x6 : Vec Ideal S1x1024 .f32) (a : Fin 512) (e : Fin 1024) :
    postB x0 x1 x2 x3 x4 x5 x6 (ix2 a e) = dxB x0 x1 x2 x3 x4 x6 (ix2 a e) * x5 (ix2 a e) * rms (fun j => x5 (ix2 a j)) := by
  rw [← pay17_at]
  unfold postB dxB k0_pay18
  generalize k0_pay15 (F := Ideal) _ _ _ _ x3 = d
  pointwise [k0_pay16]

/-- A gain's gradient carried on at an index: eight rows, each summing every eighth token. -/
theorem pay1_at (v : Blk) (o : Vec Ideal S8x1024 .f32) (s : Fin 8) (e : Fin 1024) :
    k0_pay1 (F := Ideal) v o (ix2 s e) = o (ix2 s e) + ∑ b : Fin 64, v (ix2 ⟨b.val * 8 + s.val, by omega⟩ e) := by
  pointwise [k0_pay1]

/-- The same of the other gain. -/
theorem pay2_at (v : Blk) (o : Vec Ideal S8x1024 .f32) (s : Fin 8) (e : Fin 1024) :
    k0_pay2 (F := Ideal) v o (ix2 s e) = o (ix2 s e) + ∑ b : Fin 64, v (ix2 ⟨b.val * 8 + s.val, by omega⟩ e) := pay1_at v o s e

/-- The first point's zeros. -/
theorem pay5_at (s : Fin 8) (e : Fin 1024) : k0_pay5 (F := Ideal) (ix2 s e) = 0 := zero_word

/-- The eight rows summed. -/
theorem pay3_at (o : Vec Ideal S8x1024 .f32) (e : Fin 1024) : k0_pay3 (F := Ideal) o (ix2 0 e) = ∑ s : Fin 8, o (ix2 s e) := by
  pointwise [k0_pay3]

variable (m : (ℓ : Loc nD τ sig) → Buf (Elt Ideal) ℓ) (c : Dev nD)

/-- A point's rows of the gradient of the tokens. -/
abbrev dxT (t : Fin cfg0.N) : Blk := dxB (iblk m c 0 t) (iblk m c 1 t) (iblk m c 2 t) (iblk m c 3 t) (iblk m c 4 t) (iblk m c 6 t)
/-- A point's rows of the gradient of the mixing layer's output. -/
abbrev duT (t : Fin cfg0.N) : FVec Ideal S512x1024 .bf16 := duB (iblk m c 0 t) (iblk m c 1 t) (iblk m c 2 t) (iblk m c 3 t) (iblk m c 4 t) (iblk m c 5 t) (iblk m c 6 t) (iblk m c 7 t)
/-- A point's shares of the feed-forward norm's gain's gradient. -/
abbrev preT (t : Fin cfg0.N) : Blk := preB (iblk m c 0 t) (iblk m c 1 t) (iblk m c 2 t) (iblk m c 4 t)
/-- A point's shares of the mixing layer's norm's gain's gradient. -/
abbrev postT (t : Fin cfg0.N) : Blk := postB (iblk m c 0 t) (iblk m c 1 t) (iblk m c 2 t) (iblk m c 3 t) (iblk m c 4 t) (iblk m c 5 t) (iblk m c 6 t)

set_option maxHeartbeats 2000000 in
/-- What the first point leaves. -/
theorem outs_A (t : Fin cfg0.N) (h0 : t.val % 32 = 0) (h1 : ¬t.val % 32 = 31) :
    outsAt0 m c t.val t.isLt = (dxT m c t, duT m c t, k0_pay1 (preT m c t) (k0_pay5 (F := Ideal)), k0_pay2 (postT m c t) (k0_pay6 (F := Ideal))) := by
  rw [outsAt0_A m c t h0 h1]
  refine Prod.ext ?_ (Prod.ext ?_ (Prod.ext ?_ ?_)) <;> funext y <;> dsimp only
  all_goals
    frame_out
    rfl

set_option maxHeartbeats 2000000 in
/-- What a point between leaves, over what the point before left. -/
theorem outs_B (t : Fin cfg0.N) (h0 : ¬t.val % 32 = 0) (h1 : ¬t.val % 32 = 31) (hp : t.val - 1 < cfg0.N) :
    outsAt0 m c t.val t.isLt = (dxT m c t, duT m c t, k0_pay1 (preT m c t) (outsAt0 m c (t.val - 1) hp).2.2.1, k0_pay2 (postT m c t) (outsAt0 m c (t.val - 1) hp).2.2.2) := by
  rw [outsAt0_B m c t h0 h1]
  generalize outsAt0 m c (t.val - 1) _ = q
  refine Prod.ext ?_ (Prod.ext ?_ (Prod.ext ?_ ?_)) <;> funext y <;> dsimp only
  all_goals
    frame_out
    rfl

set_option maxHeartbeats 2000000 in
/-- What the last point leaves: of the two partial sums' eight rows the first, their sum. -/
theorem outs_C (t : Fin cfg0.N) (h0 : ¬t.val % 32 = 0) (h1 : t.val % 32 = 31) (hp : t.val - 1 < cfg0.N) :
    (outsAt0 m c t.val t.isLt).1 = dxT m c t ∧ (outsAt0 m c t.val t.isLt).2.1 = duT m c t
    ∧ (∀ e : Fin 1024, (outsAt0 m c t.val t.isLt).2.2.1 (ix2 0 e) = k0_pay3 (k0_pay1 (preT m c t) (outsAt0 m c (t.val - 1) hp).2.2.1) (ix2 0 e))
    ∧ (∀ e : Fin 1024, (outsAt0 m c t.val t.isLt).2.2.2 (ix2 0 e) = k0_pay4 (k0_pay2 (postT m c t) (outsAt0 m c (t.val - 1) hp).2.2.2) (ix2 0 e)) := by
  rw [outsAt0_C m c t h0 h1]
  generalize outsAt0 m c (t.val - 1) _ = q
  have ey : ∀ e : Fin 1024, (ix2 0 e : S8x1024.Idx) = (Rect.unit (s := S8x1024) ![0, 0] S1x1024.size inb_S8x1024_S1x1024_0_0).emb (ix2 0 e : S1x1024.Idx) := fun e => by
    funext k; apply Fin.ext; fin_cases k <;> simp [Rect.unit, Rect.emb, ix2]
  refine ⟨funext fun y => ?_, funext fun y => ?_, fun e => ?_, fun e => ?_⟩ <;> dsimp only
  · frame_out
    rfl
  · frame_out
    rfl
  · frame_out
    rw [ey]
    exact View.canon_cons_emb _ _ _ _
  · frame_out
    rw [ey]
    exact View.canon_cons_emb _ _ _ _

end Cert.Kernel14Ideal.Value
end
-- ==== Proof.FfnRef.lean ====
module

public import proofs.«01_k».proof.Proof.Gen.Reference14Ideal.Run
public import proofs.«01_k».proof.Proof.FfnSpec

@[expose] public section

set_option maxRecDepth 16384

noncomputable section

namespace Cert.Reference14Ideal.Value

open Cert.Reference14Ideal Cert.Reference14Ideal.Gen Idealize.ShloMosaic Idealize.ShloMosaic.TcCoe Idealize.ShloMosaic.Tactic Idealize.SL.Sem Idealize.ShloMosaic.StableHlo
open Cert.InProj hiding Inp
open Cert.Ffn

/-- A table of tokens. -/
abbrev Tab := FVec Ideal S16384x1024 .f32

/-- The rows' mean squares and the small constant. -/
def msV (v : Tab) : FVec Ideal S16384x1 .f32 :=
  addf (Host.divf (broadcastInDim S16384x1 ![0] bcast_S16384_S16384x1_0 (Host.reduceAdd (mulf v v) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))

/-- A column spread over the table. -/
def wide (r : FVec Ideal S16384x1 .f32) : Tab := broadcastInDim S16384x1024 ![0, 1] bcast_S16384x1_S16384x1024_0_1 r

/-- A gain spread over the table. -/
def tall (g : FVec Ideal S1024 .f32) : Tab := broadcastInDim S16384x1024 ![0, 1] bcast_S1x1024_S16384x1024_0_1 (broadcastInDim S1x1024 ![1] bcast_S1024_S1x1024_1 g)

/-- The tokens after the mixing layer. -/
def x1V (x u : Tab) (g : FVec Ideal S1024 .f32) : Tab := addf x (mulf (mulf u (wide (Host.rsqrt (msV u)))) (tall g))

/-- The cotangent of the normalised tokens. -/
def dhV (z : FVec Ideal S16384x5632 .f32) (w : FVec Ideal S1024x5632 .f32) : Tab :=
  Host.dotGeneral dot_S16384x5632_S1024x5632_S16384x1024_1_1_0_0_n_n none z w

/-- The norm's correction as the chain rule writes it. -/
def corrV (v d : Tab) (g : FVec Ideal S1024 .f32) : Tab :=
  broadcastInDim S16384x1024 ![0] bcast_S16384_S16384x1024_0 (Host.reduceAdd (Host.divf (mulf (shapeCast _ (Host.reduceAdd (mulf v (mulf d (tall g))) (constant S_ .f32 0x00000000#32) reducesTo_S16384x1024_S16384_d1 h_S_) shapeCasts_S16384_S16384x1) (mulf (broadcastInDim S16384x1 ![] bcast_S_S16384x1 (constant S_ .f32 0xBF000000#32)) (Host.divf (Host.rsqrt (msV v)) (msV v)))) (broadcastInDim S16384x1 ![] bcast_S_S16384x1 (constant S_ .f32 0x44800000#32))) (constant S_ .f32 0x00000000#32) reducesTo_S16384x1_S16384_d1 h_S_)

/-- The gradient of the tokens. -/
def dxV (y v d : Tab) (g : FVec Ideal S1024 .f32) : Tab :=
  addf (addf (addf y (mulf (mulf d (tall g)) (wide (Host.rsqrt (msV v))))) (mulf v (corrV v d g))) (mulf (corrV v d g) v)

/-- The gradient of the mixing layer's output. -/
def duV (v d : Tab) (g : FVec Ideal S1024 .f32) : Tab :=
  addf (addf (mulf (mulf d (tall g)) (wide (Host.rsqrt (msV v)))) (mulf v (corrV v d g))) (mulf (corrV v d g) v)

/-- The gradient of a gain. -/
def gainV (v d : Tab) : FVec Ideal S1024 .f32 :=
  Host.reduceAdd (shapeCast _ (Host.reduceAdd (mulf (mulf v (wide (Host.rsqrt (msV v)))) d) (constant S_ .f32 0x00000000#32) reducesTo_S16384x1024_S1024_d0 h_S_) shapeCasts_S1024_S1x1024) (constant S_ .f32 0x00000000#32) reducesTo_S1x1024_S1024_d0 h_S_

/-- A row of a table. -/
abbrev row (v : Tab) (n : Fin 16384) (e : Fin 1024) : EReal := v (ix2 n e)

/-- A row's mean square and the small constant. -/
theorem ms_at (v : Tab) (n : Fin 16384) : msV v (ix2 n 0) = msq (row v n) := by
  unfold msq
  pointwise [msV]

/-- A spread column at an index. -/
theorem wide_at (r : FVec Ideal S16384x1 .f32) (n : Fin 16384) (e : Fin 1024) : wide r (ix2 n e) = r (ix2 n 0) := by
  pointwise [wide]

/-- A spread gain at an index. -/
theorem tall_at (g : FVec Ideal S1024 .f32) (n : Fin 16384) (e : Fin 1024) : tall g (ix2 n e) = g (ix1 e) := by
  pointwise [tall]

/-- A row's reciprocal root mean square, spread. -/
theorem rms_at (v : Tab) (n : Fin 16384) (e : Fin 1024) : wide (Host.rsqrt (msV v)) (ix2 n e) = rms (row v n) := by
  rw [wide_at]
  unfold rms
  rw [← ms_at]
  rfl

/-- The correction at an index. -/
theorem corr_at (v d : Tab) (g : FVec Ideal S1024 .f32) (n : Fin 16384) (e : Fin 1024) :
    corrV v d g (ix2 n e) = corr (row v n) (row d n) (fun j => g (ix1 j)) := by
  unfold corr rms
  rw [← ms_at]
  generalize hs : msV v = s
  unfold corrV
  rw [hs]
  pointwise [tall]
  exact Fin.sum_univ_one _

/-- The tokens after the mixing layer, at an index. -/
theorem x1_at (x u : Tab) (g : FVec Ideal S1024 .f32) (n : Fin 16384) (e : Fin 1024) :
    x1V x u g (ix2 n e) = x (ix2 n e) + u (ix2 n e) * rms (row u n) * g (ix1 e) := by
  rw [← rms_at u n e, ← tall_at g n e]
  rfl

/-- The cotangent of the normalised tokens, at an index. -/
theorem dh_at (z : FVec Ideal S16384x5632 .f32) (w : FVec Ideal S1024x5632 .f32) (n : Fin 16384) (e : Fin 1024) :
    dhV z w (ix2 n e) = ∑ j : Fin 5632, z (ix2 n j) * w (ix2 e j) := by
  pointwise [dhV]

/-- The gradient of the tokens at an index. -/
theorem dx_at (y v d : Tab) (g : FVec Ideal S1024 .f32) (n : Fin 16384) (e : Fin 1024) :
    dxV y v d g (ix2 n e) = y (ix2 n e) + back (row v n) (row d n) (fun j => g (ix1 j)) e := by
  rw [← add_back_eq, ← rms_at v n e, ← corr_at v d g n e, ← tall_at g n e]
  rfl

/-- The gradient of the mixing layer's output at an index. -/
theorem du_at (v d : Tab) (g : FVec Ideal S1024 .f32) (n : Fin 16384) (e : Fin 1024) :
    duV v d g (ix2 n e) = back (row v n) (row d n) (fun j => g (ix1 j)) e := by
  rw [← back_eq, ← rms_at v n e, ← corr_at v d g n e, ← tall_at g n e]
  rfl

/-- The gradient of a gain at an index. -/
theorem gain_at (v d : Tab) (e : Fin 1024) : gainV v d (ix1 e) = ∑ n : Fin 16384, d (ix2 n e) * v (ix2 n e) * rms (row v n) := by
  have h : ∀ n : Fin 16384, d (ix2 n e) * v (ix2 n e) * rms (row v n) = v (ix2 n e) * wide (Host.rsqrt (msV v)) (ix2 n e) * d (ix2 n e) := fun n => by
    rw [rms_at, mul_assoc (G := EReal), mul_comm (G := EReal)]
  refine Eq.trans ?_ (Finset.sum_congr rfl fun n _ => (h n).symm)
  unfold gainV
  generalize wide (Host.rsqrt (msV v)) = q
  pointwise []
  exact Fin.sum_univ_one _

variable (m : (ℓ : Loc nD τ sig) → Buf (Elt Ideal) ℓ) (c : Dev nD)

/-- The arguments' contents. -/
def inp : Inp where
  x n e := (m ((c.tc : Thread nD τ).loc main_arg0) : Vec Ideal S16384x1024 .f32) (ix2 n e)
  u n e := (m ((c.tc : Thread nD τ).loc main_arg1) : Vec Ideal S16384x1024 .f32) (ix2 n e)
  gq e := (m ((c.tc : Thread nD τ).loc main_arg2) : Vec Ideal S1024 .f32) (ix1 e)
  gp e := (m ((c.tc : Thread nD τ).loc main_arg3) : Vec Ideal S1024 .f32) (ix1 e)
  w e j := (m ((c.tc : Thread nD τ).loc main_arg4) : Vec Ideal S1024x5632 .f32) (ix2 e j)
  d n e := (m ((c.tc : Thread nD τ).loc main_arg5) : Vec Ideal S16384x1024 .f32) (ix2 n e)
  z n j := (m ((c.tc : Thread nD τ).loc main_arg6) : Vec Ideal S16384x5632 .f32) (ix2 n j)

/-- The tokens after the mixing layer. -/
abbrev X1 : Tab := x1V (m ((c.tc : Thread nD τ).loc main_arg0)) (m ((c.tc : Thread nD τ).loc main_arg1)) (m ((c.tc : Thread nD τ).loc main_arg2))
/-- The cotangent of the normalised tokens. -/
abbrev DH : Tab := dhV (m ((c.tc : Thread nD τ).loc main_arg6)) (m ((c.tc : Thread nD τ).loc main_arg4))
/-- The gradient of the tokens. -/
abbrev DX : Tab := dxV (m ((c.tc : Thread nD τ).loc main_arg5)) (X1 m c) (DH m c) (m ((c.tc : Thread nD τ).loc main_arg3))
/-- The same, its shape restated. -/
abbrev DX' : Tab := shapeCast _ (DX m c) shapeCasts_S16384x1024_S16384x1024

/-- The tokens after the mixing layer, a row. -/
theorem X1_row (n : Fin 16384) : row (X1 m c) n = (inp m c).x1 n := funext fun e => x1_at _ _ _ n e
/-- The cotangent of the normalised tokens, a row. -/
theorem DH_row (n : Fin 16384) : row (DH m c) n = (inp m c).dh n := funext fun e => dh_at _ _ n e
/-- The gradient of the tokens, a row. -/
theorem DX_row (n : Fin 16384) : row (DX m c) n = (inp m c).dx n := funext fun e => by
  refine (dx_at _ _ _ _ n e).trans ?_
  rw [X1_row, DH_row]
  rfl
/-- Restating the shape changes nothing. -/
theorem again (q : Tab) : (shapeCast _ q shapeCasts_S16384x1024_S16384x1024 : Tab) = q := by
  funext i
  obtain ⟨a, b, rfl⟩ := rows i
  pointwise []

/-- The reference's first result. -/
theorem dx_out : (res_main_v55 m c : Tab) = fun i => (inp m c).dx (i 0) (i 1) := by
  funext i
  obtain ⟨n, e, rfl⟩ := rows i
  refine Eq.trans ?_ (congrFun (DX_row m c n) e)
  rfl

/-- The reference's second result. -/
theorem du_out : (res_main_v77 m c : FVec Ideal S16384x1024 .bf16) = fun i => (inp m c).du (i 0) (i 1) := by
  funext i
  obtain ⟨n, e, rfl⟩ := rows i
  have h : (res_main_v77 m c : FVec Ideal S16384x1024 .bf16) = truncf .bf16 (duV (m ((c.tc : Thread nD τ).loc main_arg1)) (DX' m c) (m ((c.tc : Thread nD τ).loc main_arg2))) bitsLt_bf16_f32 := rfl
  rw [h, DX', again]
  refine (du_at _ _ _ n e).trans ?_
  rw [DX_row]
  rfl

/-- The reference's third result. -/
theorem pre_out : gainV (X1 m c) (DH m c) = fun i => (inp m c).gpre (i 0) := by
  funext i
  obtain ⟨e, rfl⟩ := cols i
  refine (gain_at _ _ e).trans ?_
  refine Finset.sum_congr rfl fun n _ => ?_
  exact congrArg₂ (fun p q : EReal => p * q) (congrArg₂ (fun p q : EReal => p * q) (congrFun (DH_row m c n) e) (congrFun (X1_row m c n) e)) (congrArg rms (X1_row m c n))

/-- The reference's fourth result. -/
theorem post_out : (res_main_v62 m c : FVec Ideal S1024 .f32) = fun i => (inp m c).gpost (i 0) := by
  funext i
  obtain ⟨e, rfl⟩ := cols i
  have h : (res_main_v62 m c : FVec Ideal S1024 .f32) = gainV (m ((c.tc : Thread nD τ).loc main_arg1)) (DX' m c) := rfl
  rw [h, DX', again]
  refine (gain_at _ _ e).trans ?_
  refine Finset.sum_congr rfl fun n _ => ?_
  exact congrArg₂ (fun p q : EReal => p * q) (congrArg₂ (fun p q : EReal => p * q) (congrFun (DX_row m c n) e) rfl) rfl

end Cert.Reference14Ideal.Value
end
-- ==== Proof.FfnGo.lean ====
module

public import proofs.«01_k».proof.Defs
public import proofs.«01_k».proof.Proof.FfnVec
public import proofs.«01_k».proof.Proof.FfnRef
public import proofs.«01_k».proof.Proof.RowSum
public import proofs.«01_k».proof.Proof.Gen.Kernel14Ideal
public import proofs.«01_k».proof.Proof.Gen.Kernel14Ideal.Run
public import proofs.«01_k».proof.Proof.Gen.Reference14Ideal
public import Idealize.ShloMosaic.Lib.Pipeline.ValueKit
public import Idealize.ShloMosaic.Adequacy
public import Idealize.ShloMosaic.Init

@[expose] public section

set_option maxRecDepth 16384

noncomputable section

namespace Cert.Kernel14Ideal.Value

open Cert.Kernel14Ideal Cert.Kernel14Ideal.Gen Idealize.ShloMosaic Idealize.ShloMosaic.TcCoe Idealize.ShloMosaic.Tactic Idealize.SL.Sem Idealize.ShloMosaic.StableHlo
open Cert.InProj hiding Inp
open Cert.Ffn
open Cert.Rows hiding adds

/-- Where each window's block lies, by point. -/
theorem idx : ∀ t : Fin cfg0.N,
    win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ win0_10.index t = ![0, 0] ∧ win0_11.index t = ![0, 0] ∧ t.val < 32 :=
  (by decide +kernel : ∀ t : Fin grid0.N, _)

variable (m : (ℓ : Loc nD τ sig) → Buf (Elt Ideal) ℓ) (c : Dev nD)

/-- The arguments' contents. -/
def inp : Inp where
  x n e := (m ((c.tc : Thread nD τ).loc main_arg0) : Vec Ideal S16384x1024 .f32) (ix2 n e)
  u n e := (m ((c.tc : Thread nD τ).loc main_arg1) : Vec Ideal S16384x1024 .f32) (ix2 n e)
  gq e := (m ((c.tc : Thread nD τ).loc main_arg2) : Vec Ideal S1024 .f32) (ix1 e)
  gp e := (m ((c.tc : Thread nD τ).loc main_arg3) : Vec Ideal S1024 .f32) (ix1 e)
  w e j := (m ((c.tc : Thread nD τ).loc main_arg4) : Vec Ideal S1024x5632 .f32) (ix2 e j)
  d n e := (m ((c.tc : Thread nD τ).loc main_arg5) : Vec Ideal S16384x1024 .f32) (ix2 n e)
  z n j := (m ((c.tc : Thread nD τ).loc main_arg6) : Vec Ideal S16384x5632 .f32) (ix2 n j)

/-- The cotangent of the first product, rounded. -/
abbrev zb : FVec Ideal S16384x5632 .bf16 := truncf .bf16 (m ((c.tc : Thread nD τ).loc main_arg6) : FVec Ideal S16384x5632 .f32) bitsLt_bf16_f32

/-- The weights, rounded. -/
abbrev wb : FVec Ideal S1024x5632 .bf16 := truncf .bf16 (m ((c.tc : Thread nD τ).loc main_arg4) : FVec Ideal S1024x5632 .f32) bitsLt_bf16_f32

/-- The mixing layer's output, rounded. -/
abbrev ub : FVec Ideal S16384x1024 .bf16 := truncf .bf16 (m ((c.tc : Thread nD τ).loc main_arg1) : FVec Ideal S16384x1024 .f32) bitsLt_bf16_f32

/-- The tokens after the mixing layer, as the host computes them. -/
def x1H (x u : FVec Ideal S16384x1024 .f32) (g : FVec Ideal S1024 .f32) : FVec Ideal S16384x1024 .f32 :=
  addf x (mulf (mulf u (broadcastInDim S16384x1024 ![0, 1] bcast_S16384x1_S16384x1024_0_1 (Host.rsqrt (addf (Host.divf (broadcastInDim S16384x1 ![0] bcast_S16384_S16384x1_0 (Host.reduceAdd (mulf u u) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g)))

/-- The cotangent's first half, as the call finds it. -/
theorem V_v15 : (V m c main_v15 : Vec Ideal S16384x2816 .bf16) = extractStridedSlice S16384x2816 ![0, 0] (zb m c) slices_S16384x5632_S16384x2816_0_0 := by
  unfold V V0
  simp only [hostOps0, List.flatten_cons, List.flatten_nil, List.append_nil, List.cons_append, List.nil_append]
  after_results <;> rfl

/-- The cotangent's second half. -/
theorem V_v16 : (V m c main_v16 : Vec Ideal S16384x2816 .bf16) = extractStridedSlice S16384x2816 ![0, 2816] (zb m c) slices_S16384x5632_S16384x2816_0_2816 := by
  unfold V V0
  simp only [hostOps0, List.flatten_cons, List.flatten_nil, List.append_nil, List.cons_append, List.nil_append]
  after_results <;> rfl

/-- The weights. -/
theorem V_v17 : (V m c main_v17 : Vec Ideal S1024x5632 .bf16) = wb m c := by
  unfold V V0
  simp only [hostOps0, List.flatten_cons, List.flatten_nil, List.append_nil, List.cons_append, List.nil_append]
  after_results <;> rfl

/-- The tokens after the mixing layer. -/
theorem V_v13 : (V m c main_v13 : Vec Ideal S16384x1024 .f32) = x1H (m ((c.tc : Thread nD τ).loc main_arg0)) (m ((c.tc : Thread nD τ).loc main_arg1)) (m ((c.tc : Thread nD τ).loc main_arg2)) := by
  unfold V V0
  simp only [hostOps0, List.flatten_cons, List.flatten_nil, List.append_nil, List.cons_append, List.nil_append]
  after_results <;> rfl

/-- The mixing layer's output. -/
theorem V_v18 : (V m c main_v18 : Vec Ideal S16384x1024 .bf16) = ub m c := by
  unfold V V0
  simp only [hostOps0, List.flatten_cons, List.flatten_nil, List.append_nil, List.cons_append, List.nil_append]
  after_results <;> rfl

/-- The feed-forward norm's gain. -/
theorem V_v19 : (V m c main_v19 : Vec Ideal S1x1024 .f32) = shapeCast S1x1024 (m ((c.tc : Thread nD τ).loc main_arg3) : Vec Ideal S1024 .f32) shapeCasts_S1024_S1x1024 := by
  unfold V V0
  simp only [hostOps0, List.flatten_cons, List.flatten_nil, List.append_nil, List.cons_append, List.nil_append]
  after_results <;> rfl

/-- The mixing layer's norm's gain. -/
theorem V_v20 : (V m c main_v20 : Vec Ideal S1x1024 .f32) = shapeCast S1x1024 (m ((c.tc : Thread nD τ).loc main_arg2) : Vec Ideal S1024 .f32) shapeCasts_S1024_S1x1024 := by
  unfold V V0
  simp only [hostOps0, List.flatten_cons, List.flatten_nil, List.append_nil, List.cons_append, List.nil_append]
  after_results <;> rfl

/-- The tokens after the mixing layer, at an index. -/
theorem x1H_at (x u : FVec Ideal S16384x1024 .f32) (g : FVec Ideal S1024 .f32) (n : Fin 16384) (e : Fin 1024) :
    x1H x u g (ix2 n e) = x (ix2 n e) + u (ix2 n e) * rms (fun j => u (ix2 n j)) * g (ix1 e) := by
  unfold rms msq
  pointwise [x1H]

/-- There are thirty-two points. -/
theorem lt32 (t : Fin cfg0.N) : t.val < 32 := (idx t).2.2.2.2.2.2.2.2.2.2.2.2

/-- The token of a point's row. -/
def tok (t : Fin cfg0.N) (a : Fin 512) : Fin 16384 := ⟨t.val * 512 + a, by have := lt32 t; omega⟩

/-- A point's first half of the cotangent. -/
theorem blk0 (t : Fin cfg0.N) (a : Fin 512) (l : Fin 2816) :
    (iblk m c 0 t : Vec Ideal S512x2816 .bf16) (ix2 a l) = (inp m c).z (tok t a) ⟨l.val, by omega⟩ := by
  have e : (V m c main_v15 : Vec Ideal S16384x2816 .bf16) (ix2 (tok t a) l) = (inp m c).z (tok t a) ⟨l.val, by omega⟩ := by
    rw [V_v15]; pointwise [inp]
  rw [← e]; unfold tok; blk_ext [iblk, idx t]

/-- A point's second half of the cotangent. -/
theorem blk1 (t : Fin cfg0.N) (a : Fin 512) (l : Fin 2816) :
    (iblk m c 1 t : Vec Ideal S512x2816 .bf16) (ix2 a l) = (inp m c).z (tok t a) ⟨2816 + l.val, by omega⟩ := by
  have e : (V m c main_v16 : Vec Ideal S16384x2816 .bf16) (ix2 (tok t a) l) = (inp m c).z (tok t a) ⟨2816 + l.val, by omega⟩ := by
    rw [V_v16]; pointwise [inp]
  rw [← e]; unfold tok; blk_ext [iblk, idx t]

/-- The weights at a point. -/
theorem blk2 (t : Fin cfg0.N) (e : Fin 1024) (l : Fin 5632) : (iblk m c 2 t : Vec Ideal S1024x5632 .bf16) (ix2 e l) = (inp m c).w e l := by
  have h : (V m c main_v17 : Vec Ideal S1024x5632 .bf16) (ix2 e l) = (inp m c).w e l := by rw [V_v17]; rfl
  rw [← h]; blk_ext [iblk, idx t]

/-- A point's rows of the cotangent coming through the residual. -/
theorem blk3 (t : Fin cfg0.N) (a : Fin 512) (e : Fin 1024) : (iblk m c 3 t : Vec Ideal S512x1024 .f32) (ix2 a e) = (inp m c).d (tok t a) e := by
  have h : (V m c main_arg5 : Vec Ideal S16384x1024 .f32) (ix2 (tok t a) e) = (inp m c).d (tok t a) e := congrFun (V_main_arg5 m c) _
  rw [← h]; unfold tok; blk_ext [iblk, idx t]

/-- A point's tokens after the mixing layer. -/
theorem blk4 (t : Fin cfg0.N) (a : Fin 512) (e : Fin 1024) : (iblk m c 4 t : Vec Ideal S512x1024 .f32) (ix2 a e) = (inp m c).x1 (tok t a) e := by
  have h : (V m c main_v13 : Vec Ideal S16384x1024 .f32) (ix2 (tok t a) e) = (inp m c).x1 (tok t a) e := by
    rw [V_v13]; exact x1H_at _ _ _ _ _
  rw [← h]; unfold tok; blk_ext [iblk, idx t]

/-- A point's rows of the mixing layer's output. -/
theorem blk5 (t : Fin cfg0.N) (a : Fin 512) (e : Fin 1024) : (iblk m c 5 t : Vec Ideal S512x1024 .bf16) (ix2 a e) = (inp m c).u (tok t a) e := by
  have h : (V m c main_v18 : Vec Ideal S16384x1024 .bf16) (ix2 (tok t a) e) = (inp m c).u (tok t a) e := by rw [V_v18]; rfl
  rw [← h]; unfold tok; blk_ext [iblk, idx t]

/-- The feed-forward norm's gain at a point. -/
theorem blk6 (t : Fin cfg0.N) (e : Fin 1024) : (iblk m c 6 t : Vec Ideal S1x1024 .f32) (ix2 0 e) = (inp m c).gp e := by
  have h : (V m c main_v19 : Vec Ideal S1x1024 .f32) (ix2 0 e) = (inp m c).gp e := by rw [V_v19]; pointwise [inp]
  rw [← h]; blk_ext [iblk, idx t]

/-- The mixing layer's norm's gain at a point. -/
theorem blk7 (t : Fin cfg0.N) (e : Fin 1024) : (iblk m c 7 t : Vec Ideal S1x1024 .f32) (ix2 0 e) = (inp m c).gq e := by
  have h : (V m c main_v20 : Vec Ideal S1x1024 .f32) (ix2 0 e) = (inp m c).gq e := by rw [V_v20]; pointwise [inp]
  rw [← h]; blk_ext [iblk, idx t]

/-- A point's products are the cotangent of the normalised tokens. -/
theorem dh_pt (t : Fin cfg0.N) (a : Fin 512) (e : Fin 1024) : dhB (iblk m c 0 t) (iblk m c 1 t) (iblk m c 2 t) (ix2 a e) = (inp m c).dh (tok t a) e := by
  refine (dhB_at _ _ _ a e).trans ?_
  unfold Cert.Ffn.Inp.dh
  rw [← sum_halves]
  refine congrArg₂ (fun p q : EReal => p + q) (Finset.sum_congr rfl fun l _ => ?_) (Finset.sum_congr rfl fun l _ => ?_)
  · exact congrArg₂ (fun p q : EReal => p * q) (blk0 m c t a l) (blk2 m c t e _)
  · exact congrArg₂ (fun p q : EReal => p * q) (blk1 m c t a l) (blk2 m c t e _)

/-- A point's rows of the gradient of the tokens. -/
theorem dx_pt (t : Fin cfg0.N) (a : Fin 512) (e : Fin 1024) : dxT m c t (ix2 a e) = (inp m c).dx (tok t a) e := by
  refine (dxB_at _ _ _ _ _ _ a e).trans ?_
  simp only [dh_pt, blk3, blk4, blk6]
  rfl

/-- A point's rows of the gradient of the mixing layer's output. -/
theorem du_pt (t : Fin cfg0.N) (a : Fin 512) (e : Fin 1024) : duT m c t (ix2 a e) = (inp m c).du (tok t a) e := by
  refine (duB_at _ _ _ _ _ _ _ _ a e).trans ?_
  have h : ∀ j, dxB (iblk m c 0 t) (iblk m c 1 t) (iblk m c 2 t) (iblk m c 3 t) (iblk m c 4 t) (iblk m c 6 t) (ix2 a j) = (inp m c).dx (tok t a) j := dx_pt m c t a
  simp only [h, blk5, blk7]
  rfl

/-- A token's share of the feed-forward norm's gain's gradient. -/
def pre (n : Fin 16384) (e : Fin 1024) : EReal := (inp m c).dh n e * (inp m c).x1 n e * rms ((inp m c).x1 n)
/-- A token's share of the mixing layer's norm's gain's gradient. -/
def post (n : Fin 16384) (e : Fin 1024) : EReal := (inp m c).dx n e * (inp m c).u n e * rms ((inp m c).u n)

/-- A point's shares of the first gain's gradient. -/
theorem pre_pt (t : Fin cfg0.N) (a : Fin 512) (e : Fin 1024) : preT m c t (ix2 a e) = pre m c (tok t a) e := by
  refine (preB_at _ _ _ _ a e).trans ?_
  simp only [dh_pt, blk4]
  rfl

/-- A point's shares of the second gain's gradient. -/
theorem post_pt (t : Fin cfg0.N) (a : Fin 512) (e : Fin 1024) : postT m c t (ix2 a e) = post m c (tok t a) e := by
  refine (postB_at _ _ _ _ _ _ _ a e).trans ?_
  have h : ∀ j, dxB (iblk m c 0 t) (iblk m c 1 t) (iblk m c 2 t) (iblk m c 3 t) (iblk m c 4 t) (iblk m c 6 t) (ix2 a j) = (inp m c).dx (tok t a) j := dx_pt m c t a
  simp only [h, blk5]
  rfl

/-- What a point adds to a gain's gradient. -/
theorem adds (f : Fin 16384 → Fin 1024 → EReal) (t : Fin cfg0.N) (v : Blk) (hv : ∀ a e, v (ix2 a e) = f (tok t a) e) (s : Fin 8) (e : Fin 1024) :
    (∑ b : Fin 64, v (ix2 ⟨b.val * 8 + s.val, by omega⟩ e) : EReal) = part f t.val s e :=
  Cert.Rows.adds f t.val (lt32 t) (fun a e => v (ix2 a e)) hv s e

/-- What the body has left after the `n`-th point: the rows of the two gradients, and the gains' gradients so far in eight rows each —
    after the last point their sum in the first row. -/
structure Inv (n : ℕ) (hn : n < cfg0.N) : Prop where
  x : (outsAt0 m c n hn).1 = dxT m c ⟨n, hn⟩
  u : (outsAt0 m c n hn).2.1 = duT m c ⟨n, hn⟩
  p : n % 32 ≠ 31 → ∀ s e, (outsAt0 m c n hn).2.2.1 (ix2 s e) = acc (pre m c) (n + 1) s e
  q : n % 32 ≠ 31 → ∀ s e, (outsAt0 m c n hn).2.2.2 (ix2 s e) = acc (post m c) (n + 1) s e
  pl : n % 32 = 31 → ∀ e, (outsAt0 m c n hn).2.2.1 (ix2 0 e) = ∑ s : Fin 8, acc (pre m c) (n + 1) s e
  ql : n % 32 = 31 → ∀ e, (outsAt0 m c n hn).2.2.2 (ix2 0 e) = ∑ s : Fin 8, acc (post m c) (n + 1) s e

/-- The first point. -/
theorem inv_A (t : Fin cfg0.N) (h0 : t.val % 32 = 0) (h1 : ¬t.val % 32 = 31) : Inv m c t.val t.isLt := by
  have ez : t.val = 0 := by have := lt32 t; omega
  have z : ∀ f : Fin 16384 → Fin 1024 → EReal, ∀ s e, acc f t.val s e = 0 := fun f s e => by rw [ez]; rfl
  refine ⟨?_, ?_, fun _ s e => ?_, fun _ s e => ?_, fun h => absurd h h1, fun h => absurd h h1⟩ <;> rw [outs_A m c t h0 h1]
  · refine (pay1_at _ _ s e).trans ?_
    rw [acc_succ, adds (pre m c) t _ (pre_pt m c t), z, pay5_at]
  · refine (pay2_at _ _ s e).trans ?_
    rw [acc_succ, adds (post m c) t _ (post_pt m c t), z]
    exact congrArg (fun p : EReal => p + part (post m c) t.val s e) (pay5_at s e)

/-- A point between. -/
theorem inv_B (t : Fin cfg0.N) (h0 : ¬t.val % 32 = 0) (h1 : ¬t.val % 32 = 31) (hp : t.val - 1 < cfg0.N) (J : Inv m c (t.val - 1) hp) : Inv m c t.val t.isLt := by
  have e1 : t.val - 1 + 1 = t.val := by omega
  have ht := lt32 t
  have jp := J.p (by omega)
  have jq := J.q (by omega)
  rw [e1] at jp jq
  refine ⟨?_, ?_, fun _ s e => ?_, fun _ s e => ?_, fun h => absurd h h1, fun h => absurd h h1⟩ <;> rw [outs_B m c t h0 h1 hp]
  · refine (pay1_at _ _ s e).trans ?_
    rw [acc_succ, adds (pre m c) t _ (pre_pt m c t), jp]
  · refine (pay2_at _ _ s e).trans ?_
    rw [acc_succ, adds (post m c) t _ (post_pt m c t), jq]

/-- The last point. -/
theorem inv_C (t : Fin cfg0.N) (h0 : ¬t.val % 32 = 0) (h1 : t.val % 32 = 31) (hp : t.val - 1 < cfg0.N) (J : Inv m c (t.val - 1) hp) : Inv m c t.val t.isLt := by
  have e1 : t.val - 1 + 1 = t.val := by omega
  have ht := lt32 t
  have jp := J.p (by omega)
  have jq := J.q (by omega)
  rw [e1] at jp jq
  obtain ⟨o8, o9, o10, o11⟩ := outs_C m c t h0 h1 hp
  refine ⟨o8, o9, fun h => absurd h1 h, fun h => absurd h1 h, fun _ e => ?_, fun _ e => ?_⟩
  · refine (o10 e).trans ((pay3_at _ e).trans (Finset.sum_congr rfl fun s _ => (pay1_at _ _ s e).trans ?_))
    rw [acc_succ, adds (pre m c) t _ (pre_pt m c t), jp]
  · refine (o11 e).trans ((pay3_at _ e).trans (Finset.sum_congr rfl fun s _ => (pay2_at _ _ s e).trans ?_))
    rw [acc_succ, adds (post m c) t _ (post_pt m c t), jq]

/-- Every point. -/
theorem inv : ∀ (n : ℕ) (hn : n < cfg0.N), Inv m c n hn
  | 0, hn => inv_A m c ⟨0, hn⟩ rfl (by simp)
  | n + 1, hn => by
    have h32 := lt32 ⟨n + 1, hn⟩
    by_cases h1 : (n + 1) % 32 = 31
    · exact inv_C m c ⟨n + 1, hn⟩ (by simp only []; omega) h1 (Nat.lt_of_succ_lt hn) (inv n (Nat.lt_of_succ_lt hn))
    · exact inv_B m c ⟨n + 1, hn⟩ (by simp only [] at h32 ⊢; omega) h1 (Nat.lt_of_succ_lt hn) (inv n (Nat.lt_of_succ_lt hn))

/-- The first result's array. -/
theorem arr8 : reg_main_v21_0 m c = fun i : S16384x1024.Idx => (inp m c).dx (i 0) (i 1) := by
  unfold reg_main_v21_0
  refine (dats m 0 c).arrAt_eq_of_covers 8 _ (by decide +kernel) fun t _ y => ?_
  blk_simp
  rw [after0_8]
  have ht := lt32 t
  have key : ∀ (z : S512x1024.Idx), (outsAt0 m c t.val t.isLt).1 z = (inp m c).dx (tok t (z 0)) (z 1) := fun z => by
    have ez : z = ix2 (z 0) (z 1) := by funext k; fin_cases k <;> rfl
    rw [(inv m c t.val t.isLt).x, ez]
    exact dx_pt m c t (z 0) (z 1)
  refine (key y).trans (congrArg₂ (inp m c).dx ?_ ?_) <;> refine Fin.ext ?_
  · unfold tok
    blk_simp [idx t]
  · blk_simp [idx t]

/-- The second result's array. -/
theorem arr9 : reg_main_v21_1 m c = fun i : S16384x1024.Idx => (inp m c).du (i 0) (i 1) := by
  unfold reg_main_v21_1
  refine (dats m 0 c).arrAt_eq_of_covers 9 _ (by decide +kernel) fun t _ y => ?_
  blk_simp
  rw [after0_9]
  have ht := lt32 t
  have key : ∀ (z : S512x1024.Idx), (outsAt0 m c t.val t.isLt).2.1 z = (inp m c).du (tok t (z 0)) (z 1) := fun z => by
    have ez : z = ix2 (z 0) (z 1) := by funext k; fin_cases k <;> rfl
    rw [(inv m c t.val t.isLt).u, ez]
    exact du_pt m c t (z 0) (z 1)
  refine (key y).trans (congrArg₂ (inp m c).du ?_ ?_) <;> refine Fin.ext ?_
  · unfold tok
    blk_simp [idx t]
  · blk_simp [idx t]

/-- The last point. -/
theorem h31 : 31 < cfg0.N := by decide +kernel

/-- The third result's array is what the last point leaves. -/
theorem arr10 : (reg_main_v21_2 m c : Vec Ideal S8x1024 .f32) = (outsAt0 m c 31 h31).2.2.1 := by
  unfold reg_main_v21_2
  refine (dats m 0 c).arrAt_eq_of_covers 10 _ (by decide +kernel) fun t hf y => ?_
  blk_simp
  rw [after0_10]
  have hl := (flush0_10 t).mp hf
  have ht := lt32 t
  have et : t = ⟨31, h31⟩ := Fin.ext (by simp only []; omega)
  have key : ∀ (s : Fin cfg0.N) (hs : s = ⟨31, h31⟩) (z : S8x1024.Idx), (outsAt0 m c s.val s.isLt).2.2.1 z = (outsAt0 m c 31 h31).2.2.1 z := by
    intro s hs z
    subst hs
    rfl
  refine (key t et y).trans (congrArg (outsAt0 m c 31 h31).2.2.1 ?_)
  funext k
  refine Fin.ext ?_
  fin_cases k <;> blk_simp [idx t]

/-- The fourth result's array is what the last point leaves. -/
theorem arr11 : (reg_main_v21_3 m c : Vec Ideal S8x1024 .f32) = (outsAt0 m c 31 h31).2.2.2 := by
  unfold reg_main_v21_3
  refine (dats m 0 c).arrAt_eq_of_covers 11 _ (by decide +kernel) fun t hf y => ?_
  blk_simp
  rw [after0_11]
  have hl := (flush0_11 t).mp hf
  have ht := lt32 t
  have et : t = ⟨31, h31⟩ := Fin.ext (by simp only []; omega)
  have key : ∀ (s : Fin cfg0.N) (hs : s = ⟨31, h31⟩) (z : S8x1024.Idx), (outsAt0 m c s.val s.isLt).2.2.2 z = (outsAt0 m c 31 h31).2.2.2 z := by
    intro s hs z
    subst hs
    rfl
  refine (key t et y).trans (congrArg (outsAt0 m c 31 h31).2.2.2 ?_)
  funext k
  refine Fin.ext ?_
  fin_cases k <;> blk_simp [idx t]

/-- The first row of eight, as a vector. -/
theorem first_row (q : Vec Ideal S8x1024 .f32) (e : Fin 1024) :
    (shapeCast _ (extractStridedSlice S1x1024 ![0, 0] q slices_S8x1024_S1x1024_0_0) shapeCasts_S1x1024_S1024 : Vec Ideal S1024 .f32) (ix1 e) = q (ix2 0 e) := by
  pointwise

/-- The third result. -/
theorem pre_row : (shapeCast _ (extractStridedSlice S1x1024 ![0, 0] (reg_main_v21_2 m c : Vec Ideal S8x1024 .f32) slices_S8x1024_S1x1024_0_0) shapeCasts_S1x1024_S1024 : Vec Ideal S1024 .f32)
    = fun i : S1024.Idx => (inp m c).gpre (i 0) := by
  funext i
  obtain ⟨e, rfl⟩ := cols i
  refine (first_row _ e).trans ?_
  rw [arr10]
  exact ((inv m c 31 h31).pl rfl e).trans (acc_all (pre m c) e)

/-- The fourth result. -/
theorem post_row : (shapeCast _ (extractStridedSlice S1x1024 ![0, 0] (reg_main_v21_3 m c : Vec Ideal S8x1024 .f32) slices_S8x1024_S1x1024_0_0) shapeCasts_S1x1024_S1024 : Vec Ideal S1024 .f32)
    = fun i : S1024.Idx => (inp m c).gpost (i 0) := by
  funext i
  obtain ⟨e, rfl⟩ := cols i
  refine (first_row _ e).trans ?_
  rw [arr11]
  exact ((inv m c 31 h31).ql rfl e).trans (acc_all (post m c) e)

end Cert.Kernel14Ideal.Value

namespace Cert.Proof

open Idealize.ShloMosaic Idealize.ShloMosaic.TcCoe Idealize.SL.Sem

/-- The frame of the reference of the feed-forward layer's first backward half: its run read at the arguments; it declares no semaphore. -/
theorem reference14_frame : Cert.quiescent_Reference14Ideal (hReference14Ideal := Cert.Reference14Ideal.Gen.facts) := fun m g _ =>
  (θ_run Cert.Reference14Ideal.defs _ _).mono (fun r h => ⟨fun c => (h c).2.2.2.2, sem_eq_zero_of_no_sems (by decide) r.2⟩)
    (Cert.Reference14Ideal.Value.run m g)

/-- From any arguments the backward call of the feed-forward layer's first product and its reference leave the same four gradients. -/
theorem algebraic14 : Cert.algebraic_Kernel14Ideal_Reference14Ideal (hKernel14Ideal := Cert.Kernel14Ideal.Gen.facts)
    (hReference14Ideal := Cert.Reference14Ideal.Gen.facts) := by
  intro m g m' g' _ hagree
  refine ⟨fun c => fun i : Cert.Kernel14Ideal.S16384x1024.Idx => (Cert.Kernel14Ideal.Value.inp m c).dx (i 0) (i 1),
    fun c => fun i : Cert.Kernel14Ideal.S16384x1024.Idx => (Cert.Kernel14Ideal.Value.inp m c).du (i 0) (i 1),
    fun c => fun i : Cert.Kernel14Ideal.S1024.Idx => (Cert.Kernel14Ideal.Value.inp m c).gpre (i 0),
    fun c => fun i : Cert.Kernel14Ideal.S1024.Idx => (Cert.Kernel14Ideal.Value.inp m c).gpost (i 0), ?_, ?_⟩
  · refine (θ_run Cert.Kernel14Ideal.defs _ _).mono (fun r h c => ?_) (Cert.Kernel14Ideal.Value.run m g)
    obtain ⟨r0, r1, r2, r3, rest⟩ := h c
    exact ⟨r0.trans (Cert.Kernel14Ideal.Value.arr8 m c), r1.trans (Cert.Kernel14Ideal.Value.arr9 m c),
      r2.trans (Cert.Kernel14Ideal.Value.pre_row m c), r3.trans (Cert.Kernel14Ideal.Value.post_row m c), rest⟩
  · refine (θ_run Cert.Reference14Ideal.defs _ _).mono (fun r h c => ?_) (Cert.Reference14Ideal.Value.run m' g')
    obtain ⟨a0, a1, a2, a3, a4, a5, a6⟩ := hagree c
    have e : Cert.Reference14Ideal.Value.inp m' c = Cert.Kernel14Ideal.Value.inp m c := by
      unfold Cert.Reference14Ideal.Value.inp Cert.Kernel14Ideal.Value.inp
      rw [a0, a1, a2, a3, a4, a5, a6]
    obtain ⟨r0, r1, r2, r3, rest⟩ := h c
    refine ⟨r0.trans ((Cert.Reference14Ideal.Value.dx_out m' c).trans ?_), r1.trans ((Cert.Reference14Ideal.Value.du_out m' c).trans ?_),
      r2.trans ((Cert.Reference14Ideal.Value.pre_out m' c).trans ?_), r3.trans ((Cert.Reference14Ideal.Value.post_out m' c).trans ?_), rest⟩
    all_goals (rw [e]; try rfl)

end Cert.Proof

end
-- ==== Proof.FfnIn.lean ====
module

public import proofs.«01_k».proof.Defs
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import Idealize.ShloMosaic.Lib.Pipeline.ReadBack
public import Idealize.ShloMosaic.Lib.Pipeline.ValueKit
public import Idealize.ShloMosaic.Lib.Pointwise
public import Idealize.ShloMosaic.Adequacy
public import Idealize.ShloMosaic.Init

@[expose] public section

set_option maxRecDepth 16384

noncomputable section

namespace Cert.Kernel16Ideal.Value

open Cert.Kernel16Ideal Cert.Kernel16Ideal.Gen Idealize.ShloMosaic Idealize.ShloMosaic.TcCoe Idealize.ShloMosaic.Tactic Idealize.SL.Sem Idealize.ShloMosaic.StableHlo

/-- The gate half's product of a tile, at an index. -/
theorem pay1_apply (v0 : Vec Ideal S512x1024 .bf16) (v2 : Vec Ideal S1024x1408 .bf16) (a : Fin 512) (e : Fin 1408) :
    k0_pay1 (F := Ideal) v0 v2 (ix2 a e) = (∑ d : Fin 1024, v0 (ix2 a d) * v2 (ix2 d e) : EReal) := by
  pointwise [k0_pay1]

/-- The other half's product of a tile, at an index. -/
theorem pay2_apply (v0 : Vec Ideal S512x1024 .bf16) (v2 : Vec Ideal S1024x1408 .bf16) (a : Fin 512) (e : Fin 1408) :
    k0_pay2 (F := Ideal) v0 v2 (ix2 a e) = (∑ d : Fin 1024, v0 (ix2 a d) * v2 (ix2 d e) : EReal) := by
  pointwise [k0_pay2]

/-- `silu g * u`, of two numbers. -/
def glu (g u : EReal) : EReal := g * Ideal.logistic g * u

/-- The activations of a tile, at an index. -/
theorem pay5_apply (v0 : Vec Ideal S512x1024 .bf16) (v2 v7 : Vec Ideal S1024x1408 .bf16) (y : S512x1408.Idx) :
    k0_pay5 (F := Ideal) v0 v2 v0 v7 y = glu (k0_pay1 (F := Ideal) v0 v2 y) (k0_pay2 (F := Ideal) v0 v7 y) := rfl

/-- Where each window's block lies, by point. -/
theorem idx : ∀ t : Fin cfg0.N,
    win0_0.index t = ![t.val % 32, 0] ∧ win0_1.index t = ![0, t.val / 32] ∧ win0_2.index t = ![0, 2 + t.val / 32]
    ∧ win0_3.index t = ![t.val % 32, t.val / 32] ∧ win0_4.index t = ![t.val % 32, t.val / 32] ∧ win0_5.index t = ![t.val % 32, t.val / 32] ∧ t.val < 64 :=
  (by decide +kernel : ∀ t : Fin grid0.N, _)

variable (m : (ℓ : Loc nD τ sig) → Buf (Elt Ideal) ℓ) (c : Dev nD)

/-- The layer's input. -/
abbrev H : FVec Ideal S16384x1024 .f32 := m ((c.tc : Thread nD τ).loc main_arg0)
/-- The weights. -/
abbrev W : FVec Ideal S1024x5632 .f32 := m ((c.tc : Thread nD τ).loc main_arg1)

/-- The input as the call finds it. -/
theorem V_H : (V m c main_v0 : Vec Ideal S16384x1024 .bf16) = truncf .bf16 (H m c) bitsLt_bf16_f32 := by
  unfold V
  simp only [hostOps0, TRef.binary, TRef.nullary, TRef.unary, TRef.toBuf, TRef.ofBuf, cast_eq, List.flatten_cons, List.flatten_nil, List.append_nil, List.cons_append, List.nil_append]
  after_results <;> rfl

/-- The weights as the call finds them. -/
theorem V_W : (V m c main_v1 : Vec Ideal S1024x5632 .bf16) = truncf .bf16 (W m c) bitsLt_bf16_f32 := by
  unfold V
  simp only [hostOps0, TRef.binary, TRef.nullary, TRef.unary, TRef.toBuf, TRef.ofBuf, cast_eq, List.flatten_cons, List.flatten_nil, List.append_nil, List.cons_append, List.nil_append]
  after_results <;> rfl

/-- An entry of the product of the input with the weights. -/
def prod (n : Fin 16384) (k : Fin 5632) : EReal := ∑ d : Fin 1024, H m c (ix2 n d) * W m c (ix2 d k)

/-- The same by position, zero outside. -/
def prodN (n k : ℕ) : EReal := if h : n < 16384 ∧ k < 5632 then prod m c ⟨n, h.1⟩ ⟨k, h.2⟩ else 0

/-- Window 0's block at an index. -/
theorem blk0 (t : Fin cfg0.N) (a : Fin 512) (d : Fin 1024) (h : t.val % 32 * 512 + a.val < 16384) :
    (iblk m c 0 t : Vec Ideal S512x1024 .bf16) (ix2 a d) = H m c (ix2 ⟨t.val % 32 * 512 + a.val, h⟩ d) := by
  have e : (V m c main_v0 : Vec Ideal S16384x1024 .bf16) (ix2 ⟨t.val % 32 * 512 + a.val, h⟩ d) = H m c (ix2 ⟨t.val % 32 * 512 + a.val, h⟩ d) := by rw [V_H]; rfl
  rw [← e]
  blk_ext [iblk, idx t]

/-- Window 1's block at an index. -/
theorem blk1 (t : Fin cfg0.N) (d : Fin 1024) (e : Fin 1408) (h : t.val / 32 * 1408 + e.val < 5632) :
    (iblk m c 1 t : Vec Ideal S1024x1408 .bf16) (ix2 d e) = W m c (ix2 d ⟨t.val / 32 * 1408 + e.val, h⟩) := by
  have q : (V m c main_v1 : Vec Ideal S1024x5632 .bf16) (ix2 d ⟨t.val / 32 * 1408 + e.val, h⟩) = W m c (ix2 d ⟨t.val / 32 * 1408 + e.val, h⟩) := by rw [V_W]; rfl
  rw [← q]
  blk_ext [iblk, idx t]

/-- Window 2's block at an index. -/
theorem blk2 (t : Fin cfg0.N) (d : Fin 1024) (e : Fin 1408) (h : (2 + t.val / 32) * 1408 + e.val < 5632) :
    (iblk m c 2 t : Vec Ideal S1024x1408 .bf16) (ix2 d e) = W m c (ix2 d ⟨(2 + t.val / 32) * 1408 + e.val, h⟩) := by
  have q : (V m c main_v1 : Vec Ideal S1024x5632 .bf16) (ix2 d ⟨(2 + t.val / 32) * 1408 + e.val, h⟩) = W m c (ix2 d ⟨(2 + t.val / 32) * 1408 + e.val, h⟩) := by rw [V_W]; rfl
  rw [← q]
  blk_ext [iblk, idx t]

/-- A tile's gate product is its share of the whole. -/
theorem gate_tile (t : Fin cfg0.N) (z : S512x1408.Idx) :
    k0_pay1 (F := Ideal) (iblk m c 0 t) (iblk m c 1 t) z = prodN m c (t.val % 32 * 512 + (z 0).val) (t.val / 32 * 1408 + (z 1).val) := by
  obtain ⟨a, e, rfl⟩ : ∃ (a : Fin 512) (e : Fin 1408), z = ix2 a e := ⟨z 0, z 1, by funext k; fin_cases k <;> rfl⟩
  have ht := (idx t).2.2.2.2.2.2
  have ha := a.isLt
  have he := e.isLt
  refine (pay1_apply _ _ a e).trans ?_
  unfold prodN
  rw [dif_pos ⟨by show t.val % 32 * 512 + a.val < 16384; omega, by show t.val / 32 * 1408 + e.val < 5632; omega⟩]
  unfold prod
  exact Finset.sum_congr rfl fun d _ => congrArg₂ (fun p q : EReal => p * q) (blk0 m c t a d _) (blk1 m c t d e _)

/-- A tile's other product is its share of the whole. -/
theorem up_tile (t : Fin cfg0.N) (z : S512x1408.Idx) :
    k0_pay2 (F := Ideal) (iblk m c 0 t) (iblk m c 2 t) z = prodN m c (t.val % 32 * 512 + (z 0).val) ((2 + t.val / 32) * 1408 + (z 1).val) := by
  obtain ⟨a, e, rfl⟩ : ∃ (a : Fin 512) (e : Fin 1408), z = ix2 a e := ⟨z 0, z 1, by funext k; fin_cases k <;> rfl⟩
  have ht := (idx t).2.2.2.2.2.2
  have ha := a.isLt
  have he := e.isLt
  refine (pay2_apply _ _ a e).trans ?_
  unfold prodN
  rw [dif_pos ⟨by show t.val % 32 * 512 + a.val < 16384; omega, by show (2 + t.val / 32) * 1408 + e.val < 5632; omega⟩]
  unfold prod
  exact Finset.sum_congr rfl fun d _ => congrArg₂ (fun p q : EReal => p * q) (blk0 m c t a d _) (blk2 m c t d e _)

/-- Whatever is loaded whole is what is there. -/
theorem out3_at (x0 : Vec Ideal S512x1024 .bf16) (x1 x2 : Vec Ideal S1024x1408 .bf16) (y : S512x1408.Idx) :
    out0_3 (F := Ideal) x0 x1 x2 y = k0_pay1 (F := Ideal) x0 x1 y := by
  unfold out0_3
  frame_out
  all_goals rfl

/-- The second result of a tile. -/
theorem out4_at (x0 : Vec Ideal S512x1024 .bf16) (x1 x2 : Vec Ideal S1024x1408 .bf16) (y : S512x1408.Idx) :
    out0_4 (F := Ideal) x0 x1 x2 y = k0_pay2 (F := Ideal) x0 x2 y := by
  unfold out0_4
  frame_out
  all_goals rfl

/-- The third result of a tile. -/
theorem out5_at (x0 : Vec Ideal S512x1024 .bf16) (x1 x2 : Vec Ideal S1024x1408 .bf16) (y : S512x1408.Idx) :
    out0_5 (F := Ideal) x0 x1 x2 y = glu (k0_pay1 (F := Ideal) x0 x1 y) (k0_pay2 (F := Ideal) x0 x2 y) := by
  unfold out0_5
  frame_out
  all_goals rfl

/-- The gate array. -/
theorem arr3 : (dats m 0 c).arrAt 3 cfg0.N = fun i : S16384x2816.Idx => prodN m c (i 0).val (i 1).val := by
  refine (dats m 0 c).arrAt_eq_of_covers 3 _ (by decide +kernel) fun t hf y => ?_
  blk_simp
  rw [after0_3]
  refine (out3_at _ _ _ _).trans ((gate_tile m c t _).trans ?_)
  refine congrArg₂ (prodN m c) ?_ ?_ <;> blk_simp [idx t]

/-- The other half's array. -/
theorem arr4 : (dats m 0 c).arrAt 4 cfg0.N = fun i : S16384x2816.Idx => prodN m c (i 0).val (2816 + (i 1).val) := by
  refine (dats m 0 c).arrAt_eq_of_covers 4 _ (by decide +kernel) fun t hf y => ?_
  blk_simp
  rw [after0_4]
  refine (out4_at _ _ _ _).trans ((up_tile m c t _).trans ?_)
  refine congrArg₂ (prodN m c) ?_ ?_ <;> blk_simp [idx t]
  omega

/-- The activations' array. -/
theorem arr5 : (dats m 0 c).arrAt 5 cfg0.N = fun i : S16384x2816.Idx =>
    glu (prodN m c (i 0).val (i 1).val) (prodN m c (i 0).val (2816 + (i 1).val)) := by
  refine (dats m 0 c).arrAt_eq_of_covers 5 _ (by decide +kernel) fun t hf y => ?_
  blk_simp
  rw [after0_5]
  refine (out5_at _ _ _ _).trans ?_
  refine congrArg₂ glu ((gate_tile m c t _).trans ?_) ((up_tile m c t _).trans ?_)
  · refine congrArg₂ (prodN m c) ?_ ?_ <;> blk_simp [idx t]
  · refine congrArg₂ (prodN m c) ?_ ?_ <;> blk_simp [idx t]
    omega

/-- An entry inside, by row and column. -/
theorem prodN_at (n : Fin 16384) (k : Fin 5632) : prodN m c n.val k.val = prod m c n k := dif_pos ⟨n.isLt, k.isLt⟩

end Cert.Kernel16Ideal.Value

namespace Cert.Reference16Ideal.Value

open Cert.Reference16Ideal Cert.Reference16Ideal.Gen Idealize.ShloMosaic Idealize.ShloMosaic.TcCoe Idealize.ShloMosaic.Tactic Idealize.SL.Sem Idealize.ShloMosaic.StableHlo

/-- The layer's first product. -/
abbrev z (h : FVec Ideal S16384x1024 .f32) (w : FVec Ideal S1024x5632 .f32) : FVec Ideal S16384x5632 .f32 :=
  Host.dotGeneral (F := Ideal) dot_S16384x1024_S1024x5632_S16384x5632_1_0_0_1_n_n none h w

/-- Its first half, at an index. -/
theorem gate_at (h : FVec Ideal S16384x1024 .f32) (w : FVec Ideal S1024x5632 .f32) (a : Fin 16384) (b : Fin 2816) (b' : Fin 5632) (hb : b'.val = b.val) :
    (extractStridedSlice S16384x2816 ![0, 0] (z h w) slices_S16384x5632_S16384x2816_0_0 : FVec Ideal S16384x2816 .f32) (ix2 a b) = ∑ d : Fin 1024, h (ix2 a d) * w (ix2 d b') := by
  obtain ⟨b', hlt⟩ := b'
  simp only at hb
  subst hb
  pointwise []

/-- Its second half, at an index. -/
theorem up_at (h : FVec Ideal S16384x1024 .f32) (w : FVec Ideal S1024x5632 .f32) (a : Fin 16384) (b : Fin 2816) (b' : Fin 5632) (hb : b'.val = 2816 + b.val) :
    (extractStridedSlice S16384x2816 ![0, 2816] (z h w) slices_S16384x5632_S16384x2816_0_2816 : FVec Ideal S16384x2816 .f32) (ix2 a b) = ∑ d : Fin 1024, h (ix2 a d) * w (ix2 d b') := by
  obtain ⟨b', hlt⟩ := b'
  simp only at hb
  subst hb
  pointwise []

/-- The activations at an index, `silu` as the reference spells it. -/
theorem act_at (g u : FVec Ideal S16384x2816 .f32) (i : S16384x2816.Idx) :
    (truncf .bf16 (mulf (mulf g (Host.divf (broadcastInDim S16384x2816 ![] bcast_S_S16384x2816 (constant S_ .f32 0x3F800000#32)) (addf (broadcastInDim S16384x2816 ![] bcast_S_S16384x2816 (constant S_ .f32 0x3F800000#32)) (Host.exp (Host.negf g))))) u) bitsLt_bf16_f32 : FVec Ideal S16384x2816 .bf16) i
      = Cert.Kernel16Ideal.Value.glu (g i) (u i) := by
  obtain ⟨a, b, rfl⟩ : ∃ (a : Fin 16384) (b : Fin 2816), i = ix2 a b := ⟨i 0, i 1, by funext k; fin_cases k <;> rfl⟩
  pointwise [Cert.Kernel16Ideal.Value.glu, Ideal.logistic]

end Cert.Reference16Ideal.Value

namespace Cert.Proof

open Idealize.ShloMosaic Idealize.ShloMosaic.TcCoe Idealize.SL.Sem

/-- The frame of the reference of the feed-forward layer's first half: its run read at the arguments; it declares no semaphore. -/
theorem reference16_frame : Cert.quiescent_Reference16Ideal (hReference16Ideal := Cert.Reference16Ideal.Gen.facts) := fun m g _ =>
  (θ_run Cert.Reference16Ideal.defs _ _).mono (fun r h => ⟨fun c => (h c).2.2.2, sem_eq_zero_of_no_sems (by decide) r.2⟩)
    (Cert.Reference16Ideal.Value.run m g)

/-- From any arguments the first half of the feed-forward layer and its reference leave the same gate, up and activations. -/
theorem algebraic16 : Cert.algebraic_Kernel16Ideal_Reference16Ideal (hKernel16Ideal := Cert.Kernel16Ideal.Gen.facts)
    (hReference16Ideal := Cert.Reference16Ideal.Gen.facts) := by
  intro m g m' g' _ hagree
  refine ⟨fun c => fun i : Cert.Kernel16Ideal.S16384x2816.Idx => Cert.Kernel16Ideal.Value.prodN m c (i 0).val (i 1).val,
    fun c => fun i : Cert.Kernel16Ideal.S16384x2816.Idx => Cert.Kernel16Ideal.Value.prodN m c (i 0).val (2816 + (i 1).val),
    fun c => fun i : Cert.Kernel16Ideal.S16384x2816.Idx => Cert.Kernel16Ideal.Value.glu (Cert.Kernel16Ideal.Value.prodN m c (i 0).val (i 1).val) (Cert.Kernel16Ideal.Value.prodN m c (i 0).val (2816 + (i 1).val)), ?_, ?_⟩
  · refine (θ_run Cert.Kernel16Ideal.defs _ _).mono (fun r h c => ?_) (Cert.Kernel16Ideal.Value.run_blocks m g)
    obtain ⟨r0, r1, r2, rest⟩ := h c
    exact ⟨r0.trans (Cert.Kernel16Ideal.Value.arr3 m c), r1.trans (Cert.Kernel16Ideal.Value.arr4 m c), r2.trans (Cert.Kernel16Ideal.Value.arr5 m c), rest⟩
  · refine (θ_run Cert.Reference16Ideal.defs _ _).mono (fun r h c => ?_) (Cert.Reference16Ideal.Value.run m' g')
    obtain ⟨a0, a1⟩ := hagree c
    obtain ⟨r0, r1, r2, rest⟩ := h c
    have gate : ∀ i : Cert.Kernel16Ideal.S16384x2816.Idx, _ = Cert.Kernel16Ideal.Value.prodN m c (i 0).val (i 1).val := fun i => by
      obtain ⟨a, b, rfl⟩ : ∃ (a : Fin 16384) (b : Fin 2816), i = ix2 a b := ⟨i 0, i 1, by funext k; fin_cases k <;> rfl⟩
      exact (Cert.Reference16Ideal.Value.gate_at (Cert.Kernel16Ideal.Value.H m c) (Cert.Kernel16Ideal.Value.W m c) a b ⟨b.val, by omega⟩ rfl).trans (Cert.Kernel16Ideal.Value.prodN_at m c a ⟨b.val, by omega⟩).symm
    have up : ∀ i : Cert.Kernel16Ideal.S16384x2816.Idx, _ = Cert.Kernel16Ideal.Value.prodN m c (i 0).val (2816 + (i 1).val) := fun i => by
      obtain ⟨a, b, rfl⟩ : ∃ (a : Fin 16384) (b : Fin 2816), i = ix2 a b := ⟨i 0, i 1, by funext k; fin_cases k <;> rfl⟩
      exact (Cert.Reference16Ideal.Value.up_at (Cert.Kernel16Ideal.Value.H m c) (Cert.Kernel16Ideal.Value.W m c) a b ⟨2816 + b.val, by omega⟩ rfl).trans (Cert.Kernel16Ideal.Value.prodN_at m c a ⟨2816 + b.val, by omega⟩).symm
    rw [a0, a1] at r0 r1 r2
    refine ⟨r0.trans (funext gate), r1.trans (funext up), r2.trans (funext fun i => ?_), rest⟩
    exact (Cert.Reference16Ideal.Value.act_at _ _ i).trans (congrArg₂ Cert.Kernel16Ideal.Value.glu (gate i) (up i))

end Cert.Proof

end
-- ==== Proof.LossSpec.lean ====
module

public import proofs.«01_k».proof.Proof.FfnSpec

@[expose] public section

noncomputable section

namespace Cert.Loss

open Idealize.ShloMosaic
open Cert.InProj hiding Inp
open Cert.Ffn hiding Inp

/-- The five arguments: the gated units, the second weights, the tokens after the mixing layer, the norm's gain and the target. -/
structure Inp where
  a : Fin 16384 → Fin 2816 → EReal
  w : Fin 2816 → Fin 1024 → EReal
  x : Fin 16384 → Fin 1024 → EReal
  g : Fin 1024 → EReal
  y : Fin 16384 → Fin 1024 → EReal

variable (I : Inp)

/-- The feed-forward layer's output. -/
def Inp.f (n : Fin 16384) (e : Fin 1024) : EReal := ∑ l : Fin 2816, I.a n l * I.w l e
/-- What the block's output misses the target by. -/
def Inp.err (n : Fin 16384) (e : Fin 1024) : EReal := I.x n e + I.f n e * rms (I.f n) * I.g e - I.y n e
/-- The cotangent of the block's output. -/
def Inp.dy (n : Fin 16384) (e : Fin 1024) : EReal := I.err n e * Ideal.ofBits .f32 0x3A800000#32
/-- The gradient of the feed-forward layer's output. -/
def Inp.df (n : Fin 16384) (e : Fin 1024) : EReal := back (I.f n) (I.dy n) I.g e
/-- The gradient of the norm's gain. -/
def Inp.dg (e : Fin 1024) : EReal := ∑ n : Fin 16384, I.dy n e * I.f n e * rms (I.f n)
/-- The loss: the squares summed down each column, then over the columns, and scaled. -/
def Inp.loss : EReal := (∑ e : Fin 1024, ∑ n : Fin 16384, I.err n e * I.err n e) * Ideal.ofBits .f32 0x3A000000#32

/-- The word of 1/1024. -/
theorem rec_width : Ideal.ofBits .f32 0x3A800000#32 = ((1 / 1024 : ℝ) : EReal) := by
  simp [Ideal.ofBits, Ideal.ieee]
  rw [← EReal.coe_mul]
  congr 1
  norm_num

/-- The word of 1/2048. -/
theorem half_rec_width : Ideal.ofBits .f32 0x3A000000#32 = ((1 / 2048 : ℝ) : EReal) := by
  simp [Ideal.ofBits, Ideal.ieee]
  rw [← EReal.coe_mul]
  congr 1
  norm_num

/-- The word of one half. -/
theorem half_word : Ideal.ofBits .f32 0x3F000000#32 = ((1 / 2 : ℝ) : EReal) := by
  simp [Ideal.ofBits, Ideal.ieee]
  rw [← EReal.coe_mul]
  congr 1
  norm_num

/-- The word of one. -/
theorem one_word' : Ideal.ofBits .f32 0x3F800000#32 = ((1 : ℝ) : EReal) := by
  simp [Ideal.ofBits, Ideal.ieee]
  rw [← EReal.coe_mul]
  congr 1
  norm_num

/-- The word of two. -/
theorem two_word : Ideal.ofBits .f32 0x40000000#32 = ((2 : ℝ) : EReal) := by
  simp [Ideal.ofBits, Ideal.ieee]
  rw [← EReal.coe_mul]
  congr 1
  norm_num

/-- The cotangent as the chain rule writes it. -/
theorem dy_eq (q : EReal) : Ideal.div (Ideal.ofBits .f32 0x3F000000#32 * Ideal.ofBits .f32 0x3F800000#32) width * (Ideal.ofBits .f32 0x40000000#32 * q)
    = q * Ideal.ofBits .f32 0x3A800000#32 := by
  rw [div_width, rec_width, half_word, one_word', two_word, ← mul_assoc, mul_comm q]
  congr 1
  simp only [← EReal.coe_mul]
  congr 1
  norm_num

/-- A sum of non-negative terms times a real is the terms' products' sum. -/
theorem sum_scale {n : ℕ} (q : Fin n → EReal) (hq : ∀ i, 0 ≤ q i) (r : ℝ) : (∑ i, q i) * (r : EReal) = ∑ i, q i * (r : EReal) := by
  classical
  refine Finset.induction_on (Finset.univ : Finset (Fin n)) (by simp) fun i s hi h => ?_
  rw [Finset.sum_insert hi, Finset.sum_insert hi, EReal.right_distrib_of_nonneg (hq i) (Finset.sum_nonneg fun j _ => hq j), h]

/-- The loss as the reference writes it: half of the sum of the tokens' mean squares. -/
theorem loss_eq : Ideal.ofBits .f32 0x3F000000#32 * (∑ n : Fin 16384, Ideal.div (∑ e : Fin 1024, I.err n e * I.err n e) width) = I.loss := by
  unfold Inp.loss
  simp only [div_width]
  rw [← sum_scale _ (fun n => Finset.sum_nonneg fun e _ => sq_nonneg' _), half_word, half_rec_width, Finset.sum_comm, mul_comm, mul_assoc]
  congr 1
  rw [← EReal.coe_mul]
  congr 1
  norm_num

end Cert.Loss
end
-- ==== Proof.LossRef.lean ====
module

public import proofs.«01_k».proof.Proof.Gen.Reference17Ideal.Run
public import proofs.«01_k».proof.Proof.LossSpec
public import proofs.«01_k».proof.Proof.FfnRef

@[expose] public section

set_option maxRecDepth 16384

noncomputable section

namespace Cert.Reference17Ideal.Value

open Cert.Reference17Ideal Cert.Reference17Ideal.Gen Idealize.ShloMosaic Idealize.ShloMosaic.TcCoe Idealize.ShloMosaic.Tactic Idealize.SL.Sem Idealize.ShloMosaic.StableHlo
open Cert.InProj hiding Inp
open Cert.Ffn hiding Inp
open Cert.Reference14Ideal.Value (Tab row x1V x1_at duV du_at gainV gain_at)
open Cert.Loss

variable (m : (ℓ : Loc nD τ sig) → Buf (Elt Ideal) ℓ) (c : Dev nD)

/-- The arguments' contents. -/
def inp : Inp where
  a n l := (m ((c.tc : Thread nD τ).loc main_arg0) : Vec Ideal S16384x2816 .f32) (ix2 n l)
  w l e := (m ((c.tc : Thread nD τ).loc main_arg1) : Vec Ideal S2816x1024 .f32) (ix2 l e)
  x n e := (m ((c.tc : Thread nD τ).loc main_arg2) : Vec Ideal S16384x1024 .f32) (ix2 n e)
  g e := (m ((c.tc : Thread nD τ).loc main_arg3) : Vec Ideal S1024 .f32) (ix1 e)
  y n e := (m ((c.tc : Thread nD τ).loc main_arg4) : Vec Ideal S16384x1024 .f32) (ix2 n e)

/-- The product of the gated units and the second weights. -/
def fV (a : FVec Ideal S16384x2816 .f32) (w : FVec Ideal S2816x1024 .f32) : Tab :=
  Host.dotGeneral dot_S16384x2816_S2816x1024_S16384x1024_1_0_0_1_n_n none a w

/-- What the output misses the target by. -/
def errV (f x y : Tab) (g : FVec Ideal S1024 .f32) : Tab := subf (x1V x f g) y

/-- The cotangent of the block's output. -/
def dyV (q : Tab) : Tab :=
  mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32))))
    (mulf (broadcastInDim S16384x1024 ![] bcast_S_S16384x1024 (constant S_ .f32 0x40000000#32)) q)

/-- The loss. -/
def lossV (q : Tab) : FVec Ideal S_ .f32 :=
  mulf (constant S_ .f32 0x3F000000#32) (Host.reduceAdd (Host.divf (Host.reduceAdd (mulf q q) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)

/-- The product of the gated units and the second weights, at an index. -/
theorem f_at (a : FVec Ideal S16384x2816 .f32) (w : FVec Ideal S2816x1024 .f32) (n : Fin 16384) (e : Fin 1024) :
    fV a w (ix2 n e) = ∑ l : Fin 2816, a (ix2 n l) * w (ix2 l e) := by
  pointwise [fV]

/-- The cotangent of the block's output, at an index. -/
theorem dy_at (q : Tab) (n : Fin 16384) (e : Fin 1024) : dyV q (ix2 n e) = q (ix2 n e) * Ideal.ofBits .f32 0x3A800000#32 := by
  rw [← dy_eq]
  pointwise [dyV]

/-- The loss, at its only index. -/
theorem loss_at (q : Tab) (i : S_.Idx) :
    lossV q i = Ideal.ofBits .f32 0x3F000000#32 * ∑ n : Fin 16384, Ideal.div (∑ e : Fin 1024, q (ix2 n e) * q (ix2 n e)) width := by
  pointwise [lossV]

/-- The feed-forward layer's output. -/
abbrev F2 : Tab := fV (m ((c.tc : Thread nD τ).loc main_arg0)) (m ((c.tc : Thread nD τ).loc main_arg1))
/-- What the output misses the target by. -/
abbrev ERR : Tab := errV (F2 m c) (m ((c.tc : Thread nD τ).loc main_arg2)) (m ((c.tc : Thread nD τ).loc main_arg4)) (m ((c.tc : Thread nD τ).loc main_arg3))
/-- The cotangent of the block's output. -/
abbrev DY : Tab := dyV (ERR m c)

/-- The feed-forward layer's output, a row. -/
theorem F2_row (n : Fin 16384) : row (F2 m c) n = (inp m c).f n := funext fun e => f_at _ _ n e
/-- What the output misses the target by, a row. -/
theorem ERR_row (n : Fin 16384) : row (ERR m c) n = (inp m c).err n := funext fun e => by
  refine (congrArg (fun p : EReal => p - (inp m c).y n e) (x1_at _ (F2 m c) _ n e)).trans ?_
  rw [F2_row]
  exact congrArg (fun p : EReal => (inp m c).x n e + p * rms ((inp m c).f n) * (inp m c).g e - (inp m c).y n e) (congrFun (F2_row m c n) e)
/-- The cotangent of the block's output, a row. -/
theorem DY_row (n : Fin 16384) : row (DY m c) n = (inp m c).dy n := funext fun e =>
  (dy_at _ n e).trans (congrArg (fun p : EReal => p * Ideal.ofBits .f32 0x3A800000#32) (congrFun (ERR_row m c n) e))

/-- The reference's first result. -/
theorem dy_out : DY m c = fun i => (inp m c).dy (i 0) (i 1) := by
  funext i
  obtain ⟨n, e, rfl⟩ := rows i
  exact congrFun (DY_row m c n) e

/-- The reference's second result. -/
theorem df_out : (res_main_v53 m c : FVec Ideal S16384x1024 .bf16) = fun i => (inp m c).df (i 0) (i 1) := by
  funext i
  obtain ⟨n, e, rfl⟩ := rows i
  have h : (res_main_v53 m c : FVec Ideal S16384x1024 .bf16) = truncf .bf16 (duV (F2 m c) (DY m c) (m ((c.tc : Thread nD τ).loc main_arg3))) bitsLt_bf16_f32 := rfl
  rw [h]
  refine (du_at _ _ _ n e).trans ?_
  rw [F2_row, DY_row]
  rfl

/-- The reference's third result. -/
theorem loss_out : lossV (ERR m c) = fun _ => (inp m c).loss := by
  funext i
  refine (loss_at _ i).trans (Eq.trans ?_ (loss_eq (inp m c)))
  have h : ∀ n e, ERR m c (ix2 n e) = (inp m c).err n e := fun n e => congrFun (ERR_row m c n) e
  simp only [h]

/-- The reference's fourth result. -/
theorem dg_out : gainV (F2 m c) (DY m c) = fun i => (inp m c).dg (i 0) := by
  funext i
  obtain ⟨e, rfl⟩ := cols i
  refine (gain_at _ _ e).trans (Finset.sum_congr rfl fun n _ => ?_)
  exact congrArg₂ (fun p q : EReal => p * q) (congrArg₂ (fun p q : EReal => p * q) (congrFun (DY_row m c n) e) (congrFun (F2_row m c n) e)) (congrArg rms (F2_row m c n))

end Cert.Reference17Ideal.Value
end
-- ==== Proof.LossGo.lean ====
module

public import proofs.«01_k».proof.Defs
public import proofs.«01_k».proof.Proof.LossRef
public import proofs.«01_k».proof.Proof.RowSum
public import proofs.«01_k».proof.Proof.Gen.Kernel17Ideal
public import proofs.«01_k».proof.Proof.Gen.Kernel17Ideal.Frame
public import proofs.«01_k».proof.Proof.Gen.Kernel17Ideal.Run
public import proofs.«01_k».proof.Proof.Gen.Reference17Ideal
public import Idealize.ShloMosaic.Lib.Pipeline.ReadBack
public import Idealize.ShloMosaic.Lib.Pipeline.ValueKit
public import Idealize.ShloMosaic.Adequacy
public import Idealize.ShloMosaic.Init

@[expose] public section

set_option maxRecDepth 16384

noncomputable section

namespace Cert.Kernel17Ideal.Value

open Cert.Kernel17Ideal Cert.Kernel17Ideal.Gen Idealize.ShloMosaic Idealize.ShloMosaic.TcCoe Idealize.ShloMosaic.Tactic Idealize.SL.Sem Idealize.ShloMosaic.StableHlo
open Cert.InProj hiding Inp
open Cert.Ffn hiding Inp
open Cert.Rows hiding adds
open Cert.Loss

/-- A block of tokens' rows. -/
abbrev Blk := FVec Ideal S512x1024 .f32

/-- A block's product, at an index. -/
theorem pay8_at (x0 : Vec Ideal S512x2816 .bf16) (x1 : Vec Ideal S2816x1024 .bf16) (a : Fin 512) (e : Fin 1024) :
    k0_pay8 (F := Ideal) x0 x1 (ix2 a e) = ∑ l : Fin 2816, x0 (ix2 a l) * x1 (ix2 l e) := by
  pointwise [k0_pay8]

/-- A row's reciprocal root mean square. -/
theorem pay10_at (x0 : Vec Ideal S512x2816 .bf16) (x1 : Vec Ideal S2816x1024 .bf16) (a : Fin 512) :
    k0_pay10 (F := Ideal) x0 x1 (ix2 a 0) = rms (fun e => k0_pay8 (F := Ideal) x0 x1 (ix2 a e)) := by
  unfold rms msq k0_pay10
  generalize k0_pay8 (F := Ideal) x0 x1 = f
  pointwise []

/-- What a block's output misses the target by, at an index. -/
theorem pay11_at (x0 : Vec Ideal S512x2816 .bf16) (x1 : Vec Ideal S2816x1024 .bf16) (x2 x3 : Vec Ideal S512x1024 .f32) (x4 : Vec Ideal S1x1024 .f32) (a : Fin 512) (e : Fin 1024) :
    k0_pay11 (F := Ideal) x0 x1 x4 x2 x3 (ix2 a e)
      = x2 (ix2 a e) + k0_pay8 (F := Ideal) x0 x1 (ix2 a e) * rms (fun j => k0_pay8 (F := Ideal) x0 x1 (ix2 a j)) * x4 (ix2 0 e) - x3 (ix2 a e) := by
  rw [← pay10_at]
  unfold k0_pay11
  generalize k0_pay8 (F := Ideal) x0 x1 = f
  generalize k0_pay10 (F := Ideal) x0 x1 = r
  pointwise [k0_pay9]

/-- The cotangent of a block's output, at an index. -/
theorem pay12_at (x0 : Vec Ideal S512x2816 .bf16) (x1 : Vec Ideal S2816x1024 .bf16) (x2 x3 : Vec Ideal S512x1024 .f32) (x4 : Vec Ideal S1x1024 .f32) (a : Fin 512) (e : Fin 1024) :
    k0_pay12 (F := Ideal) x0 x1 x4 x2 x3 (ix2 a e) = k0_pay11 (F := Ideal) x0 x1 x4 x2 x3 (ix2 a e) * Ideal.ofBits .f32 0x3A800000#32 := rfl

/-- A block's rows of the gradient of the feed-forward layer's output. -/
def dfB (x0 : Vec Ideal S512x2816 .bf16) (x1 : Vec Ideal S2816x1024 .bf16) (x2 x3 : Vec Ideal S512x1024 .f32) (x4 : Vec Ideal S1x1024 .f32) : FVec Ideal S512x1024 .bf16 :=
  k0_pay1 (k0_pay8 x0 x1) (k0_pay13 x0 x1 x4 x2 x3) (k0_pay14 x0 x1 x4 x2 x3) (k0_pay15 x0 x1)

/-- A block's rows of the gradient of the feed-forward layer's output, at an index. -/
theorem dfB_at (x0 : Vec Ideal S512x2816 .bf16) (x1 : Vec Ideal S2816x1024 .bf16) (x2 x3 : Vec Ideal S512x1024 .f32) (x4 : Vec Ideal S1x1024 .f32) (a : Fin 512) (e : Fin 1024) :
    dfB x0 x1 x2 x3 x4 (ix2 a e)
      = back (fun j => k0_pay8 (F := Ideal) x0 x1 (ix2 a j)) (fun j => k0_pay12 (F := Ideal) x0 x1 x4 x2 x3 (ix2 a j)) (fun j => x4 (ix2 0 j)) e := by
  unfold back
  rw [← pay10_at]
  unfold dfB k0_pay14 k0_pay13 k0_pay15
  generalize k0_pay8 (F := Ideal) x0 x1 = f
  generalize k0_pay10 (F := Ideal) x0 x1 = r
  generalize k0_pay12 (F := Ideal) x0 x1 x4 x2 x3 = d
  pointwise [k0_pay1, k0_pay9]

/-- The squares carried on at an index: eight rows, each summing every eighth token. -/
theorem pay2_at (v : Blk) (o : Vec Ideal S8x1024 .f32) (s : Fin 8) (e : Fin 1024) :
    k0_pay2 (F := Ideal) v o (ix2 s e) = o (ix2 s e) + ∑ b : Fin 64, v (ix2 ⟨b.val * 8 + s.val, by omega⟩ e) * v (ix2 ⟨b.val * 8 + s.val, by omega⟩ e) := by
  pointwise [k0_pay2]

/-- The gain's gradient carried on at an index. -/
theorem pay3_at (v : Blk) (r : FVec Ideal S512x1 .f32) (d : Blk) (o : Vec Ideal S8x1024 .f32) (s : Fin 8) (e : Fin 1024) :
    k0_pay3 (F := Ideal) v r d o (ix2 s e) = o (ix2 s e) + ∑ b : Fin 64, d (ix2 ⟨b.val * 8 + s.val, by omega⟩ e) * v (ix2 ⟨b.val * 8 + s.val, by omega⟩ e) * r (ix2 ⟨b.val * 8 + s.val, by omega⟩ 0) := by
  pointwise [k0_pay3]

/-- The first point's zeros. -/
theorem pay6_at (s : Fin 8) (e : Fin 1024) : k0_pay6 (F := Ideal) (ix2 s e) = 0 := zero_word

/-- The eight rows summed. -/
theorem pay4_at (o : Vec Ideal S8x1024 .f32) (e : Fin 1024) : k0_pay4 (F := Ideal) o (ix2 0 e) = ∑ s : Fin 8, o (ix2 s e) := by
  pointwise [k0_pay4]

variable (m : (ℓ : Loc nD τ sig) → Buf (Elt Ideal) ℓ) (c : Dev nD)

/-- A point's product. -/
abbrev fT (t : Fin cfg0.N) : Blk := k0_pay8 (F := Ideal) (iblk m c 0 t) (iblk m c 1 t)
/-- A point's reciprocal root mean squares. -/
abbrev rT (t : Fin cfg0.N) : FVec Ideal S512x1 .f32 := k0_pay10 (F := Ideal) (iblk m c 0 t) (iblk m c 1 t)
/-- What a point's rows miss the target by. -/
abbrev errT (t : Fin cfg0.N) : Blk := k0_pay11 (F := Ideal) (iblk m c 0 t) (iblk m c 1 t) (iblk m c 4 t) (iblk m c 2 t) (iblk m c 3 t)
/-- A point's rows of the cotangent of the block's output. -/
abbrev dyT (t : Fin cfg0.N) : Blk := k0_pay12 (F := Ideal) (iblk m c 0 t) (iblk m c 1 t) (iblk m c 4 t) (iblk m c 2 t) (iblk m c 3 t)
/-- A point's rows of the gradient of the feed-forward layer's output. -/
abbrev dfT (t : Fin cfg0.N) : FVec Ideal S512x1024 .bf16 := dfB (iblk m c 0 t) (iblk m c 1 t) (iblk m c 2 t) (iblk m c 3 t) (iblk m c 4 t)

set_option maxHeartbeats 2000000 in
/-- What the first point leaves. -/
theorem outs_A (t : Fin cfg0.N) (h0 : t.val % 32 = 0) (h1 : ¬t.val % 32 = 31) :
    outsAt0 m c t.val t.isLt = (dyT m c t, dfT m c t, k0_pay2 (errT m c t) (k0_pay6 (F := Ideal)), k0_pay3 (fT m c t) (rT m c t) (dyT m c t) (k0_pay7 (F := Ideal))) := by
  rw [outsAt0_A m c t h0 h1]
  refine Prod.ext ?_ (Prod.ext ?_ (Prod.ext ?_ ?_)) <;> funext y <;> dsimp only
  all_goals
    frame_out
    try rfl

set_option maxHeartbeats 2000000 in
/-- What a point between leaves, over what the point before left. -/
theorem outs_B (t : Fin cfg0.N) (h0 : ¬t.val % 32 = 0) (h1 : ¬t.val % 32 = 31) (hp : t.val - 1 < cfg0.N) :
    outsAt0 m c t.val t.isLt = (dyT m c t, dfT m c t, k0_pay2 (errT m c t) (outsAt0 m c (t.val - 1) hp).2.2.1, k0_pay3 (fT m c t) (rT m c t) (dyT m c t) (outsAt0 m c (t.val - 1) hp).2.2.2) := by
  rw [outsAt0_B m c t h0 h1]
  generalize outsAt0 m c (t.val - 1) _ = q
  refine Prod.ext ?_ (Prod.ext ?_ (Prod.ext ?_ ?_)) <;> funext y <;> dsimp only
  all_goals
    frame_out
    try rfl

set_option maxHeartbeats 2000000 in
/-- What the last point leaves: of the two partial sums' eight rows the first, their sum. -/
theorem outs_C (t : Fin cfg0.N) (h0 : ¬t.val % 32 = 0) (h1 : t.val % 32 = 31) (hp : t.val - 1 < cfg0.N) :
    (outsAt0 m c t.val t.isLt).1 = dyT m c t ∧ (outsAt0 m c t.val t.isLt).2.1 = dfT m c t
    ∧ (∀ e : Fin 1024, (outsAt0 m c t.val t.isLt).2.2.1 (ix2 0 e) = k0_pay4 (k0_pay2 (errT m c t) (outsAt0 m c (t.val - 1) hp).2.2.1) (ix2 0 e))
    ∧ (∀ e : Fin 1024, (outsAt0 m c t.val t.isLt).2.2.2 (ix2 0 e) = k0_pay5 (k0_pay3 (fT m c t) (rT m c t) (dyT m c t) (outsAt0 m c (t.val - 1) hp).2.2.2) (ix2 0 e)) := by
  rw [outsAt0_C m c t h0 h1]
  generalize outsAt0 m c (t.val - 1) _ = q
  have ey : ∀ e : Fin 1024, (ix2 0 e : S8x1024.Idx) = (Rect.unit (s := S8x1024) ![0, 0] S1x1024.size inb_S8x1024_S1x1024_0_0).emb (ix2 0 e : S1x1024.Idx) := fun e => by
    funext k; apply Fin.ext; fin_cases k <;> simp [Rect.unit, Rect.emb, ix2]
  refine ⟨funext fun y => ?_, funext fun y => ?_, fun e => ?_, fun e => ?_⟩ <;> dsimp only
  · frame_out
    try rfl
  · frame_out
    try rfl
  · frame_out
    rw [ey]
    exact View.canon_cons_emb _ _ _ _
  · frame_out
    rw [ey]
    exact View.canon_cons_emb _ _ _ _

/-- Where each window's block lies, by point. -/
theorem idx : ∀ t : Fin cfg0.N,
    win0_0.index t = ![t.val, 0] ∧ win0_1.index t = ![0, 0] ∧ win0_2.index t = ![t.val, 0] ∧ win0_3.index t = ![t.val, 0] ∧ win0_4.index t = ![0, 0]
    ∧ win0_5.index t = ![t.val, 0] ∧ win0_6.index t = ![t.val, 0] ∧ win0_7.index t = ![0, 0] ∧ win0_8.index t = ![0, 0] ∧ t.val < 32 :=
  (by decide +kernel : ∀ t : Fin grid0.N, _)

/-- The arguments' contents. -/
def inp : Inp where
  a n l := (m ((c.tc : Thread nD τ).loc main_arg0) : Vec Ideal S16384x2816 .f32) (ix2 n l)
  w l e := (m ((c.tc : Thread nD τ).loc main_arg1) : Vec Ideal S2816x1024 .f32) (ix2 l e)
  x n e := (m ((c.tc : Thread nD τ).loc main_arg2) : Vec Ideal S16384x1024 .f32) (ix2 n e)
  g e := (m ((c.tc : Thread nD τ).loc main_arg3) : Vec Ideal S1024 .f32) (ix1 e)
  y n e := (m ((c.tc : Thread nD τ).loc main_arg4) : Vec Ideal S16384x1024 .f32) (ix2 n e)

/-- The gated units, rounded. -/
abbrev ab : FVec Ideal S16384x2816 .bf16 := truncf .bf16 (m ((c.tc : Thread nD τ).loc main_arg0) : FVec Ideal S16384x2816 .f32) bitsLt_bf16_f32

/-- The weights, rounded. -/
abbrev wb : FVec Ideal S2816x1024 .bf16 := truncf .bf16 (m ((c.tc : Thread nD τ).loc main_arg1) : FVec Ideal S2816x1024 .f32) bitsLt_bf16_f32

/-- The gated units, as the call finds them. -/
theorem V_v0 : (V m c main_v0 : Vec Ideal S16384x2816 .bf16) = ab m c := by
  unfold V V0
  simp only [hostOps0, List.flatten_cons, List.flatten_nil, List.append_nil, List.cons_append, List.nil_append]
  after_results <;> rfl

/-- The weights. -/
theorem V_v1 : (V m c main_v1 : Vec Ideal S2816x1024 .bf16) = wb m c := by
  unfold V V0
  simp only [hostOps0, List.flatten_cons, List.flatten_nil, List.append_nil, List.cons_append, List.nil_append]
  after_results <;> rfl

/-- The norm's gain. -/
theorem V_v2 : (V m c main_v2 : Vec Ideal S1x1024 .f32) = shapeCast S1x1024 (m ((c.tc : Thread nD τ).loc main_arg3) : Vec Ideal S1024 .f32) shapeCasts_S1024_S1x1024 := by
  unfold V V0
  simp only [hostOps0, List.flatten_cons, List.flatten_nil, List.append_nil, List.cons_append, List.nil_append]
  after_results <;> rfl

/-- There are thirty-two points. -/
theorem lt32 (t : Fin cfg0.N) : t.val < 32 := (idx t).2.2.2.2.2.2.2.2.2

/-- The token of a point's row. -/
def tok (t : Fin cfg0.N) (a : Fin 512) : Fin 16384 := ⟨t.val * 512 + a, by have := lt32 t; omega⟩

/-- A point's gated units. -/
theorem blk0 (t : Fin cfg0.N) (a : Fin 512) (l : Fin 2816) : (iblk m c 0 t : Vec Ideal S512x2816 .bf16) (ix2 a l) = (inp m c).a (tok t a) l := by
  have h : (V m c main_v0 : Vec Ideal S16384x2816 .bf16) (ix2 (tok t a) l) = (inp m c).a (tok t a) l := by rw [V_v0]; rfl
  rw [← h]; unfold tok; blk_ext [iblk, idx t]

/-- The weights at a point. -/
theorem blk1 (t : Fin cfg0.N) (l : Fin 2816) (e : Fin 1024) : (iblk m c 1 t : Vec Ideal S2816x1024 .bf16) (ix2 l e) = (inp m c).w l e := by
  have h : (V m c main_v1 : Vec Ideal S2816x1024 .bf16) (ix2 l e) = (inp m c).w l e := by rw [V_v1]; rfl
  rw [← h]; blk_ext [iblk, idx t]

/-- A point's tokens after the mixing layer. -/
theorem blk2 (t : Fin cfg0.N) (a : Fin 512) (e : Fin 1024) : (iblk m c 2 t : Vec Ideal S512x1024 .f32) (ix2 a e) = (inp m c).x (tok t a) e := by
  have h : (V m c main_arg2 : Vec Ideal S16384x1024 .f32) (ix2 (tok t a) e) = (inp m c).x (tok t a) e := congrFun (V_main_arg2 m c) _
  rw [← h]; unfold tok; blk_ext [iblk, idx t]

/-- A point's rows of the target. -/
theorem blk3 (t : Fin cfg0.N) (a : Fin 512) (e : Fin 1024) : (iblk m c 3 t : Vec Ideal S512x1024 .f32) (ix2 a e) = (inp m c).y (tok t a) e := by
  have h : (V m c main_arg4 : Vec Ideal S16384x1024 .f32) (ix2 (tok t a) e) = (inp m c).y (tok t a) e := congrFun (V_main_arg4 m c) _
  rw [← h]; unfold tok; blk_ext [iblk, idx t]

/-- The norm's gain at a point. -/
theorem blk4 (t : Fin cfg0.N) (e : Fin 1024) : (iblk m c 4 t : Vec Ideal S1x1024 .f32) (ix2 0 e) = (inp m c).g e := by
  have h : (V m c main_v2 : Vec Ideal S1x1024 .f32) (ix2 0 e) = (inp m c).g e := by rw [V_v2]; pointwise [inp]
  rw [← h]; blk_ext [iblk, idx t]

/-- A point's product is the feed-forward layer's output. -/
theorem f_pt (t : Fin cfg0.N) (a : Fin 512) (e : Fin 1024) : fT m c t (ix2 a e) = (inp m c).f (tok t a) e := by
  refine (pay8_at _ _ a e).trans (Finset.sum_congr rfl fun l _ => ?_)
  exact congrArg₂ (fun p q : EReal => p * q) (blk0 m c t a l) (blk1 m c t l e)

/-- A point's reciprocal root mean squares. -/
theorem r_pt (t : Fin cfg0.N) (a : Fin 512) : rT m c t (ix2 a 0) = rms ((inp m c).f (tok t a)) :=
  (pay10_at _ _ a).trans (congrArg rms (funext fun e => f_pt m c t a e))

/-- What a point's rows miss the target by. -/
theorem err_pt (t : Fin cfg0.N) (a : Fin 512) (e : Fin 1024) : errT m c t (ix2 a e) = (inp m c).err (tok t a) e := by
  refine (pay11_at _ _ _ _ _ a e).trans ?_
  have h : ∀ j, k0_pay8 (F := Ideal) (iblk m c 0 t) (iblk m c 1 t) (ix2 a j) = (inp m c).f (tok t a) j := f_pt m c t a
  simp only [h, blk2, blk3, blk4]
  rfl

/-- A point's rows of the cotangent of the block's output. -/
theorem dy_pt (t : Fin cfg0.N) (a : Fin 512) (e : Fin 1024) : dyT m c t (ix2 a e) = (inp m c).dy (tok t a) e :=
  (pay12_at _ _ _ _ _ a e).trans (congrArg (fun p : EReal => p * Ideal.ofBits .f32 0x3A800000#32) (err_pt m c t a e))

/-- A point's rows of the gradient of the feed-forward layer's output. -/
theorem df_pt (t : Fin cfg0.N) (a : Fin 512) (e : Fin 1024) : dfT m c t (ix2 a e) = (inp m c).df (tok t a) e := by
  refine (dfB_at _ _ _ _ _ a e).trans ?_
  have h : ∀ j, k0_pay8 (F := Ideal) (iblk m c 0 t) (iblk m c 1 t) (ix2 a j) = (inp m c).f (tok t a) j := f_pt m c t a
  have h' : ∀ j, k0_pay12 (F := Ideal) (iblk m c 0 t) (iblk m c 1 t) (iblk m c 4 t) (iblk m c 2 t) (iblk m c 3 t) (ix2 a j) = (inp m c).dy (tok t a) j := dy_pt m c t a
  simp only [h, h', blk4]
  rfl

/-- A token's squares. -/
def sq (n : Fin 16384) (e : Fin 1024) : EReal := (inp m c).err n e * (inp m c).err n e
/-- A token's share of the norm's gain's gradient. -/
def gn (n : Fin 16384) (e : Fin 1024) : EReal := (inp m c).dy n e * (inp m c).f n e * rms ((inp m c).f n)

/-- A point's squares onto eight rows. -/
theorem sq_step (t : Fin cfg0.N) (o : Vec Ideal S8x1024 .f32) (s : Fin 8) (e : Fin 1024) :
    k0_pay2 (F := Ideal) (errT m c t) o (ix2 s e) = o (ix2 s e) + part (sq m c) t.val s e := by
  refine (pay2_at _ o s e).trans (congrArg (fun p : EReal => o (ix2 s e) + p) ?_)
  refine Cert.Rows.adds (sq m c) t.val (lt32 t) (fun a e => (errT m c t (ix2 a e) : EReal) * errT m c t (ix2 a e)) (fun a e => ?_) s e
  exact congrArg₂ (fun p q : EReal => p * q) (err_pt m c t a e) (err_pt m c t a e)

/-- A point's shares of the gain's gradient onto eight rows. -/
theorem gn_step (t : Fin cfg0.N) (o : Vec Ideal S8x1024 .f32) (s : Fin 8) (e : Fin 1024) :
    k0_pay3 (F := Ideal) (fT m c t) (rT m c t) (dyT m c t) o (ix2 s e) = o (ix2 s e) + part (gn m c) t.val s e := by
  refine (pay3_at _ _ _ o s e).trans (congrArg (fun p : EReal => o (ix2 s e) + p) ?_)
  refine Cert.Rows.adds (gn m c) t.val (lt32 t) (fun a e => (dyT m c t (ix2 a e) : EReal) * fT m c t (ix2 a e) * rT m c t (ix2 a 0)) (fun a e => ?_) s e
  exact congrArg₂ (fun p q : EReal => p * q) (congrArg₂ (fun p q : EReal => p * q) (dy_pt m c t a e) (f_pt m c t a e)) (r_pt m c t a)

/-- The squares before the last point. -/
theorem sq_fold : ∀ n (h : n < cfg0.N), n < 31 → ∀ s e, (outsAt0 m c n h).2.2.1 (ix2 s e) = acc (sq m c) (n + 1) s e :=
  fold (sq m c) cfg0.N (fun n h s e => (outsAt0 m c n h).2.2.1 (ix2 s e))
    (fun h s e => by
      beta_reduce
      rw [outs_A m c ⟨0, h⟩ rfl (by simp)]
      exact (sq_step m c ⟨0, h⟩ _ s e).trans (congrArg (fun p : EReal => p + part (sq m c) 0 s e) (pay6_at s e)))
    (fun n h hp h1 s e => by
      beta_reduce
      rw [outs_B m c ⟨n + 1, h⟩ (by simp only []; omega) (by simp only []; omega) hp]
      exact sq_step m c ⟨n + 1, h⟩ _ s e)

/-- The gain's gradient before the last point. -/
theorem gn_fold : ∀ n (h : n < cfg0.N), n < 31 → ∀ s e, (outsAt0 m c n h).2.2.2 (ix2 s e) = acc (gn m c) (n + 1) s e :=
  fold (gn m c) cfg0.N (fun n h s e => (outsAt0 m c n h).2.2.2 (ix2 s e))
    (fun h s e => by
      beta_reduce
      rw [outs_A m c ⟨0, h⟩ rfl (by simp)]
      exact (gn_step m c ⟨0, h⟩ _ s e).trans (congrArg (fun p : EReal => p + part (gn m c) 0 s e) (pay6_at s e)))
    (fun n h hp h1 s e => by
      beta_reduce
      rw [outs_B m c ⟨n + 1, h⟩ (by simp only []; omega) (by simp only []; omega) hp]
      exact gn_step m c ⟨n + 1, h⟩ _ s e)

/-- The last point. -/
theorem h31 : 31 < cfg0.N := by decide +kernel
/-- The one before. -/
theorem h30 : 30 < cfg0.N := by decide +kernel

/-- The squares at the last point. -/
theorem sq_end (t : Fin cfg0.N) (h1 : t.val % 32 = 31) (hp : t.val - 1 < cfg0.N) (e : Fin 1024) :
    (outsAt0 m c t.val t.isLt).2.2.1 (ix2 0 e) = ∑ s : Fin 8, acc (sq m c) (t.val + 1) s e := by
  have ht := lt32 t
  have e1 : t.val - 1 + 1 = t.val := by omega
  have p := sq_fold m c (t.val - 1) hp (by omega)
  rw [e1] at p
  obtain ⟨_, _, o7, o8⟩ := outs_C m c t (by omega) h1 hp
  refine (o7 e).trans ((pay4_at _ e).trans (Finset.sum_congr rfl fun s _ => (sq_step m c t _ s e).trans ?_))
  rw [acc_succ, p]

/-- The squares after the last point. -/
theorem sq_last (e : Fin 1024) : (outsAt0 m c 31 h31).2.2.1 (ix2 0 e) = ∑ n : Fin 16384, sq m c n e :=
  (sq_end m c ⟨31, h31⟩ rfl h30 e).trans (acc_all (sq m c) e)

/-- The gain's gradient at the last point. -/
theorem gn_end (t : Fin cfg0.N) (h1 : t.val % 32 = 31) (hp : t.val - 1 < cfg0.N) (e : Fin 1024) :
    (outsAt0 m c t.val t.isLt).2.2.2 (ix2 0 e) = ∑ s : Fin 8, acc (gn m c) (t.val + 1) s e := by
  have ht := lt32 t
  have e1 : t.val - 1 + 1 = t.val := by omega
  have p := gn_fold m c (t.val - 1) hp (by omega)
  rw [e1] at p
  obtain ⟨_, _, o7, o8⟩ := outs_C m c t (by omega) h1 hp
  refine (o8 e).trans ((pay4_at _ e).trans (Finset.sum_congr rfl fun s _ => (gn_step m c t _ s e).trans ?_))
  rw [acc_succ, p]

/-- The gain's gradient after the last point. -/
theorem gn_last (e : Fin 1024) : (outsAt0 m c 31 h31).2.2.2 (ix2 0 e) = ∑ n : Fin 16384, gn m c n e :=
  (gn_end m c ⟨31, h31⟩ rfl h30 e).trans (acc_all (gn m c) e)

/-- Every point leaves its rows of the two gradients. -/
theorem rows_left (t : Fin cfg0.N) : (outsAt0 m c t.val t.isLt).1 = dyT m c t ∧ (outsAt0 m c t.val t.isLt).2.1 = dfT m c t := by
  have ht := lt32 t
  by_cases h0 : t.val % 32 = 0
  · rw [outs_A m c t h0 (by omega)]
    exact ⟨rfl, rfl⟩
  · by_cases h1 : t.val % 32 = 31
    · obtain ⟨o5, o6, _⟩ := outs_C m c t h0 h1 (by have := t.isLt; omega)
      exact ⟨o5, o6⟩
    · rw [outs_B m c t h0 h1 (by have := t.isLt; omega)]
      exact ⟨rfl, rfl⟩

/-- The first result's array. -/
theorem arr5 : reg_main_v3_0 m c = fun i : S16384x1024.Idx => (inp m c).dy (i 0) (i 1) := by
  unfold reg_main_v3_0
  refine (dats m 0 c).arrAt_eq_of_covers 5 _ (by decide +kernel) fun t _ y => ?_
  blk_simp
  rw [after0_5]
  have ht := lt32 t
  have key : ∀ (z : S512x1024.Idx), (outsAt0 m c t.val t.isLt).1 z = (inp m c).dy (tok t (z 0)) (z 1) := fun z => by
    have ez : z = ix2 (z 0) (z 1) := by funext k; fin_cases k <;> rfl
    rw [(rows_left m c t).1, ez]
    exact dy_pt m c t (z 0) (z 1)
  refine (key y).trans (congrArg₂ (inp m c).dy ?_ ?_) <;> refine Fin.ext ?_
  · unfold tok
    blk_simp [idx t]
  · blk_simp [idx t]

/-- The second result's array. -/
theorem arr6 : reg_main_v3_1 m c = fun i : S16384x1024.Idx => (inp m c).df (i 0) (i 1) := by
  unfold reg_main_v3_1
  refine (dats m 0 c).arrAt_eq_of_covers 6 _ (by decide +kernel) fun t _ y => ?_
  blk_simp
  rw [after0_6]
  have ht := lt32 t
  have key : ∀ (z : S512x1024.Idx), (outsAt0 m c t.val t.isLt).2.1 z = (inp m c).df (tok t (z 0)) (z 1) := fun z => by
    have ez : z = ix2 (z 0) (z 1) := by funext k; fin_cases k <;> rfl
    rw [(rows_left m c t).2, ez]
    exact df_pt m c t (z 0) (z 1)
  refine (key y).trans (congrArg₂ (inp m c).df ?_ ?_) <;> refine Fin.ext ?_
  · unfold tok
    blk_simp [idx t]
  · blk_simp [idx t]

/-- The squares' array is what the last point leaves. -/
theorem arr7 : (reg_main_v3_2 m c : Vec Ideal S8x1024 .f32) = (outsAt0 m c 31 h31).2.2.1 := by
  unfold reg_main_v3_2
  refine (dats m 0 c).arrAt_eq_of_covers 7 _ (by decide +kernel) fun t hf y => ?_
  blk_simp
  rw [after0_7]
  have hl := (flush0_7 t).mp hf
  have ht := lt32 t
  have et : t = ⟨31, h31⟩ := Fin.ext (by simp only []; omega)
  have key : ∀ (s : Fin cfg0.N) (hs : s = ⟨31, h31⟩) (z : S8x1024.Idx), (outsAt0 m c s.val s.isLt).2.2.1 z = (outsAt0 m c 31 h31).2.2.1 z := by
    intro s hs z
    subst hs
    rfl
  refine (key t et y).trans (congrArg (outsAt0 m c 31 h31).2.2.1 ?_)
  funext k
  refine Fin.ext ?_
  fin_cases k <;> blk_simp [idx t]

/-- The gain's gradient's array is what the last point leaves. -/
theorem arr8 : (reg_main_v3_3 m c : Vec Ideal S8x1024 .f32) = (outsAt0 m c 31 h31).2.2.2 := by
  unfold reg_main_v3_3
  refine (dats m 0 c).arrAt_eq_of_covers 8 _ (by decide +kernel) fun t hf y => ?_
  blk_simp
  rw [after0_8]
  have hl := (flush0_8 t).mp hf
  have ht := lt32 t
  have et : t = ⟨31, h31⟩ := Fin.ext (by simp only []; omega)
  have key : ∀ (s : Fin cfg0.N) (hs : s = ⟨31, h31⟩) (z : S8x1024.Idx), (outsAt0 m c s.val s.isLt).2.2.2 z = (outsAt0 m c 31 h31).2.2.2 z := by
    intro s hs z
    subst hs
    rfl
  refine (key t et y).trans (congrArg (outsAt0 m c 31 h31).2.2.2 ?_)
  funext k
  refine Fin.ext ?_
  fin_cases k <;> blk_simp [idx t]

/-- The first row of eight, as a vector. -/
abbrev first (q : Vec Ideal S8x1024 .f32) : FVec Ideal S1024 .f32 :=
  shapeCast _ (extractStridedSlice S1x1024 ![0, 0] q slices_S8x1024_S1x1024_0_0) shapeCasts_S1x1024_S1024

/-- The first row of eight, at an index. -/
theorem first_row (q : Vec Ideal S8x1024 .f32) (e : Fin 1024) : first q (ix1 e) = q (ix2 0 e) := by
  pointwise

/-- A row summed and scaled. -/
theorem total (v : FVec Ideal S1024 .f32) (i : S_.Idx) :
    (mulf (Host.reduceAdd v (constant S_ .f32 0x00000000#32) reducesTo_S1024_S_d0 h_S_) (constant S_ .f32 0x3A000000#32) : FVec Ideal S_ .f32) i
      = (∑ e : Fin 1024, v (ix1 e)) * Ideal.ofBits .f32 0x3A000000#32 := by
  pointwise

/-- The third result. -/
theorem loss_row : (mulf (Host.reduceAdd (first (reg_main_v3_2 m c)) (constant S_ .f32 0x00000000#32) reducesTo_S1024_S_d0 h_S_) (constant S_ .f32 0x3A000000#32) : FVec Ideal S_ .f32)
    = fun _ => (inp m c).loss := by
  funext i
  refine (total _ i).trans (congrArg (fun p : EReal => p * Ideal.ofBits .f32 0x3A000000#32) (Finset.sum_congr rfl fun e _ => ?_))
  refine (first_row _ e).trans ?_
  rw [arr7]
  exact sq_last m c e

/-- The fourth result. -/
theorem gain_row : first (reg_main_v3_3 m c) = fun i : S1024.Idx => (inp m c).dg (i 0) := by
  funext i
  obtain ⟨e, rfl⟩ := cols i
  refine (first_row _ e).trans ?_
  rw [arr8]
  exact gn_last m c e

end Cert.Kernel17Ideal.Value

namespace Cert.Proof

open Idealize.ShloMosaic Idealize.ShloMosaic.TcCoe Idealize.SL.Sem

/-- The frame of the loss's reference: its run read at the arguments; it declares no semaphore. -/
theorem reference17_frame : Cert.quiescent_Reference17Ideal (hReference17Ideal := Cert.Reference17Ideal.Gen.facts) := fun m g _ =>
  (θ_run Cert.Reference17Ideal.defs _ _).mono (fun r h => ⟨fun c => (h c).2.2.2.2, sem_eq_zero_of_no_sems (by decide) r.2⟩)
    (Cert.Reference17Ideal.Value.run m g)

/-- From any arguments the loss's call and its reference leave the same two cotangents, loss and gain's gradient. -/
theorem algebraic17 : Cert.algebraic_Kernel17Ideal_Reference17Ideal (hKernel17Ideal := Cert.Kernel17Ideal.Gen.facts)
    (hReference17Ideal := Cert.Reference17Ideal.Gen.facts) := by
  intro m g m' g' _ hagree
  refine ⟨fun c => fun i : Cert.Kernel17Ideal.S16384x1024.Idx => (Cert.Kernel17Ideal.Value.inp m c).dy (i 0) (i 1),
    fun c => fun i : Cert.Kernel17Ideal.S16384x1024.Idx => (Cert.Kernel17Ideal.Value.inp m c).df (i 0) (i 1),
    fun c => fun i : Cert.Kernel17Ideal.S_.Idx => (Cert.Kernel17Ideal.Value.inp m c).loss,
    fun c => fun i : Cert.Kernel17Ideal.S1024.Idx => (Cert.Kernel17Ideal.Value.inp m c).dg (i 0), ?_, ?_⟩
  · refine (θ_run Cert.Kernel17Ideal.defs _ _).mono (fun r h c => ?_) (Cert.Kernel17Ideal.Value.run m g)
    obtain ⟨r0, r1, r2, r3, rest⟩ := h c
    exact ⟨r0.trans (Cert.Kernel17Ideal.Value.arr5 m c), r1.trans (Cert.Kernel17Ideal.Value.arr6 m c),
      r2.trans (Cert.Kernel17Ideal.Value.loss_row m c), r3.trans (Cert.Kernel17Ideal.Value.gain_row m c), rest⟩
  · refine (θ_run Cert.Reference17Ideal.defs _ _).mono (fun r h c => ?_) (Cert.Reference17Ideal.Value.run m' g')
    obtain ⟨a0, a1, a2, a3, a4⟩ := hagree c
    have e : Cert.Reference17Ideal.Value.inp m' c = Cert.Kernel17Ideal.Value.inp m c := by
      unfold Cert.Reference17Ideal.Value.inp Cert.Kernel17Ideal.Value.inp
      rw [a0, a1, a2, a3, a4]
    obtain ⟨r0, r1, r2, r3, rest⟩ := h c
    refine ⟨r0.trans ((Cert.Reference17Ideal.Value.dy_out m' c).trans ?_), r1.trans ((Cert.Reference17Ideal.Value.df_out m' c).trans ?_),
      r2.trans ((Cert.Reference17Ideal.Value.loss_out m' c).trans ?_), r3.trans ((Cert.Reference17Ideal.Value.dg_out m' c).trans ?_), rest⟩
    all_goals (rw [e]; try rfl)

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal
public import proofs.«01_k».proof.Proof.Args
public import proofs.«01_k».proof.Proof.InRun
public import proofs.«01_k».proof.Proof.InGo
public import proofs.«01_k».proof.Proof.InRef
public import proofs.«01_k».proof.Proof.Gen.Kernel3
public import proofs.«01_k».proof.Proof.Gen.Kernel3.Frame
public import proofs.«01_k».proof.Proof.Gen.Kernel3Ideal.Frame
public import proofs.«01_k».proof.Proof.DwOut3
public import proofs.«01_k».proof.Proof.Gen.Kernel4
public import proofs.«01_k».proof.Proof.Gen.Kernel4.Frame
public import proofs.«01_k».proof.Proof.Gen.Kernel4Ideal.Frame
public import proofs.«01_k».proof.Proof.DwOut4
public import proofs.«01_k».proof.Proof.Gen.Kernel5
public import proofs.«01_k».proof.Proof.Gen.Kernel5.Frame
public import proofs.«01_k».proof.Proof.Gen.Kernel5Ideal.Frame
public import proofs.«01_k».proof.Proof.DwOut5
public import proofs.«01_k».proof.Proof.Gen.Kernel6
public import proofs.«01_k».proof.Proof.Gen.Kernel6.Frame
public import proofs.«01_k».proof.Proof.Gen.Kernel6Ideal.Frame
public import proofs.«01_k».proof.Proof.DwOut6
public import proofs.«01_k».proof.Proof.Gen.Kernel7
public import proofs.«01_k».proof.Proof.Gen.Kernel7.Frame
public import proofs.«01_k».proof.Proof.Gen.Kernel7Ideal.Frame
public import proofs.«01_k».proof.Proof.DwOut7
public import proofs.«01_k».proof.Proof.Gen.Kernel8
public import proofs.«01_k».proof.Proof.Gen.Kernel8.Frame
public import proofs.«01_k».proof.Proof.Gen.Kernel8Ideal.Frame
public import proofs.«01_k».proof.Proof.DwOut8
public import proofs.«01_k».proof.Proof.Gen.Kernel9
public import proofs.«01_k».proof.Proof.Gen.Kernel9.Frame
public import proofs.«01_k».proof.Proof.Gen.Kernel9Ideal.Frame
public import proofs.«01_k».proof.Proof.DwOut9
public import proofs.«01_k».proof.Proof.Gen.Kernel10
public import proofs.«01_k».proof.Proof.Gen.Kernel10.Frame
public import proofs.«01_k».proof.Proof.Gen.Kernel10Ideal.Frame
public import proofs.«01_k».proof.Proof.DwOut10
public import proofs.«01_k».proof.Proof.Gen.Kernel11
public import proofs.«01_k».proof.Proof.Gen.Kernel11.Frame
public import proofs.«01_k».proof.Proof.Gen.Kernel11Ideal.Frame
public import proofs.«01_k».proof.Proof.DwOut11
public import proofs.«01_k».proof.Proof.Gen.Kernel12
public import proofs.«01_k».proof.Proof.Gen.Kernel12.Frame
public import proofs.«01_k».proof.Proof.Gen.Kernel12Ideal.Frame
public import proofs.«01_k».proof.Proof.DwOut12
public import proofs.«01_k».proof.Proof.Gen.Kernel13
public import proofs.«01_k».proof.Proof.Gen.Kernel13.Frame
public import proofs.«01_k».proof.Proof.Gen.Kernel13Ideal.Frame
public import proofs.«01_k».proof.Proof.DwOut13
public import proofs.«01_k».proof.Proof.Gen.Kernel14
public import proofs.«01_k».proof.Proof.Gen.Kernel14.Frame
public import proofs.«01_k».proof.Proof.Gen.Kernel14Ideal.Frame
public import proofs.«01_k».proof.Proof.FfnGo
public import proofs.«01_k».proof.Proof.Gen.Kernel16
public import proofs.«01_k».proof.Proof.Gen.Kernel16.Frame
public import proofs.«01_k».proof.Proof.Gen.Kernel16Ideal.Frame
public import proofs.«01_k».proof.Proof.FfnIn
public import proofs.«01_k».proof.Proof.Gen.Kernel17
public import proofs.«01_k».proof.Proof.Gen.Kernel17.Frame
public import proofs.«01_k».proof.Proof.Gen.Kernel17Ideal.Frame
public import proofs.«01_k».proof.Proof.LossGo
public import Idealize.ShloMosaic.Adequacy
public import Idealize.ShloMosaic.Init

@[expose] public section

set_option maxRecDepth 16384

noncomputable section

namespace Cert.Proof

open Idealize.ShloMosaic Idealize.SL.Sem Cert.Kernel

/-- The reference's frame: its run read at the arguments; it declares no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- From real arguments the kernel and the reference leave the same gradients. -/
theorem algebraic : Cert.algebraic_KernelIdeal_ReferenceIdeal_pre_finite (hKernelIdeal := Cert.KernelIdeal.Gen.facts)
    (hReferenceIdeal := Cert.ReferenceIdeal.Gen.facts) (hPre_finite := Cert.Args.facts) := by
  intro m g m' g' hpre hagree
  refine ⟨fun c => fun i : Cert.KernelIdeal.S16384x1536.Idx => (((Cert.Args.inp m c).res (i 0) (i 1) : ℝ) : EReal),
    fun c => fun i : Cert.KernelIdeal.S8x128x256.Idx => (((Cert.Args.inp m c).resb (i 0) (i 1) (i 2) : ℝ) : EReal), ?_, ?_⟩
  · refine (θ_run Cert.KernelIdeal.defs _ _).mono (fun r h c => ?_)
      (θ_run_and (Cert.KernelIdeal.Gen.run_main m g) (Cert.KernelIdeal.Gen.frame m g))
    exact ⟨(h.1.out_eq c 9).trans (Cert.KernelIdeal.Value.arr9 (Cert.Args.ker m hpre c)),
      (h.1.out_eq c 10).trans (Cert.KernelIdeal.Value.arr10 (Cert.Args.ker m hpre c)), h.2.1 c⟩
  · refine (θ_run Cert.ReferenceIdeal.defs _ _).mono (fun r h c => ?_) (Cert.ReferenceIdeal.Value.run m' g')
    obtain ⟨a0, a1, a2, a3, a4, a5, a6, a7, a8⟩ := hagree c
    have H := Cert.Args.ref m hpre c (StableHlo.launchContents m' c) a0 a1 a2 a3 a4 a5 a6 a7 a8
    obtain ⟨r0, r1, rest⟩ := h c
    refine ⟨?_, ?_, rest⟩
    · refine (r0.trans (Cert.ReferenceIdeal.Value.val5_main_v231 (StableHlo.launchContents m' c)).symm).trans ?_
      funext i
      obtain ⟨a, b, rfl⟩ := Cert.Args.rows i
      exact Cert.ReferenceIdeal.Value.result_at H a b
    · refine (r1.trans (Cert.ReferenceIdeal.Value.val5_main_v230 (StableHlo.launchContents m' c)).symm).trans ?_
      funext i
      obtain ⟨a, b, d, rfl⟩ := Cert.Args.band i
      exact Cert.ReferenceIdeal.Value.resultb_at H a b d

/-- The frame of the input projection's reference: its run read at the arguments; it declares no semaphore. -/
theorem reference2_frame : Cert.quiescent_Reference2Ideal (hReference2Ideal := Cert.Reference2Ideal.Gen.facts) := fun m g _ =>
  (θ_run Cert.Reference2Ideal.defs _ _).mono (fun r h => ⟨fun c => (h c).2.2, sem_eq_zero_of_no_sems (by decide) r.2⟩)
    (Cert.Reference2Ideal.Value.run m g)

/-- From any arguments the backward call of the input projection and its reference leave the same two gradients. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => fun i : Cert.Kernel2Ideal.S16384x1024.Idx => (Cert.Kernel2Ideal.Value.inp m c).gx (i 0) (i 1),
    fun c => fun i : Cert.Kernel2Ideal.S1024.Idx => (Cert.Kernel2Ideal.Value.inp m c).gg (i 0), ?_, ?_⟩
  · refine (θ_run Cert.Kernel2Ideal.defs _ _).mono (fun r h c => ?_) (Cert.Kernel2Ideal.Value.run m g)
    obtain ⟨r0, r1, rest⟩ := h c
    exact ⟨r0.trans (Cert.Kernel2Ideal.Value.arr9 m c), r1.trans (Cert.Kernel2Ideal.Value.gain_row m c), rest⟩
  · refine (θ_run Cert.Reference2Ideal.defs _ _).mono (fun r h c => ?_) (Cert.Reference2Ideal.Value.run m' g')
    obtain ⟨a0, a1, a2, a3, a4⟩ := hagree c
    have e : Cert.Reference2Ideal.Value.inp m' c = Cert.Kernel2Ideal.Value.inp m c := by
      unfold Cert.Reference2Ideal.Value.inp Cert.Kernel2Ideal.Value.inp
      rw [a0, a1, a2, a3, a4]
    obtain ⟨r0, r1, rest⟩ := h c
    refine ⟨r0.trans ?_, r1.trans ?_, rest⟩
    · funext i
      obtain ⟨a, b, rfl⟩ := Cert.InProj.rows i
      exact (Cert.Reference2Ideal.Value.x_at m' c a b).trans (by rw [e]; rfl)
    · funext i
      obtain ⟨a, rfl⟩ := Cert.InProj.cols i
      exact (Cert.Reference2Ideal.Value.g_at m' c a).trans (by rw [e]; rfl)

/-- The claims of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts, Cert.Args.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  fun m ρ _ => Cert.Kernel13.Gen.frame m ρ, fun m ρ _ => Cert.Kernel13Ideal.Gen.frame m ρ, reference13_frame,
  fun m ρ _ => Cert.Kernel14.Gen.frame m ρ, fun m ρ _ => Cert.Kernel14Ideal.Gen.frame m ρ, reference14_frame,
  fun m ρ _ => Cert.Kernel16.Gen.frame m ρ, fun m ρ _ => Cert.Kernel16Ideal.Gen.frame m ρ, reference16_frame,
  fun m ρ _ => Cert.Kernel17.Gen.frame m ρ, fun m ρ _ => Cert.Kernel17Ideal.Gen.frame m ρ, reference17_frame,
  IdealRules.named_const.statement Cert.KernelIdeal.κ "mask" .f32 0xF149F2CA#32 ⊥ rfl, algebraic, trivial, algebraic2,
  trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic16, trivial, algebraic17⟩

end Cert.Proof

end
